-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn1 [hPre_finite_ffn1 : Cert.Pre_finite_ffn1.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn1 [hPre_finite_ffn1 : Cert.Pre_finite_ffn1.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn1.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_ffn1 [hKernel3Ideal : Cert.Kernel3Ideal.Facts] [hPre_finite_ffn1 : Cert.Pre_finite_ffn1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn1 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_ffn1 [hReference3Ideal : Cert.Reference3Ideal.Facts] [hPre_finite_ffn1 : Cert.Pre_finite_ffn1.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn1 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v14_0)) (v2 : (c : Dev Cert.Kernel2Ideal.nD) → Buf (Elt Ideal) ((c.tc : Thread Cert.Kernel2Ideal.nD Cert.Kernel2Ideal.τ).loc Cert.Kernel2Ideal.main_v14_1)) (v3 : (c : Dev Cert.Kernel2Ideal.nD) → Buf (Elt Ideal) ((c.tc : Thread Cert.Kernel2Ideal.nD Cert.Kernel2Ideal.τ).loc Cert.Kernel2Ideal.main_v14_2)) (v4 : (c : Dev Cert.Kernel2Ideal.nD) → Buf (Elt Ideal) ((c.tc : Thread Cert.Kernel2Ideal.nD Cert.Kernel2Ideal.τ).loc Cert.Kernel2Ideal.main_v14_3)) (v5 : (c : Dev Cert.Kernel2Ideal.nD) → Buf (Elt Ideal) ((c.tc : Thread Cert.Kernel2Ideal.nD Cert.Kernel2Ideal.τ).loc Cert.Kernel2Ideal.main_v7_1)) (v6 : (c : Dev Cert.Kernel2Ideal.nD) → Buf (Elt Ideal) ((c.tc : Thread Cert.Kernel2Ideal.nD Cert.Kernel2Ideal.τ).loc Cert.Kernel2Ideal.main_v10)) (v7 : (c : Dev Cert.Kernel2Ideal.nD) → Buf (Elt Ideal) ((c.tc : Thread Cert.Kernel2Ideal.nD Cert.Kernel2Ideal.τ).loc Cert.Kernel2Ideal.main_v11)) (v8 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v14_0) = v1 c
          ∧ r.2.mem ((c.tc : Thread Cert.Kernel2Ideal.nD Cert.Kernel2Ideal.τ).loc Cert.Kernel2Ideal.main_v14_1) = v2 c
          ∧ r.2.mem ((c.tc : Thread Cert.Kernel2Ideal.nD Cert.Kernel2Ideal.τ).loc Cert.Kernel2Ideal.main_v14_2) = v3 c
          ∧ r.2.mem ((c.tc : Thread Cert.Kernel2Ideal.nD Cert.Kernel2Ideal.τ).loc Cert.Kernel2Ideal.main_v14_3) = v4 c
          ∧ r.2.mem ((c.tc : Thread Cert.Kernel2Ideal.nD Cert.Kernel2Ideal.τ).loc Cert.Kernel2Ideal.main_v7_1) = v5 c
          ∧ r.2.mem ((c.tc : Thread Cert.Kernel2Ideal.nD Cert.Kernel2Ideal.τ).loc Cert.Kernel2Ideal.main_v10) = v6 c
          ∧ r.2.mem ((c.tc : Thread Cert.Kernel2Ideal.nD Cert.Kernel2Ideal.τ).loc Cert.Kernel2Ideal.main_v11) = v7 c
          ∧ r.2.mem ((c.tc : Thread Cert.Kernel2Ideal.nD Cert.Kernel2Ideal.τ).loc Cert.Kernel2Ideal.main_v8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_v49) = v5 c
          ∧ r.2.mem ((c.tc : Thread Cert.Reference2Ideal.nD Cert.Reference2Ideal.τ).loc Cert.Reference2Ideal.main_v84) = v6 c
          ∧ r.2.mem ((c.tc : Thread Cert.Reference2Ideal.nD Cert.Reference2Ideal.τ).loc Cert.Reference2Ideal.main_v85) = v7 c
          ∧ r.2.mem ((c.tc : Thread Cert.Reference2Ideal.nD Cert.Reference2Ideal.τ).loc Cert.Reference2Ideal.main_v86) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_ffn1 [hKernel3Ideal : Cert.Kernel3Ideal.Facts] [hReference3Ideal : Cert.Reference3Ideal.Facts] [hPre_finite_ffn1 : Cert.Pre_finite_ffn1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn1 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v29)) (v2 : (c : Dev Cert.Kernel3Ideal.nD) → Buf (Elt Ideal) ((c.tc : Thread Cert.Kernel3Ideal.nD Cert.Kernel3Ideal.τ).loc Cert.Kernel3Ideal.main_v26)) (v3 : (c : Dev Cert.Kernel3Ideal.nD) → Buf (Elt Ideal) ((c.tc : Thread Cert.Kernel3Ideal.nD Cert.Kernel3Ideal.τ).loc Cert.Kernel3Ideal.main_v27)) (v4 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v29) = v1 c
          ∧ r.2.mem ((c.tc : Thread Cert.Kernel3Ideal.nD Cert.Kernel3Ideal.τ).loc Cert.Kernel3Ideal.main_v26) = v2 c
          ∧ r.2.mem ((c.tc : Thread Cert.Kernel3Ideal.nD Cert.Kernel3Ideal.τ).loc Cert.Kernel3Ideal.main_v27) = v3 c
          ∧ r.2.mem ((c.tc : Thread Cert.Kernel3Ideal.nD Cert.Kernel3Ideal.τ).loc Cert.Kernel3Ideal.main_v24) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_v67) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v5_0)) (v2 : (c : Dev Cert.Kernel4Ideal.nD) → Buf (Elt Ideal) ((c.tc : Thread Cert.Kernel4Ideal.nD Cert.Kernel4Ideal.τ).loc Cert.Kernel4Ideal.main_v9)) (v3 : (c : Dev Cert.Kernel4Ideal.nD) → Buf (Elt Ideal) ((c.tc : Thread Cert.Kernel4Ideal.nD Cert.Kernel4Ideal.τ).loc Cert.Kernel4Ideal.main_v8)) (v4 : (c : Dev Cert.Kernel4Ideal.nD) → Buf (Elt Ideal) ((c.tc : Thread Cert.Kernel4Ideal.nD Cert.Kernel4Ideal.τ).loc Cert.Kernel4Ideal.main_v6_1)) (v5 : (c : Dev Cert.Kernel4Ideal.nD) → Buf (Elt Ideal) ((c.tc : Thread Cert.Kernel4Ideal.nD Cert.Kernel4Ideal.τ).loc Cert.Kernel4Ideal.main_v12)) (v6 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v5_0) = v1 c
          ∧ r.2.mem ((c.tc : Thread Cert.Kernel4Ideal.nD Cert.Kernel4Ideal.τ).loc Cert.Kernel4Ideal.main_v9) = v2 c
          ∧ r.2.mem ((c.tc : Thread Cert.Kernel4Ideal.nD Cert.Kernel4Ideal.τ).loc Cert.Kernel4Ideal.main_v8) = v3 c
          ∧ r.2.mem ((c.tc : Thread Cert.Kernel4Ideal.nD Cert.Kernel4Ideal.τ).loc Cert.Kernel4Ideal.main_v6_1) = v4 c
          ∧ r.2.mem ((c.tc : Thread Cert.Kernel4Ideal.nD Cert.Kernel4Ideal.τ).loc Cert.Kernel4Ideal.main_v12) = v5 c
          ∧ r.2.mem ((c.tc : Thread Cert.Kernel4Ideal.nD Cert.Kernel4Ideal.τ).loc Cert.Kernel4Ideal.main_v11) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v51) = v5 c
          ∧ r.2.mem ((c.tc : Thread Cert.Reference4Ideal.nD Cert.Reference4Ideal.τ).loc Cert.Reference4Ideal.main_v53) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v5)) (v3 : (c : Dev Cert.Kernel5Ideal.nD) → Buf (Elt Ideal) ((c.tc : Thread Cert.Kernel5Ideal.nD Cert.Kernel5Ideal.τ).loc Cert.Kernel5Ideal.main_v10)) (v4 : (c : Dev Cert.Kernel5Ideal.nD) → Buf (Elt Ideal) ((c.tc : Thread Cert.Kernel5Ideal.nD Cert.Kernel5Ideal.τ).loc Cert.Kernel5Ideal.main_v13)) (v5 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v5) = v2 c
          ∧ r.2.mem ((c.tc : Thread Cert.Kernel5Ideal.nD Cert.Kernel5Ideal.τ).loc Cert.Kernel5Ideal.main_v10) = v3 c
          ∧ r.2.mem ((c.tc : Thread Cert.Kernel5Ideal.nD Cert.Kernel5Ideal.τ).loc Cert.Kernel5Ideal.main_v13) = v4 c
          ∧ r.2.mem ((c.tc : Thread Cert.Kernel5Ideal.nD Cert.Kernel5Ideal.τ).loc Cert.Kernel5Ideal.main_v12) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_v33) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v3_0)) (v3 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v3_0) = v2 c
          ∧ r.2.mem ((c.tc : Thread Cert.Kernel6Ideal.nD Cert.Kernel6Ideal.τ).loc Cert.Kernel6Ideal.main_v3_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v1_0)) (v4 : (c : Dev Cert.Kernel8Ideal.nD) → Buf (Elt Ideal) ((c.tc : Thread Cert.Kernel8Ideal.nD Cert.Kernel8Ideal.τ).loc Cert.Kernel8Ideal.main_v1_1)) (v5 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v1_0) = v3 c
          ∧ r.2.mem ((c.tc : Thread Cert.Kernel8Ideal.nD Cert.Kernel8Ideal.τ).loc Cert.Kernel8Ideal.main_v1_1) = v4 c
          ∧ r.2.mem ((c.tc : Thread Cert.Kernel8Ideal.nD Cert.Kernel8Ideal.τ).loc Cert.Kernel8Ideal.main_v1_2) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_ffn : Cert.Pre_finite_ffn.Facts) (hPre_finite_ffn1 : Cert.Pre_finite_ffn1.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_ffn1 (hKernel3Ideal := hKernel3Ideal) (hPre_finite_ffn1 := hPre_finite_ffn1)
    ∧ quiescent_Reference3Ideal (hReference3Ideal := hReference3Ideal)
    ∧ quiescent_Reference3Ideal_pre_finite_ffn1 (hReference3Ideal := hReference3Ideal) (hPre_finite_ffn1 := hPre_finite_ffn1)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_ffn1 (hKernel3Ideal := hKernel3Ideal) (hReference3Ideal := hReference3Ideal) (hPre_finite_ffn1 := hPre_finite_ffn1)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x8192x192 : Shape := ⟨3, ![8, 8192, 192]⟩
abbrev S8x8448x192 : Shape := ⟨3, ![8, 8448, 192]⟩
abbrev S8x8448x128 : Shape := ⟨3, ![8, 8448, 128]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)
  reducesTo_S8x8192x192_S_d0_1_2 : S8x8192x192.ReducesTo [0, 1, 2] S_
  h_S_ : 0 < S_.numel
  bcast_S_S8x8448x192 : S_.BroadcastsInDim S8x8448x192 (![] : Fin 0 → Fin S8x8448x192.rank)
  reducesTo_S8x8448x192_S_d0_1_2 : S8x8448x192.ReducesTo [0, 1, 2] S_
  bcast_S_S8x8448x128 : S_.BroadcastsInDim S8x8448x128 (![] : Fin 0 → Fin S8x8448x128.rank)
  reducesTo_S8x8448x128_S_d0_1_2 : S8x8448x128.ReducesTo [0, 1, 2] S_
  bcast_S_S8x8192x128 : S_.BroadcastsInDim S8x8192x128 (![] : Fin 0 → Fin S8x8192x128.rank)
  reducesTo_S8x8192x128_S_d0_1_2 : S8x8192x128.ReducesTo [0, 1, 2] S_

variable [Facts]

def fn_part1 {F : FTy → Type} [FloatOps F] (main_v13 : IVec S_ 1) (main_v16 : IVec S8x8192x128 1) : IVec S_ 1 :=
  let main_c_5 : IVec S_ 1 := constantI S_ 1 1#1
  let main_v17 : IVec S_ 1 := (fun x v => Host.reduce IntOp.andi x v reducesTo_S8x8192x128_S_d0_1_2 h_S_) main_v16 main_c_5
  let main_v18 : IVec S_ 1 := andi main_v13 main_v17
  main_v18

def fn {F : FTy → Type} [FloatOps F] (main_arg0 : FVec F S8x8192x192 .f32) (main_arg1 : FVec F S8x8448x192 .f32) (main_arg2 : FVec F S8x8448x128 .f32) (main_arg3 : FVec F S8x8192x128 .f32) : IVec S_ 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_c : IVec S_ 1 := constantI S_ 1 1#1
  let main_v3 : IVec S_ 1 := (fun x v => Host.reduce IntOp.andi x v reducesTo_S8x8192x192_S_d0_1_2 h_S_) main_v2 main_c
  let main_v4 : FVec F S8x8448x192 .f32 := Host.absf main_arg1
  let main_cst_0 : FVec F S_ .f32 := constant S_ .f32 0x7F800000#32
  let main_v5 : FVec F S8x8448x192 .f32 := broadcastInDim S8x8448x192 ![] bcast_S_S8x8448x192 main_cst_0
  let main_v6 : IVec S8x8448x192 1 := cmpf .olt main_v4 main_v5
  let main_c_1 : IVec S_ 1 := constantI S_ 1 1#1
  let main_v7 : IVec S_ 1 := (fun x v => Host.reduce IntOp.andi x v reducesTo_S8x8448x192_S_d0_1_2 h_S_) main_v6 main_c_1
  let main_v8 : IVec S_ 1 := andi main_v3 main_v7
  let main_v9 : FVec F S8x8448x128 .f32 := Host.absf main_arg2
  let main_cst_2 : FVec F S_ .f32 := constant S_ .f32 0x7F800000#32
  let main_v10 : FVec F S8x8448x128 .f32 := broadcastInDim S8x8448x128 ![] bcast_S_S8x8448x128 main_cst_2
  let main_v11 : IVec S8x8448x128 1 := cmpf .olt main_v9 main_v10
  let main_c_3 : IVec S_ 1 := constantI S_ 1 1#1
  let main_v12 : IVec S_ 1 := (fun x v => Host.reduce IntOp.andi x v reducesTo_S8x8448x128_S_d0_1_2 h_S_) main_v11 main_c_3
  let main_v13 : IVec S_ 1 := andi main_v8 main_v12
  let main_v14 : FVec F S8x8192x128 .f32 := Host.absf main_arg3
  let main_cst_4 : FVec F S_ .f32 := constant S_ .f32 0x7F800000#32
  let main_v15 : FVec F S8x8192x128 .f32 := broadcastInDim S8x8192x128 ![] bcast_S_S8x8192x128 main_cst_4
  let main_v16 : IVec S8x8192x128 1 := cmpf .olt main_v14 main_v15
  fn_part1 (F := F) main_v13 main_v16
-- ==== Pre_finite_ffn.lean ====
abbrev S8192x2048 : Shape := ⟨2, ![8192, 2048]⟩
abbrev S1x2048 : Shape := ⟨2, ![1, 2048]⟩
abbrev S1x1x2048 : Shape := ⟨3, ![1, 1, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x1x2048 : S_.BroadcastsInDim S1x1x2048 (![] : Fin 0 → Fin S1x1x2048.rank)
  reducesTo_S1x1x2048_S_d0_1_2 : S1x1x2048.ReducesTo [0, 1, 2] S_
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x1x2048 .f32) (main_arg5 : FVec F S2048x11264 .f32) (main_arg6 : FVec F S5632x2048 .f32) (main_arg7 : FVec F S8192x2048 .f32) (main_v3 : IVec S_ 1) (main_v7 : IVec S_ 1) (main_v11 : IVec S_ 1) (main_v15 : IVec S_ 1) : IVec S_ 1 :=
  let main_v16 : FVec F S1x1x2048 .f32 := Host.absf main_arg4
  let main_cst_6 : FVec F S_ .f32 := constant S_ .f32 0x7F800000#32
  let main_v17 : FVec F S1x1x2048 .f32 := broadcastInDim S1x1x2048 ![] bcast_S_S1x1x2048 main_cst_6
  let main_v18 : IVec S1x1x2048 1 := cmpf .olt main_v16 main_v17
  let main_c_7 : IVec S_ 1 := constantI S_ 1 1#1
  let main_v19 : IVec S_ 1 := (fun x v => Host.reduce IntOp.andi x v reducesTo_S1x1x2048_S_d0_1_2 h_S_) main_v18 main_c_7
  let main_v20 : FVec F S2048x11264 .f32 := Host.absf main_arg5
  let main_cst_8 : FVec F S_ .f32 := constant S_ .f32 0x7F800000#32
  let main_v21 : FVec F S2048x11264 .f32 := broadcastInDim S2048x11264 ![] bcast_S_S2048x11264 main_cst_8
  let main_v22 : IVec S2048x11264 1 := cmpf .olt main_v20 main_v21
  let main_c_9 : IVec S_ 1 := constantI S_ 1 1#1
  let main_v23 : IVec S_ 1 := (fun x v => Host.reduce IntOp.andi x v reducesTo_S2048x11264_S_d0_1 h_S_) main_v22 main_c_9
  let main_v24 : FVec F S5632x2048 .f32 := Host.absf main_arg6
  let main_cst_10 : FVec F S_ .f32 := constant S_ .f32 0x7F800000#32
  let main_v25 : FVec F S5632x2048 .f32 := broadcastInDim S5632x2048 ![] bcast_S_S5632x2048 main_cst_10
  let main_v26 : IVec S5632x2048 1 := cmpf .olt main_v24 main_v25
  let main_c_11 : IVec S_ 1 := constantI S_ 1 1#1
  let main_v27 : IVec S_ 1 := (fun x v => Host.reduce IntOp.andi x v reducesTo_S5632x2048_S_d0_1 h_S_) main_v26 main_c_11
  let main_v28 : FVec F S8192x2048 .f32 := Host.absf main_arg7
  let main_cst_12 : FVec F S_ .f32 := constant S_ .f32 0x7F800000#32
  let main_v29 : FVec F S8192x2048 .f32 := broadcastInDim S8192x2048 ![] bcast_S_S8192x2048 main_cst_12
  let main_v30 : IVec S8192x2048 1 := cmpf .olt main_v28 main_v29
  let main_c_13 : IVec S_ 1 := constantI S_ 1 1#1
  let main_v31 : IVec S_ 1 := (fun x v => Host.reduce IntOp.andi x v reducesTo_S8192x2048_S_d0_1 h_S_) main_v30 main_c_13
  fn_part2 (F := F) main_v3 main_v7 main_v11 main_v15 main_v19 main_v23 main_v27 main_v31

def fn {F : FTy → Type} [FloatOps F] (main_arg0 : FVec F S8192x2048 .f32) (main_arg1 : FVec F S1x2048 .f32) (main_arg2 : FVec F S1x1x2048 .f32) (main_arg3 : FVec F S1x1x2048 .f32) (main_arg4 : FVec F S1x1x2048 .f32) (main_arg5 : FVec F S2048x11264 .f32) (main_arg6 : FVec F S5632x2048 .f32) (main_arg7 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S1x1x2048 .f32 := Host.absf main_arg2
  let main_cst_2 : FVec F S_ .f32 := constant S_ .f32 0x7F800000#32
  let main_v9 : FVec F S1x1x2048 .f32 := broadcastInDim S1x1x2048 ![] bcast_S_S1x1x2048 main_cst_2
  let main_v10 : IVec S1x1x2048 1 := cmpf .olt main_v8 main_v9
  let main_c_3 : IVec S_ 1 := constantI S_ 1 1#1
  let main_v11 : IVec S_ 1 := (fun x v => Host.reduce IntOp.andi x v reducesTo_S1x1x2048_S_d0_1_2 h_S_) main_v10 main_c_3
  let main_v12 : FVec F S1x1x2048 .f32 := Host.absf main_arg3
  let main_cst_4 : FVec F S_ .f32 := constant S_ .f32 0x7F800000#32
  let main_v13 : FVec F S1x1x2048 .f32 := broadcastInDim S1x1x2048 ![] bcast_S_S1x1x2048 main_cst_4
  let main_v14 : IVec S1x1x2048 1 := cmpf .olt main_v12 main_v13
  let main_c_5 : IVec S_ 1 := constantI S_ 1 1#1
  let main_v15 : IVec S_ 1 := (fun x v => Host.reduce IntOp.andi x v reducesTo_S1x1x2048_S_d0_1_2 h_S_) main_v14 main_c_5
  fn_part1 (F := F) main_arg4 main_arg5 main_arg6 main_arg7 main_v3 main_v7 main_v11 main_v15
-- ==== Pre_finite_ffn1.lean ====
abbrev S8448x2048 : Shape := ⟨2, ![8448, 2048]⟩
abbrev S1x2048 : Shape := ⟨2, ![1, 2048]⟩
abbrev S2x1x2048 : Shape := ⟨3, ![2, 1, 2048]⟩
abbrev S2048x11264 : Shape := ⟨2, ![2048, 11264]⟩
abbrev S5632x2048 : Shape := ⟨2, ![5632, 2048]⟩
abbrev S_ : Shape := ⟨0, ![]⟩

class Facts : Prop where
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2x1x2048 : S_.BroadcastsInDim S2x1x2048 (![] : Fin 0 → Fin S2x1x2048.rank)
  reducesTo_S2x1x2048_S_d0_1_2 : S2x1x2048.ReducesTo [0, 1, 2] S_
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S2x1x2048 .f32) (main_arg5 : FVec F S2048x11264 .f32) (main_arg6 : FVec F S5632x2048 .f32) (main_arg7 : FVec F S8448x2048 .f32) (main_v3 : IVec S_ 1) (main_v7 : IVec S_ 1) (main_v11 : IVec S_ 1) (main_v15 : IVec S_ 1) : IVec S_ 1 :=
  let main_v16 : FVec F S2x1x2048 .f32 := Host.absf main_arg4
  let main_cst_6 : FVec F S_ .f32 := constant S_ .f32 0x7F800000#32
  let main_v17 : FVec F S2x1x2048 .f32 := broadcastInDim S2x1x2048 ![] bcast_S_S2x1x2048 main_cst_6
  let main_v18 : IVec S2x1x2048 1 := cmpf .olt main_v16 main_v17
  let main_c_7 : IVec S_ 1 := constantI S_ 1 1#1
  let main_v19 : IVec S_ 1 := (fun x v => Host.reduce IntOp.andi x v reducesTo_S2x1x2048_S_d0_1_2 h_S_) main_v18 main_c_7
  let main_v20 : FVec F S2048x11264 .f32 := Host.absf main_arg5
  let main_cst_8 : FVec F S_ .f32 := constant S_ .f32 0x7F800000#32
  let main_v21 : FVec F S2048x11264 .f32 := broadcastInDim S2048x11264 ![] bcast_S_S2048x11264 main_cst_8
  let main_v22 : IVec S2048x11264 1 := cmpf .olt main_v20 main_v21
  let main_c_9 : IVec S_ 1 := constantI S_ 1 1#1
  let main_v23 : IVec S_ 1 := (fun x v => Host.reduce IntOp.andi x v reducesTo_S2048x11264_S_d0_1 h_S_) main_v22 main_c_9
  let main_v24 : FVec F S5632x2048 .f32 := Host.absf main_arg6
  let main_cst_10 : FVec F S_ .f32 := constant S_ .f32 0x7F800000#32
  let main_v25 : FVec F S5632x2048 .f32 := broadcastInDim S5632x2048 ![] bcast_S_S5632x2048 main_cst_10
  let main_v26 : IVec S5632x2048 1 := cmpf .olt main_v24 main_v25
  let main_c_11 : IVec S_ 1 := constantI S_ 1 1#1
  let main_v27 : IVec S_ 1 := (fun x v => Host.reduce IntOp.andi x v reducesTo_S5632x2048_S_d0_1 h_S_) main_v26 main_c_11
  let main_v28 : FVec F S8448x2048 .f32 := Host.absf main_arg7
  let main_cst_12 : FVec F S_ .f32 := constant S_ .f32 0x7F800000#32
  let main_v29 : FVec F S8448x2048 .f32 := broadcastInDim S8448x2048 ![] bcast_S_S8448x2048 main_cst_12
  let main_v30 : IVec S8448x2048 1 := cmpf .olt main_v28 main_v29
  let main_c_13 : IVec S_ 1 := constantI S_ 1 1#1
  let main_v31 : IVec S_ 1 := (fun x v => Host.reduce IntOp.andi x v reducesTo_S8448x2048_S_d0_1 h_S_) main_v30 main_c_13
  fn_part2 (F := F) main_v3 main_v7 main_v11 main_v15 main_v19 main_v23 main_v27 main_v31

def fn {F : FTy → Type} [FloatOps F] (main_arg0 : FVec F S8448x2048 .f32) (main_arg1 : FVec F S1x2048 .f32) (main_arg2 : FVec F S2x1x2048 .f32) (main_arg3 : FVec F S2x1x2048 .f32) (main_arg4 : FVec F S2x1x2048 .f32) (main_arg5 : FVec F S2048x11264 .f32) (main_arg6 : FVec F S5632x2048 .f32) (main_arg7 : FVec F S8448x2048 .f32) : IVec S_ 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_c : IVec S_ 1 := constantI S_ 1 1#1
  let main_v3 : IVec S_ 1 := (fun x v => Host.reduce IntOp.andi x v reducesTo_S8448x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S2x1x2048 .f32 := Host.absf main_arg2
  let main_cst_2 : FVec F S_ .f32 := constant S_ .f32 0x7F800000#32
  let main_v9 : FVec F S2x1x2048 .f32 := broadcastInDim S2x1x2048 ![] bcast_S_S2x1x2048 main_cst_2
  let main_v10 : IVec S2x1x2048 1 := cmpf .olt main_v8 main_v9
  let main_c_3 : IVec S_ 1 := constantI S_ 1 1#1
  let main_v11 : IVec S_ 1 := (fun x v => Host.reduce IntOp.andi x v reducesTo_S2x1x2048_S_d0_1_2 h_S_) main_v10 main_c_3
  let main_v12 : FVec F S2x1x2048 .f32 := Host.absf main_arg3
  let main_cst_4 : FVec F S_ .f32 := constant S_ .f32 0x7F800000#32
  let main_v13 : FVec F S2x1x2048 .f32 := broadcastInDim S2x1x2048 ![] bcast_S_S2x1x2048 main_cst_4
  let main_v14 : IVec S2x1x2048 1 := cmpf .olt main_v12 main_v13
  let main_c_5 : IVec S_ 1 := constantI S_ 1 1#1
  let main_v15 : IVec S_ 1 := (fun x v => Host.reduce IntOp.andi x v reducesTo_S2x1x2048_S_d0_1_2 h_S_) main_v14 main_c_5
  fn_part1 (F := F) main_arg4 main_arg5 main_arg6 main_arg7 main_v3 main_v7 main_v11 main_v15
-- ==== Kernel.lean ====
abbrev S8x8192x192 : Shape := ⟨3, ![8, 8192, 192]⟩
abbrev S8x8448x192 : Shape := ⟨3, ![8, 8448, 192]⟩
abbrev S8x8448x128 : Shape := ⟨3, ![8, 8448, 128]⟩
abbrev S8x8192x128 : Shape := ⟨3, ![8, 8192, 128]⟩
abbrev S8x8192x1 : Shape := ⟨3, ![8, 8192, 1]⟩
abbrev S1x512x192 : Shape := ⟨3, ![1, 512, 192]⟩
abbrev S1x8448x192 : Shape := ⟨3, ![1, 8448, 192]⟩
abbrev S1x8448x128 : Shape := ⟨3, ![1, 8448, 128]⟩
abbrev S1x512x128 : Shape := ⟨3, ![1, 512, 128]⟩
abbrev S1x512x1 : Shape := ⟨3, ![1, 512, 1]⟩
abbrev S512x1 : Shape := ⟨2, ![512, 1]⟩
abbrev S512x128 : Shape := ⟨2, ![512, 128]⟩
abbrev S512x192 : Shape := ⟨2, ![512, 192]⟩
abbrev S1x1408x192 : Shape := ⟨3, ![1, 1408, 192]⟩
abbrev S1408x192 : Shape := ⟨2, ![1408, 192]⟩
abbrev S512x1408 : Shape := ⟨2, ![512, 1408]⟩
abbrev S512 : Shape := ⟨1, ![512]⟩
abbrev S1x1408x128 : Shape := ⟨3, ![1, 1408, 128]⟩
abbrev S1408x128 : Shape := ⟨2, ![1408, 128]⟩

abbrev nBuf : Space → Nat
  | .hbm => 12
  | .vmem => 27
  | .smem => 0
  | _ => 0

abbrev bufTy : (tb : Table) → Fin (tcTables nBuf tb) → BufTy
  | .hbm, ⟨0, _⟩ => ⟨S8x8192x192, .f32⟩
  | .hbm, ⟨1, _⟩ => ⟨S8x8448x192, .f32⟩
  | .hbm, ⟨2, _⟩ => ⟨S8x8448x128, .f32⟩
  | .hbm, ⟨3, _⟩ => ⟨S8x8192x128, .f32⟩
  | .hbm, ⟨4, _⟩ => ⟨S8x8192x192, .bf16⟩
  | .hbm, ⟨5, _⟩ => ⟨S8x8448x192, .bf16⟩
  | .hbm, ⟨6, _⟩ => ⟨S8x8448x128, .bf16⟩
  | .hbm, ⟨7, _⟩ => ⟨S8x8192x128, .f32⟩
  | .hbm, ⟨8, _⟩ => ⟨S8x8192x1, .f32⟩
  | .hbm, ⟨9, _⟩ => ⟨S8x8192x192, .f32⟩
  | .hbm, ⟨10, _⟩ => ⟨S8x8448x192, .f32⟩
  | .hbm, ⟨11, _⟩ => ⟨S8x8448x128, .f32⟩
  | .local _ .vmem, ⟨0, _⟩ => ⟨S1x512x192, .bf16⟩
  | .local _ .vmem, ⟨1, _⟩ => ⟨S1x512x192, .bf16⟩
  | .local _ .vmem, ⟨2, _⟩ => ⟨S1x8448x192, .bf16⟩
  | .local _ .vmem, ⟨3, _⟩ => ⟨S1x8448x192, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S1x512x192, .bf16⟩
  | .local _ .vmem, ⟨14, _⟩ => ⟨S1x512x192, .bf16⟩
  | .local _ .vmem, ⟨15, _⟩ => ⟨S1x8448x192, .bf16⟩
  | .local _ .vmem, ⟨16, _⟩ => ⟨S1x8448x128, .bf16⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x1, .f32⟩
  | .local _ .vmem, ⟨22, _⟩ => ⟨S1x512x1, .f32⟩
  | .local _ .vmem, ⟨23, _⟩ => ⟨S1x512x192, .f32⟩
  | .local _ .vmem, ⟨24, _⟩ => ⟨S1x512x192, .f32⟩
  | .local _ .vmem, ⟨25, _⟩ => ⟨S1x8448x192, .f32⟩
  | .local _ .vmem, ⟨26, _⟩ => ⟨S1x8448x128, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem8_0 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x8448x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x8448x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1x8448x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S1x8448x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8x8192x192 : Shape := ⟨3, ![8, 8192, 192]⟩
abbrev S8x8448x192 : Shape := ⟨3, ![8, 8448, 192]⟩
abbrev S8x8448x128 : Shape := ⟨3, ![8, 8448, 128]⟩
abbrev S8x8192x128 : Shape := ⟨3, ![8, 8192, 128]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x128x8448 : Shape := ⟨3, ![8, 128, 8448]⟩

abbrev nBuf : Space → Nat
  | .hbm => 69
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8448x192, .f32⟩
  | .hbm, ⟨2, _⟩ => ⟨S8x8448x128, .f32⟩
  | .hbm, ⟨3, _⟩ => ⟨S8x8192x128, .f32⟩
  | .hbm, ⟨4, _⟩ => ⟨S8x8192x8448, .f32⟩
  | .hbm, ⟨5, _⟩ => ⟨S_, .f32⟩
  | .hbm, ⟨6, _⟩ => ⟨S_, .f32⟩
  | .hbm, ⟨7, _⟩ => ⟨S8x8192x8448, .f32⟩
  | .hbm, ⟨8, _⟩ => ⟨S8x8192x8448, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8448, .f32⟩
  | .hbm, ⟨13, _⟩ => ⟨S8x8192x8448, .i1⟩
  | .hbm, ⟨14, _⟩ => ⟨S8x8192x8448, .f32⟩
  | .hbm, ⟨15, _⟩ => ⟨S_, .f32⟩
  | .hbm, ⟨16, _⟩ => ⟨S8x8192, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8448, .f32⟩
  | .hbm, ⟨36, _⟩ => ⟨S8x8192x8448, .f32⟩
  | .hbm, ⟨37, _⟩ => ⟨S8x8192x8448, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8448, .f32⟩
  | .hbm, ⟨42, _⟩ => ⟨S8x8192x8448, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x8192x128, .f32⟩
  | .hbm, ⟨48, _⟩ => ⟨S8x128x8448, .f32⟩
  | .hbm, ⟨49, _⟩ => ⟨S8x8448x128, .f32⟩
  | .hbm, ⟨50, _⟩ => ⟨S8x8192x8448, .f32⟩
  | .hbm, ⟨51, _⟩ => ⟨S8x8192x8448, .f32⟩
  | .hbm, ⟨52, _⟩ => ⟨S8x8192x8448, .f32⟩
  | .hbm, ⟨53, _⟩ => ⟨S8x8192x8448, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x1, .f32⟩
  | .hbm, ⟨58, _⟩ => ⟨S8x8192x8448, .f32⟩
  | .hbm, ⟨59, _⟩ => ⟨S8x8192x8448, .f32⟩
  | .hbm, ⟨60, _⟩ => ⟨S_, .f32⟩
  | .hbm, ⟨61, _⟩ => ⟨S8x8192, .f32⟩
  | .hbm, ⟨62, _⟩ => ⟨S8x8192x8448, .f32⟩
  | .hbm, ⟨63, _⟩ => ⟨S8x8192x8448, .f32⟩
  | .hbm, ⟨64, _⟩ => ⟨S8x8192x8448, .f32⟩
  | .hbm, ⟨65, _⟩ => ⟨S8x8192x8448, .f32⟩
  | .hbm, ⟨66, _⟩ => ⟨S8x8192x8448, .f32⟩
  | .hbm, ⟨67, _⟩ => ⟨S8x8448x192, .f32⟩
  | .hbm, ⟨68, _⟩ => ⟨S8x8192x192, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S1x1x2048 : Shape := ⟨3, ![1, 1, 2048]⟩
abbrev S2048x11264 : Shape := ⟨2, ![2048, 11264]⟩
abbrev S5632x2048 : Shape := ⟨2, ![5632, 2048]⟩
abbrev S2048x5632 : Shape := ⟨2, ![2048, 5632]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S8192x5632 : Shape := ⟨2, ![8192, 5632]⟩
abbrev S5632x8192 : Shape := ⟨2, ![5632, 8192]⟩
abbrev S1024x2048 : Shape := ⟨2, ![1024, 2048]⟩
abbrev S2048x512 : Shape := ⟨2, ![2048, 512]⟩
abbrev S1024x512 : Shape := ⟨2, ![1024, 512]⟩
abbrev S512x1024 : Shape := ⟨2, ![512, 1024]⟩
abbrev S1024x5632 : Shape := ⟨2, ![1024, 5632]⟩
abbrev S5632x512 : Shape := ⟨2, ![5632, 512]⟩
abbrev S1x1x512 : Shape := ⟨3, ![1, 1, 512]⟩
abbrev S1x512 : Shape := ⟨2, ![1, 512]⟩
abbrev S2048 : Shape := ⟨1, ![2048]⟩
abbrev S512x8192 : Shape := ⟨2, ![512, 8192]⟩
abbrev S8192x512 : Shape := ⟨2, ![8192, 512]⟩
abbrev S512x512 : Shape := ⟨2, ![512, 512]⟩
abbrev S512x2048 : Shape := ⟨2, ![512, 2048]⟩
abbrev S512x5632 : Shape := ⟨2, ![512, 5632]⟩

abbrev nBuf : Space → Nat
  | .hbm => 33
  | .vmem => 101
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S2048x11264, .f32⟩
  | .hbm, ⟨6, _⟩ => ⟨S5632x2048, .f32⟩
  | .hbm, ⟨7, _⟩ => ⟨S8192x2048, .f32⟩
  | .hbm, ⟨8, _⟩ => ⟨S2048x11264, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S8192x2048, .bf16⟩
  | .hbm, ⟨13, _⟩ => ⟨S2048x8192, .bf16⟩
  | .hbm, ⟨14, _⟩ => ⟨S8192x5632, .bf16⟩
  | .hbm, ⟨15, _⟩ => ⟨S8192x5632, .bf16⟩
  | .hbm, ⟨16, _⟩ => ⟨S8192x5632, .bf16⟩
  | .hbm, ⟨17, _⟩ => ⟨S5632x8192, .bf16⟩
  | .hbm, ⟨18, _⟩ => ⟨S8192x2048, .f32⟩
  | .hbm, ⟨19, _⟩ => ⟨S8192x2048, .bf16⟩
  | .hbm, ⟨20, _⟩ => ⟨S8192x2048, .bf16⟩
  | .hbm, ⟨21, _⟩ => ⟨S1x1x2048, .f32⟩
  | .hbm, ⟨22, _⟩ => ⟨S5632x2048, .bf16⟩
  | .hbm, ⟨23, _⟩ => ⟨S8192x5632, .bf16⟩
  | .hbm, ⟨24, _⟩ => ⟨S8192x5632, .bf16⟩
  | .hbm, ⟨25, _⟩ => ⟨S2048x5632, .bf16⟩
  | .hbm, ⟨26, _⟩ => ⟨S2048x5632, .bf16⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S1x1x2048, .f32⟩
  | .hbm, ⟨32, _⟩ => ⟨S1x1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S256x2048, .bf16⟩
  | .local _ .vmem, ⟨6, _⟩ => ⟨S256x2048, .bf16⟩
  | .local _ .vmem, ⟨7, _⟩ => ⟨S2048x256, .bf16⟩
  | .local _ .vmem, ⟨8, _⟩ => ⟨S2048x256, .bf16⟩
  | .local _ .vmem, ⟨9, _⟩ => ⟨S1024x2048, .bf16⟩
  | .local _ .vmem, ⟨10, _⟩ => ⟨S1024x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S512x1024, .bf16⟩
  | .local _ .vmem, ⟨22, _⟩ => ⟨S512x1024, .bf16⟩
  | .local _ .vmem, ⟨23, _⟩ => ⟨S1024x5632, .bf16⟩
  | .local _ .vmem, ⟨24, _⟩ => ⟨S1024x5632, .bf16⟩
  | .local _ .vmem, ⟨25, _⟩ => ⟨S5632x512, .bf16⟩
  | .local _ .vmem, ⟨26, _⟩ => ⟨S5632x512, .bf16⟩
  | .local _ .vmem, ⟨27, _⟩ => ⟨S1024x512, .f32⟩
  | .local _ .vmem, ⟨28, _⟩ => ⟨S1024x512, .f32⟩
  | .local _ .vmem, ⟨29, _⟩ => ⟨S1x1x512, .f32⟩
  | .local _ .vmem, ⟨30, _⟩ => ⟨S1x1x512, .f32⟩
  | .local _ .vmem, ⟨31, _⟩ => ⟨S1024x512, .f32⟩
  | .local _ .vmem, ⟨32, _⟩ => ⟨S1024x512, .f32⟩
  | .local _ .vmem, ⟨33, _⟩ => ⟨S1024x512, .bf16⟩
  | .local _ .vmem, ⟨34, _⟩ => ⟨S1024x512, .bf16⟩
  | .local _ .vmem, ⟨35, _⟩ => ⟨S256x2048, .f32⟩
  | .local _ .vmem, ⟨36, _⟩ => ⟨S256x2048, .f32⟩
  | .local _ .vmem, ⟨37, _⟩ => ⟨S256x2048, .bf16⟩
  | .local _ .vmem, ⟨38, _⟩ => ⟨S256x2048, .bf16⟩
  | .local _ .vmem, ⟨39, _⟩ => ⟨S1x1x2048, .f32⟩
  | .local _ .vmem, ⟨40, _⟩ => ⟨S256x2048, .bf16⟩
  | .local _ .vmem, ⟨41, _⟩ => ⟨S256x2048, .bf16⟩
  | .local _ .vmem, ⟨42, _⟩ => ⟨S1x1x2048, .f32⟩
  | .local _ .vmem, ⟨43, _⟩ => ⟨S512x8192, .bf16⟩
  | .local _ .vmem, ⟨44, _⟩ => ⟨S512x8192, .bf16⟩
  | .local _ .vmem, ⟨45, _⟩ => ⟨S8192x512, .bf16⟩
  | .local _ .vmem, ⟨46, _⟩ => ⟨S8192x512, .bf16⟩
  | .local _ .vmem, ⟨47, _⟩ => ⟨S512x512, .bf16⟩
  | .local _ .vmem, ⟨48, _⟩ => ⟨S512x512, .bf16⟩
  | .local _ .vmem, ⟨49, _⟩ => ⟨S1024x2048, .bf16⟩
  | .local _ .vmem, ⟨50, _⟩ => ⟨S1024x2048, .bf16⟩
  | .local _ .vmem, ⟨51, _⟩ => ⟨S512x2048, .bf16⟩
  | .local _ .vmem, ⟨52, _⟩ => ⟨S512x2048, .bf16⟩
  | .local _ .vmem, ⟨53, _⟩ => ⟨S1024x512, .bf16⟩
  | .local _ .vmem, ⟨54, _⟩ => ⟨S1024x512, .bf16⟩
  | .local _ .vmem, ⟨55, _⟩ => ⟨S1024x512, .bf16⟩
  | .local _ .vmem, ⟨56, _⟩ => ⟨S1024x512, .bf16⟩
  | .local _ .vmem, ⟨57, _⟩ => ⟨S1024x512, .bf16⟩
  | .local _ .vmem, ⟨58, _⟩ => ⟨S1024x512, .bf16⟩
  | .local _ .vmem, ⟨59, _⟩ => ⟨S1024x512, .bf16⟩
  | .local _ .vmem, ⟨60, _⟩ => ⟨S1024x512, .bf16⟩
  | .local _ .vmem, ⟨61, _⟩ => ⟨S512x8192, .bf16⟩
  | .local _ .vmem, ⟨62, _⟩ => ⟨S512x8192, .bf16⟩
  | .local _ .vmem, ⟨63, _⟩ => ⟨S8192x512, .bf16⟩
  | .local _ .vmem, ⟨64, _⟩ => ⟨S8192x512, .bf16⟩
  | .local _ .vmem, ⟨65, _⟩ => ⟨S512x512, .bf16⟩
  | .local _ .vmem, ⟨66, _⟩ => ⟨S512x512, .bf16⟩
  | .local _ .vmem, ⟨67, _⟩ => ⟨S512x8192, .bf16⟩
  | .local _ .vmem, ⟨68, _⟩ => ⟨S512x8192, .bf16⟩
  | .local _ .vmem, ⟨69, _⟩ => ⟨S8192x512, .bf16⟩
  | .local _ .vmem, ⟨70, _⟩ => ⟨S8192x512, .bf16⟩
  | .local _ .vmem, ⟨71, _⟩ => ⟨S512x512, .bf16⟩
  | .local _ .vmem, ⟨72, _⟩ => ⟨S512x512, .bf16⟩
  | .local _ .vmem, ⟨73, _⟩ => ⟨S1024x5632, .bf16⟩
  | .local _ .vmem, ⟨74, _⟩ => ⟨S1024x5632, .bf16⟩
  | .local _ .vmem, ⟨75, _⟩ => ⟨S512x5632, .bf16⟩
  | .local _ .vmem, ⟨76, _⟩ => ⟨S512x5632, .bf16⟩
  | .local _ .vmem, ⟨77, _⟩ => ⟨S1024x512, .f32⟩
  | .local _ .vmem, ⟨78, _⟩ => ⟨S1024x512, .f32⟩
  | .local _ .vmem, ⟨79, _⟩ => ⟨S1024x5632, .bf16⟩
  | .local _ .vmem, ⟨80, _⟩ => ⟨S1024x5632, .bf16⟩
  | .local _ .vmem, ⟨81, _⟩ => ⟨S512x5632, .bf16⟩
  | .local _ .vmem, ⟨82, _⟩ => ⟨S512x5632, .bf16⟩
  | .local _ .vmem, ⟨83, _⟩ => ⟨S1024x512, .f32⟩
  | .local _ .vmem, ⟨84, _⟩ => ⟨S1024x512, .f32⟩
  | .local _ .vmem, ⟨85, _⟩ => ⟨S1024x512, .f32⟩
  | .local _ .vmem, ⟨86, _⟩ => ⟨S1024x512, .f32⟩
  | .local _ .vmem, ⟨87, _⟩ => ⟨S256x2048, .f32⟩
  | .local _ .vmem, ⟨88, _⟩ => ⟨S256x2048, .f32⟩
  | .local _ .vmem, ⟨89, _⟩ => ⟨S256x2048, .f32⟩
  | .local _ .vmem, ⟨90, _⟩ => ⟨S256x2048, .f32⟩
  | .local _ .vmem, ⟨91, _⟩ => ⟨S1x2048, .f32⟩
  | .local _ .vmem, ⟨92, _⟩ => ⟨S1x1x2048, .f32⟩
  | .local _ .vmem, ⟨93, _⟩ => ⟨S1x1x2048, .f32⟩
  | .local _ .vmem, ⟨94, _⟩ => ⟨S256x2048, .f32⟩
  | .local _ .vmem, ⟨95, _⟩ => ⟨S256x2048, .f32⟩
  | .local _ .vmem, ⟨96, _⟩ => ⟨S256x2048, .f32⟩
  | .local _ .vmem, ⟨97, _⟩ => ⟨S256x2048, .f32⟩
  | .local _ .vmem, ⟨98, _⟩ => ⟨S1x2048, .f32⟩
  | .local _ .vmem, ⟨99, _⟩ => ⟨S1x1x2048, .f32⟩
  | .local _ .vmem, ⟨100, _⟩ => ⟨S1x1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6_0 : Ref sig .tc := ⟨.hbm, 18, rfl⟩
abbrev main_v6_1 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg4_1 : Ref sig .tc := ⟨.vmem, 58, rfl⟩
abbrev cc5_stg5_0 : Ref sig .tc := ⟨.vmem, 59, rfl⟩
abbrev cc5_stg5_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg2_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg2_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg1_1 : Ref sig .tc := ⟨.vmem, 82, rfl⟩
abbrev cc9_stg2_0 : Ref sig .tc := ⟨.vmem, 83, rfl⟩
abbrev cc9_stg2_1 : Ref sig .tc := ⟨.vmem, 84, rfl⟩
abbrev cc9_stg3_0 : Ref sig .tc := ⟨.vmem, 85, rfl⟩
abbrev cc9_stg3_1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg1_1 : Ref sig .tc := ⟨.vmem, 90, rfl⟩
abbrev cc10_stg2_0 : Ref sig .tc := ⟨.vmem, 91, rfl⟩
abbrev cc10_stg3_0 : Ref sig .tc := ⟨.vmem, 92, rfl⟩
abbrev cc10_stg4_0 : Ref sig .tc := ⟨.vmem, 93, rfl⟩
abbrev cc10_stg5_0 : Ref sig .tc := ⟨.vmem, 94, rfl⟩
abbrev cc10_stg5_1 : Ref sig .tc := ⟨.vmem, 95, rfl⟩
abbrev cc10_stg6_0 : Ref sig .tc := ⟨.vmem, 96, rfl⟩
abbrev cc10_stg6_1 : Ref sig .tc := ⟨.vmem, 97, rfl⟩
abbrev cc10_stg7_0 : Ref sig .tc := ⟨.vmem, 98, rfl⟩
abbrev cc10_stg8_0 : Ref sig .tc := ⟨.vmem, 99, rfl⟩
abbrev cc10_stg9_0 : Ref sig .tc := ⟨.vmem, 100, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem3_1 : DmaSem sig := 41
abbrev cc3_sem4_0 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem3_1 : DmaSem sig := 56
abbrev cc5_sem4_0 : DmaSem sig := 57
abbrev cc5_sem4_1 : DmaSem sig := 58
abbrev cc5_sem5_0 : DmaSem sig := 59
abbrev cc5_sem5_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem2_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem2_1 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem2_1 : DmaSem sig := 78
abbrev cc9_sem0_0 : DmaSem sig := 79
abbrev cc9_sem0_1 : DmaSem sig := 80
abbrev cc9_sem1_0 : DmaSem sig := 81
abbrev cc9_sem1_1 : DmaSem sig := 82
abbrev cc9_sem2_0 : DmaSem sig := 83
abbrev cc9_sem2_1 : DmaSem sig := 84
abbrev cc9_sem3_0 : DmaSem sig := 85
abbrev cc9_sem3_1 : DmaSem sig := 86
abbrev cc10_sem0_0 : DmaSem sig := 87
abbrev cc10_sem0_1 : DmaSem sig := 88
abbrev cc10_sem1_0 : DmaSem sig := 89
abbrev cc10_sem1_1 : DmaSem sig := 90
abbrev cc10_sem2_0 : DmaSem sig := 91
abbrev cc10_sem3_0 : DmaSem sig := 92
abbrev cc10_sem4_0 : DmaSem sig := 93
abbrev cc10_sem5_0 : DmaSem sig := 94
abbrev cc10_sem5_1 : DmaSem sig := 95
abbrev cc10_sem6_0 : DmaSem sig := 96
abbrev cc10_sem6_1 : DmaSem sig := 97
abbrev cc10_sem7_0 : DmaSem sig := 98
abbrev cc10_sem8_0 : DmaSem sig := 99
abbrev cc10_sem9_0 : DmaSem sig := 100

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨3, ![11, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8192x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![8, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨3, ![4, 11, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S8192x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 11, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x8192 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S8192x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x5632 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S512x5632 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S1024x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_9 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage10_0 : Fin 2 → Memref sig .tc .vmem S256x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S256x2048 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x2048 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1x2048 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1x2048 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S256x2048 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S256x2048 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x2048 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x1x2048 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x1x2048 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]
-- ==== Reference2Ideal.lean ====
abbrev S8192x2048 : Shape := ⟨2, ![8192, 2048]⟩
abbrev S1x2048 : Shape := ⟨2, ![1, 2048]⟩
abbrev S1x1x2048 : Shape := ⟨3, ![1, 1, 2048]⟩
abbrev S2048x11264 : Shape := ⟨2, ![2048, 11264]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x11264 : Shape := ⟨2, ![8192, 11264]⟩
abbrev S8192x5632 : Shape := ⟨2, ![8192, 5632]⟩
abbrev S2048 : Shape := ⟨1, ![2048]⟩
abbrev S2048x5632 : Shape := ⟨2, ![2048, 5632]⟩
abbrev S11264x2048 : Shape := ⟨2, ![11264, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S2048x11264, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x11264, .f32⟩
  | .hbm, ⟨37, _⟩ => ⟨S8192x5632, .f32⟩
  | .hbm, ⟨38, _⟩ => ⟨S8192x5632, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S_, .f32⟩
  | .hbm, ⟨49, _⟩ => ⟨S8192x5632, .f32⟩
  | .hbm, ⟨50, _⟩ => ⟨S8192x5632, .f32⟩
  | .hbm, ⟨51, _⟩ => ⟨S_, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S2048x5632, .f32⟩
  | .hbm, ⟨69, _⟩ => ⟨S5632x2048, .f32⟩
  | .hbm, ⟨70, _⟩ => ⟨S8192x5632, .f32⟩
  | .hbm, ⟨71, _⟩ => ⟨S8192x5632, .f32⟩
  | .hbm, ⟨72, _⟩ => ⟨S8192x5632, .f32⟩
  | .hbm, ⟨73, _⟩ => ⟨S8192x5632, .f32⟩
  | .hbm, ⟨74, _⟩ => ⟨S8192x5632, .f32⟩
  | .hbm, ⟨75, _⟩ => ⟨S8192x5632, .f32⟩
  | .hbm, ⟨76, _⟩ => ⟨S8192x5632, .f32⟩
  | .hbm, ⟨77, _⟩ => ⟨S_, .f32⟩
  | .hbm, ⟨78, _⟩ => ⟨S1x2048, .f32⟩
  | .hbm, ⟨79, _⟩ => ⟨S1x2048, .f32⟩
  | .hbm, ⟨80, _⟩ => ⟨S1x1x2048, .f32⟩
  | .hbm, ⟨81, _⟩ => ⟨S8192x11264, .f32⟩
  | .hbm, ⟨82, _⟩ => ⟨S11264x2048, .f32⟩
  | .hbm, ⟨83, _⟩ => ⟨S2048x11264, .f32⟩
  | .hbm, ⟨84, _⟩ => ⟨S8192x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S1x1x2048, .f32⟩
  | .hbm, ⟨89, _⟩ => ⟨S8192x2048, .f32⟩
  | .hbm, ⟨90, _⟩ => ⟨S_, .f32⟩
  | .hbm, ⟨91, _⟩ => ⟨S2048, .f32⟩
  | .hbm, ⟨92, _⟩ => ⟨S1x2048, .f32⟩
  | .hbm, ⟨93, _⟩ => ⟨S8192x2048, .f32⟩
  | .hbm, ⟨94, _⟩ => ⟨S8192x2048, .f32⟩
  | .hbm, ⟨95, _⟩ => ⟨S1x1x2048, .f32⟩
  | .hbm, ⟨96, _⟩ => ⟨S8192x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192, .f32⟩
  | .hbm, ⟨115, _⟩ => ⟨S8192x2048, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S2048x11264, .bf16⟩
  | .hbm, ⟨121, _⟩ => ⟨S2048x5632, .bf16⟩
  | .hbm, ⟨122, _⟩ => ⟨S2048x5632, .bf16⟩
  | .hbm, ⟨123, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v29_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v29_1 : Ref sig .tc := ⟨.hbm, 54, rfl⟩
abbrev main_v29_0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_cst_12 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== Kernel3.lean ====
abbrev S8448x2048 : Shape := ⟨2, ![8448, 2048]⟩
abbrev S1x2048 : Shape := ⟨2, ![1, 2048]⟩
abbrev S2x1x2048 : Shape := ⟨3, ![2, 1, 2048]⟩
abbrev S2048x11264 : Shape := ⟨2, ![2048, 11264]⟩
abbrev S5632x2048 : Shape := ⟨2, ![5632, 2048]⟩
abbrev S2048x5632 : Shape := ⟨2, ![2048, 5632]⟩
abbrev S2048x8448 : Shape := ⟨2, ![2048, 8448]⟩
abbrev S256x2048 : Shape := ⟨2, ![256, 2048]⟩
abbrev S1x1x2048 : Shape := ⟨3, ![1, 1, 2048]⟩
abbrev S2048x256 : Shape := ⟨2, ![2048, 256]⟩
abbrev S256 : Shape := ⟨1, ![256]⟩
abbrev S256x1 : Shape := ⟨2, ![256, 1]⟩
abbrev S8448x5632 : Shape := ⟨2, ![8448, 5632]⟩
abbrev S5632x8448 : Shape := ⟨2, ![5632, 8448]⟩
abbrev S768x2048 : Shape := ⟨2, ![768, 2048]⟩
abbrev S2048x512 : Shape := ⟨2, ![2048, 512]⟩
abbrev S768x512 : Shape := ⟨2, ![768, 512]⟩
abbrev S512x768 : Shape := ⟨2, ![512, 768]⟩
abbrev S768x5632 : Shape := ⟨2, ![768, 5632]⟩
abbrev S5632x512 : Shape := ⟨2, ![5632, 512]⟩
abbrev S_ : Shape := ⟨0, ![]⟩
abbrev S8192x2048 : Shape := ⟨2, ![8192, 2048]⟩
abbrev S512x8448 : Shape := ⟨2, ![512, 8448]⟩
abbrev S8448x512 : Shape := ⟨2, ![8448, 512]⟩
abbrev S512x512 : Shape := ⟨2, ![512, 512]⟩
abbrev S512x2048 : Shape := ⟨2, ![512, 2048]⟩
abbrev S512x5632 : Shape := ⟨2, ![512, 5632]⟩

abbrev nBuf : Space → Nat
  | .hbm => 45
  | .vmem => 83
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S5632x2048, .f32⟩
  | .hbm, ⟨7, _⟩ => ⟨S8448x2048, .f32⟩
  | .hbm, ⟨8, _⟩ => ⟨S2048x11264, .bf16⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S8448x2048, .bf16⟩
  | .hbm, ⟨13, _⟩ => ⟨S2048x8448, .bf16⟩
  | .hbm, ⟨14, _⟩ => ⟨S8448x5632, .bf16⟩
  | .hbm, ⟨15, _⟩ => ⟨S8448x5632, .bf16⟩
  | .hbm, ⟨16, _⟩ => ⟨S8448x5632, .bf16⟩
  | .hbm, ⟨17, _⟩ => ⟨S5632x8448, .bf16⟩
  | .hbm, ⟨18, _⟩ => ⟨S8448x2048, .f32⟩
  | .hbm, ⟨19, _⟩ => ⟨S8448x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S1x1x2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S1x1x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8448x2048, .f32⟩
  | .hbm, ⟨37, _⟩ => ⟨S8448x2048, .bf16⟩
  | .hbm, ⟨38, _⟩ => ⟨S5632x2048, .bf16⟩
  | .hbm, ⟨39, _⟩ => ⟨S8448x5632, .bf16⟩
  | .hbm, ⟨40, _⟩ => ⟨S8448x5632, .bf16⟩
  | .hbm, ⟨41, _⟩ => ⟨S2048x5632, .bf16⟩
  | .hbm, ⟨42, _⟩ => ⟨S2048x5632, .bf16⟩
  | .hbm, ⟨43, _⟩ => ⟨S8448x2048, .f32⟩
  | .hbm, ⟨44, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | .local _ .vmem, ⟨11, _⟩ => ⟨S768x2048, .bf16⟩
  | .local _ .vmem, ⟨12, _⟩ => ⟨S768x2048, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | .local _ .vmem, ⟨20, _⟩ => ⟨S768x512, .bf16⟩
  | .local _ .vmem, ⟨21, _⟩ => ⟨S768x512, .bf16⟩
  | .local _ .vmem, ⟨22, _⟩ => ⟨S768x512, .bf16⟩
  | .local _ .vmem, ⟨23, _⟩ => ⟨S512x768, .bf16⟩
  | .local _ .vmem, ⟨24, _⟩ => ⟨S512x768, .bf16⟩
  | .local _ .vmem, ⟨25, _⟩ => ⟨S768x5632, .bf16⟩
  | .local _ .vmem, ⟨26, _⟩ => ⟨S768x5632, .bf16⟩
  | .local _ .vmem, ⟨27, _⟩ => ⟨S5632x512, .bf16⟩
  | .local _ .vmem, ⟨28, _⟩ => ⟨S5632x512, .bf16⟩
  | .local _ .vmem, ⟨29, _⟩ => ⟨S768x512, .f32⟩
  | .local _ .vmem, ⟨30, _⟩ => ⟨S768x512, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S1x1x2048, .f32⟩
  | .local _ .vmem, ⟨36, _⟩ => ⟨S1x1x2048, .f32⟩
  | .local _ .vmem, ⟨37, _⟩ => ⟨S256x2048, .f32⟩
  | .local _ .vmem, ⟨38, _⟩ => ⟨S256x2048, .f32⟩
  | .local _ .vmem, ⟨39, _⟩ => ⟨S512x8448, .bf16⟩
  | .local _ .vmem, ⟨40, _⟩ => ⟨S512x8448, .bf16⟩
  | .local _ .vmem, ⟨41, _⟩ => ⟨S8448x512, .bf16⟩
  | .local _ .vmem, ⟨42, _⟩ => ⟨S8448x512, .bf16⟩
  | .local _ .vmem, ⟨43, _⟩ => ⟨S512x512, .bf16⟩
  | .local _ .vmem, ⟨44, _⟩ => ⟨S512x512, .bf16⟩
  | .local _ .vmem, ⟨45, _⟩ => ⟨S768x2048, .bf16⟩
  | .local _ .vmem, ⟨46, _⟩ => ⟨S768x2048, .bf16⟩
  | .local _ .vmem, ⟨47, _⟩ => ⟨S512x2048, .bf16⟩
  | .local _ .vmem, ⟨48, _⟩ => ⟨S512x2048, .bf16⟩
  | .local _ .vmem, ⟨49, _⟩ => ⟨S768x512, .bf16⟩
  | .local _ .vmem, ⟨50, _⟩ => ⟨S768x512, .bf16⟩
  | .local _ .vmem, ⟨51, _⟩ => ⟨S768x512, .bf16⟩
  | .local _ .vmem, ⟨52, _⟩ => ⟨S768x512, .bf16⟩
  | .local _ .vmem, ⟨53, _⟩ => ⟨S768x512, .bf16⟩
  | .local _ .vmem, ⟨54, _⟩ => ⟨S768x512, .bf16⟩
  | .local _ .vmem, ⟨55, _⟩ => ⟨S768x512, .bf16⟩
  | .local _ .vmem, ⟨56, _⟩ => ⟨S768x512, .bf16⟩
  | .local _ .vmem, ⟨57, _⟩ => ⟨S512x8448, .bf16⟩
  | .local _ .vmem, ⟨58, _⟩ => ⟨S512x8448, .bf16⟩
  | .local _ .vmem, ⟨59, _⟩ => ⟨S8448x512, .bf16⟩
  | .local _ .vmem, ⟨60, _⟩ => ⟨S8448x512, .bf16⟩
  | .local _ .vmem, ⟨61, _⟩ => ⟨S512x512, .bf16⟩
  | .local _ .vmem, ⟨62, _⟩ => ⟨S512x512, .bf16⟩
  | .local _ .vmem, ⟨63, _⟩ => ⟨S512x8448, .bf16⟩
  | .local _ .vmem, ⟨64, _⟩ => ⟨S512x8448, .bf16⟩
  | .local _ .vmem, ⟨65, _⟩ => ⟨S8448x512, .bf16⟩
  | .local _ .vmem, ⟨66, _⟩ => ⟨S8448x512, .bf16⟩
  | .local _ .vmem, ⟨67, _⟩ => ⟨S512x512, .bf16⟩
  | .local _ .vmem, ⟨68, _⟩ => ⟨S512x512, .bf16⟩
  | .local _ .vmem, ⟨69, _⟩ => ⟨S768x5632, .bf16⟩
  | .local _ .vmem, ⟨70, _⟩ => ⟨S768x5632, .bf16⟩
  | .local _ .vmem, ⟨71, _⟩ => ⟨S512x5632, .bf16⟩
  | .local _ .vmem, ⟨72, _⟩ => ⟨S512x5632, .bf16⟩
  | .local _ .vmem, ⟨73, _⟩ => ⟨S768x512, .f32⟩
  | .local _ .vmem, ⟨74, _⟩ => ⟨S768x512, .f32⟩
  | .local _ .vmem, ⟨75, _⟩ => ⟨S768x5632, .bf16⟩
  | .local _ .vmem, ⟨76, _⟩ => ⟨S768x5632, .bf16⟩
  | .local _ .vmem, ⟨77, _⟩ => ⟨S512x5632, .bf16⟩
  | .local _ .vmem, ⟨78, _⟩ => ⟨S512x5632, .bf16⟩
  | .local _ .vmem, ⟨79, _⟩ => ⟨S768x512, .f32⟩
  | .local _ .vmem, ⟨80, _⟩ => ⟨S768x512, .f32⟩
  | .local _ .vmem, ⟨81, _⟩ => ⟨S768x512, .f32⟩
  | .local _ .vmem, ⟨82, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc9_stg0_0 : Ref sig .tc := ⟨.vmem, 75, rfl⟩
abbrev cc9_stg0_1 : Ref sig .tc := ⟨.vmem, 76, rfl⟩
abbrev cc9_stg1_0 : Ref sig .tc := ⟨.vmem, 77, rfl⟩
abbrev cc9_stg1_1 : Ref sig .tc := ⟨.vmem, 78, rfl⟩
abbrev cc9_stg2_0 : Ref sig .tc := ⟨.vmem, 79, rfl⟩
abbrev cc9_stg2_1 : Ref sig .tc := ⟨.vmem, 80, rfl⟩
abbrev cc9_stg3_0 : Ref sig .tc := ⟨.vmem, 81, rfl⟩
abbrev cc9_stg3_1 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem3_1 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc9_sem0_0 : DmaSem sig := 75
abbrev cc9_sem0_1 : DmaSem sig := 76
abbrev cc9_sem1_0 : DmaSem sig := 77
abbrev cc9_sem1_1 : DmaSem sig := 78
abbrev cc9_sem2_0 : DmaSem sig := 79
abbrev cc9_sem2_1 : DmaSem sig := 80
abbrev cc9_sem3_0 : DmaSem sig := 81
abbrev cc9_sem3_1 : DmaSem sig := 82

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![11, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S768x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S768x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S768x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x768 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨3, ![11, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S768x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S768x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![33], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![11, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x8448 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8448x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![11, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S768x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S768x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S768x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S768x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S768x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨3, ![4, 11, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x8448 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S8448x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 11, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x8448 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S8448x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![11, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S768x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x5632 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S768x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![11, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S768x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S512x5632 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S768x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S768x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]
-- ==== Reference3Ideal.lean ====
abbrev S8448x2048 : Shape := ⟨2, ![8448, 2048]⟩
abbrev S1x2048 : Shape := ⟨2, ![1, 2048]⟩
abbrev S2x1x2048 : Shape := ⟨3, ![2, 1, 2048]⟩
abbrev S2048x11264 : Shape := ⟨2, ![2048, 11264]⟩
abbrev S5632x2048 : Shape := ⟨2, ![5632, 2048]⟩
abbrev S_ : Shape := ⟨0, ![]⟩
abbrev S8448 : Shape := ⟨1, ![8448]⟩
abbrev S8448x1 : Shape := ⟨2, ![8448, 1]⟩
abbrev S1x1x2048 : Shape := ⟨3, ![1, 1, 2048]⟩
abbrev S8448x11264 : Shape := ⟨2, ![8448, 11264]⟩
abbrev S8448x5632 : Shape := ⟨2, ![8448, 5632]⟩
abbrev S2048x5632 : Shape := ⟨2, ![2048, 5632]⟩
abbrev S11264x2048 : Shape := ⟨2, ![11264, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x11264, .f32⟩
  | .hbm, ⟨6, _⟩ => ⟨S5632x2048, .f32⟩
  | .hbm, ⟨7, _⟩ => ⟨S8448x2048, .f32⟩
  | .hbm, ⟨8, _⟩ => ⟨S8448x2048, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S1x1x2048, .f32⟩
  | .hbm, ⟨24, _⟩ => ⟨S1x1x2048, .f32⟩
  | .hbm, ⟨25, _⟩ => ⟨S8448, .i32⟩
  | .hbm, ⟨26, _⟩ => ⟨S8448x1, .i32⟩
  | .hbm, ⟨27, _⟩ => ⟨S_, .i32⟩
  | .hbm, ⟨28, _⟩ => ⟨S8448x1, .i32⟩
  | .hbm, ⟨29, _⟩ => ⟨S8448x1, .i1⟩
  | .hbm, ⟨30, _⟩ => ⟨S1x2048, .f32⟩
  | .hbm, ⟨31, _⟩ => ⟨S1x2048, .f32⟩
  | .hbm, ⟨32, _⟩ => ⟨S8448x2048, .i1⟩
  | .hbm, ⟨33, _⟩ => ⟨S8448x2048, .f32⟩
  | .hbm, ⟨34, _⟩ => ⟨S8448x2048, .f32⟩
  | .hbm, ⟨35, _⟩ => ⟨S8448x2048, .f32⟩
  | .hbm, ⟨36, _⟩ => ⟨S_, .f32⟩
  | .hbm, ⟨37, _⟩ => ⟨S8448x2048, .f32⟩
  | .hbm, ⟨38, _⟩ => ⟨S8448x2048, .f32⟩
  | .hbm, ⟨39, _⟩ => ⟨S8448x2048, .f32⟩
  | .hbm, ⟨40, _⟩ => ⟨S1x1x2048, .f32⟩
  | .hbm, ⟨41, _⟩ => ⟨S1x1x2048, .f32⟩
  | .hbm, ⟨42, _⟩ => ⟨S8448, .i32⟩
  | .hbm, ⟨43, _⟩ => ⟨S8448x1, .i32⟩
  | .hbm, ⟨44, _⟩ => ⟨S_, .i32⟩
  | .hbm, ⟨45, _⟩ => ⟨S8448x1, .i32⟩
  | .hbm, ⟨46, _⟩ => ⟨S8448x1, .i1⟩
  | .hbm, ⟨47, _⟩ => ⟨S1x2048, .f32⟩
  | .hbm, ⟨48, _⟩ => ⟨S1x2048, .f32⟩
  | .hbm, ⟨49, _⟩ => ⟨S8448x2048, .i1⟩
  | .hbm, ⟨50, _⟩ => ⟨S8448x2048, .f32⟩
  | .hbm, ⟨51, _⟩ => ⟨S8448x2048, .f32⟩
  | .hbm, ⟨52, _⟩ => ⟨S8448x2048, .f32⟩
  | .hbm, ⟨53, _⟩ => ⟨S8448x2048, .f32⟩
  | .hbm, ⟨54, _⟩ => ⟨S8448x11264, .f32⟩
  | .hbm, ⟨55, _⟩ => ⟨S8448x5632, .f32⟩
  | .hbm, ⟨56, _⟩ => ⟨S8448x5632, .f32⟩
  | .hbm, ⟨57, _⟩ => ⟨S1x1x2048, .f32⟩
  | .hbm, ⟨58, _⟩ => ⟨S1x1x2048, .f32⟩
  | .hbm, ⟨59, _⟩ => ⟨S8448, .i32⟩
  | .hbm, ⟨60, _⟩ => ⟨S8448x1, .i32⟩
  | .hbm, ⟨61, _⟩ => ⟨S_, .i32⟩
  | .hbm, ⟨62, _⟩ => ⟨S8448x1, .i32⟩
  | .hbm, ⟨63, _⟩ => ⟨S8448x1, .i1⟩
  | .hbm, ⟨64, _⟩ => ⟨S1x2048, .f32⟩
  | .hbm, ⟨65, _⟩ => ⟨S1x2048, .f32⟩
  | .hbm, ⟨66, _⟩ => ⟨S8448x2048, .i1⟩
  | .hbm, ⟨67, _⟩ => ⟨S8448x2048, .f32⟩
  | .hbm, ⟨68, _⟩ => ⟨S8448x2048, .f32⟩
  | .hbm, ⟨69, _⟩ => ⟨S8448x2048, .f32⟩
  | .hbm, ⟨70, _⟩ => ⟨S_, .f32⟩
  | .hbm, ⟨71, _⟩ => ⟨S8448x2048, .f32⟩
  | .hbm, ⟨72, _⟩ => ⟨S8448x2048, .f32⟩
  | .hbm, ⟨73, _⟩ => ⟨S8448x5632, .f32⟩
  | .hbm, ⟨74, _⟩ => ⟨S8448x5632, .f32⟩
  | .hbm, ⟨75, _⟩ => ⟨S_, .f32⟩
  | .hbm, ⟨76, _⟩ => ⟨S8448x5632, .f32⟩
  | .hbm, ⟨77, _⟩ => ⟨S8448x5632, .f32⟩
  | .hbm, ⟨78, _⟩ => ⟨S_, .f32⟩
  | .hbm, ⟨79, _⟩ => ⟨S8448x5632, .f32⟩
  | .hbm, ⟨80, _⟩ => ⟨S8448x5632, .f32⟩
  | .hbm, ⟨81, _⟩ => ⟨S_, .f32⟩
  | .hbm, ⟨82, _⟩ => ⟨S8448x5632, .f32⟩
  | .hbm, ⟨83, _⟩ => ⟨S8448x5632, .f32⟩
  | .hbm, ⟨84, _⟩ => ⟨S8448x5632, .f32⟩
  | .hbm, ⟨85, _⟩ => ⟨S8448x5632, .f32⟩
  | .hbm, ⟨86, _⟩ => ⟨S8448x5632, .f32⟩
  | .hbm, ⟨87, _⟩ => ⟨S8448x2048, .f32⟩
  | .hbm, ⟨88, _⟩ => ⟨S8448x2048, .f32⟩
  | .hbm, ⟨89, _⟩ => ⟨S8448x2048, .f32⟩
  | .hbm, ⟨90, _⟩ => ⟨S8448x2048, .f32⟩
  | .hbm, ⟨91, _⟩ => ⟨S2048x5632, .f32⟩
  | .hbm, ⟨92, _⟩ => ⟨S5632x2048, .f32⟩
  | .hbm, ⟨93, _⟩ => ⟨S8448x5632, .f32⟩
  | .hbm, ⟨94, _⟩ => ⟨S8448x5632, .f32⟩
  | .hbm, ⟨95, _⟩ => ⟨S8448x5632, .f32⟩
  | .hbm, ⟨96, _⟩ => ⟨S8448x5632, .f32⟩
  | .hbm, ⟨97, _⟩ => ⟨S8448x5632, .f32⟩
  | .hbm, ⟨98, _⟩ => ⟨S8448x5632, .f32⟩
  | .hbm, ⟨99, _⟩ => ⟨S8448x5632, .f32⟩
  | .hbm, ⟨100, _⟩ => ⟨S8448x11264, .f32⟩
  | .hbm, ⟨101, _⟩ => ⟨S11264x2048, .f32⟩
  | .hbm, ⟨102, _⟩ => ⟨S2048x11264, .f32⟩
  | .hbm, ⟨103, _⟩ => ⟨S8448x2048, .f32⟩
  | .hbm, ⟨104, _⟩ => ⟨S2048x11264, .bf16⟩
  | .hbm, ⟨105, _⟩ => ⟨S2048x5632, .bf16⟩
  | .hbm, ⟨106, _⟩ => ⟨S2048x5632, .bf16⟩
  | .hbm, ⟨107, _⟩ => ⟨S5632x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_v48_2 : Ref sig .tc := ⟨.hbm, 80, rfl⟩
abbrev main_call3_cst_1 : Ref sig .tc := ⟨.hbm, 81, rfl⟩
abbrev main_call3_v6 : Ref sig .tc := ⟨.hbm, 82, rfl⟩
abbrev main_call3_v7 : Ref sig .tc := ⟨.hbm, 83, rfl⟩
abbrev main_v48_1 : Ref sig .tc := ⟨.hbm, 84, rfl⟩
abbrev main_v48_0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]
-- ==== Kernel4.lean ====
abbrev S8448x2048 : Shape := ⟨2, ![8448, 2048]⟩
abbrev S1x2048 : Shape := ⟨2, ![1, 2048]⟩
abbrev S2x1x2048 : Shape := ⟨3, ![2, 1, 2048]⟩
abbrev S2048x4096 : Shape := ⟨2, ![2048, 4096]⟩
abbrev S8448x4096 : Shape := ⟨2, ![8448, 4096]⟩
abbrev S8192x2048 : Shape := ⟨2, ![8192, 2048]⟩
abbrev S2048x2048 : Shape := ⟨2, ![2048, 2048]⟩
abbrev S1x1x2048 : Shape := ⟨3, ![1, 1, 2048]⟩
abbrev S2048x8448 : Shape := ⟨2, ![2048, 8448]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S768x2048 : Shape := ⟨2, ![768, 2048]⟩
abbrev S2048x1024 : Shape := ⟨2, ![2048, 1024]⟩
abbrev S768x1024 : Shape := ⟨2, ![768, 1024]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩
abbrev S2048 : Shape := ⟨1, ![2048]⟩
abbrev S2048x8192 : Shape := ⟨2, ![2048, 8192]⟩
abbrev S512x8192 : Shape := ⟨2, ![512, 8192]⟩
abbrev S8192x512 : Shape := ⟨2, ![8192, 512]⟩
abbrev S512x512 : Shape := ⟨2, ![512, 512]⟩
abbrev S1024x1024 : Shape := ⟨2, ![1024, 1024]⟩
abbrev S512x8448 : Shape := ⟨2, ![512, 8448]⟩
abbrev S8448x512 : Shape := ⟨2, ![8448, 512]⟩
abbrev S768x4096 : Shape := ⟨2, ![768, 4096]⟩
abbrev S512x4096 : Shape := ⟨2, ![512, 4096]⟩
abbrev S768x512 : Shape := ⟨2, ![768, 512]⟩

abbrev nBuf : Space → Nat
  | .hbm => 27
  | .vmem => 61
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2048x4096, .f32⟩
  | .hbm, ⟨5, _⟩ => ⟨S8448x4096, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S1x1x2048, .f32⟩
  | .hbm, ⟨10, _⟩ => ⟨S8192x2048, .f32⟩
  | .hbm, ⟨11, _⟩ => ⟨S2048x4096, .bf16⟩
  | .hbm, ⟨12, _⟩ => ⟨S2048x2048, .bf16⟩
  | .hbm, ⟨13, _⟩ => ⟨S8448x2048, .bf16⟩
  | .hbm, ⟨14, _⟩ => ⟨S2048x8448, .bf16⟩
  | .hbm, ⟨15, _⟩ => ⟨S8448x4096, .f32⟩
  | .hbm, ⟨16, _⟩ => ⟨S8192x2048, .bf16⟩
  | .hbm, ⟨17, _⟩ => ⟨S8192x2048, .f32⟩
  | .hbm, ⟨18, _⟩ => ⟨S8192x2048, .bf16⟩
  | .hbm, ⟨19, _⟩ => ⟨S8192x2048, .bf16⟩
  | .hbm, ⟨20, _⟩ => ⟨S1x1x2048, .f32⟩
  | .hbm, ⟨21, _⟩ => ⟨S2048x8192, .bf16⟩
  | .hbm, ⟨22, _⟩ => ⟨S2048x2048, .bf16⟩
  | .hbm, ⟨23, _⟩ => ⟨S8192x2048, .f32⟩
  | .hbm, ⟨24, _⟩ => ⟨S8448x4096, .bf16⟩
  | .hbm, ⟨25, _⟩ => ⟨S2048x4096, .bf16⟩
  | .hbm, ⟨26, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | .local _ .vmem, ⟨9, _⟩ => ⟨S2048x256, .bf16⟩
  | .local _ .vmem, ⟨10, _⟩ => ⟨S2048x256, .bf16⟩
  | .local _ .vmem, ⟨11, _⟩ => ⟨S768x2048, .bf16⟩
  | .local _ .vmem, ⟨12, _⟩ => ⟨S768x2048, .bf16⟩
  | .local _ .vmem, ⟨13, _⟩ => ⟨S2048x1024, .bf16⟩
  | .local _ .vmem, ⟨14, _⟩ => ⟨S2048x1024, .bf16⟩
  | .local _ .vmem, ⟨15, _⟩ => ⟨S768x1024, .f32⟩
  | .local _ .vmem, ⟨16, _⟩ => ⟨S768x1024, .f32⟩
  | .local _ .vmem, ⟨17, _⟩ => ⟨S1024x2048, .bf16⟩
  | .local _ .vmem, ⟨18, _⟩ => ⟨S1024x2048, .bf16⟩
  | .local _ .vmem, ⟨19, _⟩ => ⟨S2048x512, .bf16⟩
  | .local _ .vmem, ⟨20, _⟩ => ⟨S2048x512, .bf16⟩
  | .local _ .vmem, ⟨21, _⟩ => ⟨S1024x512, .f32⟩
  | .local _ .vmem, ⟨22, _⟩ => ⟨S1024x512, .f32⟩
  | .local _ .vmem, ⟨23, _⟩ => ⟨S1x1x512, .f32⟩
  | .local _ .vmem, ⟨24, _⟩ => ⟨S1x1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .bf16⟩
  | .local _ .vmem, ⟨28, _⟩ => ⟨S1024x512, .bf16⟩
  | .local _ .vmem, ⟨29, _⟩ => ⟨S256x2048, .f32⟩
  | .local _ .vmem, ⟨30, _⟩ => ⟨S256x2048, .f32⟩
  | .local _ .vmem, ⟨31, _⟩ => ⟨S256x2048, .bf16⟩
  | .local _ .vmem, ⟨32, _⟩ => ⟨S256x2048, .bf16⟩
  | .local _ .vmem, ⟨33, _⟩ => ⟨S1x1x2048, .f32⟩
  | .local _ .vmem, ⟨34, _⟩ => ⟨S256x2048, .bf16⟩
  | .local _ .vmem, ⟨35, _⟩ => ⟨S256x2048, .bf16⟩
  | .local _ .vmem, ⟨36, _⟩ => ⟨S1x1x2048, .f32⟩
  | .local _ .vmem, ⟨37, _⟩ => ⟨S512x8192, .bf16⟩
  | .local _ .vmem, ⟨38, _⟩ => ⟨S512x8192, .bf16⟩
  | .local _ .vmem, ⟨39, _⟩ => ⟨S8192x512, .bf16⟩
  | .local _ .vmem, ⟨40, _⟩ => ⟨S8192x512, .bf16⟩
  | .local _ .vmem, ⟨41, _⟩ => ⟨S512x512, .bf16⟩
  | .local _ .vmem, ⟨42, _⟩ => ⟨S512x512, .bf16⟩
  | .local _ .vmem, ⟨43, _⟩ => ⟨S1024x2048, .bf16⟩
  | .local _ .vmem, ⟨44, _⟩ => ⟨S1024x2048, .bf16⟩
  | .local _ .vmem, ⟨45, _⟩ => ⟨S1024x2048, .bf16⟩
  | .local _ .vmem, ⟨46, _⟩ => ⟨S1024x2048, .bf16⟩
  | .local _ .vmem, ⟨47, _⟩ => ⟨S1024x1024, .f32⟩
  | .local _ .vmem, ⟨48, _⟩ => ⟨S1024x1024, .f32⟩
  | .local _ .vmem, ⟨49, _⟩ => ⟨S512x8448, .bf16⟩
  | .local _ .vmem, ⟨50, _⟩ => ⟨S512x8448, .bf16⟩
  | .local _ .vmem, ⟨51, _⟩ => ⟨S8448x512, .bf16⟩
  | .local _ .vmem, ⟨52, _⟩ => ⟨S8448x512, .bf16⟩
  | .local _ .vmem, ⟨53, _⟩ => ⟨S512x512, .bf16⟩
  | .local _ .vmem, ⟨54, _⟩ => ⟨S512x512, .bf16⟩
  | .local _ .vmem, ⟨55, _⟩ => ⟨S768x4096, .bf16⟩
  | .local _ .vmem, ⟨56, _⟩ => ⟨S768x4096, .bf16⟩
  | .local _ .vmem, ⟨57, _⟩ => ⟨S512x4096, .bf16⟩
  | .local _ .vmem, ⟨58, _⟩ => ⟨S512x4096, .bf16⟩
  | .local _ .vmem, ⟨59, _⟩ => ⟨S768x512, .f32⟩
  | .local _ .vmem, ⟨60, _⟩ => ⟨S768x512, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem3_1 : DmaSem sig := 35
abbrev cc3_sem4_0 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.minsi v16 c1_i32_5
  let c0_i32_6 : BitVec 32 := 0#32
  let c0_i32_7 : BitVec 32 := 0#32
  let c0_i32_8 : BitVec 32 := 0#32
  ![v17.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![11, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S768x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S8192x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x8448 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S8448x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![11, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S768x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x4096 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S768x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference4Ideal.lean ====
abbrev S8448x2048 : Shape := ⟨2, ![8448, 2048]⟩
abbrev S1x2048 : Shape := ⟨2, ![1, 2048]⟩
abbrev S2x1x2048 : Shape := ⟨3, ![2, 1, 2048]⟩
abbrev S2048x4096 : Shape := ⟨2, ![2048, 4096]⟩
abbrev S8448x4096 : Shape := ⟨2, ![8448, 4096]⟩
abbrev S8192x2048 : Shape := ⟨2, ![8192, 2048]⟩
abbrev S2048x2048 : Shape := ⟨2, ![2048, 2048]⟩
abbrev S1x1x2048 : Shape := ⟨3, ![1, 1, 2048]⟩
abbrev S_ : Shape := ⟨0, ![]⟩
abbrev S8448 : Shape := ⟨1, ![8448]⟩
abbrev S8448x1 : Shape := ⟨2, ![8448, 1]⟩
abbrev S2048 : Shape := ⟨1, ![2048]⟩
abbrev S4096x2048 : Shape := ⟨2, ![4096, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2048x4096, .f32⟩
  | .hbm, ⟨5, _⟩ => ⟨S8448x4096, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S1x1x2048, .f32⟩
  | .hbm, ⟨10, _⟩ => ⟨S8192x2048, .f32⟩
  | .hbm, ⟨11, _⟩ => ⟨S8448x2048, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S1x1x2048, .f32⟩
  | .hbm, ⟨27, _⟩ => ⟨S1x1x2048, .f32⟩
  | .hbm, ⟨28, _⟩ => ⟨S8448, .i32⟩
  | .hbm, ⟨29, _⟩ => ⟨S8448x1, .i32⟩
  | .hbm, ⟨30, _⟩ => ⟨S_, .i32⟩
  | .hbm, ⟨31, _⟩ => ⟨S8448x1, .i32⟩
  | .hbm, ⟨32, _⟩ => ⟨S8448x1, .i1⟩
  | .hbm, ⟨33, _⟩ => ⟨S1x2048, .f32⟩
  | .hbm, ⟨34, _⟩ => ⟨S1x2048, .f32⟩
  | .hbm, ⟨35, _⟩ => ⟨S8448x2048, .i1⟩
  | .hbm, ⟨36, _⟩ => ⟨S8448x2048, .f32⟩
  | .hbm, ⟨37, _⟩ => ⟨S8448x2048, .f32⟩
  | .hbm, ⟨38, _⟩ => ⟨S8448x2048, .f32⟩
  | .hbm, ⟨39, _⟩ => ⟨S_, .f32⟩
  | .hbm, ⟨40, _⟩ => ⟨S8448x2048, .f32⟩
  | .hbm, ⟨41, _⟩ => ⟨S8448x2048, .f32⟩
  | .hbm, ⟨42, _⟩ => ⟨S8448x2048, .f32⟩
  | .hbm, ⟨43, _⟩ => ⟨S1x1x2048, .f32⟩
  | .hbm, ⟨44, _⟩ => ⟨S1x1x2048, .f32⟩
  | .hbm, ⟨45, _⟩ => ⟨S8448, .i32⟩
  | .hbm, ⟨46, _⟩ => ⟨S8448x1, .i32⟩
  | .hbm, ⟨47, _⟩ => ⟨S_, .i32⟩
  | .hbm, ⟨48, _⟩ => ⟨S8448x1, .i32⟩
  | .hbm, ⟨49, _⟩ => ⟨S8448x1, .i1⟩
  | .hbm, ⟨50, _⟩ => ⟨S1x2048, .f32⟩
  | .hbm, ⟨51, _⟩ => ⟨S1x2048, .f32⟩
  | .hbm, ⟨52, _⟩ => ⟨S8448x2048, .i1⟩
  | .hbm, ⟨53, _⟩ => ⟨S8448x2048, .f32⟩
  | .hbm, ⟨54, _⟩ => ⟨S8448x2048, .f32⟩
  | .hbm, ⟨55, _⟩ => ⟨S8448x2048, .f32⟩
  | .hbm, ⟨56, _⟩ => ⟨S8448x2048, .f32⟩
  | .hbm, ⟨57, _⟩ => ⟨S8448x4096, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S2048x2048, .f32⟩
  | .hbm, ⟨70, _⟩ => ⟨S2048x2048, .f32⟩
  | .hbm, ⟨71, _⟩ => ⟨S8192x2048, .f32⟩
  | .hbm, ⟨72, _⟩ => ⟨S1x1x2048, .f32⟩
  | .hbm, ⟨73, _⟩ => ⟨S4096x2048, .f32⟩
  | .hbm, ⟨74, _⟩ => ⟨S2048x4096, .f32⟩
  | .hbm, ⟨75, _⟩ => ⟨S8448x2048, .f32⟩
  | .hbm, ⟨76, _⟩ => ⟨S2048x2048, .bf16⟩
  | .hbm, ⟨77, _⟩ => ⟨S2048x4096, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Kernel5.lean ====
abbrev S8192x512 : Shape := ⟨2, ![8192, 512]⟩
abbrev S1x512 : Shape := ⟨2, ![1, 512]⟩
abbrev S512x1536 : Shape := ⟨2, ![512, 1536]⟩
abbrev S8192x1536 : Shape := ⟨2, ![8192, 1536]⟩
abbrev S8448x256 : Shape := ⟨2, ![8448, 256]⟩
abbrev S1x256 : Shape := ⟨2, ![1, 256]⟩
abbrev S256x2048 : Shape := ⟨2, ![256, 2048]⟩
abbrev S8448x2048 : Shape := ⟨2, ![8448, 2048]⟩
abbrev S_ : Shape := ⟨0, ![]⟩
abbrev S1x1x512 : Shape := ⟨3, ![1, 1, 512]⟩
abbrev S512x8192 : Shape := ⟨2, ![512, 8192]⟩
abbrev S256x512 : Shape := ⟨2, ![256, 512]⟩
abbrev S512x256 : Shape := ⟨2, ![512, 256]⟩
abbrev S256 : Shape := ⟨1, ![256]⟩
abbrev S256x1 : Shape := ⟨2, ![256, 1]⟩
abbrev S1024x512 : Shape := ⟨2, ![1024, 512]⟩
abbrev S512x768 : Shape := ⟨2, ![512, 768]⟩
abbrev S1024x768 : Shape := ⟨2, ![1024, 768]⟩
abbrev S512x512 : Shape := ⟨2, ![512, 512]⟩
abbrev S1024x1536 : Shape := ⟨2, ![1024, 1536]⟩
abbrev S1x1x256 : Shape := ⟨3, ![1, 1, 256]⟩
abbrev S256x8448 : Shape := ⟨2, ![256, 8448]⟩
abbrev S256x256 : Shape := ⟨2, ![256, 256]⟩
abbrev S768x256 : Shape := ⟨2, ![768, 256]⟩
abbrev S256x1024 : Shape := ⟨2, ![256, 1024]⟩
abbrev S768x1024 : Shape := ⟨2, ![768, 1024]⟩
abbrev S8448x512 : Shape := ⟨2, ![8448, 512]⟩
abbrev S768x2048 : Shape := ⟨2, ![768, 2048]⟩

abbrev nBuf : Space → Nat
  | .hbm => 26
  | .vmem => 50
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S512x1536, .f32⟩
  | .hbm, ⟨3, _⟩ => ⟨S8192x1536, .f32⟩
  | .hbm, ⟨4, _⟩ => ⟨S8448x256, .f32⟩
  | .hbm, ⟨5, _⟩ => ⟨S1x256, .f32⟩
  | .hbm, ⟨6, _⟩ => ⟨S256x2048, .f32⟩
  | .hbm, ⟨7, _⟩ => ⟨S8448x2048, .f32⟩
  | .hbm, ⟨8, _⟩ => ⟨S512x1536, .bf16⟩
  | .hbm, ⟨9, _⟩ => ⟨S_, .f32⟩
  | .hbm, ⟨10, _⟩ => ⟨S1x1x512, .f32⟩
  | .hbm, ⟨11, _⟩ => ⟨S8192x512, .bf16⟩
  | .hbm, ⟨12, _⟩ => ⟨S512x8192, .bf16⟩
  | .hbm, ⟨13, _⟩ => ⟨S8192x1536, .f32⟩
  | .hbm, ⟨14, _⟩ => ⟨S8192x1536, .bf16⟩
  | .hbm, ⟨15, _⟩ => ⟨S512x1536, .bf16⟩
  | .hbm, ⟨16, _⟩ => ⟨S8192x512, .f32⟩
  | .hbm, ⟨17, _⟩ => ⟨S256x2048, .bf16⟩
  | .hbm, ⟨18, _⟩ => ⟨S_, .f32⟩
  | .hbm, ⟨19, _⟩ => ⟨S1x1x256, .f32⟩
  | .hbm, ⟨20, _⟩ => ⟨S8448x256, .bf16⟩
  | .hbm, ⟨21, _⟩ => ⟨S256x8448, .bf16⟩
  | .hbm, ⟨22, _⟩ => ⟨S8448x2048, .f32⟩
  | .hbm, ⟨23, _⟩ => ⟨S8448x2048, .bf16⟩
  | .hbm, ⟨24, _⟩ => ⟨S256x2048, .bf16⟩
  | .hbm, ⟨25, _⟩ => ⟨S8448x256, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S256x512, .bf16⟩
  | .local _ .vmem, ⟨6, _⟩ => ⟨S256x512, .bf16⟩
  | .local _ .vmem, ⟨7, _⟩ => ⟨S512x256, .bf16⟩
  | .local _ .vmem, ⟨8, _⟩ => ⟨S512x256, .bf16⟩
  | .local _ .vmem, ⟨9, _⟩ => ⟨S1024x512, .bf16⟩
  | .local _ .vmem, ⟨10, _⟩ => ⟨S1024x512, .bf16⟩
  | .local _ .vmem, ⟨11, _⟩ => ⟨S512x768, .bf16⟩
  | .local _ .vmem, ⟨12, _⟩ => ⟨S512x768, .bf16⟩
  | .local _ .vmem, ⟨13, _⟩ => ⟨S1024x768, .f32⟩
  | .local _ .vmem, ⟨14, _⟩ => ⟨S1024x768, .f32⟩
  | .local _ .vmem, ⟨15, _⟩ => ⟨S512x8192, .bf16⟩
  | .local _ .vmem, ⟨16, _⟩ => ⟨S8192x512, .bf16⟩
  | .local _ .vmem, ⟨17, _⟩ => ⟨S8192x512, .bf16⟩
  | .local _ .vmem, ⟨18, _⟩ => ⟨S512x512, .bf16⟩
  | .local _ .vmem, ⟨19, _⟩ => ⟨S512x512, .bf16⟩
  | .local _ .vmem, ⟨20, _⟩ => ⟨S1024x1536, .bf16⟩
  | .local _ .vmem, ⟨21, _⟩ => ⟨S1024x1536, .bf16⟩
  | .local _ .vmem, ⟨22, _⟩ => ⟨S512x1536, .bf16⟩
  | .local _ .vmem, ⟨23, _⟩ => ⟨S1024x512, .f32⟩
  | .local _ .vmem, ⟨24, _⟩ => ⟨S1024x512, .f32⟩
  | .local _ .vmem, ⟨25, _⟩ => ⟨S256x256, .f32⟩
  | .local _ .vmem, ⟨26, _⟩ => ⟨S256x256, .f32⟩
  | .local _ .vmem, ⟨27, _⟩ => ⟨S1x256, .f32⟩
  | .local _ .vmem, ⟨28, _⟩ => ⟨S1x1x256, .f32⟩
  | .local _ .vmem, ⟨29, _⟩ => ⟨S1x1x256, .f32⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S256x256, .bf16⟩
  | .local _ .vmem, ⟨34, _⟩ => ⟨S768x256, .bf16⟩
  | .local _ .vmem, ⟨35, _⟩ => ⟨S768x256, .bf16⟩
  | .local _ .vmem, ⟨36, _⟩ => ⟨S256x1024, .bf16⟩
  | .local _ .vmem, ⟨37, _⟩ => ⟨S256x1024, .bf16⟩
  | .local _ .vmem, ⟨38, _⟩ => ⟨S768x1024, .f32⟩
  | .local _ .vmem, ⟨39, _⟩ => ⟨S768x1024, .f32⟩
  | .local _ .vmem, ⟨40, _⟩ => ⟨S256x8448, .bf16⟩
  | .local _ .vmem, ⟨41, _⟩ => ⟨S8448x512, .bf16⟩
  | .local _ .vmem, ⟨42, _⟩ => ⟨S8448x512, .bf16⟩
  | .local _ .vmem, ⟨43, _⟩ => ⟨S256x512, .bf16⟩
  | .local _ .vmem, ⟨44, _⟩ => ⟨S256x512, .bf16⟩
  | .local _ .vmem, ⟨45, _⟩ => ⟨S768x2048, .bf16⟩
  | .local _ .vmem, ⟨46, _⟩ => ⟨S768x2048, .bf16⟩
  | .local _ .vmem, ⟨47, _⟩ => ⟨S256x2048, .bf16⟩
  | .local _ .vmem, ⟨48, _⟩ => ⟨S768x256, .f32⟩
  | .local _ .vmem, ⟨49, _⟩ => ⟨S768x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem4_1 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem1_0 : DmaSem sig := 41
abbrev cc6_sem1_1 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S512x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1536 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![33], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨3, ![11, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S768x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S768x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S256x8448 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S8448x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S256x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![11, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S768x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S256x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S768x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference5Ideal.lean ====
abbrev S8192x512 : Shape := ⟨2, ![8192, 512]⟩
abbrev S1x512 : Shape := ⟨2, ![1, 512]⟩
abbrev S512x1536 : Shape := ⟨2, ![512, 1536]⟩
abbrev S8192x1536 : Shape := ⟨2, ![8192, 1536]⟩
abbrev S8448x256 : Shape := ⟨2, ![8448, 256]⟩
abbrev S1x256 : Shape := ⟨2, ![1, 256]⟩
abbrev S256x2048 : Shape := ⟨2, ![256, 2048]⟩
abbrev S8448x2048 : Shape := ⟨2, ![8448, 2048]⟩
abbrev S_ : Shape := ⟨0, ![]⟩
abbrev S8192 : Shape := ⟨1, ![8192]⟩
abbrev S8192x1 : Shape := ⟨2, ![8192, 1]⟩
abbrev S1536x512 : Shape := ⟨2, ![1536, 512]⟩
abbrev S8448 : Shape := ⟨1, ![8448]⟩
abbrev S8448x1 : Shape := ⟨2, ![8448, 1]⟩
abbrev S2048x256 : Shape := ⟨2, ![2048, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S512x1536, .f32⟩
  | .hbm, ⟨3, _⟩ => ⟨S8192x1536, .f32⟩
  | .hbm, ⟨4, _⟩ => ⟨S8448x256, .f32⟩
  | .hbm, ⟨5, _⟩ => ⟨S1x256, .f32⟩
  | .hbm, ⟨6, _⟩ => ⟨S256x2048, .f32⟩
  | .hbm, ⟨7, _⟩ => ⟨S8448x2048, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x1536, .f32⟩
  | .hbm, ⟨24, _⟩ => ⟨S1536x512, .f32⟩
  | .hbm, ⟨25, _⟩ => ⟨S512x1536, .f32⟩
  | .hbm, ⟨26, _⟩ => ⟨S8192x512, .f32⟩
  | .hbm, ⟨27, _⟩ => ⟨S512x1536, .bf16⟩
  | .hbm, ⟨28, _⟩ => ⟨S8448x256, .f32⟩
  | .hbm, ⟨29, _⟩ => ⟨S_, .f32⟩
  | .hbm, ⟨30, _⟩ => ⟨S8448, .f32⟩
  | .hbm, ⟨31, _⟩ => ⟨S8448x1, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S_, .f32⟩
  | .hbm, ⟨36, _⟩ => ⟨S8448x1, .f32⟩
  | .hbm, ⟨37, _⟩ => ⟨S8448x1, .f32⟩
  | .hbm, ⟨38, _⟩ => ⟨S8448x1, .f32⟩
  | .hbm, ⟨39, _⟩ => ⟨S8448x256, .f32⟩
  | .hbm, ⟨40, _⟩ => ⟨S8448x256, .f32⟩
  | .hbm, ⟨41, _⟩ => ⟨S8448x256, .f32⟩
  | .hbm, ⟨42, _⟩ => ⟨S8448x256, .f32⟩
  | .hbm, ⟨43, _⟩ => ⟨S8448x2048, .f32⟩
  | .hbm, ⟨44, _⟩ => ⟨S2048x256, .f32⟩
  | .hbm, ⟨45, _⟩ => ⟨S256x2048, .f32⟩
  | .hbm, ⟨46, _⟩ => ⟨S8448x256, .f32⟩
  | .hbm, ⟨47, _⟩ => ⟨S256x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel6.lean ====
abbrev S8192x512 : Shape := ⟨2, ![8192, 512]⟩
abbrev S1x512 : Shape := ⟨2, ![1, 512]⟩
abbrev S8448x256 : Shape := ⟨2, ![8448, 256]⟩
abbrev S1x256 : Shape := ⟨2, ![1, 256]⟩
abbrev S_ : Shape := ⟨0, ![]⟩
abbrev S1x1x512 : Shape := ⟨3, ![1, 1, 512]⟩
abbrev S256x512 : Shape := ⟨2, ![256, 512]⟩
abbrev S256 : Shape := ⟨1, ![256]⟩
abbrev S256x1 : Shape := ⟨2, ![256, 1]⟩
abbrev S512 : Shape := ⟨1, ![512]⟩
abbrev S1x1x256 : Shape := ⟨3, ![1, 1, 256]⟩
abbrev S256x256 : Shape := ⟨2, ![256, 256]⟩

abbrev nBuf : Space → Nat
  | .hbm => 18
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S8448x256, .f32⟩
  | .hbm, ⟨4, _⟩ => ⟨S8448x256, .f32⟩
  | .hbm, ⟨5, _⟩ => ⟨S1x256, .f32⟩
  | .hbm, ⟨6, _⟩ => ⟨S_, .f32⟩
  | .hbm, ⟨7, _⟩ => ⟨S1x1x512, .f32⟩
  | .hbm, ⟨8, _⟩ => ⟨S8192x512, .f32⟩
  | .hbm, ⟨9, _⟩ => ⟨S1x512, .f32⟩
  | .hbm, ⟨10, _⟩ => ⟨S1x1x512, .f32⟩
  | .hbm, ⟨11, _⟩ => ⟨S1x1x512, .f32⟩
  | .hbm, ⟨12, _⟩ => ⟨S_, .f32⟩
  | .hbm, ⟨13, _⟩ => ⟨S1x1x256, .f32⟩
  | .hbm, ⟨14, _⟩ => ⟨S8448x256, .f32⟩
  | .hbm, ⟨15, _⟩ => ⟨S1x256, .f32⟩
  | .hbm, ⟨16, _⟩ => ⟨S1x1x256, .f32⟩
  | .hbm, ⟨17, _⟩ => ⟨S1x1x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x1x512, .f32⟩
  | .local _ .vmem, ⟨6, _⟩ => ⟨S1x1x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x1x512, .f32⟩
  | .local _ .vmem, ⟨11, _⟩ => ⟨S1x1x512, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1x1x256, .f32⟩
  | .local _ .vmem, ⟨18, _⟩ => ⟨S1x1x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S1x1x256, .f32⟩
  | .local _ .vmem, ⟨23, _⟩ => ⟨S1x1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_cst_0 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem7_0 : DmaSem sig := 22
abbrev cc1_sem8_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![33], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== Reference6Ideal.lean ====
abbrev S8192x512 : Shape := ⟨2, ![8192, 512]⟩
abbrev S1x512 : Shape := ⟨2, ![1, 512]⟩
abbrev S8448x256 : Shape := ⟨2, ![8448, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S512 : Shape := ⟨1, ![512]⟩
abbrev S8448 : Shape := ⟨1, ![8448]⟩
abbrev S8448x1 : Shape := ⟨2, ![8448, 1]⟩
abbrev S256 : Shape := ⟨1, ![256]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S8448x256, .f32⟩
  | .hbm, ⟨4, _⟩ => ⟨S8448x256, .f32⟩
  | .hbm, ⟨5, _⟩ => ⟨S1x256, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8448x256, .f32⟩
  | .hbm, ⟨49, _⟩ => ⟨S_, .f32⟩
  | .hbm, ⟨50, _⟩ => ⟨S8448, .f32⟩
  | .hbm, ⟨51, _⟩ => ⟨S8448x1, .f32⟩
  | .hbm, ⟨52, _⟩ => ⟨S_, .f32⟩
  | .hbm, ⟨53, _⟩ => ⟨S8448x1, .f32⟩
  | .hbm, ⟨54, _⟩ => ⟨S8448x1, .f32⟩
  | .hbm, ⟨55, _⟩ => ⟨S_, .f32⟩
  | .hbm, ⟨56, _⟩ => ⟨S8448x1, .f32⟩
  | .hbm, ⟨57, _⟩ => ⟨S8448x1, .f32⟩
  | .hbm, ⟨58, _⟩ => ⟨S8448x1, .f32⟩
  | .hbm, ⟨59, _⟩ => ⟨S8448x1, .f32⟩
  | .hbm, ⟨60, _⟩ => ⟨S_, .f32⟩
  | .hbm, ⟨61, _⟩ => ⟨S8448x1, .f32⟩
  | .hbm, ⟨62, _⟩ => ⟨S8448x1, .f32⟩
  | .hbm, ⟨63, _⟩ => ⟨S8448x256, .f32⟩
  | .hbm, ⟨64, _⟩ => ⟨S8448x256, .f32⟩
  | .hbm, ⟨65, _⟩ => ⟨S8448x256, .f32⟩
  | .hbm, ⟨66, _⟩ => ⟨S8448x256, .f32⟩
  | .hbm, ⟨67, _⟩ => ⟨S8448x256, .f32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S8448x256, .f32⟩
  | .hbm, ⟨72, _⟩ => ⟨S8448x256, .f32⟩
  | .hbm, ⟨73, _⟩ => ⟨S8448x256, .f32⟩
  | .hbm, ⟨74, _⟩ => ⟨S_, .f32⟩
  | .hbm, ⟨75, _⟩ => ⟨S8448, .f32⟩
  | .hbm, ⟨76, _⟩ => ⟨S8448x1, .f32⟩
  | .hbm, ⟨77, _⟩ => ⟨S8448x256, .f32⟩
  | .hbm, ⟨78, _⟩ => ⟨S8448x256, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448, .f32⟩
  | .hbm, ⟨85, _⟩ => ⟨S8448x256, .f32⟩
  | .hbm, ⟨86, _⟩ => ⟨S8448x256, .f32⟩
  | .hbm, ⟨87, _⟩ => ⟨S8448x256, .f32⟩
  | .hbm, ⟨88, _⟩ => ⟨S8448x256, .f32⟩
  | .hbm, ⟨89, _⟩ => ⟨S8448x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x1, .f32⟩
  | .hbm, ⟨4, _⟩ => ⟨S8192x2048, .f32⟩
  | .hbm, ⟨5, _⟩ => ⟨S1x2048, .f32⟩
  | .hbm, ⟨6, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel8.lean ====
abbrev S2048x2816 : Shape := ⟨2, ![2048, 2816]⟩
abbrev S1408x2048 : Shape := ⟨2, ![1408, 2048]⟩
abbrev S64x2816 : Shape := ⟨2, ![64, 2816]⟩
abbrev S128x2048 : Shape := ⟨2, ![128, 2048]⟩

abbrev nBuf : Space → Nat
  | .hbm => 14
  | .vmem => 28
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S1408x2048, .f32⟩
  | .hbm, ⟨12, _⟩ => ⟨S1408x2048, .f32⟩
  | .hbm, ⟨13, _⟩ => ⟨S1408x2048, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference8Ideal.lean ====
abbrev S2048x2816 : Shape := ⟨2, ![2048, 2816]⟩
abbrev S1408x2048 : Shape := ⟨2, ![1408, 2048]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S1408x2048, .f32⟩
  | .hbm, ⟨43, _⟩ => ⟨S1408x2048, .f32⟩
  | .hbm, ⟨44, _⟩ => ⟨S_, .f32⟩
  | .hbm, ⟨45, _⟩ => ⟨S1408x2048, .f32⟩
  | .hbm, ⟨46, _⟩ => ⟨S1408x2048, .f32⟩
  | .hbm, ⟨47, _⟩ => ⟨S1408x2048, .f32⟩
  | .hbm, ⟨48, _⟩ => ⟨S_, .f32⟩
  | .hbm, ⟨49, _⟩ => ⟨S1408x2048, .f32⟩
  | .hbm, ⟨50, _⟩ => ⟨S1408x2048, .f32⟩
  | .hbm, ⟨51, _⟩ => ⟨S1408x2048, .f32⟩
  | .hbm, ⟨52, _⟩ => ⟨S_, .f32⟩
  | .hbm, ⟨53, _⟩ => ⟨S1408x2048, .f32⟩
  | .hbm, ⟨54, _⟩ => ⟨S1408x2048, .f32⟩
  | .hbm, ⟨55, _⟩ => ⟨S1408x2048, .f32⟩
  | .hbm, ⟨56, _⟩ => ⟨S_, .f32⟩
  | .hbm, ⟨57, _⟩ => ⟨S1408x2048, .f32⟩
  | .hbm, ⟨58, _⟩ => ⟨S1408x2048, .f32⟩
  | .hbm, ⟨59, _⟩ => ⟨S_, .f32⟩
  | .hbm, ⟨60, _⟩ => ⟨S1408x2048, .f32⟩
  | .hbm, ⟨61, _⟩ => ⟨S1408x2048, .f32⟩
  | .hbm, ⟨62, _⟩ => ⟨S1408x2048, .f32⟩
  | .hbm, ⟨63, _⟩ => ⟨S_, .f32⟩
  | .hbm, ⟨64, _⟩ => ⟨S1408x2048, .f32⟩
  | .hbm, ⟨65, _⟩ => ⟨S1408x2048, .f32⟩
  | .hbm, ⟨66, _⟩ => ⟨S1408x2048, .f32⟩
  | .hbm, ⟨67, _⟩ => ⟨S_, .f32⟩
  | .hbm, ⟨68, _⟩ => ⟨S1408x2048, .f32⟩
  | .hbm, ⟨69, _⟩ => ⟨S1408x2048, .f32⟩
  | .hbm, ⟨70, _⟩ => ⟨S1408x2048, .f32⟩
  | .hbm, ⟨71, _⟩ => ⟨S_, .f32⟩
  | .hbm, ⟨72, _⟩ => ⟨S1408x2048, .f32⟩
  | .hbm, ⟨73, _⟩ => ⟨S1408x2048, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Attention.lean ====
/-
  ATTENTION OVER THE REALS: the mathematics both programs are compared with, one head at a time.
  `N` queries of width `D`, `M` keys of the same width, `M` values of width `E`, and `g`, the gradient of the output.
  The definitions are softmax attention and its gradients; the lemmas say what an online softmax computes and what a
  backward pass that recomputes the probabilities from the row's log-sum computes. The last part reads the extended
  reals' exponential, logarithm, quotient, maximum and sum at real arguments.
-/
module

public import Idealize.ShloMosaic.Lib.Pointwise
public import Mathlib.Analysis.SpecialFunctions.Pow.Real
public import Mathlib.Tactic.FieldSimp
public import Mathlib.Tactic.Ring
public import Mathlib.Tactic.Positivity

@[expose] public section

noncomputable section

open Idealize.ShloMosaic

namespace Cert.Attention

variable {N M D E : ℕ} (c : ℝ)
variable (q : Fin N → Fin D → ℝ) (k : Fin M → Fin D → ℝ) (v : Fin M → Fin E → ℝ) (g : Fin N → Fin E → ℝ)

/-- The product of query `i` and key `j`, not yet scaled. -/
def score (i : Fin N) (j : Fin M) : ℝ := ∑ d, q i d * k j d
/-- The exponential of the scaled score. -/
def weight (i : Fin N) (j : Fin M) : ℝ := Real.exp (score q k i j * c)
/-- A row's sum of weights. -/
def mass (i : Fin N) : ℝ := ∑ j, weight c q k i j
/-- Softmax: a weight over its row's sum. -/
def prob (i : Fin N) (j : Fin M) : ℝ := weight c q k i j / mass c q k i
/-- The output: the values averaged by the probabilities. -/
def out (i : Fin N) (e : Fin E) : ℝ := ∑ j, prob c q k i j * v j e
/-- The gradient with respect to a probability. -/
def dprob (i : Fin N) (j : Fin M) : ℝ := ∑ e, g i e * v j e
/-- The row's sum of gradient times output. -/
def delta (i : Fin N) : ℝ := ∑ e, g i e * out c q k v i e
/-- The gradient with respect to an unscaled score. -/
def dscore (i : Fin N) (j : Fin M) : ℝ := prob c q k i j * (dprob v g i j - delta c q k v g i) * c
/-- The gradient of the queries. -/
def dquery (i : Fin N) (d : Fin D) : ℝ := ∑ j, dscore c q k v g i j * k j d
/-- The gradient of the keys. -/
def dkey (j : Fin M) (d : Fin D) : ℝ := ∑ i, dscore c q k v g i j * q i d
/-- The gradient of the values. -/
def dvalue (j : Fin M) (e : Fin E) : ℝ := ∑ i, prob c q k i j * g i e

theorem weight_pos (i : Fin N) (j : Fin M) : 0 < weight c q k i j := Real.exp_pos _

theorem mass_pos [NeZero M] (i : Fin N) : 0 < mass c q k i :=
  Finset.sum_pos (fun j _ => weight_pos c q k i j) ⟨0, Finset.mem_univ _⟩

/-- The probability recomputed from the row's log-sum. -/
theorem exp_sub_log_mass [NeZero M] (i : Fin N) (j : Fin M) :
    Real.exp (score q k i j * c - Real.log (mass c q k i)) = prob c q k i j := by
  rw [Real.exp_sub, Real.exp_log (mass_pos c q k i)]; rfl

/-- The row's sum of gradient times output is its sum of gradient times probability. -/
theorem delta_eq (i : Fin N) : delta c q k v g i = ∑ j, dprob v g i j * prob c q k i j := by
  simp only [delta, out, dprob, Finset.mul_sum, Finset.sum_mul]
  rw [Finset.sum_comm]
  exact Finset.sum_congr rfl fun j _ => Finset.sum_congr rfl fun e _ => by ring

/-- The output as a quotient of two sums of weights. -/
theorem out_eq_div (i : Fin N) (e : Fin E) : out c q k v i e = (∑ j, weight c q k i j * v j e) / mass c q k i := by
  simp only [out, prob, Finset.sum_div]
  exact Finset.sum_congr rfl fun j _ => by ring

/-! ## A row's softmax with any number subtracted from its scaled scores -/

section shifted
variable (x : ℝ) (i : Fin N)

theorem exp_shift (j : Fin M) : Real.exp (score q k i j * c - x) = Real.exp (-x) * weight c q k i j := by
  rw [weight, ← Real.exp_add]; congr 1; ring

theorem sum_exp_shift : ∑ j, Real.exp (score q k i j * c - x) = Real.exp (-x) * mass c q k i := by
  simp only [exp_shift, mass, Finset.mul_sum]

theorem shift_div_shift (j : Fin M) :
    Real.exp (score q k i j * c - x) * (1 / ∑ j', Real.exp (score q k i j' * c - x)) = prob c q k i j := by
  rw [sum_exp_shift, exp_shift, prob]
  have := (Real.exp_pos (-x)).ne'
  by_cases h : mass c q k i = 0
  · simp [h]
  · field_simp

/-- The gradient of a scaled score, as the derivative of a quotient by a row's sum writes it. -/
theorem dscore_shift [NeZero M] (j : Fin M) :
    (dprob v g i j * (1 / ∑ j', Real.exp (score q k i j' * c - x))
      + -∑ j', dprob v g i j' * (1 * (1 / ((∑ l, Real.exp (score q k i l * c - x)) * ∑ l, Real.exp (score q k i l * c - x))))
          * Real.exp (score q k i j' * c - x)) * Real.exp (score q k i j * c - x) * c
      = dscore c q k v g i j := by
  rw [dscore, delta_eq, sum_exp_shift]
  simp only [exp_shift, prob]
  have h1 := (Real.exp_pos (-x)).ne'
  have h2 := (mass_pos c q k i).ne'
  have e : ∑ j', dprob v g i j' * (1 * (1 / (Real.exp (-x) * mass c q k i * (Real.exp (-x) * mass c q k i))))
        * (Real.exp (-x) * weight c q k i j')
      = (1 / (Real.exp (-x) * mass c q k i)) * ∑ j', dprob v g i j' * (weight c q k i j' / mass c q k i) := by
    rw [Finset.mul_sum]
    exact Finset.sum_congr rfl fun j' _ => by field_simp
  rw [e]
  field_simp
  ring

end shifted

/-! ## The extended reals' operations at real arguments -/

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The maximum of a nonempty family of reals is a real. -/
theorem fold_max_coe {ι : Type*} [Fintype ι] [Nonempty ι] (f : ι → ℝ) :
    ∃ x : ℝ, Finset.univ.fold max (⊥ : EReal) (fun i => (f i : EReal)) = x := by
  classical
  have h : ∀ s : Finset ι, s.Nonempty → ∃ x : ℝ, s.fold max (⊥ : EReal) (fun i => (f i : EReal)) = x := by
    intro s hs
    induction hs using Finset.Nonempty.cons_induction with
    | singleton a => exact ⟨f a, by simp⟩
    | cons a s ha _ ih =>
      obtain ⟨x, hx⟩ := ih
      exact ⟨max (f a) x, by rw [Finset.fold_cons, hx]; exact (EReal.coe_strictMono.monotone.map_max).symm⟩
  exact h _ Finset.univ_nonempty

theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]
theorem ofBits_one : Ideal.ofBits .f32 0x3F800000#32 = (1 : EReal) := by simp [Ideal.ofBits, Ideal.ieee, -EReal.coe_mul]; norm_num
theorem ofBits_width : Ideal.ofBits .f32 0x43400000#32 = ((192 : ℝ) : EReal) := by simp [Ideal.ofBits, Ideal.ieee, -EReal.coe_mul]; norm_num

/-- The reciprocal of the square root of the head's width. -/
def scale : ℝ := (Real.sqrt 192)⁻¹
/-- The logarithm of `e` to base 2. -/
def log2e : ℝ := (Real.log 2)⁻¹

theorem scale_pos : 0 < scale := by unfold scale; positivity
theorem log2e_pos : 0 < log2e := inv_pos.2 (Real.log_pos (by norm_num))

/-- An exponential to base 2 of an argument scaled by `log2e` is the exponential. -/
theorem two_rpow (x : ℝ) : Real.rpow 2 (x * log2e) = Real.exp x := by
  show (2 : ℝ) ^ (x * log2e) = _
  rw [Real.rpow_def_of_pos (by norm_num), log2e]
  congr 1
  have : Real.log 2 ≠ 0 := (Real.log_pos (by norm_num)).ne'
  field_simp

end Cert.Attention

end
-- ==== Proof.Precondition.lean ====
/-
  THE PRECONDITION. It says of each argument that every entry is below infinity in absolute value; over the extended
  reals: that every entry is a real.
-/
module

public import proofs.«01_k».proof.Pre_finite
public import proofs.«01_k».proof.Proof.Attention
public import Idealize.ShloMosaic.PureOps.Ideal
public import Idealize.ShloMosaic.PureOps.Ideal.Laws
public import Idealize.ShloMosaic.Lib.ReduceAll

@[expose] public section

noncomputable section

namespace Cert.Pre_finite

open Idealize.ShloMosaic

instance facts : Facts where
  bcast_S_S8x8192x192 := by decide
  reducesTo_S8x8192x192_S_d0_1_2 := by decide
  h_S_ := by decide
  bcast_S_S8x8448x192 := by decide
  reducesTo_S8x8448x192_S_d0_1_2 := by decide
  bcast_S_S8x8448x128 := by decide
  reducesTo_S8x8448x128_S_d0_1_2 := by decide
  bcast_S_S8x8192x128 := by decide
  reducesTo_S8x8192x128_S_d0_1_2 := by decide

instance : Subsingleton S_.Idx := ⟨fun a b => funext fun x => x.elim0⟩

/-- An extended real below infinity in absolute value is a real. -/
theorem real_of_abs_lt (x : EReal) (h : Ideal.cmp .olt (max x (-x)) (⊤ : EReal) = 1#1) : x = (x.toReal : EReal) := by
  induction x with
  | bot => simp [Ideal.cmp] at h
  | top => simp [Ideal.cmp] at h
  | coe r => rfl

/-- One argument's test, read at an entry. -/
theorem real_of_all {s : Shape} (x : FVec Ideal s .f32) (b : S_.BroadcastsInDim s ![]) {axes : List (Fin s.rank)} (h : s.ReducesTo axes S_)
    (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : x i = ((x i).toReal : EReal) := by
  have := Host.reduce_andi_all _ _ h hu j e i
  refine real_of_abs_lt _ ?_
  rw [← Attention.ofBits_inf]
  exact this

theorem reals (x0 : FVec Ideal S8x8192x192 .f32) (x1 : FVec Ideal S8x8448x192 .f32) (x2 : FVec Ideal S8x8448x128 .f32) (x3 : FVec Ideal S8x8192x128 .f32)
    (h : fn (F := Ideal) x0 x1 x2 x3 = fun _ => 1#1) :
    (∀ i, x0 i = ((x0 i).toReal : EReal)) ∧ (∀ i, x1 i = ((x1 i).toReal : EReal)) ∧ (∀ i, x2 i = ((x2 i).toReal : EReal))
      ∧ ∀ i, x3 i = ((x3 i).toReal : EReal) := by
  obtain ⟨j⟩ : Nonempty S_.Idx := ⟨fun a => a.elim0⟩
  have e := congrFun h j
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨real_of_all x0 Facts.bcast_S_S8x8192x192 Facts.reducesTo_S8x8192x192_S_d0_1_2 Facts.h_S_ j e0, real_of_all x1 Facts.bcast_S_S8x8448x192 Facts.reducesTo_S8x8448x192_S_d0_1_2 Facts.h_S_ j e1, real_of_all x2 Facts.bcast_S_S8x8448x128 Facts.reducesTo_S8x8448x128_S_d0_1_2 Facts.h_S_ j e2, real_of_all x3 Facts.bcast_S_S8x8192x128 Facts.reducesTo_S8x8192x128_S_d0_1_2 Facts.h_S_ j e3⟩

end Cert.Pre_finite

end
-- ==== Proof.ForwardBody.lean ====
/-
  THE FORWARD CALL'S BODY AS ONE RECURSION: a tile of 512 queries meets the keys in six chunks of 1408. `Fwd.step` is
  what one chunk does to the running maximum, the running sum and the running weighted values; the body's two stores
  are `Fwd.result` and `Fwd.logSum` of the state after six steps.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- Rows `o`, …, `o + 1407` of a head's keys. -/
def keyRows (x : Vec F S1x8448x192 .bf16) (o : ℕ) (h : o + 1408 ≤ 8448) : Vec F S1x1408x192 .bf16 :=
  fun j => x (ix3 (0 : Fin 1) (⟨o + (j 1).val, by have : (j 1).val < 1408 := (j 1).isLt; omega⟩ : Fin 8448) (j 2 : Fin 192))

/-- Rows `o`, …, `o + 1407` of a head's values. -/
def valueRows (x : Vec F S1x8448x128 .bf16) (o : ℕ) (h : o + 1408 ≤ 8448) : Vec F S1x1408x128 .bf16 :=
  fun j => x (ix3 (0 : Fin 1) (⟨o + (j 1).val, by have : (j 1).val < 1408 := (j 1).isLt; omega⟩ : Fin 8448) (j 2 : Fin 128))

namespace Fwd

/-- The scores of a tile of queries against one chunk of keys. -/
def scores (q : Vec F S1x512x192 .bf16) (k : Vec F S1x1408x192 .bf16) : FVec F S512x1408 .f32 :=
  matmul dot_S512x192_S1408x192_S512x1408_1_1_0_0_n_n none (shapeCast S512x192 q shapeCasts_S1x512x192_S512x192)
    (shapeCast S1408x192 k shapeCasts_S1x1408x192_S1408x192) (constant S512x1408 .f32 0x00000000#32)

/-- The running maximum after a chunk with scores `s`. -/
def newMax (s : FVec F S512x1408 .f32) (m : FVec F S512x1 .f32) : FVec F S512x1 .f32 :=
  maximumf m (shapeCast S512x1
    (multiReduction .maximumf [1] S512 s 0xFF800000#32 reduces_S512x1408_S512 (.inl rfl) rfl) shapeCasts_S512_S512x1)

/-- What the old sums are multiplied by when the maximum moves. -/
def decay (s : FVec F S512x1408 .f32) (m : FVec F S512x1 .f32) : FVec F S512x1 .f32 :=
  exp2 (mulf (subf m (newMax s m)) (broadcast S512x1 (Named.named κ "scale_log2e" 0x3DD53B95#32)))

/-- The chunk's weights, relative to the new maximum. -/
def weights (s : FVec F S512x1408 .f32) (m : FVec F S512x1 .f32) : FVec F S512x1408 .f32 :=
  exp2 (mulf (subf s (broadcastTo S512x1408 (newMax s m) broadcasts_S512x1_S512x1408))
    (broadcast S512x1408 (Named.named κ "scale_log2e" 0x3DD53B95#32)))

/-- The running sum of weights. -/
def newSum (s : FVec F S512x1408 .f32) (m l : FVec F S512x1 .f32) : FVec F S512x1 .f32 :=
  addf (mulf (decay s m) l) (shapeCast S512x1
    (multiReduction .add [1] S512 (weights s m) 0x00000000#32 reduces_S512x1408_S512 (.inl rfl) rfl) shapeCasts_S512_S512x1)

/-- The running sum of weighted values. -/
def newAcc (s : FVec F S512x1408 .f32) (m : FVec F S512x1 .f32) (a : FVec F S512x128 .f32) (v : Vec F S1x1408x128 .bf16) :
    FVec F S512x128 .f32 :=
  addf (mulf (broadcastTo S512x128 (decay s m) broadcasts_S512x1_S512x128) a)
    (matmul dot_S512x1408_S1408x128_S512x128_1_0_0_1_n_n none (truncf .bf16 (weights s m) bitsLt_bf16_f32)
      (shapeCast S1408x128 v shapeCasts_S1x1408x128_S1408x128) (constant S512x128 .f32 0x00000000#32))

/-- The running maximum, sum and weighted values of a tile. -/
structure State (F : FTy → Type) where
  max : FVec F S512x1 .f32
  sum : FVec F S512x1 .f32
  acc : FVec F S512x128 .f32

/-- The state before the first chunk. -/
def start : State F :=
  ⟨broadcast S512x1 (Scalar.ofBits .f32 0xFF800000#32), broadcast S512x1 (Scalar.ofBits .f32 0x00000000#32),
    broadcast S512x128 (Scalar.ofBits .f32 0x00000000#32)⟩

/-- One chunk: the keys and values of rows `o`, …, `o + 1407`. -/
def step (q : Vec F S1x512x192 .bf16) (k : Vec F S1x8448x192 .bf16) (v : Vec F S1x8448x128 .bf16) (o : ℕ) (h : o + 1408 ≤ 8448)
    (x : State F) : State F :=
  ⟨newMax (scores q (keyRows k o h)) x.max, newSum (scores q (keyRows k o h)) x.max x.sum,
    newAcc (scores q (keyRows k o h)) x.max x.acc (valueRows v o h)⟩

/-- The state after `n` chunks. -/
def state (q : Vec F S1x512x192 .bf16) (k : Vec F S1x8448x192 .bf16) (v : Vec F S1x8448x128 .bf16) : (n : ℕ) → n ≤ 6 → State F
  | 0, _ => start
  | n + 1, h => step q k v (1408 * n) (by omega) (state q k v n (Nat.le_of_succ_le h))

/-- The tile of the output. -/
def result (x : State F) : FVec F S1x512x128 .f32 :=
  shapeCast S1x512x128 (divf x.acc (broadcastTo S512x128 x.sum broadcasts_S512x1_S512x128)) shapeCasts_S512x128_S1x512x128

/-- The tile of the rows' log-sums. -/
def logSum (x : State F) : FVec F S1x512x1 .f32 :=
  shapeCast S1x512x1 (addf (mulf x.max (broadcast S512x1 (Named.named κ "scale" 0x3D93CD3A#32))) (log x.sum)) shapeCasts_S512x1_S1x512x1

end Fwd

/-- The first store is the tile of the output. -/
theorem out0_3 (c : Dev nD) (i : grid0.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)
    (x0 : Vec F S1x512x192 .bf16) (x1 : Vec F S1x8448x192 .bf16) (x2 : Vec F S1x8448x128 .bf16) :
    out0_A_3 c i arg2 harg2 arg3 harg3 arg4 harg4 arg5 harg5 arg6 harg6 arg7 harg7 arg8 harg8 arg9 harg9 x0 x1 x2
      = Fwd.result (Fwd.state x0 x1 x2 6 le_rfl) := by
  frame_open
  simp (disch := decide) only [↓ View.readCov_skip, ↓ View.readCov_cons_toLoadRect, ↓ View.readCov_fill]
  frame_out
  open_payloads
  simp only [shapeCast_self]
  have hk : ∀ (o : ℕ) (h : o + 1408 ≤ 8448) (inb), (View.ld x1 (Rect.unit (s := S1x8448x192) ![0, o, 0] ![1, 1408, 192] inb) : Vec F S1x1408x192 .bf16) = keyRows x1 o h := by
    intro o h inb; funext j; idx_vars j; pointwise [keyRows]
  have hv : ∀ (o : ℕ) (h : o + 1408 ≤ 8448) (inb), (View.ld x2 (Rect.unit (s := S1x8448x128) ![0, o, 0] ![1, 1408, 128] inb) : Vec F S1x1408x128 .bf16) = valueRows x2 o h := by
    intro o h inb; funext j; idx_vars j; pointwise [valueRows]
  simp only [hk 0 (by omega), hk 1408 (by omega), hk 2816 (by omega), hk 4224 (by omega), hk 5632 (by omega), hk 7040 (by omega),
    hv 0 (by omega), hv 1408 (by omega), hv 2816 (by omega), hv 4224 (by omega), hv 5632 (by omega), hv 7040 (by omega)]
  simp only [Fwd.result, Fwd.logSum, Fwd.state, Fwd.step, Fwd.start, Fwd.newMax, Fwd.newSum, Fwd.newAcc, Fwd.decay, Fwd.weights, Fwd.scores,
    Nat.reduceMul]

/-- The second store is the tile of the log-sums. -/
theorem out0_4 (c : Dev nD) (i : grid0.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)
    (x0 : Vec F S1x512x192 .bf16) (x1 : Vec F S1x8448x192 .bf16) (x2 : Vec F S1x8448x128 .bf16) :
    out0_A_4 c i arg2 harg2 arg3 harg3 arg4 harg4 arg5 harg5 arg6 harg6 arg7 harg7 arg8 harg8 arg9 harg9 x0 x1 x2
      = Fwd.logSum (Fwd.state x0 x1 x2 6 le_rfl) := by
  frame_open
  simp (disch := decide) only [↓ View.readCov_skip, ↓ View.readCov_cons_toLoadRect, ↓ View.readCov_fill]
  frame_out
  open_payloads
  simp only [shapeCast_self]
  have hk : ∀ (o : ℕ) (h : o + 1408 ≤ 8448) (inb), (View.ld x1 (Rect.unit (s := S1x8448x192) ![0, o, 0] ![1, 1408, 192] inb) : Vec F S1x1408x192 .bf16) = keyRows x1 o h := by
    intro o h inb; funext j; idx_vars j; pointwise [keyRows]
  have hv : ∀ (o : ℕ) (h : o + 1408 ≤ 8448) (inb), (View.ld x2 (Rect.unit (s := S1x8448x128) ![0, o, 0] ![1, 1408, 128] inb) : Vec F S1x1408x128 .bf16) = valueRows x2 o h := by
    intro o h inb; funext j; idx_vars j; pointwise [valueRows]
  simp only [hk 0 (by omega), hk 1408 (by omega), hk 2816 (by omega), hk 4224 (by omega), hk 5632 (by omega), hk 7040 (by omega),
    hv 0 (by omega), hv 1408 (by omega), hv 2816 (by omega), hv 4224 (by omega), hv 5632 (by omega), hv 7040 (by omega)]
  simp only [Fwd.result, Fwd.logSum, Fwd.state, Fwd.step, Fwd.start, Fwd.newMax, Fwd.newSum, Fwd.newAcc, Fwd.decay, Fwd.weights, Fwd.scores,
    Nat.reduceMul]

end Cert.KernelIdeal.Value

end
-- ==== Proof.BackwardBody.lean ====
/-
  THE BACKWARD CALL'S BODY AT AN INDEX: a tile of 512 queries meets all 8448 keys, in six chunks of 1408. The stores of
  the tile's query gradient, and of its addition to the head's key and value gradients, are read at one index as sums
  over the extended reals of the blocks' entries. At the first tile of a head (case A) the two sums start from zero; at
  the others (case B) from what the tile before left.
-/
module

public import proofs.«01_k».proof.Proof.Gen.KernelIdeal.Frame
public import proofs.«01_k».proof.Proof.Attention
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.KernelIdeal.Value

open Cert.KernelIdeal Cert.KernelIdeal.Gen Idealize.ShloMosaic Idealize.ShloMosaic.TcCoe Idealize.SL.Sem

open Cert.Attention (scale log2e)

theorem named_scale_log2e : Named.named (F := Ideal) (φ := .f32) κ "scale_log2e" 0x3DD53B95#32 = ((scale * log2e : ℝ) : EReal) :=
  IdealRules.named_const.ideal_named_scalar _ _ _ _ rfl
theorem named_scale : Named.named (F := Ideal) (φ := .f32) κ "scale" 0x3D93CD3A#32 = ((scale : ℝ) : EReal) :=
  IdealRules.named_const.ideal_named_scalar _ _ _ _ rfl
theorem named_log2e : Named.named (F := Ideal) (φ := .f32) κ "log2e" 0x3FB8AA3B#32 = ((log2e : ℝ) : EReal) :=
  IdealRules.named_const.ideal_named_scalar _ _ _ _ rfl

namespace Bwd

section
variable (q : FVec Ideal S1x512x192 .bf16) (k : FVec Ideal S1x8448x192 .bf16) (v : FVec Ideal S1x8448x128 .bf16)
variable (o g : FVec Ideal S1x512x128 .f32) (l : FVec Ideal S1x512x1 .f32)

/-- The score of query `r` and key `j`. -/
def score (r : Fin 512) (j : Fin 8448) : EReal := 0 + ∑ d : Fin 192, q (ix3 (0 : Fin 1) r d) * k (ix3 (0 : Fin 1) j d)
/-- The probability, recomputed from the row's log-sum. -/
def prob (r : Fin 512) (j : Fin 8448) : EReal :=
  Ideal.exp2 (score q k r j * ((scale * log2e : ℝ) : EReal) - l (ix3 (0 : Fin 1) r (0 : Fin 1)) * ((log2e : ℝ) : EReal))
/-- The gradient of the probability. -/
def dprob (r : Fin 512) (j : Fin 8448) : EReal := 0 + ∑ e : Fin 128, g (ix3 (0 : Fin 1) r e) * v (ix3 (0 : Fin 1) j e)
/-- The row's sum of gradient times output. -/
def delta (r : Fin 512) : EReal := ∑ e : Fin 128, g (ix3 (0 : Fin 1) r e) * o (ix3 (0 : Fin 1) r e)
/-- The gradient of the score. -/
def dscore (r : Fin 512) (j : Fin 8448) : EReal := prob q k l r j * (dprob v g r j - delta o g r) * ((scale : ℝ) : EReal)
/-- The tile's addition to a head's key gradient. -/
def keyPart (j : Fin 8448) (d : Fin 192) : EReal := 0 + ∑ r : Fin 512, dscore q k v o g l r j * q (ix3 (0 : Fin 1) r d)
/-- The tile's addition to a head's value gradient. -/
def valuePart (j : Fin 8448) (e : Fin 128) : EReal := 0 + ∑ r : Fin 512, prob q k l r j * g (ix3 (0 : Fin 1) r e)
/-- A chunk's addition to the tile's query gradient. -/
def queryPart (n : ℕ) (h : 1408 * n + 1408 ≤ 8448) (r : Fin 512) (d : Fin 192) : EReal :=
  0 + ∑ j : Fin 1408, dscore q k v o g l r ⟨1408 * n + j, by omega⟩ * k (ix3 (0 : Fin 1) (⟨1408 * n + j, by omega⟩ : Fin 8448) d)
/-- The tile's query gradient. -/
def query (r : Fin 512) (d : Fin 192) : EReal :=
  queryPart q k v o g l 0 (by omega) r d + queryPart q k v o g l 1 (by omega) r d + queryPart q k v o g l 2 (by omega) r d
    + queryPart q k v o g l 3 (by omega) r d + queryPart q k v o g l 4 (by omega) r d + queryPart q k v o g l 5 (by omega) r d

end

end Bwd

/-- Case A, the tile of the query gradient. -/
theorem out1A_6 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) :
    out1_A_6 (F := Ideal) c i arg2 harg2 arg3 harg3 arg4 harg4 arg5 harg5 arg6 harg6 arg7 harg7 arg8 harg8 arg9 harg9 arg10 harg10 hc0 x0 x1 x2 x3 x4 x5
      = fun y => Bwd.query x0 x1 x2 x3 x4 x5 (y 1) (y 2) := by
  frame_open
  simp (disch := decide) only [↓ View.readCov_skip, ↓ View.readCov_cons_toLoadRect, ↓ View.readCov_fill]
  frame_out
  funext y
  idx_vars y
  open_payloads
  pointwise [Bwd.query, Bwd.queryPart, Bwd.keyPart, Bwd.valuePart, Bwd.dscore, Bwd.delta, Bwd.dprob, Bwd.prob, Bwd.score, named_scale, named_log2e, named_scale_log2e]
  rfl

/-- Case B, the tile of the query gradient. -/
theorem out1B_6 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : ¬cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) (xo7 : FVec Ideal S1x8448x192 .f32) (xo8 : FVec Ideal S1x8448x128 .f32) :
    out1_B_6 (F := Ideal) c i arg2 harg2 arg3 harg3 arg4 harg4 arg5 harg5 arg6 harg6 arg7 harg7 arg8 harg8 arg9 harg9 arg10 harg10 hc0 x0 x1 x2 x3 x4 x5 xo7 xo8
      = fun y => Bwd.query x0 x1 x2 x3 x4 x5 (y 1) (y 2) := by
  frame_open
  simp (disch := decide) only [↓ View.readCov_skip, ↓ View.readCov_cons_toLoadRect, ↓ View.readCov_fill]
  frame_out
  funext y
  idx_vars y
  open_payloads
  pointwise [Bwd.query, Bwd.queryPart, Bwd.keyPart, Bwd.valuePart, Bwd.dscore, Bwd.delta, Bwd.dprob, Bwd.prob, Bwd.score, named_scale, named_log2e, named_scale_log2e]
  rfl

/-- Case B, the key gradient. -/
theorem out1B_7 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : ¬cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) (xo7 : FVec Ideal S1x8448x192 .f32) (xo8 : FVec Ideal S1x8448x128 .f32) :
    out1_B_7 (F := Ideal) c i arg2 harg2 arg3 harg3 arg4 harg4 arg5 harg5 arg6 harg6 arg7 harg7 arg8 harg8 arg9 harg9 arg10 harg10 hc0 x0 x1 x2 x3 x4 x5 xo7 xo8
      = fun y => xo7 y + Bwd.keyPart x0 x1 x2 x3 x4 x5 (y 1) (y 2) := by
  frame_open
  simp (disch := decide) only [↓ View.readCov_skip, ↓ View.readCov_cons_toLoadRect, ↓ View.readCov_fill]
  frame_out
  funext y
  canon_tiles x h
  all_goals (open_payloads; pointwise [Bwd.query, Bwd.queryPart, Bwd.keyPart, Bwd.valuePart, Bwd.dscore, Bwd.delta, Bwd.dprob, Bwd.prob, Bwd.score, named_scale, named_log2e, named_scale_log2e]; blk_point []; try (have e : y 1 = ⟨_, h1 ▸ (y 1).isLt⟩ := Fin.ext h1; rw [e]; rfl))

/-- Case B, the value gradient. -/
theorem out1B_8 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : ¬cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) (xo7 : FVec Ideal S1x8448x192 .f32) (xo8 : FVec Ideal S1x8448x128 .f32) :
    out1_B_8 (F := Ideal) c i arg2 harg2 arg3 harg3 arg4 harg4 arg5 harg5 arg6 harg6 arg7 harg7 arg8 harg8 arg9 harg9 arg10 harg10 hc0 x0 x1 x2 x3 x4 x5 xo7 xo8
      = fun y => xo8 y + Bwd.valuePart x0 x1 x4 x5 (y 1) (y 2) := by
  frame_open
  simp (disch := decide) only [↓ View.readCov_skip, ↓ View.readCov_cons_toLoadRect, ↓ View.readCov_fill]
  frame_out
  funext y
  canon_tiles x h
  all_goals (open_payloads; pointwise [Bwd.query, Bwd.queryPart, Bwd.keyPart, Bwd.valuePart, Bwd.dscore, Bwd.delta, Bwd.dprob, Bwd.prob, Bwd.score, named_scale, named_log2e, named_scale_log2e]; blk_point []; try (have e : y 1 = ⟨_, h1 ▸ (y 1).isLt⟩ := Fin.ext h1; rw [e]; rfl))

/-- Case A, the key gradient. -/
theorem out1A_7 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) :
    out1_A_7 (F := Ideal) c i arg2 harg2 arg3 harg3 arg4 harg4 arg5 harg5 arg6 harg6 arg7 harg7 arg8 harg8 arg9 harg9 arg10 harg10 hc0 x0 x1 x2 x3 x4 x5
      = fun y => 0 + Bwd.keyPart x0 x1 x2 x3 x4 x5 (y 1) (y 2) := by
  frame_open
  simp (disch := decide) only [↓ View.readCov_skip, ↓ View.readCov_cons_toLoadRect, ↓ View.readCov_fill]
  frame_out
  funext y
  have key := View.canon_append_of_piecesOf (Val := Elt Ideal) (e := .f32) (s := S1x8448x192) (fun y => (0 + Bwd.keyPart x0 x1 x2 x3 x4 x5 (y 1) (y 2) : EReal))
    [⟨Rect.unit ![0, 0, 0] ![1, 8448, 192] inb_S1x8448x192_S1x8448x192_0_0_0, k1_pay3 (F := Ideal)⟩]
  refine key [_, _, _, _, _, _] ?_ y ?_
  · refine ⟨fun x => ?_, fun x => ?_, fun x => ?_, fun x => ?_, fun x => ?_, fun x => ?_, trivial⟩
    all_goals
      generalize hz : Rect.emb _ x = z
      have h1 := (congrArg (fun w => (w 1).val) hz).symm.trans (ValueKit.rect_emb_unit_val _ _ (by decide) x 1)
      have h2 := (congrArg (fun w => (w 2).val) hz).symm.trans (ValueKit.rect_emb_unit_val _ _ (by decide) x 2)
      clear hz
      change S1x1408x192.Idx at x
      dsimp only at h1 h2 ⊢
      obtain ⟨a, b, d, rfl⟩ : ∃ (a : Fin 1) (b : Fin 1408) (d : Fin 192), x = ix3 a b d := ⟨x 0, x 1, x 2, eq_ix3 x⟩
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53]
      pointwise [Bwd.query, Bwd.queryPart, Bwd.keyPart, Bwd.valuePart, Bwd.dscore, Bwd.delta, Bwd.dprob, Bwd.prob, Bwd.score, named_scale, named_log2e, named_scale_log2e]
      change (z 2).val = 0 + (d : ℕ) at h2
      rw [Nat.zero_add] at h2
      try (change (z 1).val = 0 + (b : ℕ) at h1; rw [Nat.zero_add] at h1)
      have e1 : z 1 = ⟨_, h1 ▸ (z 1).isLt⟩ := Fin.ext h1
      have e2 : z 2 = d := Fin.ext h2
      rw [e1]
      try rw [e2]
      rfl
  · exact View.cover_of_tiledL _ ![1, 1408, 192] (by rfl) y

/-- Case A, the value gradient. -/
theorem out1A_8 (c : Dev nD) (i : grid1.Coords) (arg2 : Memref sig .tc .vmem S1x512x192 .bf16) (harg2 : arg2.IsWhole) (arg3 : Memref sig .tc .vmem S1x8448x192 .bf16) (harg3 : arg3.IsWhole) (arg4 : Memref sig .tc .vmem S1x8448x128 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x1 .f32) (harg7 : arg7.IsWhole) (arg8 : Memref sig .tc .vmem S1x512x192 .f32) (harg8 : arg8.IsWhole) (arg9 : Memref sig .tc .vmem S1x8448x192 .f32) (harg9 : arg9.IsWhole) (arg10 : Memref sig .tc .vmem S1x8448x128 .f32) (harg10 : arg10.IsWhole) (hc0 : cond1_0 i)
    (x0 : FVec Ideal S1x512x192 .bf16) (x1 : FVec Ideal S1x8448x192 .bf16) (x2 : FVec Ideal S1x8448x128 .bf16) (x3 : FVec Ideal S1x512x128 .f32) (x4 : FVec Ideal S1x512x128 .f32) (x5 : FVec Ideal S1x512x1 .f32) :
    out1_A_8 (F := Ideal) c i arg2 harg2 arg3 harg3 arg4 harg4 arg5 harg5 arg6 harg6 arg7 harg7 arg8 harg8 arg9 harg9 arg10 harg10 hc0 x0 x1 x2 x3 x4 x5
      = fun y => 0 + Bwd.valuePart x0 x1 x4 x5 (y 1) (y 2) := by
  frame_open
  simp (disch := decide) only [↓ View.readCov_skip, ↓ View.readCov_cons_toLoadRect, ↓ View.readCov_fill]
  frame_out
  funext y
  have key := View.canon_append_of_piecesOf (Val := Elt Ideal) (e := .f32) (s := S1x8448x128) (fun y => (0 + Bwd.valuePart x0 x1 x4 x5 (y 1) (y 2) : EReal))
    [⟨Rect.unit ![0, 0, 0] ![1, 8448, 128] inb_S1x8448x128_S1x8448x128_0_0_0, k1_pay4 (F := Ideal)⟩]
  refine key [_, _, _, _, _, _] ?_ y ?_
  · refine ⟨fun x => ?_, fun x => ?_, fun x => ?_, fun x => ?_, fun x => ?_, fun x => ?_, trivial⟩
    all_goals
      generalize hz : Rect.emb _ x = z
      have h1 := (congrArg (fun w => (w 1).val) hz).symm.trans (ValueKit.rect_emb_unit_val _ _ (by decide) x 1)
      have h2 := (congrArg (fun w => (w 2).val) hz).symm.trans (ValueKit.rect_emb_unit_val _ _ (by decide) x 2)
      clear hz
      change S1x1408x128.Idx at x
      dsimp only at h1 h2 ⊢
      obtain ⟨a, b, d, rfl⟩ : ∃ (a : Fin 1) (b : Fin 1408) (d : Fin 128), x = ix3 a b d := ⟨x 0, x 1, x 2, eq_ix3 x⟩
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53]
      pointwise [Bwd.query, Bwd.queryPart, Bwd.keyPart, Bwd.valuePart, Bwd.dscore, Bwd.delta, Bwd.dprob, Bwd.prob, Bwd.score, named_scale, named_log2e, named_scale_log2e]
      change (z 2).val = 0 + (d : ℕ) at h2
      rw [Nat.zero_add] at h2
      try (change (z 1).val = 0 + (b : ℕ) at h1; rw [Nat.zero_add] at h1)
      have e1 : z 1 = ⟨_, h1 ▸ (z 1).isLt⟩ := Fin.ext h1
      have e2 : z 2 = d := Fin.ext h2
      rw [e1]
      try rw [e2]
      rfl
  · exact View.cover_of_tiledL _ ![1, 1408, 128] (by rfl) y

end Cert.KernelIdeal.Value

end
-- ==== Proof.ForwardValue.lean ====
/-
  THE FORWARD CALL'S TILE AT REAL BLOCKS. The chunks' steps are read at one index over the extended reals; then, at blocks of
  reals, one row is followed through the six chunks: after each, the row's maximum is some real `M`, and its sum and
  weighted values are what the chunks met so far give, times `exp (-(M * scale))`. After the last the factor cancels in the
  quotient and in the log-sum, so the tile holds softmax attention and the logarithm of the row's mass.
-/
module

public import proofs.«01_k».proof.Proof.ForwardBody
public import proofs.«01_k».proof.Proof.BackwardBody

@[expose] public section

set_option maxRecDepth 16384

noncomputable section

namespace Cert.KernelIdeal.Value

open Cert.KernelIdeal Cert.KernelIdeal.Gen Idealize.ShloMosaic Idealize.ShloMosaic.TcCoe Idealize.SL.Sem
open Cert.Attention (scale log2e)

namespace Fwd

theorem scores_at (q : FVec Ideal S1x512x192 .bf16) (k : FVec Ideal S1x8448x192 .bf16) (o : ℕ) (h : o + 1408 ≤ 8448) (r : Fin 512) (j : Fin 1408) :
    scores (F := Ideal) q (keyRows k o h) (ix2 r j) = ∑ d : Fin 192, q (ix3 (0 : Fin 1) r d) * k (ix3 (0 : Fin 1) (⟨o + j, by omega⟩ : Fin 8448) d) := by
  pointwise [scores, keyRows]

theorem newMax_at (s : FVec Ideal S512x1408 .f32) (m : FVec Ideal S512x1 .f32) (r : Fin 512) (x : Fin 1) :
    newMax (F := Ideal) s m (ix2 r x) = max (m (ix2 r x)) (Finset.univ.fold max ⊥ fun j : Fin 1408 => s (ix2 r j)) := by
  pointwise [newMax]
  rw [Attention.ofBits_neg_inf]

theorem decay_at (s : FVec Ideal S512x1408 .f32) (m : FVec Ideal S512x1 .f32) (r : Fin 512) (x : Fin 1) :
    decay (F := Ideal) s m (ix2 r x) = Ideal.exp2 ((m (ix2 r x) - newMax s m (ix2 r x)) * ((scale * log2e : ℝ) : EReal)) := by
  pointwise [decay, named_scale_log2e]
  rfl

theorem weights_at (s : FVec Ideal S512x1408 .f32) (m : FVec Ideal S512x1 .f32) (r : Fin 512) (j : Fin 1408) :
    weights (F := Ideal) s m (ix2 r j) = Ideal.exp2 ((s (ix2 r j) - newMax s m (ix2 r (0 : Fin 1))) * ((scale * log2e : ℝ) : EReal)) := by
  pointwise [weights, named_scale_log2e]
  rfl

theorem newSum_at (s : FVec Ideal S512x1408 .f32) (m l : FVec Ideal S512x1 .f32) (r : Fin 512) (x : Fin 1) :
    newSum (F := Ideal) s m l (ix2 r x) = decay s m (ix2 r x) * l (ix2 r x) + (∑ j : Fin 1408, weights s m (ix2 r j)) := by
  pointwise [newSum]

theorem newAcc_at (s : FVec Ideal S512x1408 .f32) (m : FVec Ideal S512x1 .f32) (a : FVec Ideal S512x128 .f32) (v : FVec Ideal S1x8448x128 .bf16) (o : ℕ) (h : o + 1408 ≤ 8448) (r : Fin 512) (e : Fin 128) :
    newAcc (F := Ideal) s m a (valueRows v o h) (ix2 r e) = decay s m (ix2 r (0 : Fin 1)) * a (ix2 r e) + (∑ j : Fin 1408, weights s m (ix2 r j) * v (ix3 (0 : Fin 1) (⟨o + j, by omega⟩ : Fin 8448) e)) := by
  pointwise [newAcc, valueRows]

theorem result_at (x : State Ideal) (b : Fin 1) (r : Fin 512) (e : Fin 128) :
    result x (ix3 b r e) = Ideal.div (x.acc (ix2 r e)) (x.sum (ix2 r (0 : Fin 1))) := by
  pointwise [result]

theorem logSum_at (x : State Ideal) (b : Fin 1) (r : Fin 512) (z : Fin 1) :
    logSum x (ix3 b r z) = x.max (ix2 r (0 : Fin 1)) * ((scale : ℝ) : EReal) + Ideal.log (x.sum (ix2 r (0 : Fin 1))) := by
  pointwise [logSum, named_scale]

theorem start_at (r : Fin 512) (z : Fin 1) (e : Fin 128) : (start (F := Ideal)).max (ix2 r z) = ⊥ ∧ (start (F := Ideal)).sum (ix2 r z) = 0 ∧ (start (F := Ideal)).acc (ix2 r e) = 0 := by
  refine ⟨?_, ?_, ?_⟩ <;> pointwise [start]
  exact Attention.ofBits_neg_inf

/-! ## One row through the chunks -/

/-- What a row's maximum `m`, sum `l` and weighted values `a` say of the sums `L` of weights and `A` of weighted values met so far. -/
def Row (m l : EReal) (a : Fin 128 → EReal) (L : ℝ) (A : Fin 128 → ℝ) : Prop :=
  (m = ⊥ ∧ l = 0 ∧ (∀ e, a e = 0) ∧ L = 0 ∧ ∀ e, A e = 0)
    ∨ ∃ M : ℝ, m = M ∧ l = ((Real.exp (-(M * scale)) * L : ℝ) : EReal) ∧ ∀ e, a e = ((Real.exp (-(M * scale)) * A e : ℝ) : EReal)

theorem exp2_real (x y : ℝ) : Ideal.exp2 (((x : EReal) - y) * ((scale * log2e : ℝ) : EReal)) = ((Real.exp ((x - y) * scale) : ℝ) : EReal) := by
  rw [← EReal.coe_sub, ← EReal.coe_mul, Ideal.exp2_coe, ← mul_assoc, Cert.Attention.two_rpow]

/-- A chunk's scores `S` and values `v`: the row afterwards is never at its start. -/
theorem Row.next {m l : EReal} {a : Fin 128 → EReal} {L : ℝ} {A : Fin 128 → ℝ} (h : Row m l a L A) (S : Fin 1408 → ℝ) (v : Fin 1408 → Fin 128 → ℝ)
    (m' : EReal) (hm : m' = max m (Finset.univ.fold max ⊥ fun j => (S j : EReal))) :
    ∃ M : ℝ, m' = M
      ∧ Ideal.exp2 ((m - m') * ((scale * log2e : ℝ) : EReal)) * l + (∑ j, Ideal.exp2 (((S j : EReal) - m') * ((scale * log2e : ℝ) : EReal)))
          = ((Real.exp (-(M * scale)) * (L + ∑ j, Real.exp (S j * scale)) : ℝ) : EReal)
      ∧ ∀ e, Ideal.exp2 ((m - m') * ((scale * log2e : ℝ) : EReal)) * a e
            + (∑ j, Ideal.exp2 (((S j : EReal) - m') * ((scale * log2e : ℝ) : EReal)) * (v j e : EReal))
          = ((Real.exp (-(M * scale)) * (A e + ∑ j, Real.exp (S j * scale) * v j e) : ℝ) : EReal) := by
  obtain ⟨x, hx⟩ := Cert.Attention.fold_max_coe S
  rw [hx] at hm
  have hM : ∃ M : ℝ, m' = M := by
    rcases h with ⟨h, -⟩ | ⟨M, h, -⟩
    · exact ⟨x, by rw [hm, h]; exact max_eq_right bot_le⟩
    · exact ⟨max M x, by rw [hm, h]; exact (EReal.coe_strictMono.monotone.map_max).symm⟩
  obtain ⟨M, hM⟩ := hM
  clear hm
  subst hM
  have hw : ∀ j, Real.exp ((S j - M) * scale) = Real.exp (-(M * scale)) * Real.exp (S j * scale) := fun j => by
    rw [← Real.exp_add]; congr 1; ring
  refine ⟨M, rfl, ?_, fun e => ?_⟩
  · simp only [exp2_real, Cert.Attention.coe_sum]
    rcases h with ⟨h, hl, -, hL, -⟩ | ⟨N, h, hl, -⟩
    · rw [hl, hL, mul_zero, zero_add, zero_add, Finset.mul_sum]
      simp only [hw]
    · rw [hl, h, exp2_real, ← EReal.coe_mul, ← EReal.coe_add, ← mul_assoc, ← Real.exp_add, mul_add, Finset.mul_sum]
      simp only [hw]
      congr 4
      ring
  · simp only [exp2_real, ← EReal.coe_mul, Cert.Attention.coe_sum]
    rcases h with ⟨h, -, ha, -, hA⟩ | ⟨N, h, -, ha⟩
    · rw [ha, hA, mul_zero, zero_add, zero_add, Finset.mul_sum]
      simp only [hw, mul_assoc]
    · rw [ha, h, exp2_real, ← EReal.coe_mul, ← EReal.coe_add, ← mul_assoc, ← Real.exp_add, mul_add, Finset.mul_sum]
      simp only [hw, mul_assoc]
      congr 4
      ring

/-- The sum of `f` over the first `n` chunks of keys. -/
def part (f : Fin 8448 → ℝ) : (n : ℕ) → n ≤ 6 → ℝ
  | 0, _ => 0
  | n + 1, h => part f n (Nat.le_of_succ_le h) + ∑ t : Fin 1408, f ⟨1408 * n + t, by omega⟩

/-- The six chunks are all the keys. -/
theorem part_six (f : Fin 8448 → ℝ) : part f 6 le_rfl = ∑ j, f j := by
  rw [show (∑ j, f j) = ∑ j : Fin (6 * 1408), f j from rfl, Fin.sum_univ_tiles 6 1408 rfl f, Fin.sum_univ_six]
  simp only [part, zero_add]
  rfl

section
variable (q : FVec Ideal S1x512x192 .bf16) (k : FVec Ideal S1x8448x192 .bf16) (v : FVec Ideal S1x8448x128 .bf16)
variable (Q : Fin 512 → Fin 192 → ℝ) (K : Fin 8448 → Fin 192 → ℝ) (V : Fin 8448 → Fin 128 → ℝ)
variable (hq : ∀ r d, q (ix3 (0 : Fin 1) r d) = (Q r d : EReal)) (hk : ∀ j d, k (ix3 (0 : Fin 1) j d) = (K j d : EReal))
  (hv : ∀ j e, v (ix3 (0 : Fin 1) j e) = (V j e : EReal))

include hq hk in
theorem scores_real (o : ℕ) (h : o + 1408 ≤ 8448) (r : Fin 512) (j : Fin 1408) :
    scores (F := Ideal) q (keyRows k o h) (ix2 r j) = ((Attention.score Q K r ⟨o + j, by omega⟩ : ℝ) : EReal) := by
  rw [scores_at]
  simp only [hq, hk, ← EReal.coe_mul, Attention.coe_sum]
  rfl

include hq hk hv in
theorem state_row (r : Fin 512) : ∀ (n : ℕ) (h : n ≤ 6),
    Row ((state (F := Ideal) q k v n h).max (ix2 r (0 : Fin 1))) ((state (F := Ideal) q k v n h).sum (ix2 r (0 : Fin 1))) (fun e => (state (F := Ideal) q k v n h).acc (ix2 r e))
      (part (fun j => Attention.weight scale Q K r j) n h) (fun e => part (fun j => Attention.weight scale Q K r j * V j e) n h)
  | 0, h => .inl ⟨(start_at r 0 0).1, (start_at r 0 0).2.1, fun e => (start_at r 0 e).2.2, rfl, fun _ => rfl⟩
  | n + 1, h => by
    have ih := state_row r n (Nat.le_of_succ_le h)
    obtain ⟨M, h1, h2, h3⟩ := ih.next (fun t => Attention.score Q K r ⟨1408 * n + t, by omega⟩) (fun t => V ⟨1408 * n + t, by omega⟩) _ rfl
    refine .inr ⟨M, ?_, ?_, fun e => ?_⟩
    · rw [← h1]
      simp only [state, step, newMax_at, scores_real q k Q K hq hk]
    · refine Eq.trans ?_ h2
      simp only [state, step, newSum_at, decay_at, weights_at, newMax_at, scores_real q k Q K hq hk]
    · refine Eq.trans ?_ (h3 e)
      simp only [state, step, newAcc_at, decay_at, weights_at, newMax_at, scores_real q k Q K hq hk, hv]

include hq hk hv in
/-- The state after the last chunk. -/
theorem last_row (r : Fin 512) : ∃ M : ℝ, (state (F := Ideal) q k v 6 le_rfl).max (ix2 r (0 : Fin 1)) = M
    ∧ (state (F := Ideal) q k v 6 le_rfl).sum (ix2 r (0 : Fin 1)) = ((Real.exp (-(M * scale)) * Attention.mass scale Q K r : ℝ) : EReal)
    ∧ ∀ e, (state (F := Ideal) q k v 6 le_rfl).acc (ix2 r e) = ((Real.exp (-(M * scale)) * ∑ j, Attention.weight scale Q K r j * V j e : ℝ) : EReal) := by
  have h := state_row q k v Q K V hq hk hv r 6 le_rfl
  simp only [part_six] at h
  rcases h with ⟨-, -, -, h, -⟩ | h
  · exact absurd h (Attention.mass_pos scale Q K r).ne'
  · exact h

include hq hk hv in
/-- The tile of the output. -/
theorem result_real (b : Fin 1) (r : Fin 512) (e : Fin 128) :
    result (state (F := Ideal) q k v 6 le_rfl) (ix3 b r e) = ((Attention.out scale Q K V r e : ℝ) : EReal) := by
  have h := last_row q k v Q K V hq hk hv r
  generalize state (F := Ideal) q k v 6 le_rfl = x at h ⊢
  obtain ⟨M, -, h2, h3⟩ := h
  have hM := (Real.exp_pos (-(M * scale))).ne'
  have hL := (Attention.mass_pos scale Q K r).ne'
  refine (result_at _ b r e).trans ?_
  rw [h2, h3, Ideal.div_coe (mul_ne_zero hM hL), ← EReal.coe_mul, Attention.out_eq_div]
  congr 1
  field_simp

include hq hk hv in
/-- The tile of the log-sums. -/
theorem logSum_real (b : Fin 1) (r : Fin 512) (z : Fin 1) :
    logSum (state (F := Ideal) q k v 6 le_rfl) (ix3 b r z) = ((Real.log (Attention.mass scale Q K r) : ℝ) : EReal) := by
  have h := last_row q k v Q K V hq hk hv r
  generalize state (F := Ideal) q k v 6 le_rfl = x at h ⊢
  obtain ⟨M, h1, h2, -⟩ := h
  have hM := Real.exp_pos (-(M * scale))
  have hL := Attention.mass_pos scale Q K r
  refine (logSum_at _ b r z).trans ?_
  rw [h1, h2, Ideal.log_coe, if_neg (not_le.2 (mul_pos hM hL)), ← EReal.coe_mul, ← EReal.coe_add,
    Real.log_mul hM.ne' hL.ne', Real.log_exp]
  congr 1
  ring

end

end Fwd

end Cert.KernelIdeal.Value

end
-- ==== Proof.Forward.lean ====
/-
  THE FORWARD CALL'S ARRAYS. Point `t` of the 8 × 16 grid takes head `t / 16` and its queries `512 (t % 16)` on; where the
  three arrays the call reads hold reals, the outputs' array ends as softmax attention of them, head by head, and the
  log-sums' array as the logarithms of the rows' masses.
-/
module

public import proofs.«01_k».proof.Proof.ForwardValue

@[expose] public section

noncomputable section

namespace Cert.KernelIdeal.Value

open Cert.KernelIdeal Cert.KernelIdeal.Gen Idealize.ShloMosaic Idealize.ShloMosaic.TcCoe Idealize.SL.Sem
open Cert.Attention (scale)

/-- A tile's queries among the head's. -/
abbrev tile {D : ℕ} (X : Fin 8192 → Fin D → ℝ) (n : ℕ) (hn : n < 16) (r : Fin 512) (d : Fin D) : ℝ := X ⟨n * 512 + r, by omega⟩ d

namespace Fwd

theorem idx_head : ∀ t : Fin cfg0.N, win0_1.index t = ![t.val / 16, 0, 0] ∧ win0_2.index t = ![t.val / 16, 0, 0] :=
  (by decide +kernel : ∀ t : Fin grid0.N, _)
theorem idx_tile : ∀ t : Fin cfg0.N, win0_0.index t = ![t.val / 16, t.val % 16, 0] ∧ win0_3.index t = ![t.val / 16, t.val % 16, 0]
    ∧ win0_4.index t = ![t.val / 16, t.val % 16, 0] :=
  (by decide +kernel : ∀ t : Fin grid0.N, _)

variable (V : (c : Dev nD) → (b : Ref sig .tc) → Buf (Elt Ideal) ((c : Thread nD τ).loc b)) (c : Dev nD)
variable (Q : Fin 8 → Fin 8192 → Fin 192 → ℝ) (K : Fin 8 → Fin 8448 → Fin 192 → ℝ) (W : Fin 8 → Fin 8448 → Fin 128 → ℝ)
variable (hq : ∀ h i d, V c main_v0 (ix3 h i d) = (Q h i d : EReal)) (hk : ∀ h j d, V c main_v1 (ix3 h j d) = (K h j d : EReal))
  (hv : ∀ h j e, V c main_v2 (ix3 h j e) = (W h j e : EReal))

theorem point (t : Fin cfg0.N) : t.val / 16 < 8 ∧ t.val % 16 < 16 := by
  have : t.val < 128 := lt_of_lt_of_eq t.isLt N_0
  omega

include hq in
theorem block_q (t : Fin cfg0.N) (r : Fin 512) (d : Fin 192) : iblk0 V c 0 t (ix3 (0 : Fin 1) r d)
    = ((tile (Q ⟨t.val / 16, (point t).1⟩) (t.val % 16) (point t).2 r d : ℝ) : EReal) := by
  refine Eq.trans ?_ (hq _ _ _)
  blk_point [iblk0, idx_tile t]

include hk in
theorem block_k (t : Fin cfg0.N) (j : Fin 8448) (d : Fin 192) : iblk0 V c 1 t (ix3 (0 : Fin 1) j d)
    = ((K ⟨t.val / 16, (point t).1⟩ j d : ℝ) : EReal) := by
  refine Eq.trans ?_ (hk _ _ _)
  blk_point [iblk0, idx_head t]

include hv in
theorem block_v (t : Fin cfg0.N) (j : Fin 8448) (e : Fin 128) : iblk0 V c 2 t (ix3 (0 : Fin 1) j e)
    = ((W ⟨t.val / 16, (point t).1⟩ j e : ℝ) : EReal) := by
  refine Eq.trans ?_ (hv _ _ _)
  blk_point [iblk0, idx_head t]

include hq hk hv in
/-- The outputs. -/
theorem outputs : (dat0 V c).arrAt 3 cfg0.N = fun i => ((Attention.out scale (Q (i 0)) (K (i 0)) (W (i 0)) (i 1) (i 2) : ℝ) : EReal) := by
  refine (dat0 V c).arrAt_eq_of_covers 3 _ (by decide +kernel) fun t hf y => ?_
  blk_simp
  rw [after0_3]
  unfold outsAt0
  dsimp only
  rw [out0_3]
  generalize hz : ((View.whole main_v3_0).slice (win0_3.rect t)).emb y = z
  have h0 : z 0 = ⟨t.val / 16, (point t).1⟩ := Fin.ext (by subst hz; blk_simp [idx_tile t])
  have h1 : z 1 = ⟨t.val % 16 * 512 + (y 1).val, by have := (point t).2; have : (y 1).val < 512 := (y 1).isLt; show _ < 8192; omega⟩ :=
    Fin.ext (by subst hz; blk_simp [idx_tile t])
  have h2 : z 2 = y 2 := Fin.ext (by subst hz; blk_simp [idx_tile t])
  rw [h0, h1, h2]
  exact result_real _ _ _ _ _ _ (block_q V c Q hq t) (block_k V c K hk t) (block_v V c W hv t) (y 0) (y 1) (y 2)

include hq hk in
/-- The logarithms of the rows' masses. -/
theorem logSums (hv : ∀ h j e, V c main_v2 (ix3 h j e) = (W h j e : EReal)) :
    (dat0 V c).arrAt 4 cfg0.N = fun i => ((Real.log (Attention.mass scale (Q (i 0)) (K (i 0)) (i 1)) : ℝ) : EReal) := by
  refine (dat0 V c).arrAt_eq_of_covers 4 _ (by decide +kernel) fun t hf y => ?_
  blk_simp
  rw [after0_4]
  unfold outsAt0
  dsimp only
  rw [out0_4]
  generalize hz : ((View.whole main_v3_1).slice (win0_4.rect t)).emb y = z
  have h0 : z 0 = ⟨t.val / 16, (point t).1⟩ := Fin.ext (by subst hz; blk_simp [idx_tile t])
  have h1 : z 1 = ⟨t.val % 16 * 512 + (y 1).val, by have := (point t).2; have : (y 1).val < 512 := (y 1).isLt; show _ < 8192; omega⟩ :=
    Fin.ext (by subst hz; blk_simp [idx_tile t])
  rw [h0, h1]
  exact logSum_real _ _ _ _ _ _ (block_q V c Q hq t) (block_k V c K hk t) (block_v V c W hv t) (y 0) (y 1) (y 2)

end Fwd

end Cert.KernelIdeal.Value

end
-- ==== Proof.BackwardValue.lean ====
/-
  THE BACKWARD CALL'S TILE AT REAL BLOCKS. Where the blocks hold reals, the block of outputs softmax attention of them, and
  the block of log-sums the logarithms of the rows' masses, the tile's query gradient and its additions to the key and
  value gradients are the real ones of the tile's 512 queries.
-/
module

public import proofs.«01_k».proof.Proof.BackwardBody

@[expose] public section

noncomputable section

namespace Cert.KernelIdeal.Value

open Cert.KernelIdeal Cert.KernelIdeal.Gen Idealize.ShloMosaic Idealize.ShloMosaic.TcCoe Idealize.SL.Sem
open Cert.Attention (scale log2e)

namespace Bwd

section
variable (q : FVec Ideal S1x512x192 .bf16) (k : FVec Ideal S1x8448x192 .bf16) (v : FVec Ideal S1x8448x128 .bf16)
variable (o g : FVec Ideal S1x512x128 .f32) (l : FVec Ideal S1x512x1 .f32)
variable (Q : Fin 512 → Fin 192 → ℝ) (K : Fin 8448 → Fin 192 → ℝ) (V : Fin 8448 → Fin 128 → ℝ) (G : Fin 512 → Fin 128 → ℝ)
variable (hq : ∀ r d, q (ix3 (0 : Fin 1) r d) = (Q r d : EReal)) (hk : ∀ j d, k (ix3 (0 : Fin 1) j d) = (K j d : EReal))
  (hv : ∀ j e, v (ix3 (0 : Fin 1) j e) = (V j e : EReal)) (hg : ∀ r e, g (ix3 (0 : Fin 1) r e) = (G r e : EReal))
  (ho : ∀ r e, o (ix3 (0 : Fin 1) r e) = ((Attention.out scale Q K V r e : ℝ) : EReal))
  (hl : ∀ r, l (ix3 (0 : Fin 1) r (0 : Fin 1)) = ((Real.log (Attention.mass scale Q K r) : ℝ) : EReal))

include hq hk in
theorem score_real (r : Fin 512) (j : Fin 8448) : score q k r j = ((Attention.score Q K r j : ℝ) : EReal) := by
  simp only [score, hq, hk, ← EReal.coe_mul, Attention.coe_sum, zero_add]
  rfl

include hq hk hl in
theorem prob_real (r : Fin 512) (j : Fin 8448) : prob q k l r j = ((Attention.prob scale Q K r j : ℝ) : EReal) := by
  rw [prob, score_real q k Q K hq hk, hl, ← EReal.coe_mul, ← EReal.coe_mul, ← EReal.coe_sub, Ideal.exp2_coe, ← mul_assoc, ← sub_mul,
    Attention.two_rpow, Attention.exp_sub_log_mass]

include hv hg in
theorem dprob_real (r : Fin 512) (j : Fin 8448) : dprob v g r j = ((Attention.dprob V G r j : ℝ) : EReal) := by
  simp only [dprob, hv, hg, ← EReal.coe_mul, Attention.coe_sum, zero_add]
  rfl

include hg ho in
theorem delta_real (r : Fin 512) : delta o g r = ((Attention.delta scale Q K V G r : ℝ) : EReal) := by
  simp only [delta, ho, hg, ← EReal.coe_mul, Attention.coe_sum]
  rfl

include hq hk hv hg ho hl in
theorem dscore_real (r : Fin 512) (j : Fin 8448) : dscore q k v o g l r j = ((Attention.dscore scale Q K V G r j : ℝ) : EReal) := by
  rw [dscore, prob_real q k l Q K hq hk hl, dprob_real v g V G hv hg, delta_real o g Q K V G hg ho, ← EReal.coe_sub, ← EReal.coe_mul, ← EReal.coe_mul]
  rfl

include hq hk hv hg ho hl in
theorem keyPart_real (j : Fin 8448) (d : Fin 192) : keyPart q k v o g l j d = ((Attention.dkey scale Q K V G j d : ℝ) : EReal) := by
  simp only [keyPart, dscore_real q k v o g l Q K V G hq hk hv hg ho hl, hq, ← EReal.coe_mul, Attention.coe_sum, zero_add]
  rfl

include hq hk hg hl in
theorem valuePart_real (j : Fin 8448) (e : Fin 128) : valuePart q k g l j e = ((Attention.dvalue scale Q K G j e : ℝ) : EReal) := by
  simp only [valuePart, prob_real q k l Q K hq hk hl, hg, ← EReal.coe_mul, Attention.coe_sum, zero_add]
  rfl

include hq hk hv hg ho hl in
theorem query_real (r : Fin 512) (d : Fin 192) : query q k v o g l r d = ((Attention.dquery scale Q K V G r d : ℝ) : EReal) := by
  have h : ∀ (n : ℕ) (h : 1408 * n + 1408 ≤ 8448), queryPart q k v o g l n h r d
      = ((∑ j : Fin 1408, Attention.dscore scale Q K V G r ⟨1408 * n + j, by omega⟩ * K ⟨1408 * n + j, by omega⟩ d : ℝ) : EReal) := fun n h => by
    simp only [queryPart, dscore_real q k v o g l Q K V G hq hk hv hg ho hl, hk, ← EReal.coe_mul, Attention.coe_sum, zero_add]
  simp only [query, h, ← EReal.coe_add]
  rw [Attention.dquery, Fin.sum_univ_tiles 6 1408 rfl, Fin.sum_univ_six]
  rfl

end

end Bwd

end Cert.KernelIdeal.Value

end
-- ==== Proof.Backward.lean ====
/-
  THE BACKWARD CALL'S ARRAYS. Point `t` of the 8 × 16 grid takes head `t / 16` and its queries `512 (t % 16)` on. Where
  the arrays the call reads hold reals, softmax attention of them and the logarithms of the rows' masses, the gradient of
  the queries is written tile by tile, and those of the keys and of the values are a head's sixteen tiles' parts, added up.
-/
module

public import proofs.«01_k».proof.Proof.Forward
public import proofs.«01_k».proof.Proof.BackwardValue

@[expose] public section

noncomputable section

namespace Cert.KernelIdeal.Value

open Cert.KernelIdeal Cert.KernelIdeal.Gen Idealize.ShloMosaic Idealize.ShloMosaic.TcCoe Idealize.SL.Sem
open Cert.Attention (scale)

namespace Bwd

theorem idx_head : ∀ t : Fin cfg1.N, win1_1.index t = ![t.val / 16, 0, 0] ∧ win1_2.index t = ![t.val / 16, 0, 0]
    ∧ win1_7.index t = ![t.val / 16, 0, 0] ∧ win1_8.index t = ![t.val / 16, 0, 0] :=
  (by decide +kernel : ∀ t : Fin grid1.N, _)
theorem idx_tile : ∀ t : Fin cfg1.N, win1_0.index t = ![t.val / 16, t.val % 16, 0] ∧ win1_3.index t = ![t.val / 16, t.val % 16, 0]
    ∧ win1_4.index t = ![t.val / 16, t.val % 16, 0] ∧ win1_5.index t = ![t.val / 16, t.val % 16, 0] ∧ win1_6.index t = ![t.val / 16, t.val % 16, 0] :=
  (by decide +kernel : ∀ t : Fin grid1.N, _)

theorem point (t : Fin cfg1.N) : t.val / 16 < 8 ∧ t.val % 16 < 16 := by
  have : t.val < 128 := lt_of_lt_of_eq t.isLt N_1
  omega

/-- A point's head, and its tile's rows of an array of one. -/
abbrev hd (t : Fin cfg1.N) : Fin 8 := ⟨t.val / 16, (point t).1⟩
abbrev rows {D : ℕ} (X : Fin 8 → Fin 8192 → Fin D → ℝ) (t : Fin cfg1.N) : Fin 512 → Fin D → ℝ := tile (X (hd t)) (t.val % 16) (point t).2

variable (V : (c : Dev nD) → (b : Ref sig .tc) → Buf (Elt Ideal) ((c : Thread nD τ).loc b)) (c : Dev nD)
variable (Q : Fin 8 → Fin 8192 → Fin 192 → ℝ) (K : Fin 8 → Fin 8448 → Fin 192 → ℝ) (W : Fin 8 → Fin 8448 → Fin 128 → ℝ)
  (G : Fin 8 → Fin 8192 → Fin 128 → ℝ)
variable (hq : ∀ h i d, V c main_v0 (ix3 h i d) = (Q h i d : EReal)) (hk : ∀ h j d, V c main_v1 (ix3 h j d) = (K h j d : EReal))
  (hv : ∀ h j e, V c main_v2 (ix3 h j e) = (W h j e : EReal)) (hg : ∀ h i e, V c main_arg3 (ix3 h i e) = (G h i e : EReal))
  (ho : ∀ h i e, V c main_v3_0 (ix3 h i e) = ((Attention.out scale (Q h) (K h) (W h) i e : ℝ) : EReal))
  (hl : ∀ h i, V c main_v3_1 (ix3 h i (0 : Fin 1)) = ((Real.log (Attention.mass scale (Q h) (K h) i) : ℝ) : EReal))

/-! ## The blocks -/

include hq in
theorem block_q (t : Fin cfg1.N) (r : Fin 512) (d : Fin 192) : iblk1 V c 0 t (ix3 (0 : Fin 1) r d) = ((rows Q t r d : ℝ) : EReal) := by
  refine Eq.trans ?_ (hq _ _ _)
  blk_point [iblk1, idx_tile t]

include hk in
theorem block_k (t : Fin cfg1.N) (j : Fin 8448) (d : Fin 192) : iblk1 V c 1 t (ix3 (0 : Fin 1) j d) = ((K (hd t) j d : ℝ) : EReal) := by
  refine Eq.trans ?_ (hk _ _ _)
  blk_point [iblk1, idx_head t]

include hv in
theorem block_v (t : Fin cfg1.N) (j : Fin 8448) (e : Fin 128) : iblk1 V c 2 t (ix3 (0 : Fin 1) j e) = ((W (hd t) j e : ℝ) : EReal) := by
  refine Eq.trans ?_ (hv _ _ _)
  blk_point [iblk1, idx_head t]

include ho in
theorem block_o (t : Fin cfg1.N) (r : Fin 512) (e : Fin 128) : iblk1 V c 3 t (ix3 (0 : Fin 1) r e)
    = ((Attention.out scale (rows Q t) (K (hd t)) (W (hd t)) r e : ℝ) : EReal) := by
  refine Eq.trans ?_ (ho (hd t) ⟨t.val % 16 * 512 + r, by have := (point t).2; omega⟩ e)
  blk_point [iblk1, idx_tile t]

include hg in
theorem block_g (t : Fin cfg1.N) (r : Fin 512) (e : Fin 128) : iblk1 V c 4 t (ix3 (0 : Fin 1) r e) = ((rows G t r e : ℝ) : EReal) := by
  refine Eq.trans ?_ (hg _ _ _)
  blk_point [iblk1, idx_tile t]

include hl in
theorem block_l (t : Fin cfg1.N) (r : Fin 512) : iblk1 V c 5 t (ix3 (0 : Fin 1) r (0 : Fin 1))
    = ((Real.log (Attention.mass scale (rows Q t) (K (hd t)) r) : ℝ) : EReal) := by
  refine Eq.trans ?_ (hl (hd t) ⟨t.val % 16 * 512 + r, by have := (point t).2; omega⟩)
  blk_point [iblk1, idx_tile t]

/-! ## A head's tiles -/

/-- A sum over a head's queries is the sum over its tiles of the sums over a tile's. -/
theorem sum_tiles (f : Fin 8192 → ℝ) : ∑ s : Fin 16, ∑ r : Fin 512, f ⟨s.val * 512 + r, by omega⟩ = ∑ i, f i :=
  (Fin.sum_univ_tiles 16 512 rfl f).symm

/-- The parts of a head's gradients of the keys and of the values that point `t` adds. -/
abbrev kpart (t : Fin cfg1.N) (j : Fin 8448) (d : Fin 192) : ℝ := Attention.dkey scale (rows Q t) (K (hd t)) (W (hd t)) (rows G t) j d
abbrev vpart (t : Fin cfg1.N) (j : Fin 8448) (e : Fin 128) : ℝ := Attention.dvalue scale (rows Q t) (K (hd t)) (rows G t) j e

theorem kpart_eq (t : Fin cfg1.N) (h : Fin 8) (s : Fin 16) (e : t.val / 16 = h.val) (f : t.val % 16 = s.val) (j : Fin 8448) (d : Fin 192) :
    kpart Q K W G t j d = Attention.dkey scale (tile (Q h) s s.isLt) (K h) (W h) (tile (G h) s s.isLt) j d := by
  obtain rfl : h = hd t := Fin.ext e.symm
  obtain rfl : s = ⟨t.val % 16, (point t).2⟩ := Fin.ext f.symm
  rfl

theorem vpart_eq (t : Fin cfg1.N) (h : Fin 8) (s : Fin 16) (e : t.val / 16 = h.val) (f : t.val % 16 = s.val) (j : Fin 8448) (d : Fin 128) :
    vpart Q K G t j d = Attention.dvalue scale (tile (Q h) s s.isLt) (K h) (tile (G h) s s.isLt) j d := by
  obtain rfl : h = hd t := Fin.ext e.symm
  obtain rfl : s = ⟨t.val % 16, (point t).2⟩ := Fin.ext f.symm
  rfl

/-! ## The arrays -/

include hq hk hv hg ho hl in
/-- The gradient of the queries. -/
theorem queries : (dat1 V c).arrAt 6 cfg1.N
    = fun i => ((Attention.dquery scale (Q (i 0)) (K (i 0)) (W (i 0)) (G (i 0)) (i 1) (i 2) : ℝ) : EReal) := by
  refine (dat1 V c).arrAt_eq_of_covers 6 _ (by decide +kernel) fun t hf y => ?_
  blk_simp
  rw [after1_6]
  have e : (outsAt1 V c t.val t.isLt).1 = fun y => query (iblk1 V c 0 t) (iblk1 V c 1 t) (iblk1 V c 2 t) (iblk1 V c 3 t) (iblk1 V c 4 t) (iblk1 V c 5 t) (y 1) (y 2) := by
    by_cases h : t.val % 16 = 0
    · rw [outsAt1_A V c t h]; dsimp only; rw [out1A_6]
    · rw [outsAt1_B V c t h]; dsimp only; rw [out1B_6]
  rw [e]
  generalize hz : ((View.whole main_v4_0).slice (win1_6.rect t)).emb y = z
  have h0 : z 0 = hd t := Fin.ext (by subst hz; blk_simp [idx_tile t])
  have h1 : z 1 = ⟨t.val % 16 * 512 + (y 1).val, by have := (point t).2; have : (y 1).val < 512 := (y 1).isLt; show _ < 8192; omega⟩ :=
    Fin.ext (by subst hz; blk_simp [idx_tile t])
  have h2 : z 2 = y 2 := Fin.ext (by subst hz; blk_simp [idx_tile t])
  rw [h0, h1, h2]
  exact query_real _ _ _ _ _ _ _ _ _ _ (block_q V c Q hq t) (block_k V c K hk t) (block_v V c W hv t) (block_g V c G hg t)
    (block_o V c Q K W ho t) (block_l V c Q K hl t) (y 1) (y 2)

include hq hk hv hg ho hl in
theorem keys_step (t : Fin cfg1.N) (y : S1x8448x192.Idx) :
    keyPart (iblk1 V c 0 t) (iblk1 V c 1 t) (iblk1 V c 2 t) (iblk1 V c 3 t) (iblk1 V c 4 t) (iblk1 V c 5 t) (y 1) (y 2)
      = ((kpart Q K W G t (y 1) (y 2) : ℝ) : EReal) :=
  keyPart_real _ _ _ _ _ _ _ _ _ _ (block_q V c Q hq t) (block_k V c K hk t) (block_v V c W hv t) (block_g V c G hg t)
    (block_o V c Q K W ho t) (block_l V c Q K hl t) (y 1) (y 2)

include hq hk hg hl in
theorem values_step (t : Fin cfg1.N) (y : S1x8448x128.Idx) :
    valuePart (iblk1 V c 0 t) (iblk1 V c 1 t) (iblk1 V c 4 t) (iblk1 V c 5 t) (y 1) (y 2) = ((vpart Q K G t (y 1) (y 2) : ℝ) : EReal) :=
  valuePart_real _ _ _ _ _ _ _ (block_q V c Q hq t) (block_k V c K hk t) (block_g V c G hg t) (block_l V c Q K hl t) (y 1) (y 2)

include hq hk hv hg ho hl in
/-- The gradient of the keys. -/
theorem keys : (dat1 V c).arrAt 7 cfg1.N
    = fun i => ((Attention.dkey scale (Q (i 0)) (K (i 0)) (W (i 0)) (G (i 0)) (i 1) (i 2) : ℝ) : EReal) := by
  refine (dat1 V c).arrAt_eq_of_covers 7 _ (by decide +kernel) fun t hf y => ?_
  blk_simp
  rw [after1_7, Pipeline.eq_sum_fin_of_reset_step_apply_of_flush (fun n h => (outsAt1 V c n h).2.1) 16 (fun _ => (0 : EReal))
    (fun t y => ((kpart Q K W G t (y 1) (y 2) : ℝ) : EReal))
    (fun t h y => by
      rw [outsAt1_A V c t h, ← keys_step V c Q K W G hq hk hv hg ho hl t y]
      dsimp only
      rw [out1A_7])
    (fun t h y => by
      rw [outsAt1_B V c t h, ← keys_step V c Q K W G hq hk hv hg ho hl t y]
      dsimp only
      rw [out1B_7])
    t ((flush1_7 t).mp hf) _]
  show (0 : EReal) + ∑ s : Fin 16, _ = _
  rw [zero_add, Attention.coe_sum]
  generalize hz : ((View.whole main_v4_1).slice (win1_7.rect t)).emb y = z
  have h0 : z 0 = hd t := Fin.ext (by subst hz; blk_simp [idx_head t])
  have h1 : z 1 = y 1 := Fin.ext (by subst hz; blk_simp [idx_head t])
  have h2 : z 2 = y 2 := Fin.ext (by subst hz; blk_simp [idx_head t])
  rw [h0, h1, h2]
  refine congrArg _ (Eq.trans (Finset.sum_congr rfl fun s _ => ?_) (sum_tiles fun i => Attention.dscore scale (Q (hd t)) (K (hd t)) (W (hd t)) (G (hd t)) i (y 1) * Q (hd t) i (y 2)))
  exact kpart_eq Q K W G _ (hd t) s (by show (16 * (t.val / 16) + s.val) / 16 = t.val / 16; omega) (by show (16 * (t.val / 16) + s.val) % 16 = s.val; omega) (y 1) (y 2)

include hq hk hg hl in
/-- The gradient of the values. -/
theorem values : (dat1 V c).arrAt 8 cfg1.N
    = fun i => ((Attention.dvalue scale (Q (i 0)) (K (i 0)) (G (i 0)) (i 1) (i 2) : ℝ) : EReal) := by
  refine (dat1 V c).arrAt_eq_of_covers 8 _ (by decide +kernel) fun t hf y => ?_
  blk_simp
  rw [after1_8, Pipeline.eq_sum_fin_of_reset_step_apply_of_flush (fun n h => (outsAt1 V c n h).2.2) 16 (fun _ => (0 : EReal))
    (fun t y => ((vpart Q K G t (y 1) (y 2) : ℝ) : EReal))
    (fun t h y => by
      rw [outsAt1_A V c t h, ← values_step V c Q K G hq hk hg hl t y]
      dsimp only
      rw [out1A_8])
    (fun t h y => by
      rw [outsAt1_B V c t h, ← values_step V c Q K G hq hk hg hl t y]
      dsimp only
      rw [out1B_8])
    t ((flush1_8 t).mp hf) _]
  show (0 : EReal) + ∑ s : Fin 16, _ = _
  rw [zero_add, Attention.coe_sum]
  generalize hz : ((View.whole main_v4_2).slice (win1_8.rect t)).emb y = z
  have h0 : z 0 = hd t := Fin.ext (by subst hz; blk_simp [idx_head t])
  have h1 : z 1 = y 1 := Fin.ext (by subst hz; blk_simp [idx_head t])
  have h2 : z 2 = y 2 := Fin.ext (by subst hz; blk_simp [idx_head t])
  rw [h0, h1, h2]
  refine congrArg _ (Eq.trans (Finset.sum_congr rfl fun s _ => ?_) (sum_tiles fun i => Attention.prob scale (Q (hd t)) (K (hd t)) i (y 1) * G (hd t) i (y 2)))
  exact vpart_eq Q K G _ (hd t) s (by show (16 * (t.val / 16) + s.val) / 16 = t.val / 16; omega) (by show (16 * (t.val / 16) + s.val) % 16 = s.val; omega) (y 1) (y 2)

end Bwd

end Cert.KernelIdeal.Value

end
-- ==== Proof.KernelRun.lean ====
/-
  THE KERNEL'S RUN AT REAL ARGUMENTS. Every execution ends with softmax attention of the arguments in the first result and
  its gradients in the other three, head by head. The host's three casts are the identity over the extended reals, so the
  two calls read the arguments themselves.
-/
module

public import proofs.«01_k».proof.Proof.Backward

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention (scale)

local notation "𝕄" => MT nD τ sig Unit (Elt Ideal) ℕ (UR sig nD τ) ℕ

variable (m : (ℓ : Loc nD τ sig) → Buf (Elt Ideal) ℓ) (ρ : Dev nD → PrngReg)

/-! ## What the two calls read -/

theorem V1_q (c : Dev nD) : V1 m ρ c main_v0 = m ((c : Thread nD τ).loc main_arg0) := by
  show StableHlo.after hostOps0 _ _ = _
  after_results
  rfl
theorem V1_k (c : Dev nD) : V1 m ρ c main_v1 = m ((c : Thread nD τ).loc main_arg1) := by
  show StableHlo.after hostOps0 _ _ = _
  after_results
  rfl
theorem V1_v (c : Dev nD) : V1 m ρ c main_v2 = m ((c : Thread nD τ).loc main_arg2) := by
  show StableHlo.after hostOps0 _ _ = _
  after_results
  rfl

theorem V2_q (c : Dev nD) : V2 m ρ c main_v0 = m ((c : Thread nD τ).loc main_arg0) := (W2_of m ρ c main_v0 (by decide +kernel)).trans (V1_q m ρ c)
theorem V2_k (c : Dev nD) : V2 m ρ c main_v1 = m ((c : Thread nD τ).loc main_arg1) := (W2_of m ρ c main_v1 (by decide +kernel)).trans (V1_k m ρ c)
theorem V2_v (c : Dev nD) : V2 m ρ c main_v2 = m ((c : Thread nD τ).loc main_arg2) := (W2_of m ρ c main_v2 (by decide +kernel)).trans (V1_v m ρ c)
theorem V2_g (c : Dev nD) : V2 m ρ c main_arg3 = m ((c : Thread nD τ).loc main_arg3) := W2_args m ρ c main_arg3 (by decide)
theorem V2_o (c : Dev nD) : V2 m ρ c main_v3_0 = (dat0 (V1 m ρ) c).arrAt 3 cfg0.N := W2_arr m ρ c 3
theorem V2_l (c : Dev nD) : V2 m ρ c main_v3_1 = (dat0 (V1 m ρ) c).arrAt 4 cfg0.N := W2_arr m ρ c 4

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-! ## The results -/

/-- The arguments' entries as reals, by head, row and column. -/
def argQ (c : Dev nD) (h : Fin 8) (i : Fin 8192) (d : Fin 192) : ℝ := EReal.toReal (m ((c : Thread nD τ).loc main_arg0) (ix3 h i d))
def argK (c : Dev nD) (h : Fin 8) (j : Fin 8448) (d : Fin 192) : ℝ := EReal.toReal (m ((c : Thread nD τ).loc main_arg1) (ix3 h j d))
def argV (c : Dev nD) (h : Fin 8) (j : Fin 8448) (e : Fin 128) : ℝ := EReal.toReal (m ((c : Thread nD τ).loc main_arg2) (ix3 h j e))
def argG (c : Dev nD) (h : Fin 8) (i : Fin 8192) (e : Fin 128) : ℝ := EReal.toReal (m ((c : Thread nD τ).loc main_arg3) (ix3 h i e))

/-- Every entry of every argument is a real. -/
structure RealArgs : Prop where
  q : ∀ c h i d, m (((c : Dev nD) : Thread nD τ).loc main_arg0) (ix3 h i d) = (argQ m c h i d : EReal)
  k : ∀ c h j d, m (((c : Dev nD) : Thread nD τ).loc main_arg1) (ix3 h j d) = (argK m c h j d : EReal)
  v : ∀ c h j e, m (((c : Dev nD) : Thread nD τ).loc main_arg2) (ix3 h j e) = (argV m c h j e : EReal)
  g : ∀ c h i e, m (((c : Dev nD) : Thread nD τ).loc main_arg3) (ix3 h i e) = (argG m c h i e : EReal)

variable {m} (R : RealArgs m) (c : Dev nD)
include R

theorem V1_q_real (h i d) : V1 m ρ c main_v0 (ix3 h i d) = (argQ m c h i d : EReal) := (congrFun (V1_q m ρ c) _).trans (R.q c h i d)
theorem V1_k_real (h j d) : V1 m ρ c main_v1 (ix3 h j d) = (argK m c h j d : EReal) := (congrFun (V1_k m ρ c) _).trans (R.k c h j d)
theorem V1_v_real (h j e) : V1 m ρ c main_v2 (ix3 h j e) = (argV m c h j e : EReal) := (congrFun (V1_v m ρ c) _).trans (R.v c h j e)
theorem V2_q_real (h i d) : V2 m ρ c main_v0 (ix3 h i d) = (argQ m c h i d : EReal) := (congrFun (V2_q m ρ c) _).trans (R.q c h i d)
theorem V2_k_real (h j d) : V2 m ρ c main_v1 (ix3 h j d) = (argK m c h j d : EReal) := (congrFun (V2_k m ρ c) _).trans (R.k c h j d)
theorem V2_v_real (h j e) : V2 m ρ c main_v2 (ix3 h j e) = (argV m c h j e : EReal) := (congrFun (V2_v m ρ c) _).trans (R.v c h j e)
theorem V2_g_real (h i e) : V2 m ρ c main_arg3 (ix3 h i e) = (argG m c h i e : EReal) := (congrFun (V2_g m ρ c) _).trans (R.g c h i e)

theorem out_eq : V2 m ρ c main_v3_0 = fun i => ((Attention.out scale (argQ m c (i 0)) (argK m c (i 0)) (argV m c (i 0)) (i 1) (i 2) : ℝ) : EReal) :=
  (V2_o m ρ c).trans (Fwd.outputs (V1 m ρ) c (argQ m c) (argK m c) (argV m c) (V1_q_real ρ R c) (V1_k_real ρ R c) (V1_v_real ρ R c))
theorem logSum_eq : V2 m ρ c main_v3_1 = fun i => ((Real.log (Attention.mass scale (argQ m c (i 0)) (argK m c (i 0)) (i 1)) : ℝ) : EReal) :=
  (V2_l m ρ c).trans (Fwd.logSums (V1 m ρ) c (argQ m c) (argK m c) (argV m c) (V1_q_real ρ R c) (V1_k_real ρ R c) (V1_v_real ρ R c))

theorem res_o : W3 m ρ c (Proc.devRef .tc main_v3_0) = fun i => ((Attention.out scale (argQ m c (i 0)) (argK m c (i 0)) (argV m c (i 0)) (i 1) (i 2) : ℝ) : EReal) :=
  (W3_of m ρ c main_v3_0 (by decide +kernel)).trans (out_eq ρ R c)
theorem res_dq : W3 m ρ c (Proc.devRef .tc main_v4_0)
    = fun i => ((Attention.dquery scale (argQ m c (i 0)) (argK m c (i 0)) (argV m c (i 0)) (argG m c (i 0)) (i 1) (i 2) : ℝ) : EReal) :=
  (W3_arr m ρ c 6).trans (Bwd.queries (V2 m ρ) c (argQ m c) (argK m c) (argV m c) (argG m c) (V2_q_real ρ R c) (V2_k_real ρ R c) (V2_v_real ρ R c)
    (V2_g_real ρ R c) (fun h i e => congrFun (out_eq ρ R c) _) (fun h i => congrFun (logSum_eq ρ R c) _))
theorem res_dk : W3 m ρ c (Proc.devRef .tc main_v4_1)
    = fun i => ((Attention.dkey scale (argQ m c (i 0)) (argK m c (i 0)) (argV m c (i 0)) (argG m c (i 0)) (i 1) (i 2) : ℝ) : EReal) :=
  (W3_arr m ρ c 7).trans (Bwd.keys (V2 m ρ) c (argQ m c) (argK m c) (argV m c) (argG m c) (V2_q_real ρ R c) (V2_k_real ρ R c) (V2_v_real ρ R c)
    (V2_g_real ρ R c) (fun h i e => congrFun (out_eq ρ R c) _) (fun h i => congrFun (logSum_eq ρ R c) _))
theorem res_dv : W3 m ρ c (Proc.devRef .tc main_v4_2)
    = fun i => ((Attention.dvalue scale (argQ m c (i 0)) (argK m c (i 0)) (argG m c (i 0)) (i 1) (i 2) : ℝ) : EReal) :=
  (W3_arr m ρ c 8).trans (Bwd.values (V2 m ρ) c (argQ m c) (argK m c) (argG m c) (V2_q_real ρ R c) (V2_k_real ρ R c)
    (V2_g_real ρ R c) (fun h i => congrFun (logSum_eq ρ R c) _))

omit c in
/-- THE KERNEL'S RUN: attention and its three gradients, the arguments as they were. -/
theorem run : θ_run defs (onTc (τ := τ) (main (F := Ideal))) ⟨m, fun _ => 0, ρ⟩ (fun r => ∀ c : Dev nD,
      r.2.mem ((c.tc : Thread nD τ).loc main_v3_0)
          = (fun i => ((Attention.out scale (argQ m c (i 0)) (argK m c (i 0)) (argV m c (i 0)) (i 1) (i 2) : ℝ) : EReal))
      ∧ r.2.mem ((c.tc : Thread nD τ).loc main_v4_0)
          = (fun i => ((Attention.dquery scale (argQ m c (i 0)) (argK m c (i 0)) (argV m c (i 0)) (argG m c (i 0)) (i 1) (i 2) : ℝ) : EReal))
      ∧ r.2.mem ((c.tc : Thread nD τ).loc main_v4_1)
          = (fun i => ((Attention.dkey scale (argQ m c (i 0)) (argK m c (i 0)) (argV m c (i 0)) (argG m c (i 0)) (i 1) (i 2) : ℝ) : EReal))
      ∧ r.2.mem ((c.tc : Thread nD τ).loc main_v4_2)
          = (fun i => ((Attention.dvalue scale (argQ m c (i 0)) (argK m c (i 0)) (argG m c (i 0)) (i 1) (i 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3_0 (by decide))).trans (res_o ρ R c), (h c _ (mem_uc main_v4_0 (by decide))).trans (res_dq ρ R c),
      (h c _ (mem_uc main_v4_1 (by decide))).trans (res_dk ρ R c), (h c _ (mem_uc main_v4_2 (by decide))).trans (res_dv ρ R c),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c)⟩)
    (launch m ρ)

end Cert.KernelIdeal.Value

end
-- ==== Proof.ReferenceValue.lean ====
/-
  THE REFERENCE AT REAL ARGUMENTS. Softmax with the row's maximum subtracted, and its gradients as the reference writes
  them, are those of `Attention.lean`, head by head, where the four arguments hold reals.
-/
module

public import proofs.«01_k».proof.Proof.Gen.ReferenceIdeal.Read
public import proofs.«01_k».proof.Proof.Attention

@[expose] public section

noncomputable section

namespace Cert.ReferenceIdeal.Value

open Cert.ReferenceIdeal Cert.ReferenceIdeal.Gen Cert.ReferenceIdeal.Read Idealize.ShloMosaic Idealize.ShloMosaic.TcCoe Idealize.SL.Sem
open Cert.Attention (scale)

section
variable (x0 : (⟨S8x8192x192, .f32⟩ : BufTy).Contents (Elt Ideal)) (x1 : (⟨S8x8448x192, .f32⟩ : BufTy).Contents (Elt Ideal))
  (x2 : (⟨S8x8448x128, .f32⟩ : BufTy).Contents (Elt Ideal)) (x3 : (⟨S8x8192x128, .f32⟩ : BufTy).Contents (Elt Ideal))
variable (Q : Fin 8 → Fin 8192 → Fin 192 → ℝ) (K : Fin 8 → Fin 8448 → Fin 192 → ℝ) (V : Fin 8 → Fin 8448 → Fin 128 → ℝ)
  (G : Fin 8 → Fin 8192 → Fin 128 → ℝ)
variable (hq : ∀ h i d, x0 (ix3 h i d) = (Q h i d : EReal)) (hk : ∀ h j d, x1 (ix3 h j d) = (K h j d : EReal))
  (hv : ∀ h j e, x2 (ix3 h j e) = (V h j e : EReal)) (hg : ∀ h i e, x3 (ix3 h i e) = (G h i e : EReal))

/-- The square root of the head's width. -/
theorem width_sqrt (i : S_.Idx) : val_main_v1 (F := Ideal) i = ((Real.sqrt 192 : ℝ) : EReal) := by
  rw [val_main_v1_apply]
  show Ideal.sqrt (Ideal.ofBits .f32 0x43400000#32) = _
  rw [Attention.ofBits_width, Ideal.sqrt_coe, if_neg (by norm_num)]

include hq hk in
theorem scaled_real (h : Fin 8) (i : Fin 8192) (j : Fin 8448) :
    val_main_v3 (F := Ideal) x0 x1 (ix3 h i j) = ((Attention.score (Q h) (K h) i j * scale : ℝ) : EReal) := by
  have e : val_main_v0 (F := Ideal) x0 x1 (ix3 h i j) = ((Attention.score (Q h) (K h) i j : ℝ) : EReal) := by
    rw [val_main_v0_apply]
    refine (Finset.sum_congr rfl fun d _ => ?_).trans (Attention.coe_sum _ _)
    rw [EReal.coe_mul, ← hq, ← hk]
    congr 2
    all_goals idx_ext
  rw [val_main_v3_apply, e, val_main_v2_apply, width_sqrt]
  show Ideal.div _ _ = _
  rw [Ideal.div_coe (by positivity), ← EReal.coe_mul, one_div]
  rfl

include hq hk in
/-- The number subtracted from a row's scores is a real. -/
theorem shift_real (h : Fin 8) (i : Fin 8192) : ∃ x : ℝ, val_main_v11 (F := Ideal) x0 x1 (ix2 h i) = (x : EReal) := by
  obtain ⟨x, hx⟩ := Attention.fold_max_coe fun j => Attention.score (Q h) (K h) i j * scale
  refine ⟨x, ?_⟩
  rw [val_main_v11_apply, val_main_v10_apply]
  pointwise [val_main_v4, val_main_cst_2, val_main_cst_0]
  simp only [scaled_real x0 x1 Q K hq hk, Attention.ofBits_neg_inf]
  exact (max_eq_right bot_le).trans hx

include hq hk in
/-- A row's exponentials, its sum of them, and its probabilities, with `x` subtracted from the row's scores. -/
theorem weights_real (h : Fin 8) (i : Fin 8192) (x : ℝ) (hx : val_main_v11 (F := Ideal) x0 x1 (ix2 h i) = (x : EReal)) (j : Fin 8448) :
    val_main_v24 (F := Ideal) x0 x1 (ix3 h i j) = ((Real.exp (Attention.score (Q h) (K h) i j * scale - x) : ℝ) : EReal) := by
  have e : val_main_v22 (F := Ideal) x0 x1 (ix3 h i j) = (x : EReal) := by
    rw [val_main_v22_apply, val_main_v21_apply, ← hx]
    exact congrArg (val_main_v11 (F := Ideal) x0 x1) (by idx_ext)
  rw [val_main_v24_apply, val_main_v23_apply, scaled_real x0 x1 Q K hq hk, e]
  rw [Ideal.hostUnary_exp_def, Ideal.subf_def, ← EReal.coe_sub, Ideal.exp_coe]

include hq hk in
theorem mass_real (h : Fin 8) (i : Fin 8192) (x : ℝ) (hx : val_main_v11 (F := Ideal) x0 x1 (ix2 h i) = (x : EReal)) (z : Fin 1) :
    val_main_v26 (F := Ideal) x0 x1 (ix3 h i z) = ((∑ j, Real.exp (Attention.score (Q h) (K h) i j * scale - x) : ℝ) : EReal) := by
  rw [val_main_v26_apply, val_main_v25_apply, val_main_cst_8_apply]
  rw [show (FloatOps.ofBits .f32 0x00000000#32 : Ideal .f32) = 0 from Ideal.ofBits_zero .f32, zero_add, ← Attention.coe_sum]
  refine Finset.sum_congr rfl fun j _ => ?_
  rw [← weights_real x0 x1 Q K hq hk h i x hx j]
  exact congrArg (val_main_v24 (F := Ideal) x0 x1) (by idx_ext)

theorem mass_ne (h : Fin 8) (i : Fin 8192) (x : ℝ) : (∑ j, Real.exp (Attention.score (Q h) (K h) i j * scale - x)) ≠ 0 :=
  (Finset.sum_pos (fun j _ => Real.exp_pos _) ⟨0, Finset.mem_univ _⟩).ne'

include hq hk in
theorem prob_real (h : Fin 8) (i : Fin 8192) (j : Fin 8448) :
    val_main_v28 (F := Ideal) x0 x1 (ix3 h i j) = ((Attention.prob scale (Q h) (K h) i j : ℝ) : EReal) := by
  obtain ⟨x, hx⟩ := shift_real x0 x1 Q K hq hk h i
  have e : val_main_v27 (F := Ideal) x0 x1 (ix3 h i j) = ((∑ j, Real.exp (Attention.score (Q h) (K h) i j * scale - x) : ℝ) : EReal) := by
    rw [val_main_v27_apply, ← mass_real x0 x1 Q K hq hk h i x hx 0]
    exact congrArg (val_main_v26 (F := Ideal) x0 x1) (by idx_ext)
  rw [val_main_v28_apply, weights_real x0 x1 Q K hq hk h i x hx, e]
  show Ideal.div _ _ = _
  rw [Ideal.div_coe (mass_ne Q K h i x), ← EReal.coe_mul, Attention.shift_div_shift]

include hq hk hv in
/-- The reference's output. -/
theorem out_real (h : Fin 8) (i : Fin 8192) (e : Fin 128) :
    val_main_v32 (F := Ideal) x0 x1 x2 (ix3 h i e) = ((Attention.out scale (Q h) (K h) (V h) i e : ℝ) : EReal) := by
  rw [val_main_v32_apply]
  refine (Finset.sum_congr rfl fun j _ => ?_).trans (Attention.coe_sum _ _)
  rw [EReal.coe_mul, ← hv, ← prob_real x0 x1 Q K hq hk]
  congr 2
  all_goals idx_ext

include hq hk hg in
/-- The reference's gradient of the values. -/
theorem dvalue_real (h : Fin 8) (j : Fin 8448) (e : Fin 128) :
    val_main_v34 (F := Ideal) x0 x1 x3 (ix3 h j e) = ((Attention.dvalue scale (Q h) (K h) (G h) j e : ℝ) : EReal) := by
  rw [val_main_v34_apply, val_main_v33_apply]
  refine (Finset.sum_congr rfl fun i _ => ?_).trans (Attention.coe_sum _ _)
  rw [mul_comm, EReal.coe_mul, ← hg, ← prob_real x0 x1 Q K hq hk]
  congr 2
  all_goals idx_ext

include hv hg in
theorem dprob_real (h : Fin 8) (i : Fin 8192) (j : Fin 8448) :
    val_main_v35 (F := Ideal) x2 x3 (ix3 h i j) = ((Attention.dprob (V h) (G h) i j : ℝ) : EReal) := by
  rw [val_main_v35_apply]
  refine (Finset.sum_congr rfl fun e _ => ?_).trans (Attention.coe_sum _ _)
  rw [EReal.coe_mul, ← hv, ← hg]
  congr 2
  all_goals idx_ext

include hq hk hv hg in
/-- The gradient of an unscaled score, as the reference computes it. -/
theorem dscore_real (h : Fin 8) (i : Fin 8192) (j : Fin 8448) :
    val_main_v49 (F := Ideal) x0 x1 x2 x3 (ix3 h i j) = ((Attention.dscore scale (Q h) (K h) (V h) (G h) i j : ℝ) : EReal) := by
  obtain ⟨x, hx⟩ := shift_real x0 x1 Q K hq hk h i
  have w := weights_real x0 x1 Q K hq hk h i x hx
  have n := mass_ne Q K h i x
  have s : ∀ z : Fin 1, val_main_v31 (F := Ideal) x0 x1 (ix3 h i z)
      = ((1 * (1 / ((∑ l, Real.exp (Attention.score (Q h) (K h) i l * scale - x)) * ∑ l, Real.exp (Attention.score (Q h) (K h) i l * scale - x))) : ℝ) : EReal) := fun z => by
    rw [val_main_v31_apply, val_main_v30_apply, val_main_cst_9_apply, val_main_v29_apply, mass_real x0 x1 Q K hq hk h i x hx]
    show Ideal.div (Ideal.ofBits .f32 0x3F800000#32) (_ * _) = _
    rw [Attention.ofBits_one, ← EReal.coe_mul, Ideal.div_coe (mul_ne_zero n n), EReal.coe_mul, EReal.coe_one]
  have t : ∀ j', val_main_v38 (F := Ideal) x0 x1 x2 x3 (ix3 h i j') = ((Attention.dprob (V h) (G h) i j'
      * (1 * (1 / ((∑ l, Real.exp (Attention.score (Q h) (K h) i l * scale - x)) * ∑ l, Real.exp (Attention.score (Q h) (K h) i l * scale - x))))
      * Real.exp (Attention.score (Q h) (K h) i j' * scale - x) : ℝ) : EReal) := fun j' => by
    have e : val_main_v36 (F := Ideal) x0 x1 (ix3 h i j') = val_main_v31 (F := Ideal) x0 x1 (ix3 h i (0 : Fin 1)) := by
      rw [val_main_v36_apply]
      exact congrArg (val_main_v31 (F := Ideal) x0 x1) (by idx_ext)
    rw [val_main_v38_apply, val_main_v37_apply, w, dprob_real x2 x3 V G hv hg, e, s, EReal.coe_mul, EReal.coe_mul]
    rfl
  have u : val_main_v45 (F := Ideal) x0 x1 x2 x3 (ix3 h i j) = ((-∑ j', Attention.dprob (V h) (G h) i j'
      * (1 * (1 / ((∑ l, Real.exp (Attention.score (Q h) (K h) i l * scale - x)) * ∑ l, Real.exp (Attention.score (Q h) (K h) i l * scale - x))))
      * Real.exp (Attention.score (Q h) (K h) i j' * scale - x) : ℝ) : EReal) := by
    rw [val_main_v45_apply, val_main_v44_apply, val_main_cst_11_apply, Fin.sum_univ_one, val_main_v41_apply, val_main_v40_apply, val_main_v39_apply, val_main_cst_10_apply]
    rw [show (FloatOps.ofBits .f32 0x00000000#32 : Ideal .f32) = 0 from Ideal.ofBits_zero .f32]
    show 0 + -(0 + _) = _
    rw [zero_add, zero_add, EReal.coe_neg, ← Attention.coe_sum]
    refine congrArg Neg.neg (Finset.sum_congr rfl fun j' _ => ?_)
    rw [← t]
    exact congrArg (val_main_v38 (F := Ideal) x0 x1 x2 x3) (by idx_ext)
  have v : val_main_v42 (F := Ideal) x0 x1 (ix3 h i j) = ((∑ j, Real.exp (Attention.score (Q h) (K h) i j * scale - x) : ℝ) : EReal) := by
    rw [val_main_v42_apply, ← mass_real x0 x1 Q K hq hk h i x hx 0]
    exact congrArg (val_main_v26 (F := Ideal) x0 x1) (by idx_ext)
  rw [val_main_v49_apply, val_main_v48_apply, width_sqrt, val_main_v47_apply, val_main_v46_apply, val_main_v43_apply, u, v, w, dprob_real x2 x3 V G hv hg]
  show Ideal.div ((Ideal.div _ _ + _) * _) _ = _
  rw [Ideal.div_coe n, Ideal.div_coe (by positivity), ← EReal.coe_mul, ← EReal.coe_add, ← EReal.coe_mul, ← EReal.coe_mul,
    ← Attention.dscore_shift scale (Q h) (K h) (V h) (G h) x i j, one_div (Real.sqrt 192)]
  rfl

include hq hk hv hg in
/-- The reference's gradient of the keys. -/
theorem dkey_real (h : Fin 8) (j : Fin 8448) (d : Fin 192) :
    val_main_v50 (F := Ideal) x0 x1 x2 x3 (ix3 h j d) = ((Attention.dkey scale (Q h) (K h) (V h) (G h) j d : ℝ) : EReal) := by
  rw [val_main_v50_apply]
  refine (Finset.sum_congr rfl fun i _ => ?_).trans (Attention.coe_sum _ _)
  rw [EReal.coe_mul, ← hq, ← dscore_real x0 x1 x2 x3 Q K V G hq hk hv hg]
  congr 2
  all_goals idx_ext

include hq hk hv hg in
/-- The reference's gradient of the queries. -/
theorem dquery_real (h : Fin 8) (i : Fin 8192) (d : Fin 192) :
    val_main_v51 (F := Ideal) x0 x1 x2 x3 (ix3 h i d) = ((Attention.dquery scale (Q h) (K h) (V h) (G h) i d : ℝ) : EReal) := by
  rw [val_main_v51_apply]
  refine (Finset.sum_congr rfl fun j _ => ?_).trans (Attention.coe_sum _ _)
  rw [EReal.coe_mul, ← hk, ← dscore_real x0 x1 x2 x3 Q K V G hq hk hv hg]
  congr 2
  all_goals idx_ext

end

end Cert.ReferenceIdeal.Value

end
-- ==== Proof.ReferenceRun.lean ====
/-
  THE REFERENCE'S RUN AT REAL ARGUMENTS. Its composed terms are softmax attention and its gradients.
-/
module

public import proofs.«01_k».proof.Proof.ReferenceValue
public import proofs.«01_k».proof.Proof.Gen.ReferenceIdeal.Run

@[expose] public section

set_option maxRecDepth 16384

noncomputable section

namespace Cert.ReferenceIdeal.Value

open Cert.ReferenceIdeal Cert.ReferenceIdeal.Gen Cert.ReferenceIdeal.Read Idealize.ShloMosaic Idealize.ShloMosaic.TcCoe Idealize.SL.Sem
open Cert.Attention (scale)

variable (m : (ℓ : Loc nD τ sig) → Buf (Elt Ideal) ℓ) (ρ : Dev nD → PrngReg)
variable (Q : Dev nD → Fin 8 → Fin 8192 → Fin 192 → ℝ) (K : Dev nD → Fin 8 → Fin 8448 → Fin 192 → ℝ)
variable (W : Dev nD → Fin 8 → Fin 8448 → Fin 128 → ℝ) (G : Dev nD → Fin 8 → Fin 8192 → Fin 128 → ℝ)

theorem run_real
    (hq : ∀ (c : Dev nD) h i d, m ((c : Thread nD τ).loc main_arg0) (ix3 h i d) = (Q c h i d : EReal))
    (hk : ∀ (c : Dev nD) h j d, m ((c : Thread nD τ).loc main_arg1) (ix3 h j d) = (K c h j d : EReal))
    (hv : ∀ (c : Dev nD) h j e, m ((c : Thread nD τ).loc main_arg2) (ix3 h j e) = (W c h j e : EReal))
    (hg : ∀ (c : Dev nD) h i e, m ((c : Thread nD τ).loc main_arg3) (ix3 h i e) = (G c h i e : EReal)) :
    θ_run defs (onTc (τ := τ) (main (F := Ideal))) ⟨m, fun _ => 0, ρ⟩ (fun r => ∀ c : Dev nD,
      r.2.mem ((c.tc : Thread nD τ).loc main_v32) = (fun i => ((Attention.out scale (Q c (i 0)) (K c (i 0)) (W c (i 0)) (i 1) (i 2) : ℝ) : EReal))
      ∧ r.2.mem ((c.tc : Thread nD τ).loc main_v51)
          = (fun i => ((Attention.dquery scale (Q c (i 0)) (K c (i 0)) (W c (i 0)) (G c (i 0)) (i 1) (i 2) : ℝ) : EReal))
      ∧ r.2.mem ((c.tc : Thread nD τ).loc main_v50)
          = (fun i => ((Attention.dkey scale (Q c (i 0)) (K c (i 0)) (W c (i 0)) (G c (i 0)) (i 1) (i 2) : ℝ) : EReal))
      ∧ r.2.mem ((c.tc : Thread nD τ).loc main_v34)
          = (fun i => ((Attention.dvalue scale (Q c (i 0)) (K c (i 0)) (G c (i 0)) (i 1) (i 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run m ρ)
  obtain ⟨ho, hdq, hdk, hdv, ha⟩ := h c
  refine ⟨(ho.trans (val_main_v32_eq _ _ _)).trans (funext fun i => ?_), (hdq.trans (val_main_v51_eq m c)).trans (funext fun i => ?_),
    (hdk.trans (val_main_v50_eq m c)).trans (funext fun i => ?_), (hdv.trans (val_main_v34_eq _ _ _)).trans (funext fun i => ?_), ha⟩
  · rw [eq_ix3 i]; exact out_real _ _ _ (Q c) (K c) (W c) (hq c) (hk c) (hv c) _ _ _
  · rw [eq_ix3 i]; exact dquery_real _ _ _ _ (Q c) (K c) (W c) (G c) (hq c) (hk c) (hv c) (hg c) _ _ _
  · rw [eq_ix3 i]; exact dkey_real _ _ _ _ (Q c) (K c) (W c) (G c) (hq c) (hk c) (hv c) (hg c) _ _ _
  · rw [eq_ix3 i]; exact dvalue_real _ _ _ (Q c) (K c) (G c) (hq c) (hk c) (hg c) _ _ _

end Cert.ReferenceIdeal.Value

end
-- ==== Proof.FfnPrecondition.lean ====
/-
  THE FEED-FORWARD'S PRECONDITION. As the attention's: every entry of every argument is a real.
-/
module

public import proofs.«01_k».proof.Pre_finite_ffn
public import proofs.«01_k».proof.Proof.Precondition

@[expose] public section

noncomputable section

namespace Cert.Pre_finite_ffn

open Idealize.ShloMosaic
open Cert.Pre_finite (real_of_all)

instance facts : Facts where
  bcast_S_S8192x2048 := by decide
  reducesTo_S8192x2048_S_d0_1 := by decide
  h_S_ := by decide
  bcast_S_S1x2048 := by decide
  reducesTo_S1x2048_S_d0_1 := by decide
  bcast_S_S1x1x2048 := by decide
  reducesTo_S1x1x2048_S_d0_1_2 := by decide
  bcast_S_S2048x11264 := by decide
  reducesTo_S2048x11264_S_d0_1 := by decide
  bcast_S_S5632x2048 := by decide
  reducesTo_S5632x2048_S_d0_1 := by decide

theorem reals (x0 : FVec Ideal S8192x2048 .f32) (x1 : FVec Ideal S1x2048 .f32) (x2 x3 x4 : FVec Ideal S1x1x2048 .f32)
    (x5 : FVec Ideal S2048x11264 .f32) (x6 : FVec Ideal S5632x2048 .f32) (x7 : FVec Ideal S8192x2048 .f32)
    (h : fn (F := Ideal) x0 x1 x2 x3 x4 x5 x6 x7 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ (∀ i, x6 i = ((x6 i).toReal : EReal)) ∧ ∀ i, x7 i = ((x7 i).toReal : EReal) := by
  obtain ⟨j⟩ : Nonempty S_.Idx := ⟨fun a => a.elim0⟩
  have e := congrFun h j
  dsimp only [fn, fn_part1, fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 Facts.bcast_S_S8192x2048 Facts.reducesTo_S8192x2048_S_d0_1 Facts.h_S_ j e0,
    real_of_all x1 Facts.bcast_S_S1x2048 Facts.reducesTo_S1x2048_S_d0_1 Facts.h_S_ j e1,
    real_of_all x2 Facts.bcast_S_S1x1x2048 Facts.reducesTo_S1x1x2048_S_d0_1_2 Facts.h_S_ j e2,
    real_of_all x3 Facts.bcast_S_S1x1x2048 Facts.reducesTo_S1x1x2048_S_d0_1_2 Facts.h_S_ j e3,
    real_of_all x4 Facts.bcast_S_S1x1x2048 Facts.reducesTo_S1x1x2048_S_d0_1_2 Facts.h_S_ j e4,
    real_of_all x5 Facts.bcast_S_S2048x11264 Facts.reducesTo_S2048x11264_S_d0_1 Facts.h_S_ j e5,
    real_of_all x6 Facts.bcast_S_S5632x2048 Facts.reducesTo_S5632x2048_S_d0_1 Facts.h_S_ j e6,
    real_of_all x7 Facts.bcast_S_S8192x2048 Facts.reducesTo_S8192x2048_S_d0_1 Facts.h_S_ j e7⟩

end Cert.Pre_finite_ffn

end
-- ==== Proof.FeedForward.lean ====
/-
  A FEED-FORWARD SUBLAYER OVER THE REALS: the mathematics the second pair of programs is compared with.
  `N` rows of width `D` pass a root-mean-square norm with a gain, a modulation, a gated feed-forward of width `F` and a
  gated residual; the gradients follow, each as a formula over the arrays before it. The lemmas say which forms the two
  programs compute; the last part reads the extended reals' operations and the programs' literals as reals.
-/
module

public import Idealize.ShloMosaic.Lib.Pointwise
public import Mathlib.Analysis.SpecialFunctions.Pow.Real
public import Mathlib.Tactic.FieldSimp
public import Mathlib.Tactic.Ring
public import Mathlib.Tactic.Positivity

@[expose] public section

noncomputable section

open Idealize.ShloMosaic

namespace Cert.FeedForward

variable {N K M D F : ℕ}

/-- The product of two matrices, and the product with the second transposed. -/
def mm (a : Fin N → Fin K → ℝ) (b : Fin K → Fin M → ℝ) (i : Fin N) (j : Fin M) : ℝ := ∑ k, a i k * b k j
def mmT (a : Fin N → Fin K → ℝ) (b : Fin M → Fin K → ℝ) (i : Fin N) (j : Fin M) : ℝ := ∑ k, a i k * b j k

/-- The norm's additive constant: the single-precision number nearest a millionth. -/
def eps : ℝ := 8796093 / 8796093022208

section Norm
variable (x : Fin N → Fin D → ℝ) (g shift scale : Fin D → ℝ)

/-- A row's mean square, the constant added. -/
def square (i : Fin N) : ℝ := (∑ d, x i d * x i d) * (1 / 2048) + eps
/-- A row's factor. -/
def rstd (i : Fin N) : ℝ := (Real.sqrt (square x i))⁻¹
/-- The rows normed. -/
def unit (i : Fin N) (d : Fin D) : ℝ := x i d * rstd x i
/-- The rows normed, gained and modulated. -/
def norm (i : Fin N) (d : Fin D) : ℝ := unit x i d * g d * (1 + scale d) + shift d

variable (dh r : Fin N → Fin D → ℝ)

/-- The gradient with respect to the rows gained, and to the rows normed. -/
def dgain (i : Fin N) (d : Fin D) : ℝ := dh i d * (1 + scale d)
def dunit (i : Fin N) (d : Fin D) : ℝ := dgain scale dh i d * g d
/-- The gradient of the rows, `r` being what the residual brings. -/
def drows (i : Fin N) (d : Fin D) : ℝ :=
  rstd x i * (dunit g scale dh i d - unit x i d * ((∑ e, dunit g scale dh i e * unit x i e) * (1 / 2048))) + r i d
/-- A row's part of the gradients of the gain and of the scale (the shift's is `dh` itself). -/
def gainPart (i : Fin N) (d : Fin D) : ℝ := dgain scale dh i d * unit x i d
def scalePart (i : Fin N) (d : Fin D) : ℝ := dh i d * (unit x i d * g d)

theorem square_pos (i : Fin N) : 0 < square x i := by
  have h : (0 : ℝ) ≤ ∑ d, x i d * x i d := Finset.sum_nonneg fun d _ => mul_self_nonneg _
  unfold square eps
  positivity

/-- The gradient of the rows, in the form that goes back through the mean square. -/
theorem drows_eq (i : Fin N) (d : Fin D) :
    r i d + dunit g scale dh i d * rstd x i
      + x i d * ((∑ e, x i e * dunit g scale dh i e) * (-(1 / 2) * (rstd x i * (1 / square x i))) * (1 / 2048))
      + (∑ e, x i e * dunit g scale dh i e) * (-(1 / 2) * (rstd x i * (1 / square x i))) * (1 / 2048) * x i d
      = drows x g scale dh r i d := by
  have e : (∑ e, dunit g scale dh i e * unit x i e) = (∑ e, x i e * dunit g scale dh i e) * rstd x i := by
    rw [Finset.sum_mul]
    exact Finset.sum_congr rfl fun e _ => by unfold unit; ring
  have q : 1 / square x i = rstd x i * rstd x i := by
    unfold rstd
    rw [← mul_inv, Real.mul_self_sqrt (square_pos x i).le, one_div]
  unfold drows
  rw [e, q]
  unfold unit
  ring

end Norm

section Gate

/-- The logistic function. -/
def sigmoid (z : ℝ) : ℝ := (1 + Real.exp (-z))⁻¹

variable (p u da : Fin N → Fin F → ℝ)

/-- The gated activation, and its gradients with respect to both factors. -/
def act (i : Fin N) (f : Fin F) : ℝ := p i f * sigmoid (p i f) * u i f
def dp (i : Fin N) (f : Fin F) : ℝ := da i f * u i f * (sigmoid (p i f) * (1 + p i f * (1 - sigmoid (p i f))))
def du (i : Fin N) (f : Fin F) : ℝ := da i f * (p i f * sigmoid (p i f))

end Gate

section Residual
variable (x y dout : Fin N → Fin D → ℝ) (gate : Fin D → ℝ)

/-- The gated residual; the gradient of what it adds; and a row's part of the gate's gradient. -/
def residual (i : Fin N) (d : Fin D) : ℝ := x i d + 1 / 2 * gate d * y i d
def dres (i : Fin N) (d : Fin D) : ℝ := dout i d * (1 / 2) * gate d
def gatePart (i : Fin N) (d : Fin D) : ℝ := dout i d * (1 / 2) * y i d

end Residual

/-! ## The extended reals at real arguments -/

theorem coe_sum {n : ℕ} (f : Fin n → ℝ) : (∑ i, ((f i : ℝ) : EReal)) = ((∑ i, f i : ℝ) : EReal) :=
  (map_sum (⟨⟨fun x : ℝ => (x : EReal), EReal.coe_zero⟩, EReal.coe_add⟩ : ℝ →+ EReal) f Finset.univ).symm

/-- A row's index, its leading dimensions of size one. -/
theorem exists_row2 {n : ℕ} (y : Shape.Idx ⟨2, ![1, n]⟩) : ∃ d : Fin n, y = ix2 (0 : Fin 1) d :=
  ⟨y 1, (eq_ix2 y).trans (congrArg (fun a : Fin 1 => ix2 a (y 1)) (Subsingleton.elim _ _))⟩
theorem exists_row3 {n : ℕ} (y : Shape.Idx ⟨3, ![1, 1, n]⟩) : ∃ d : Fin n, y = ix3 (0 : Fin 1) (0 : Fin 1) d :=
  ⟨y 2, (eq_ix3 y).trans (congrArg₂ (fun a b : Fin 1 => ix3 a b (y 2)) (Subsingleton.elim _ _) (Subsingleton.elim _ _))⟩

/-- A sum over 8192 rows is the sum over 32 tiles of the sums over a tile's 256, `at_` naming a tile's rows. -/
theorem sum_tiles (f : Fin 8192 → ℝ) (at_ : Fin 32 → Fin 256 → ℝ) (h : ∀ s r, at_ s r = f ⟨s.val * 256 + r.val, by omega⟩) :
    ∑ s, ∑ r, at_ s r = ∑ i, f i := by
  simp only [h]
  exact (Fin.sum_univ_tiles 32 256 rfl f).symm

theorem ofBits_2048 : Ideal.ofBits .f32 0x45000000#32 = ((2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_eps : Ideal.ofBits .f32 0x358637BD#32 = ((eps : ℝ) : EReal) := by
  simp [Ideal.ofBits, Ideal.ieee, eps, -EReal.coe_mul]; norm_num

theorem div_2048 (x : ℝ) : Ideal.div (x : EReal) ((2048 : ℝ) : EReal) = ((x * (1 / 2048) : ℝ) : EReal) := by
  rw [Ideal.div_coe (by norm_num), EReal.coe_mul]

theorem mm_real (a : Fin N → Fin K → ℝ) (b : Fin K → Fin M → ℝ) (i : Fin N) (j : Fin M) :
    ∑ k, (a i k : EReal) * (b k j : EReal) = ((mm a b i j : ℝ) : EReal) := by
  simp only [← EReal.coe_mul, coe_sum]; rfl
theorem mmT_real (a : Fin N → Fin K → ℝ) (b : Fin M → Fin K → ℝ) (i : Fin N) (j : Fin M) :
    ∑ k, (a i k : EReal) * (b j k : EReal) = ((mmT a b i j : ℝ) : EReal) := by
  simp only [← EReal.coe_mul, coe_sum]; rfl

/-- A row's mean square and factor, as the programs compute them. -/
theorem square_real (x : Fin N → Fin D → ℝ) (i : Fin N) :
    Ideal.div (∑ d, (x i d : EReal) * (x i d : EReal)) ((2048 : ℝ) : EReal) + ((eps : ℝ) : EReal) = ((square x i : ℝ) : EReal) := by
  simp only [← EReal.coe_mul, coe_sum, div_2048, ← EReal.coe_add]; rfl
theorem rsqrt_square (x : Fin N → Fin D → ℝ) (i : Fin N) : Ideal.rsqrt ((square x i : ℝ) : EReal) = ((rstd x i : ℝ) : EReal) := by
  rw [Ideal.rsqrt_coe, if_neg (square_pos x i).not_gt, if_neg (square_pos x i).ne']; rfl

theorem div_square (y : ℝ) (x : Fin N → Fin D → ℝ) (i : Fin N) :
    Ideal.div (y : EReal) ((square x i : ℝ) : EReal) = ((y * (1 / square x i) : ℝ) : EReal) := by
  rw [Ideal.div_coe (square_pos x i).ne', EReal.coe_mul]

theorem logistic_real (z : ℝ) : Ideal.logistic (z : EReal) = ((sigmoid z : ℝ) : EReal) := by
  rw [Ideal.logistic_coe]; rfl

end Cert.FeedForward

end
-- ==== Proof.FfnStep.lean ====
/-
  ONE FEED-FORWARD AND ITS GRADIENTS, over the reals: the norm, the gated activation between the two weights, the gated
  residual, and the gradients of all eight arguments but the incoming one, as functions of the arguments.
-/
module

public import proofs.«01_k».proof.Proof.FeedForward

@[expose] public section

noncomputable section

namespace Cert.FeedForward

/-- The arguments; the first weight holds the gate's columns, then the other factor's. -/
structure Args where
  x : Fin 8192 → Fin 2048 → ℝ
  gain : Fin 2048 → ℝ
  shift : Fin 2048 → ℝ
  scale : Fin 2048 → ℝ
  gate : Fin 2048 → ℝ
  wIn : Fin 2048 → Fin 11264 → ℝ
  wOut : Fin 5632 → Fin 2048 → ℝ
  dout : Fin 8192 → Fin 2048 → ℝ

namespace Args
variable (a : Args)

/-- The two halves of the first weight. -/
def wGate (k : Fin 2048) (f : Fin 5632) : ℝ := a.wIn k ⟨f.val, by omega⟩
def wUp (k : Fin 2048) (f : Fin 5632) : ℝ := a.wIn k ⟨5632 + f.val, by omega⟩

/-- Forward: the rows normed, the two factors, the activation, the second product and the result. -/
def h : Fin 8192 → Fin 2048 → ℝ := norm a.x a.gain a.shift a.scale
def p : Fin 8192 → Fin 5632 → ℝ := mm a.h a.wGate
def u : Fin 8192 → Fin 5632 → ℝ := mm a.h a.wUp
def s : Fin 8192 → Fin 5632 → ℝ := act a.p a.u
def y : Fin 8192 → Fin 2048 → ℝ := mm a.s a.wOut
def out : Fin 8192 → Fin 2048 → ℝ := residual a.x a.y a.gate

/-- Back: through the residual, the second product, the activation, the first product and the norm. -/
def dy : Fin 8192 → Fin 2048 → ℝ := dres a.dout a.gate
def dgate (d : Fin 2048) : ℝ := ∑ i, gatePart a.y a.dout i d
def dwOut : Fin 5632 → Fin 2048 → ℝ := mm (fun f i => a.s i f) a.dy
def ds : Fin 8192 → Fin 5632 → ℝ := mmT a.dy a.wOut
def dP : Fin 8192 → Fin 5632 → ℝ := dp a.p a.u a.ds
def dU : Fin 8192 → Fin 5632 → ℝ := du a.p a.ds
def dwGate : Fin 2048 → Fin 5632 → ℝ := mm (fun d i => a.h i d) a.dP
def dwUp : Fin 2048 → Fin 5632 → ℝ := mm (fun d i => a.h i d) a.dU
def dh (i : Fin 8192) (d : Fin 2048) : ℝ := mmT a.dU a.wUp i d + mmT a.dP a.wGate i d
def dx : Fin 8192 → Fin 2048 → ℝ := drows a.x a.gain a.scale a.dh a.dout
def dgain (d : Fin 2048) : ℝ := ∑ i, gainPart a.x a.scale a.dh i d
def dshift (d : Fin 2048) : ℝ := ∑ i, a.dh i d
def dscale (d : Fin 2048) : ℝ := ∑ i, scalePart a.x a.gain a.dh i d

end Args

end Cert.FeedForward

end
-- ==== Proof.FfnNorm.lean ====
/-
  THE FEED-FORWARD'S NORM: each point takes 256 rows and writes them normed, gained and modulated, and once more transposed.
-/
module

public import proofs.«01_k».proof.Proof.Gen.Kernel2Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Norm

theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] ∧ win0_5.index t = ![0, t.val] :=
  (by decide +kernel : ∀ t : Fin grid0.N, _)

section
variable (x : Vec Ideal S256x2048 .f32) (g : Vec Ideal S1x2048 .f32) (sh sc : Vec Ideal S1x1x2048 .f32)
variable (X : Fin 256 → Fin 2048 → ℝ) (G Sh Sc : Fin 2048 → ℝ)
variable (hx : ∀ i d, x (ix2 i d) = (X i d : EReal)) (hg : ∀ d, g (ix2 (0 : Fin 1) d) = (G d : EReal))
  (hsh : ∀ d, sh (ix3 (0 : Fin 1) (0 : Fin 1) d) = (Sh d : EReal)) (hsc : ∀ d, sc (ix3 (0 : Fin 1) (0 : Fin 1) d) = (Sc d : EReal))

include hx hg hsh hsc

theorem rows_block (i : Fin 256) (d : Fin 2048) : out0_4 (F := Ideal) x g sh sc (ix2 i d) = ((norm X G Sh Sc i d : ℝ) : EReal) := by
  frame_open
  frame_out
  open_payloads
  pointwise [hx, hg, hsh, hsc, ofBits_2048, ofBits_eps, ofBits_one]
  rw [square_real X i, rsqrt_square X i]
  simp only [← EReal.coe_mul, ← EReal.coe_add]
  rfl

theorem cols_block (d : Fin 2048) (i : Fin 256) : out0_5 (F := Ideal) x g sh sc (ix2 d i) = ((norm X G Sh Sc i d : ℝ) : EReal) := by
  frame_open
  frame_out
  open_payloads
  pointwise [hx, hg, hsh, hsc, ofBits_2048, ofBits_eps, ofBits_one]
  rw [square_real X i, rsqrt_square X i]
  simp only [← EReal.coe_mul, ← EReal.coe_add]
  rfl

end

variable (X : Fin 8192 → Fin 2048 → ℝ) (G Sh Sc : Fin 2048 → ℝ)
variable (hx : ∀ i d, V c main_arg0 (ix2 i d) = (X i d : EReal)) (hg : ∀ d, V c main_arg1 (ix2 (0 : Fin 1) d) = (G d : EReal))
  (hsh : ∀ d, V c main_arg2 (ix3 (0 : Fin 1) (0 : Fin 1) d) = (Sh d : EReal)) (hsc : ∀ d, V c main_arg3 (ix3 (0 : Fin 1) (0 : Fin 1) d) = (Sc d : EReal))

theorem point (t : Fin cfg0.N) : t.val < 32 := lt_of_lt_of_eq t.isLt N_0

include hx in
theorem block_x (t : Fin cfg0.N) (i : Fin 256) (d : Fin 2048) : iblk0 V c 0 t (ix2 i d)
    = ((X ⟨t.val * 256 + i.val, by have := point t; omega⟩ d : ℝ) : EReal) := by
  refine Eq.trans ?_ (hx _ _)
  blk_point [iblk0, idx t]

include hg in
theorem block_g (t : Fin cfg0.N) (d : Fin 2048) : iblk0 V c 1 t (ix2 (0 : Fin 1) d) = (G d : EReal) := by
  refine Eq.trans ?_ (hg _)
  blk_point [iblk0, idx t]

include hsh in
theorem block_sh (t : Fin cfg0.N) (d : Fin 2048) : iblk0 V c 2 t (ix3 (0 : Fin 1) (0 : Fin 1) d) = (Sh d : EReal) := by
  refine Eq.trans ?_ (hsh _)
  blk_point [iblk0, idx t]

include hsc in
theorem block_sc (t : Fin cfg0.N) (d : Fin 2048) : iblk0 V c 3 t (ix3 (0 : Fin 1) (0 : Fin 1) d) = (Sc d : EReal) := by
  refine Eq.trans ?_ (hsc _)
  blk_point [iblk0, idx t]

include hx hg hsh hsc

theorem rows : (dat0 V c).arrAt 4 cfg0.N = fun i => ((norm X G Sh Sc (i 0) (i 1) : ℝ) : EReal) := by
  refine (dat0 V c).arrAt_eq_of_covers 4 _ (by decide +kernel) fun t hf y => ?_
  blk_simp
  rw [after0_4]
  generalize hz : ((View.whole main_v4_0).slice (win0_4.rect t)).emb y = z
  have h0 : z 0 = ⟨t.val * 256 + (y 0).val, by have := point t; have : (y 0).val < 256 := (y 0).isLt; show _ < 8192; omega⟩ := Fin.ext (by subst hz; blk_simp [idx t])
  have h1 : z 1 = y 1 := Fin.ext (by subst hz; blk_simp [idx t])
  rw [h0, h1, eq_ix2 y]
  exact rows_block _ _ _ _ _ _ _ _ (block_x V c X hx t) (block_g V c G hg t) (block_sh V c Sh hsh t) (block_sc V c Sc hsc t) _ _

theorem cols : (dat0 V c).arrAt 5 cfg0.N = fun i => ((norm X G Sh Sc (i 1) (i 0) : ℝ) : EReal) := by
  refine (dat0 V c).arrAt_eq_of_covers 5 _ (by decide +kernel) fun t hf y => ?_
  blk_simp
  rw [after0_5]
  generalize hz : ((View.whole main_v4_1).slice (win0_5.rect t)).emb y = z
  have h0 : z 0 = y 0 := Fin.ext (by subst hz; blk_simp [idx t])
  have h1 : z 1 = ⟨t.val * 256 + (y 1).val, by have := point t; have : (y 1).val < 256 := (y 1).isLt; show _ < 8192; omega⟩ := Fin.ext (by subst hz; blk_simp [idx t])
  rw [h0, h1, eq_ix2 y]
  exact cols_block _ _ _ _ _ _ _ _ (block_x V c X hx t) (block_g V c G hg t) (block_sh V c Sh hsh t) (block_sc V c Sc hsc t) _ _

end Norm

end Cert.Kernel2Ideal.Value

end
-- ==== Proof.FfnGate.lean ====
/-
  THE FEED-FORWARD'S FIRST PRODUCTS, IN BOTH DIRECTIONS: going forward, a block of each of the two products of the normed rows,
  and of the gated activation, plain and transposed; going back, a block of the activation's gradient and, from it, of the
  gradients of the two products.
-/
module

public import proofs.«01_k».proof.Proof.Gen.Kernel2Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Up

theorem idx : ∀ t : Fin cfg1.N, win1_0.index t = ![t.val / 11, 0] ∧ win1_1.index t = ![0, t.val % 11] ∧ win1_2.index t = ![0, t.val % 11]
    ∧ win1_3.index t = ![t.val / 11, t.val % 11] ∧ win1_4.index t = ![t.val / 11, t.val % 11] ∧ win1_5.index t = ![t.val / 11, t.val % 11]
    ∧ win1_6.index t = ![t.val % 11, t.val / 11] :=
  (by decide +kernel : ∀ t : Fin grid1.N, _)

section
variable (h : Vec Ideal S1024x2048 .bf16) (wg wu : Vec Ideal S2048x512 .bf16)
variable (H : Fin 1024 → Fin 2048 → ℝ) (Wg Wu : Fin 2048 → Fin 512 → ℝ)
variable (hh : ∀ i k, h (ix2 i k) = (H i k : EReal)) (hwg : ∀ k j, wg (ix2 k j) = (Wg k j : EReal)) (hwu : ∀ k j, wu (ix2 k j) = (Wu k j : EReal))

include hh hwg in
theorem gate_block (i : Fin 1024) (j : Fin 512) : out1_3 (F := Ideal) h wg wu (ix2 i j) = ((mm H Wg i j : ℝ) : EReal) := by
  frame_open
  frame_out
  open_payloads
  pointwise [hh, hwg]
  exact mm_real H Wg i j

include hh hwu in
theorem up_block (i : Fin 1024) (j : Fin 512) : out1_4 (F := Ideal) h wg wu (ix2 i j) = ((mm H Wu i j : ℝ) : EReal) := by
  frame_open
  frame_out
  open_payloads
  pointwise [hh, hwu]
  exact mm_real H Wu i j

include hh hwg hwu

theorem act_block (i : Fin 1024) (j : Fin 512) : out1_5 (F := Ideal) h wg wu (ix2 i j) = ((act (mm H Wg) (mm H Wu) i j : ℝ) : EReal) := by
  frame_open
  frame_out
  open_payloads
  pointwise [hh, hwg, hwu]
  rw [mm_real H Wg i j, mm_real H Wu i j, logistic_real]
  simp only [← EReal.coe_mul]
  rfl

theorem actT_block (j : Fin 512) (i : Fin 1024) : out1_6 (F := Ideal) h wg wu (ix2 j i) = ((act (mm H Wg) (mm H Wu) i j : ℝ) : EReal) := by
  frame_open
  frame_out
  open_payloads
  pointwise [hh, hwg, hwu]
  rw [mm_real H Wg i j, mm_real H Wu i j, logistic_real]
  simp only [← EReal.coe_mul]
  rfl

end

variable (H : Fin 8192 → Fin 2048 → ℝ) (Wg Wu : Fin 2048 → Fin 5632 → ℝ)
variable (hh : ∀ i k, V c main_v4_0 (ix2 i k) = (H i k : EReal)) (hwg : ∀ k j, V c main_v1 (ix2 k j) = (Wg k j : EReal))
  (hwu : ∀ k j, V c main_v2 (ix2 k j) = (Wu k j : EReal))

theorem point (t : Fin cfg1.N) : t.val < 88 := lt_of_lt_of_eq t.isLt N_1

/-- A point's rows and columns of the whole. -/
abbrev row (t : Fin cfg1.N) (i : Fin 1024) : Fin 8192 := ⟨t.val / 11 * 1024 + i.val, by have := point t; omega⟩
abbrev col (t : Fin cfg1.N) (j : Fin 512) : Fin 5632 := ⟨t.val % 11 * 512 + j.val, by omega⟩

include hh in
theorem block_h (t : Fin cfg1.N) (i : Fin 1024) (k : Fin 2048) : iblk1 V c 0 t (ix2 i k) = ((H (row t i) k : ℝ) : EReal) := by
  refine Eq.trans ?_ (hh _ _)
  blk_point [iblk1, idx t]

include hwg in
theorem block_wg (t : Fin cfg1.N) (k : Fin 2048) (j : Fin 512) : iblk1 V c 1 t (ix2 k j) = ((Wg k (col t j) : ℝ) : EReal) := by
  refine Eq.trans ?_ (hwg _ _)
  blk_point [iblk1, idx t]

include hwu in
theorem block_wu (t : Fin cfg1.N) (k : Fin 2048) (j : Fin 512) : iblk1 V c 2 t (ix2 k j) = ((Wu k (col t j) : ℝ) : EReal) := by
  refine Eq.trans ?_ (hwu _ _)
  blk_point [iblk1, idx t]

include hh hwg in
theorem gate : (dat1 V c).arrAt 3 cfg1.N = fun i => ((mm H Wg (i 0) (i 1) : ℝ) : EReal) := by
  refine (dat1 V c).arrAt_eq_of_covers 3 _ (by decide +kernel) fun t hf y => ?_
  blk_simp
  rw [after1_3]
  generalize hz : ((View.whole main_v5_0).slice (win1_3.rect t)).emb y = z
  have h0 : z 0 = row t (y 0) := Fin.ext (by subst hz; blk_simp [idx t])
  have h1 : z 1 = col t (y 1) := Fin.ext (by subst hz; blk_simp [idx t])
  rw [h0, h1, eq_ix2 y]
  exact gate_block _ _ _ _ _ (block_h V c H hh t) (block_wg V c Wg hwg t) _ _

include hh hwu in
theorem up : (dat1 V c).arrAt 4 cfg1.N = fun i => ((mm H Wu (i 0) (i 1) : ℝ) : EReal) := by
  refine (dat1 V c).arrAt_eq_of_covers 4 _ (by decide +kernel) fun t hf y => ?_
  blk_simp
  rw [after1_4]
  generalize hz : ((View.whole main_v5_1).slice (win1_4.rect t)).emb y = z
  have h0 : z 0 = row t (y 0) := Fin.ext (by subst hz; blk_simp [idx t])
  have h1 : z 1 = col t (y 1) := Fin.ext (by subst hz; blk_simp [idx t])
  rw [h0, h1, eq_ix2 y]
  exact up_block _ _ _ _ _ (block_h V c H hh t) (block_wu V c Wu hwu t) _ _

include hh hwg hwu

theorem activation : (dat1 V c).arrAt 5 cfg1.N = fun i => ((act (mm H Wg) (mm H Wu) (i 0) (i 1) : ℝ) : EReal) := by
  refine (dat1 V c).arrAt_eq_of_covers 5 _ (by decide +kernel) fun t hf y => ?_
  blk_simp
  rw [after1_5]
  generalize hz : ((View.whole main_v5_2).slice (win1_5.rect t)).emb y = z
  have h0 : z 0 = row t (y 0) := Fin.ext (by subst hz; blk_simp [idx t])
  have h1 : z 1 = col t (y 1) := Fin.ext (by subst hz; blk_simp [idx t])
  rw [h0, h1, eq_ix2 y]
  exact act_block _ _ _ _ _ _ (block_h V c H hh t) (block_wg V c Wg hwg t) (block_wu V c Wu hwu t) _ _

theorem activationT : (dat1 V c).arrAt 6 cfg1.N = fun i => ((act (mm H Wg) (mm H Wu) (i 1) (i 0) : ℝ) : EReal) := by
  refine (dat1 V c).arrAt_eq_of_covers 6 _ (by decide +kernel) fun t hf y => ?_
  blk_simp
  rw [after1_6]
  generalize hz : ((View.whole main_v5_3).slice (win1_6.rect t)).emb y = z
  have h0 : z 0 = col t (y 0) := Fin.ext (by subst hz; blk_simp [idx t])
  have h1 : z 1 = row t (y 1) := Fin.ext (by subst hz; blk_simp [idx t])
  rw [h0, h1, eq_ix2 y]
  exact actT_block _ _ _ _ _ _ (block_h V c H hh t) (block_wg V c Wg hwg t) (block_wu V c Wu hwu t) _ _

end Up

namespace Act

theorem idx : ∀ t : Fin cfg5.N, win5_0.index t = ![t.val / 11, 0] ∧ win5_1.index t = ![t.val % 11, 0] ∧ win5_2.index t = ![t.val / 11, t.val % 11]
    ∧ win5_3.index t = ![t.val / 11, t.val % 11] ∧ win5_4.index t = ![t.val / 11, t.val % 11] ∧ win5_5.index t = ![t.val / 11, t.val % 11] :=
  (by decide +kernel : ∀ t : Fin grid5.N, _)

section
variable (y : Vec Ideal S1024x2048 .bf16) (w : Vec Ideal S512x2048 .bf16) (p u : Vec Ideal S1024x512 .bf16)
variable (Y : Fin 1024 → Fin 2048 → ℝ) (W : Fin 512 → Fin 2048 → ℝ) (P U : Fin 1024 → Fin 512 → ℝ)
variable (hy : ∀ i k, y (ix2 i k) = (Y i k : EReal)) (hw : ∀ j k, w (ix2 j k) = (W j k : EReal)) (hp : ∀ i j, p (ix2 i j) = (P i j : EReal))
  (hu : ∀ i j, u (ix2 i j) = (U i j : EReal))

include hy hw hp hu in
theorem dp_block (i : Fin 1024) (j : Fin 512) : out5_4 (F := Ideal) y w p u (ix2 i j) = ((dp P U (mmT Y W) i j : ℝ) : EReal) := by
  frame_open
  frame_out
  open_payloads
  pointwise [hy, hw, hp, hu, ofBits_one]
  rw [mmT_real Y W i j, logistic_real]
  simp only [← EReal.coe_mul, ← EReal.coe_add, ← EReal.coe_sub]
  rfl

include hy hw hp in
theorem du_block (i : Fin 1024) (j : Fin 512) : out5_5 (F := Ideal) y w p u (ix2 i j) = ((du P (mmT Y W) i j : ℝ) : EReal) := by
  frame_open
  frame_out
  open_payloads
  pointwise [hy, hw, hp]
  rw [mmT_real Y W i j, logistic_real]
  simp only [← EReal.coe_mul]
  rfl

end

variable (Y : Fin 8192 → Fin 2048 → ℝ) (W : Fin 5632 → Fin 2048 → ℝ) (P U : Fin 8192 → Fin 5632 → ℝ)
variable (hy : ∀ i k, V c main_v7_0 (ix2 i k) = (Y i k : EReal)) (hw : ∀ j k, V c main_v3 (ix2 j k) = (W j k : EReal))
  (hp : ∀ i j, V c main_v5_0 (ix2 i j) = (P i j : EReal)) (hu : ∀ i j, V c main_v5_1 (ix2 i j) = (U i j : EReal))

theorem point (t : Fin cfg5.N) : t.val < 88 := lt_of_lt_of_eq t.isLt N_5

/-- A point's rows and columns of the whole. -/
abbrev row (t : Fin cfg5.N) (i : Fin 1024) : Fin 8192 := ⟨t.val / 11 * 1024 + i.val, by have := point t; omega⟩
abbrev col (t : Fin cfg5.N) (j : Fin 512) : Fin 5632 := ⟨t.val % 11 * 512 + j.val, by omega⟩

include hy in
theorem block_y (t : Fin cfg5.N) (i : Fin 1024) (k : Fin 2048) : iblk5 V c 0 t (ix2 i k) = ((Y (row t i) k : ℝ) : EReal) := by
  refine Eq.trans ?_ (hy _ _)
  blk_point [iblk5, idx t]

include hw in
theorem block_w (t : Fin cfg5.N) (j : Fin 512) (k : Fin 2048) : iblk5 V c 1 t (ix2 j k) = ((W (col t j) k : ℝ) : EReal) := by
  refine Eq.trans ?_ (hw _ _)
  blk_point [iblk5, idx t]

include hp in
theorem block_p (t : Fin cfg5.N) (i : Fin 1024) (j : Fin 512) : iblk5 V c 2 t (ix2 i j) = ((P (row t i) (col t j) : ℝ) : EReal) := by
  refine Eq.trans ?_ (hp _ _)
  blk_point [iblk5, idx t]

include hu in
theorem block_u (t : Fin cfg5.N) (i : Fin 1024) (j : Fin 512) : iblk5 V c 3 t (ix2 i j) = ((U (row t i) (col t j) : ℝ) : EReal) := by
  refine Eq.trans ?_ (hu _ _)
  blk_point [iblk5, idx t]

include hy hw hp hu in
theorem gate : (dat5 V c).arrAt 4 cfg5.N = fun i => ((dp P U (mmT Y W) (i 0) (i 1) : ℝ) : EReal) := by
  refine (dat5 V c).arrAt_eq_of_covers 4 _ (by decide +kernel) fun t hf y => ?_
  blk_simp
  rw [after5_4]
  generalize hz : ((View.whole main_v9_0).slice (win5_4.rect t)).emb y = z
  have h0 : z 0 = row t (y 0) := Fin.ext (by subst hz; blk_simp [idx t])
  have h1 : z 1 = col t (y 1) := Fin.ext (by subst hz; blk_simp [idx t])
  rw [h0, h1, eq_ix2 y]
  exact dp_block _ _ _ _ _ _ _ _ (block_y V c Y hy t) (block_w V c W hw t) (block_p V c P hp t) (block_u V c U hu t) _ _

include hy hw hp in
theorem up : (dat5 V c).arrAt 5 cfg5.N = fun i => ((du P (mmT Y W) (i 0) (i 1) : ℝ) : EReal) := by
  refine (dat5 V c).arrAt_eq_of_covers 5 _ (by decide +kernel) fun t hf y => ?_
  blk_simp
  rw [after5_5]
  generalize hz : ((View.whole main_v9_1).slice (win5_5.rect t)).emb y = z
  have h0 : z 0 = row t (y 0) := Fin.ext (by subst hz; blk_simp [idx t])
  have h1 : z 1 = col t (y 1) := Fin.ext (by subst hz; blk_simp [idx t])
  rw [h0, h1, eq_ix2 y]
  exact du_block _ _ _ _ _ _ _ (block_y V c Y hy t) (block_w V c W hw t) (block_p V c P hp t) _ _

end Act

end Cert.Kernel2Ideal.Value

end
-- ==== Proof.FfnResidual.lean ====
/-
  THE FEED-FORWARD'S GATED RESIDUAL, IN BOTH DIRECTIONS: going forward, a block of the second product and of the residual it is
  added to; going back, 256 rows of the gradient of what the residual adds, and those rows' part of the gate's gradient,
  which stays in place from point to point and gathers the 32 parts.
-/
module

public import proofs.«01_k».proof.Proof.Gen.Kernel2Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Down

theorem idx : ∀ t : Fin cfg2.N, win2_0.index t = ![t.val / 4, 0] ∧ win2_1.index t = ![0, t.val % 4] ∧ win2_2.index t = ![t.val / 4, t.val % 4]
    ∧ win2_3.index t = ![0, 0, t.val % 4] ∧ win2_4.index t = ![t.val / 4, t.val % 4] ∧ win2_5.index t = ![t.val / 4, t.val % 4] :=
  (by decide +kernel : ∀ t : Fin grid2.N, _)

section
variable (a : Vec Ideal S1024x5632 .bf16) (w : Vec Ideal S5632x512 .bf16) (x : Vec Ideal S1024x512 .f32) (g : Vec Ideal S1x1x512 .f32)
variable (A : Fin 1024 → Fin 5632 → ℝ) (W : Fin 5632 → Fin 512 → ℝ) (X : Fin 1024 → Fin 512 → ℝ) (G : Fin 512 → ℝ)
variable (ha : ∀ i k, a (ix2 i k) = (A i k : EReal)) (hw : ∀ k j, w (ix2 k j) = (W k j : EReal)) (hx : ∀ i j, x (ix2 i j) = (X i j : EReal))
  (hg : ∀ j, g (ix3 (0 : Fin 1) (0 : Fin 1) j) = (G j : EReal))

include ha hw in
theorem product_block (i : Fin 1024) (j : Fin 512) : out2_5 (F := Ideal) a w x g (ix2 i j) = ((mm A W i j : ℝ) : EReal) := by
  frame_open
  frame_out
  open_payloads
  pointwise [ha, hw]
  exact mm_real A W i j

include ha hw hx hg in
theorem out_block (i : Fin 1024) (j : Fin 512) : out2_4 (F := Ideal) a w x g (ix2 i j) = ((residual X (mm A W) G i j : ℝ) : EReal) := by
  frame_open
  frame_out
  open_payloads
  pointwise [ha, hw, hx, hg, ofBits_half]
  rw [mm_real A W i j]
  simp only [← EReal.coe_mul, ← EReal.coe_add]
  rfl

end

variable (A : Fin 8192 → Fin 5632 → ℝ) (W : Fin 5632 → Fin 2048 → ℝ) (X : Fin 8192 → Fin 2048 → ℝ) (G : Fin 2048 → ℝ)
variable (ha : ∀ i k, V c main_v5_2 (ix2 i k) = (A i k : EReal)) (hw : ∀ k j, V c main_v3 (ix2 k j) = (W k j : EReal))
  (hx : ∀ i j, V c main_arg0 (ix2 i j) = (X i j : EReal)) (hg : ∀ j, V c main_arg4 (ix3 (0 : Fin 1) (0 : Fin 1) j) = (G j : EReal))

theorem point (t : Fin cfg2.N) : t.val < 32 := lt_of_lt_of_eq t.isLt N_2

/-- A point's rows and columns of the whole. -/
abbrev row (t : Fin cfg2.N) (i : Fin 1024) : Fin 8192 := ⟨t.val / 4 * 1024 + i.val, by have := point t; omega⟩
abbrev col (t : Fin cfg2.N) (j : Fin 512) : Fin 2048 := ⟨t.val % 4 * 512 + j.val, by omega⟩

include ha in
theorem block_a (t : Fin cfg2.N) (i : Fin 1024) (k : Fin 5632) : iblk2 V c 0 t (ix2 i k) = ((A (row t i) k : ℝ) : EReal) := by
  refine Eq.trans ?_ (ha _ _)
  blk_point [iblk2, idx t]

include hw in
theorem block_w (t : Fin cfg2.N) (k : Fin 5632) (j : Fin 512) : iblk2 V c 1 t (ix2 k j) = ((W k (col t j) : ℝ) : EReal) := by
  refine Eq.trans ?_ (hw _ _)
  blk_point [iblk2, idx t]

include hx in
theorem block_x (t : Fin cfg2.N) (i : Fin 1024) (j : Fin 512) : iblk2 V c 2 t (ix2 i j) = ((X (row t i) (col t j) : ℝ) : EReal) := by
  refine Eq.trans ?_ (hx _ _)
  blk_point [iblk2, idx t]

include hg in
theorem block_g (t : Fin cfg2.N) (j : Fin 512) : iblk2 V c 3 t (ix3 (0 : Fin 1) (0 : Fin 1) j) = ((G (col t j) : ℝ) : EReal) := by
  refine Eq.trans ?_ (hg _)
  blk_point [iblk2, idx t]

include ha hw in
theorem product : (dat2 V c).arrAt 5 cfg2.N = fun i => ((mm A W (i 0) (i 1) : ℝ) : EReal) := by
  refine (dat2 V c).arrAt_eq_of_covers 5 _ (by decide +kernel) fun t hf y => ?_
  blk_simp
  rw [after2_5]
  generalize hz : ((View.whole main_v6_1).slice (win2_5.rect t)).emb y = z
  have h0 : z 0 = row t (y 0) := Fin.ext (by subst hz; blk_simp [idx t])
  have h1 : z 1 = col t (y 1) := Fin.ext (by subst hz; blk_simp [idx t])
  rw [h0, h1, eq_ix2 y]
  exact product_block _ _ _ _ _ _ (block_a V c A ha t) (block_w V c W hw t) _ _

include ha hw hx hg in
theorem out : (dat2 V c).arrAt 4 cfg2.N = fun i => ((residual X (mm A W) G (i 0) (i 1) : ℝ) : EReal) := by
  refine (dat2 V c).arrAt_eq_of_covers 4 _ (by decide +kernel) fun t hf y => ?_
  blk_simp
  rw [after2_4]
  generalize hz : ((View.whole main_v6_0).slice (win2_4.rect t)).emb y = z
  have h0 : z 0 = row t (y 0) := Fin.ext (by subst hz; blk_simp [idx t])
  have h1 : z 1 = col t (y 1) := Fin.ext (by subst hz; blk_simp [idx t])
  rw [h0, h1, eq_ix2 y]
  exact out_block _ _ _ _ _ _ _ _ (block_a V c A ha t) (block_w V c W hw t) (block_x V c X hx t) (block_g V c G hg t) _ _

end Down

namespace Residual

theorem idx : ∀ t : Fin cfg3.N, win3_0.index t = ![t.val, 0] ∧ win3_1.index t = ![t.val, 0] ∧ win3_2.index t = ![0, 0, 0]
    ∧ win3_3.index t = ![t.val, 0] ∧ win3_4.index t = ![0, 0, 0] :=
  (by decide +kernel : ∀ t : Fin grid3.N, _)

section
variable (i : grid3.Coords) (arg1 : Memref sig .tc .vmem S256x2048 .f32) (harg1 : arg1.IsWhole) (arg2 : Memref sig .tc .vmem S256x2048 .bf16)
  (harg2 : arg2.IsWhole) (arg3 : Memref sig .tc .vmem S1x1x2048 .f32) (harg3 : arg3.IsWhole) (arg4 : Memref sig .tc .vmem S256x2048 .bf16)
  (harg4 : arg4.IsWhole) (arg5 : Memref sig .tc .vmem S1x1x2048 .f32) (harg5 : arg5.IsWhole)
variable (o : Vec Ideal S256x2048 .f32) (y : Vec Ideal S256x2048 .bf16) (g s : Vec Ideal S1x1x2048 .f32)
variable (O Y : Fin 256 → Fin 2048 → ℝ) (G : Fin 2048 → ℝ)
variable (ho : ∀ r d, o (ix2 r d) = (O r d : EReal)) (hy : ∀ r d, y (ix2 r d) = (Y r d : EReal))
  (hg : ∀ d, g (ix3 (0 : Fin 1) (0 : Fin 1) d) = (G d : EReal))

include ho hg in
theorem rows_first (hc : cond3_0 i) (r : Fin 256) (d : Fin 2048) :
    out3_A_3 (F := Ideal) c i arg1 harg1 arg2 harg2 arg3 harg3 arg4 harg4 arg5 harg5 hc o y g (ix2 r d) = ((dres O G r d : ℝ) : EReal) := by
  frame_open
  frame_out
  open_payloads
  pointwise [ho, hg, ofBits_half]
  simp only [← EReal.coe_mul]
  rfl

include ho hg in
theorem rows_next (hc : ¬cond3_0 i) (r : Fin 256) (d : Fin 2048) :
    out3_B_3 (F := Ideal) c i arg1 harg1 arg2 harg2 arg3 harg3 arg4 harg4 arg5 harg5 hc o y g s (ix2 r d) = ((dres O G r d : ℝ) : EReal) := by
  frame_open
  frame_out
  open_payloads
  pointwise [ho, hg, ofBits_half]
  simp only [← EReal.coe_mul]
  rfl

include ho hy in
/-- At the first point the gate's gradient starts from zero, -/
theorem gate_first (hc : cond3_0 i) (a b : Fin 1) (d : Fin 2048) :
    out3_A_4 (F := Ideal) c i arg1 harg1 arg2 harg2 arg3 harg3 arg4 harg4 arg5 harg5 hc o y g (ix3 a b d)
      = 0 + ((∑ r, gatePart Y O r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [ho, hy, ofBits_half]
  simp only [← EReal.coe_mul, coe_sum]
  rfl

include ho hy in
/-- and at the others from what the point before left. -/
theorem gate_next (hc : ¬cond3_0 i) (a b : Fin 1) (d : Fin 2048) :
    out3_B_4 (F := Ideal) c i arg1 harg1 arg2 harg2 arg3 harg3 arg4 harg4 arg5 harg5 hc o y g s (ix3 a b d)
      = s (ix3 a b d) + ((∑ r, gatePart Y O r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [ho, hy, ofBits_half]
  simp only [← EReal.coe_mul, coe_sum]
  rfl

end

variable (O Y : Fin 8192 → Fin 2048 → ℝ) (G : Fin 2048 → ℝ)
variable (ho : ∀ i d, V c main_arg7 (ix2 i d) = (O i d : EReal)) (hy : ∀ i d, V c main_v6_1 (ix2 i d) = (Y i d : EReal))
  (hg : ∀ d, V c main_arg4 (ix3 (0 : Fin 1) (0 : Fin 1) d) = (G d : EReal))

theorem point (t : Fin cfg3.N) : t.val < 32 := lt_of_lt_of_eq t.isLt N_3

/-- A point's rows of the whole. -/
abbrev row (t : Fin cfg3.N) (r : Fin 256) : Fin 8192 := ⟨t.val * 256 + r.val, by have := point t; omega⟩

include ho in
theorem block_o (t : Fin cfg3.N) (r : Fin 256) (d : Fin 2048) : iblk3 V c 0 t (ix2 r d) = ((O (row t r) d : ℝ) : EReal) := by
  refine Eq.trans ?_ (ho _ _)
  blk_point [iblk3, idx t]

include hy in
theorem block_y (t : Fin cfg3.N) (r : Fin 256) (d : Fin 2048) : iblk3 V c 1 t (ix2 r d) = ((Y (row t r) d : ℝ) : EReal) := by
  refine Eq.trans ?_ (hy _ _)
  blk_point [iblk3, idx t]

include hg in
theorem block_g (t : Fin cfg3.N) (d : Fin 2048) : iblk3 V c 2 t (ix3 (0 : Fin 1) (0 : Fin 1) d) = (G d : EReal) := by
  refine Eq.trans ?_ (hg _)
  blk_point [iblk3, idx t]

include ho hg in
theorem rows : (dat3 V c).arrAt 3 cfg3.N = fun i => ((dres O G (i 0) (i 1) : ℝ) : EReal) := by
  refine (dat3 V c).arrAt_eq_of_covers 3 _ (by decide +kernel) fun t hf y => ?_
  blk_simp
  rw [after3_3]
  obtain ⟨r, d, rfl⟩ : ∃ (r : Fin 256) (d : Fin 2048), y = ix2 r d := ⟨y 0, y 1, eq_ix2 y⟩
  generalize hz : ((View.whole main_v7_0).slice (win3_3.rect t)).emb (ix2 r d) = z
  have h0 : z 0 = row t r := Fin.ext (by subst hz; blk_simp [idx t])
  have h1 : z 1 = d := Fin.ext (by subst hz; blk_simp [idx t])
  rw [h0, h1]
  by_cases h : t.val % 32 = 0
  · rw [outsAt3_A V c t h]
    dsimp only
    rw [rows_first (ho := block_o V c O ho t) (hg := block_g V c G hg t)]
    rfl
  · rw [outsAt3_B V c t h]
    dsimp only
    rw [rows_next (ho := block_o V c O ho t) (hg := block_g V c G hg t)]
    rfl

include ho hy in
theorem gate : (dat3 V c).arrAt 4 cfg3.N = fun i => ((∑ r, gatePart Y O r (i 2) : ℝ) : EReal) := by
  refine (dat3 V c).arrAt_eq_of_covers 4 _ (by decide +kernel) fun t hf y => ?_
  blk_simp
  rw [after3_4, Pipeline.eq_sum_fin_of_reset_step_apply_of_flush (fun n h => (outsAt3 V c n h).2) 32 (fun _ => (0 : EReal))
    (fun t y => ((∑ r, gatePart Y O (row t r) (y 2) : ℝ) : EReal))
    (fun t h y => by
      obtain ⟨d, rfl⟩ := exists_row3 y
      rw [outsAt3_A V c t h]
      dsimp only
      rw [gate_first (ho := block_o V c O ho t) (hy := block_y V c Y hy t)]
      rfl)
    (fun t h y => by
      obtain ⟨d, rfl⟩ := exists_row3 y
      rw [outsAt3_B V c t h]
      dsimp only
      rw [gate_next (ho := block_o V c O ho t) (hy := block_y V c Y hy t)]
      rfl)
    t ((flush3_4 t).mp hf) _]
  show (0 : EReal) + ∑ s : Fin 32, _ = _
  rw [zero_add, coe_sum]
  generalize hz : ((View.whole main_v7_1).slice (win3_4.rect t)).emb y = z
  have h2 : z 2 = y 2 := Fin.ext (by subst hz; blk_simp [idx t])
  rw [h2]
  have ht := point t
  exact congrArg _ (sum_tiles (fun i => gatePart Y O i (y 2)) _ fun s r => by
    congr 1
    exact Fin.ext (by show (32 * (t.val / 32) + s.val) * 256 + r.val = s.val * 256 + r.val; omega))

end Residual

end Cert.Kernel2Ideal.Value

end
-- ==== Proof.FfnProducts.lean ====
/-
  THE FEED-FORWARD CALLS THAT ARE PLAIN PRODUCTS: each point writes one block of the product of the two arrays the call reads.
-/
module

public import proofs.«01_k».proof.Proof.Gen.Kernel2Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Dwo

theorem idx : ∀ t : Fin cfg4.N, win4_0.index t = ![t.val / 4, 0] ∧ win4_1.index t = ![0, t.val % 4] ∧ win4_2.index t = ![t.val / 4, t.val % 4] :=
  (by decide +kernel : ∀ t : Fin grid4.N, _)

theorem block (a : Vec Ideal S512x8192 .bf16) (b : Vec Ideal S8192x512 .bf16) (A : Fin 512 → Fin 8192 → ℝ) (B : Fin 8192 → Fin 512 → ℝ)
    (ha : ∀ i k, a (ix2 i k) = (A i k : EReal)) (hb : ∀ k j, b (ix2 k j) = (B k j : EReal)) (i : Fin 512) (j : Fin 512) :
    out4_2 (F := Ideal) a b (ix2 i j) = ((mm A B i j : ℝ) : EReal) := by
  frame_open
  frame_out
  open_payloads
  pointwise [ha, hb]
  exact mm_real A B i j

theorem result (A : Fin 5632 → Fin 8192 → ℝ) (B : Fin 8192 → Fin 2048 → ℝ)
    (ha : ∀ i k, V c main_v5_3 (ix2 i k) = (A i k : EReal)) (hb : ∀ k j, V c main_v7_0 (ix2 k j) = (B k j : EReal)) :
    (dat4 V c).arrAt 2 cfg4.N = fun i => ((mm A B (i 0) (i 1) : ℝ) : EReal) := by
  refine (dat4 V c).arrAt_eq_of_covers 2 _ (by decide +kernel) fun t hf y => ?_
  blk_simp
  rw [after4_2]
  have ht : t.val < 44 := lt_of_lt_of_eq t.isLt N_4
  generalize hz : ((View.whole main_v8).slice (win4_2.rect t)).emb y = z
  have h0 : z 0 = ⟨t.val / 4 * 512 + (y 0).val, by have : (y 0).val < 512 := (y 0).isLt; show _ < 5632; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 512 + i.val, by omega⟩ k) (fun k j => B k ⟨t.val % 4 * 512 + j.val, by omega⟩) (fun i k => ?_) (fun k j => ?_) _ _)
  · refine Eq.trans ?_ (ha _ _)
    blk_point [iblk4, idx t]
  · refine Eq.trans ?_ (hb _ _)
    blk_point [iblk4, idx t]

end Dwo

namespace Dwg

theorem idx : ∀ t : Fin cfg6.N, win6_0.index t = ![t.val / 11, 0] ∧ win6_1.index t = ![0, t.val % 11] ∧ win6_2.index t = ![t.val / 11, t.val % 11] :=
  (by decide +kernel : ∀ t : Fin grid6.N, _)

theorem block (a : Vec Ideal S512x8192 .bf16) (b : Vec Ideal S8192x512 .bf16) (A : Fin 512 → Fin 8192 → ℝ) (B : Fin 8192 → Fin 512 → ℝ)
    (ha : ∀ i k, a (ix2 i k) = (A i k : EReal)) (hb : ∀ k j, b (ix2 k j) = (B k j : EReal)) (i : Fin 512) (j : Fin 512) :
    out6_2 (F := Ideal) a b (ix2 i j) = ((mm A B i j : ℝ) : EReal) := by
  frame_open
  frame_out
  open_payloads
  pointwise [ha, hb]
  exact mm_real A B i j

theorem result (A : Fin 2048 → Fin 8192 → ℝ) (B : Fin 8192 → Fin 5632 → ℝ)
    (ha : ∀ i k, V c main_v4_1 (ix2 i k) = (A i k : EReal)) (hb : ∀ k j, V c main_v9_0 (ix2 k j) = (B k j : EReal)) :
    (dat6 V c).arrAt 2 cfg6.N = fun i => ((mm A B (i 0) (i 1) : ℝ) : EReal) := by
  refine (dat6 V c).arrAt_eq_of_covers 2 _ (by decide +kernel) fun t hf y => ?_
  blk_simp
  rw [after6_2]
  have ht : t.val < 44 := lt_of_lt_of_eq t.isLt N_6
  generalize hz : ((View.whole main_v10).slice (win6_2.rect t)).emb y = z
  have h0 : z 0 = ⟨t.val / 11 * 512 + (y 0).val, by have : (y 0).val < 512 := (y 0).isLt; show _ < 2048; omega⟩ := Fin.ext (by subst hz; blk_simp [idx t])
  have h1 : z 1 = ⟨t.val % 11 * 512 + (y 1).val, by have : (y 1).val < 512 := (y 1).isLt; show _ < 5632; omega⟩ := Fin.ext (by subst hz; blk_simp [idx t])
  rw [h0, h1, eq_ix2 y]
  refine (block _ _ (fun i k => A ⟨t.val / 11 * 512 + i.val, by omega⟩ k) (fun k j => B k ⟨t.val % 11 * 512 + j.val, by omega⟩) (fun i k => ?_) (fun k j => ?_) _ _)
  · refine Eq.trans ?_ (ha _ _)
    blk_point [iblk6, idx t]
  · refine Eq.trans ?_ (hb _ _)
    blk_point [iblk6, idx t]

end Dwg

namespace Dwu

theorem idx : ∀ t : Fin cfg7.N, win7_0.index t = ![t.val / 11, 0] ∧ win7_1.index t = ![0, t.val % 11] ∧ win7_2.index t = ![t.val / 11, t.val % 11] :=
  (by decide +kernel : ∀ t : Fin grid7.N, _)

theorem block (a : Vec Ideal S512x8192 .bf16) (b : Vec Ideal S8192x512 .bf16) (A : Fin 512 → Fin 8192 → ℝ) (B : Fin 8192 → Fin 512 → ℝ)
    (ha : ∀ i k, a (ix2 i k) = (A i k : EReal)) (hb : ∀ k j, b (ix2 k j) = (B k j : EReal)) (i : Fin 512) (j : Fin 512) :
    out7_2 (F := Ideal) a b (ix2 i j) = ((mm A B i j : ℝ) : EReal) := by
  frame_open
  frame_out
  open_payloads
  pointwise [ha, hb]
  exact mm_real A B i j

theorem result (A : Fin 2048 → Fin 8192 → ℝ) (B : Fin 8192 → Fin 5632 → ℝ)
    (ha : ∀ i k, V c main_v4_1 (ix2 i k) = (A i k : EReal)) (hb : ∀ k j, V c main_v9_1 (ix2 k j) = (B k j : EReal)) :
    (dat7 V c).arrAt 2 cfg7.N = fun i => ((mm A B (i 0) (i 1) : ℝ) : EReal) := by
  refine (dat7 V c).arrAt_eq_of_covers 2 _ (by decide +kernel) fun t hf y => ?_
  blk_simp
  rw [after7_2]
  have ht : t.val < 44 := lt_of_lt_of_eq t.isLt N_7
  generalize hz : ((View.whole main_v11).slice (win7_2.rect t)).emb y = z
  have h0 : z 0 = ⟨t.val / 11 * 512 + (y 0).val, by have : (y 0).val < 512 := (y 0).isLt; show _ < 2048; omega⟩ := Fin.ext (by subst hz; blk_simp [idx t])
  have h1 : z 1 = ⟨t.val % 11 * 512 + (y 1).val, by have : (y 1).val < 512 := (y 1).isLt; show _ < 5632; omega⟩ := Fin.ext (by subst hz; blk_simp [idx t])
  rw [h0, h1, eq_ix2 y]
  refine (block _ _ (fun i k => A ⟨t.val / 11 * 512 + i.val, by omega⟩ k) (fun k j => B k ⟨t.val % 11 * 512 + j.val, by omega⟩) (fun i k => ?_) (fun k j => ?_) _ _)
  · refine Eq.trans ?_ (ha _ _)
    blk_point [iblk7, idx t]
  · refine Eq.trans ?_ (hb _ _)
    blk_point [iblk7, idx t]

end Dwu

/-! The gradient of the normed rows, in two calls: the second adds its product to the first's. -/

namespace DhGate

theorem idx : ∀ t : Fin cfg8.N, win8_0.index t = ![t.val / 4, 0] ∧ win8_1.index t = ![t.val % 4, 0] ∧ win8_2.index t = ![t.val / 4, t.val % 4] :=
  (by decide +kernel : ∀ t : Fin grid8.N, _)

theorem block (a : Vec Ideal S1024x5632 .bf16) (b : Vec Ideal S512x5632 .bf16) (A : Fin 1024 → Fin 5632 → ℝ) (B : Fin 512 → Fin 5632 → ℝ)
    (ha : ∀ i k, a (ix2 i k) = (A i k : EReal)) (hb : ∀ j k, b (ix2 j k) = (B j k : EReal)) (i : Fin 1024) (j : Fin 512) :
    out8_2 (F := Ideal) a b (ix2 i j) = ((mmT A B i j : ℝ) : EReal) := by
  frame_open
  frame_out
  open_payloads
  pointwise [ha, hb]
  exact mmT_real A B i j

theorem result (A : Fin 8192 → Fin 5632 → ℝ) (B : Fin 2048 → Fin 5632 → ℝ)
    (ha : ∀ i k, V c main_v9_0 (ix2 i k) = (A i k : EReal)) (hb : ∀ j k, V c main_v1 (ix2 j k) = (B j k : EReal)) :
    (dat8 V c).arrAt 2 cfg8.N = fun i => ((mmT A B (i 0) (i 1) : ℝ) : EReal) := by
  refine (dat8 V c).arrAt_eq_of_covers 2 _ (by decide +kernel) fun t hf y => ?_
  blk_simp
  rw [after8_2]
  have ht : t.val < 32 := lt_of_lt_of_eq t.isLt N_8
  generalize hz : ((View.whole main_v12).slice (win8_2.rect t)).emb y = z
  have h0 : z 0 = ⟨t.val / 4 * 1024 + (y 0).val, by have : (y 0).val < 1024 := (y 0).isLt; show _ < 8192; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 1024 + i.val, by omega⟩ k) (fun j k => B ⟨t.val % 4 * 512 + j.val, by omega⟩ k) (fun i k => ?_) (fun j k => ?_) _ _)
  · refine Eq.trans ?_ (ha _ _)
    blk_point [iblk8, idx t]
  · refine Eq.trans ?_ (hb _ _)
    blk_point [iblk8, idx t]

end DhGate

namespace DhUp

theorem idx : ∀ t : Fin cfg9.N, win9_0.index t = ![t.val / 4, 0] ∧ win9_1.index t = ![t.val % 4, 0] ∧ win9_2.index t = ![t.val / 4, t.val % 4]
    ∧ win9_3.index t = ![t.val / 4, t.val % 4] :=
  (by decide +kernel : ∀ t : Fin grid9.N, _)

theorem block (a : Vec Ideal S1024x5632 .bf16) (b : Vec Ideal S512x5632 .bf16) (e : Vec Ideal S1024x512 .f32) (A : Fin 1024 → Fin 5632 → ℝ)
    (B : Fin 512 → Fin 5632 → ℝ) (E : Fin 1024 → Fin 512 → ℝ) (ha : ∀ i k, a (ix2 i k) = (A i k : EReal)) (hb : ∀ j k, b (ix2 j k) = (B j k : EReal))
    (he : ∀ i j, e (ix2 i j) = (E i j : EReal)) (i : Fin 1024) (j : Fin 512) :
    out9_3 (F := Ideal) a b e (ix2 i j) = ((mmT A B i j + E i j : ℝ) : EReal) := by
  frame_open
  frame_out
  open_payloads
  pointwise [ha, hb, he]
  rw [EReal.coe_add, ← mmT_real A B i j]

theorem result (A : Fin 8192 → Fin 5632 → ℝ) (B : Fin 2048 → Fin 5632 → ℝ) (E : Fin 8192 → Fin 2048 → ℝ)
    (ha : ∀ i k, V c main_v9_1 (ix2 i k) = (A i k : EReal)) (hb : ∀ j k, V c main_v2 (ix2 j k) = (B j k : EReal))
    (he : ∀ i j, V c main_v12 (ix2 i j) = (E i j : EReal)) :
    (dat9 V c).arrAt 3 cfg9.N = fun i => ((mmT A B (i 0) (i 1) + E (i 0) (i 1) : ℝ) : EReal) := by
  refine (dat9 V c).arrAt_eq_of_covers 3 _ (by decide +kernel) fun t hf y => ?_
  blk_simp
  rw [after9_3]
  have ht : t.val < 32 := lt_of_lt_of_eq t.isLt N_9
  generalize hz : ((View.whole main_v13).slice (win9_3.rect t)).emb y = z
  have h0 : z 0 = ⟨t.val / 4 * 1024 + (y 0).val, by have : (y 0).val < 1024 := (y 0).isLt; show _ < 8192; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ _ (fun i k => A ⟨t.val / 4 * 1024 + i.val, by omega⟩ k) (fun j k => B ⟨t.val % 4 * 512 + j.val, by omega⟩ k)
    (fun i j => E ⟨t.val / 4 * 1024 + i.val, by omega⟩ ⟨t.val % 4 * 512 + j.val, by omega⟩) (fun i k => ?_) (fun j k => ?_) (fun i j => ?_) _ _)
  · refine Eq.trans ?_ (ha _ _)
    blk_point [iblk9, idx t]
  · refine Eq.trans ?_ (hb _ _)
    blk_point [iblk9, idx t]
  · refine Eq.trans ?_ (he _ _)
    blk_point [iblk9, idx t]

end DhUp

end Cert.Kernel2Ideal.Value

end
-- ==== Proof.FfnNormBackBody.lean ====
/-
  THE FEED-FORWARD'S NORM, GOING BACK: each point takes 256 rows, writes their gradient, and adds the rows' parts of the gradients
  of the gain, the shift and the scale to three rows that stay in place from point to point and gather the 32 parts.
-/
module

public import proofs.«01_k».proof.Proof.Gen.Kernel2Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace NormBack

theorem idx : ∀ t : Fin cfg10.N, win10_0.index t = ![t.val, 0] ∧ win10_1.index t = ![t.val, 0] ∧ win10_2.index t = ![0, 0]
    ∧ win10_4.index t = ![0, 0, 0] ∧ win10_5.index t = ![t.val, 0]
    ∧ win10_6.index t = ![t.val, 0] ∧ win10_7.index t = ![0, 0] ∧ win10_8.index t = ![0, 0, 0] ∧ win10_9.index t = ![0, 0, 0] :=
  (by decide +kernel : ∀ t : Fin grid10.N, _)

section
variable (i : grid10.Coords) (arg1 : Memref sig .tc .vmem S256x2048 .f32) (harg1 : arg1.IsWhole) (arg2 : Memref sig .tc .vmem S256x2048 .f32)
  (harg2 : arg2.IsWhole) (arg3 : Memref sig .tc .vmem S1x2048 .f32) (harg3 : arg3.IsWhole) (arg4 : Memref sig .tc .vmem S1x1x2048 .f32)
  (harg4 : arg4.IsWhole) (arg5 : Memref sig .tc .vmem S1x1x2048 .f32) (harg5 : arg5.IsWhole) (arg6 : Memref sig .tc .vmem S256x2048 .f32)
  (harg6 : arg6.IsWhole) (arg7 : Memref sig .tc .vmem S256x2048 .f32) (harg7 : arg7.IsWhole) (arg8 : Memref sig .tc .vmem S1x2048 .f32)
  (harg8 : arg8.IsWhole) (arg9 : Memref sig .tc .vmem S1x1x2048 .f32) (harg9 : arg9.IsWhole) (arg10 : Memref sig .tc .vmem S1x1x2048 .f32)
  (harg10 : arg10.IsWhole)
variable (e x : Vec Ideal S256x2048 .f32) (g : Vec Ideal S1x2048 .f32) (sh sc : Vec Ideal S1x1x2048 .f32) (o : Vec Ideal S256x2048 .f32)
  (s7 : Vec Ideal S1x2048 .f32) (s8 s9 : Vec Ideal S1x1x2048 .f32)
variable (E X O : Fin 256 → Fin 2048 → ℝ) (G Sc : Fin 2048 → ℝ)
variable (he : ∀ r d, e (ix2 r d) = (E r d : EReal)) (hx : ∀ r d, x (ix2 r d) = (X r d : EReal)) (ho : ∀ r d, o (ix2 r d) = (O r d : EReal))
  (hg : ∀ d, g (ix2 (0 : Fin 1) d) = (G d : EReal)) (hsc : ∀ d, sc (ix3 (0 : Fin 1) (0 : Fin 1) d) = (Sc d : EReal))

include he hx ho hg hsc

theorem rows_first (hc : cond10_0 i) (hc' : cond10_1 i) (r : Fin 256) (d : Fin 2048) :
    out10_A_6 (F := Ideal) c i arg1 harg1 arg2 harg2 arg3 harg3 arg4 harg4 arg5 harg5 arg6 harg6 arg7 harg7 arg8 harg8 arg9 harg9 arg10 harg10 hc hc' e x g sh sc o (ix2 r d) = ((drows X G Sc E O r d : ℝ) : EReal) := by
  frame_open
  frame_out
  open_payloads
  pointwise [he, hx, ho, hg, hsc, ofBits_2048, ofBits_eps, ofBits_one]
  rw [square_real X r, rsqrt_square X r]
  simp only [← EReal.coe_mul, ← EReal.coe_add, coe_sum, div_2048, ← EReal.coe_sub]
  rfl

theorem rows_next (hc : ¬cond10_0 i) (hc' : ¬cond10_1 i) (r : Fin 256) (d : Fin 2048) :
    out10_B_6 (F := Ideal) c i arg1 harg1 arg2 harg2 arg3 harg3 arg4 harg4 arg5 harg5 arg6 harg6 arg7 harg7 arg8 harg8 arg9 harg9 arg10 harg10 hc hc' e x g sh sc o s7 s8 s9 (ix2 r d) = ((drows X G Sc E O r d : ℝ) : EReal) := by
  frame_open
  frame_out
  open_payloads
  pointwise [he, hx, ho, hg, hsc, ofBits_2048, ofBits_eps, ofBits_one]
  rw [square_real X r, rsqrt_square X r]
  simp only [← EReal.coe_mul, ← EReal.coe_add, coe_sum, div_2048, ← EReal.coe_sub]
  rfl

omit ho hg in
/-- At the first point the three sums start from zero, at the others from what the point before left. -/
theorem gain_first (hc : cond10_0 i) (hc' : cond10_1 i) (a : Fin 1) (d : Fin 2048) :
    out10_A_7 (F := Ideal) c i arg1 harg1 arg2 harg2 arg3 harg3 arg4 harg4 arg5 harg5 arg6 harg6 arg7 harg7 arg8 harg8 arg9 harg9 arg10 harg10 hc hc' e x g sh sc o (ix2 a d) = 0 + ((∑ r, gainPart X Sc E r d : ℝ) : EReal) := by
  obtain rfl : a = 0 := Subsingleton.elim a 0
  frame_open
  simp (disch := decide) only [↓ View.readCov_skip, ↓ View.readCov_cons_toLoadRect, ↓ View.readCov_fill]
  frame_out
  open_payloads
  pointwise [he, hx, hsc, ofBits_2048, ofBits_eps, ofBits_one]
  simp only [square_real X, rsqrt_square X]
  simp only [← EReal.coe_mul, ← EReal.coe_add, coe_sum]
  rfl

omit ho hg in
theorem gain_next (hc : ¬cond10_0 i) (hc' : ¬cond10_1 i) (a : Fin 1) (d : Fin 2048) :
    out10_B_7 (F := Ideal) c i arg1 harg1 arg2 harg2 arg3 harg3 arg4 harg4 arg5 harg5 arg6 harg6 arg7 harg7 arg8 harg8 arg9 harg9 arg10 harg10 hc hc' e x g sh sc o s7 s8 s9 (ix2 a d) = s7 (ix2 a d) + ((∑ r, gainPart X Sc E r d : ℝ) : EReal) := by
  obtain rfl : a = 0 := Subsingleton.elim a 0
  frame_open
  simp (disch := decide) only [↓ View.readCov_skip, ↓ View.readCov_cons_toLoadRect, ↓ View.readCov_fill]
  frame_out
  open_payloads
  pointwise [he, hx, hsc, ofBits_2048, ofBits_eps, ofBits_one]
  simp only [square_real X, rsqrt_square X]
  simp only [← EReal.coe_mul, ← EReal.coe_add, coe_sum]
  rfl

omit hx ho hg hsc in
theorem shift_first (hc : cond10_0 i) (hc' : cond10_1 i) (a b : Fin 1) (d : Fin 2048) :
    out10_A_8 (F := Ideal) c i arg1 harg1 arg2 harg2 arg3 harg3 arg4 harg4 arg5 harg5 arg6 harg6 arg7 harg7 arg8 harg8 arg9 harg9 arg10 harg10 hc hc' e x g sh sc o (ix3 a b d) = 0 + ((∑ r, E r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [he]
  simp only [coe_sum]

omit hx ho hg hsc in
theorem shift_next (hc : ¬cond10_0 i) (hc' : ¬cond10_1 i) (a b : Fin 1) (d : Fin 2048) :
    out10_B_8 (F := Ideal) c i arg1 harg1 arg2 harg2 arg3 harg3 arg4 harg4 arg5 harg5 arg6 harg6 arg7 harg7 arg8 harg8 arg9 harg9 arg10 harg10 hc hc' e x g sh sc o s7 s8 s9 (ix3 a b d) = s8 (ix3 a b d) + ((∑ r, E r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [he]
  simp only [coe_sum]

omit ho hsc in
theorem scale_first (hc : cond10_0 i) (hc' : cond10_1 i) (a b : Fin 1) (d : Fin 2048) :
    out10_A_9 (F := Ideal) c i arg1 harg1 arg2 harg2 arg3 harg3 arg4 harg4 arg5 harg5 arg6 harg6 arg7 harg7 arg8 harg8 arg9 harg9 arg10 harg10 hc hc' e x g sh sc o (ix3 a b d) = 0 + ((∑ r, scalePart X G E r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [he, hx, hg, ofBits_2048, ofBits_eps]
  simp only [square_real X, rsqrt_square X]
  simp only [← EReal.coe_mul, coe_sum]
  rfl

omit ho hsc in
theorem scale_next (hc : ¬cond10_0 i) (hc' : ¬cond10_1 i) (a b : Fin 1) (d : Fin 2048) :
    out10_B_9 (F := Ideal) c i arg1 harg1 arg2 harg2 arg3 harg3 arg4 harg4 arg5 harg5 arg6 harg6 arg7 harg7 arg8 harg8 arg9 harg9 arg10 harg10 hc hc' e x g sh sc o s7 s8 s9 (ix3 a b d) = s9 (ix3 a b d) + ((∑ r, scalePart X G E r d : ℝ) : EReal) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [he, hx, hg, ofBits_2048, ofBits_eps]
  simp only [square_real X, rsqrt_square X]
  simp only [← EReal.coe_mul, coe_sum]
  rfl

end

end NormBack

end Cert.Kernel2Ideal.Value

end
-- ==== Proof.FfnNormBack.lean ====
/-
  THE FEED-FORWARD'S NORM, GOING BACK, OVER ALL THE ROWS.
-/
module

public import proofs.«01_k».proof.Proof.FfnNormBackBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace NormBack

variable (E X O : Fin 8192 → Fin 2048 → ℝ) (G Sc : Fin 2048 → ℝ)
variable (he : ∀ i d, V c main_v13 (ix2 i d) = (E i d : EReal)) (hx : ∀ i d, V c main_arg0 (ix2 i d) = (X i d : EReal))
  (ho : ∀ i d, V c main_arg7 (ix2 i d) = (O i d : EReal)) (hg : ∀ d, V c main_arg1 (ix2 (0 : Fin 1) d) = (G d : EReal))
  (hsc : ∀ d, V c main_arg3 (ix3 (0 : Fin 1) (0 : Fin 1) d) = (Sc d : EReal))

theorem point (t : Fin cfg10.N) : t.val < 32 := lt_of_lt_of_eq t.isLt N_10

/-- A point's rows of the whole. -/
abbrev row (t : Fin cfg10.N) (r : Fin 256) : Fin 8192 := ⟨t.val * 256 + r.val, by have := point t; omega⟩

include he in
theorem block_e (t : Fin cfg10.N) (r : Fin 256) (d : Fin 2048) : iblk10 V c 0 t (ix2 r d) = ((E (row t r) d : ℝ) : EReal) := by
  refine Eq.trans ?_ (he _ _)
  blk_point [iblk10, idx t]

include hx in
theorem block_x (t : Fin cfg10.N) (r : Fin 256) (d : Fin 2048) : iblk10 V c 1 t (ix2 r d) = ((X (row t r) d : ℝ) : EReal) := by
  refine Eq.trans ?_ (hx _ _)
  blk_point [iblk10, idx t]

include hg in
theorem block_g (t : Fin cfg10.N) (d : Fin 2048) : iblk10 V c 2 t (ix2 (0 : Fin 1) d) = (G d : EReal) := by
  refine Eq.trans ?_ (hg _)
  blk_point [iblk10, idx t]

include hsc in
theorem block_sc (t : Fin cfg10.N) (d : Fin 2048) : iblk10 V c 4 t (ix3 (0 : Fin 1) (0 : Fin 1) d) = (Sc d : EReal) := by
  refine Eq.trans ?_ (hsc _)
  blk_point [iblk10, idx t]

include ho in
theorem block_o (t : Fin cfg10.N) (r : Fin 256) (d : Fin 2048) : iblk10 V c 5 t (ix2 r d) = ((O (row t r) d : ℝ) : EReal) := by
  refine Eq.trans ?_ (ho _ _)
  blk_point [iblk10, idx t]

include he hx ho hg hsc in
theorem rows : (dat10 V c).arrAt 6 cfg10.N = fun i => ((drows X G Sc E O (i 0) (i 1) : ℝ) : EReal) := by
  refine (dat10 V c).arrAt_eq_of_covers 6 _ (by decide +kernel) fun t hf y => ?_
  blk_simp
  rw [after10_6]
  obtain ⟨r, d, rfl⟩ : ∃ (r : Fin 256) (d : Fin 2048), y = ix2 r d := ⟨y 0, y 1, eq_ix2 y⟩
  generalize hz : ((View.whole main_v14_0).slice (win10_6.rect t)).emb (ix2 r d) = z
  have h0 : z 0 = row t r := Fin.ext (by subst hz; blk_simp [idx t])
  have h1 : z 1 = d := Fin.ext (by subst hz; blk_simp [idx t])
  rw [h0, h1]
  by_cases h : t.val % 32 = 0
  · rw [outsAt10_A V c t h h]
    dsimp only
    rw [rows_first (he := block_e V c E he t) (hx := block_x V c X hx t) (ho := block_o V c O ho t) (hg := block_g V c G hg t) (hsc := block_sc V c Sc hsc t)]
    rfl
  · rw [outsAt10_B V c t h h]
    dsimp only
    rw [rows_next (he := block_e V c E he t) (hx := block_x V c X hx t) (ho := block_o V c O ho t) (hg := block_g V c G hg t) (hsc := block_sc V c Sc hsc t)]
    rfl

include he hx hsc in
theorem gain : (dat10 V c).arrAt 7 cfg10.N = fun i => ((∑ r, gainPart X Sc E r (i 1) : ℝ) : EReal) := by
  refine (dat10 V c).arrAt_eq_of_covers 7 _ (by decide +kernel) fun t hf y => ?_
  blk_simp
  rw [after10_7, Pipeline.eq_sum_fin_of_reset_step_apply_of_flush (fun n h => (outsAt10 V c n h).2.1) 32 (fun _ => (0 : EReal))
    (fun t y => ((∑ r, gainPart X Sc E (row t r) (y 1) : ℝ) : EReal))
    (fun t h y => by
      obtain ⟨d, rfl⟩ := exists_row2 y
      rw [outsAt10_A V c t h h]
      dsimp only
      rw [gain_first (he := block_e V c E he t) (hx := block_x V c X hx t) (hsc := block_sc V c Sc hsc t)]
      rfl)
    (fun t h y => by
      obtain ⟨d, rfl⟩ := exists_row2 y
      rw [outsAt10_B V c t h h]
      dsimp only
      rw [gain_next (he := block_e V c E he t) (hx := block_x V c X hx t) (hsc := block_sc V c Sc hsc t)]
      rfl)
    t ((flush10_7 t).mp hf) _]
  show (0 : EReal) + ∑ s : Fin 32, _ = _
  rw [zero_add, coe_sum]
  generalize hz : ((View.whole main_v14_1).slice (win10_7.rect t)).emb y = z
  have h1 : z 1 = y 1 := Fin.ext (by subst hz; blk_simp [idx t])
  rw [h1]
  have ht := point t
  exact congrArg _ (sum_tiles (fun i => gainPart X Sc E i (y 1)) _ fun s r => by
    congr 1
    exact Fin.ext (by show (32 * (t.val / 32) + s.val) * 256 + r.val = s.val * 256 + r.val; omega))

include he in
theorem shift : (dat10 V c).arrAt 8 cfg10.N = fun i => ((∑ r, E r (i 2) : ℝ) : EReal) := by
  refine (dat10 V c).arrAt_eq_of_covers 8 _ (by decide +kernel) fun t hf y => ?_
  blk_simp
  rw [after10_8, Pipeline.eq_sum_fin_of_reset_step_apply_of_flush (fun n h => (outsAt10 V c n h).2.2.1) 32 (fun _ => (0 : EReal))
    (fun t y => ((∑ r, E (row t r) (y 2) : ℝ) : EReal))
    (fun t h y => by
      obtain ⟨d, rfl⟩ := exists_row3 y
      rw [outsAt10_A V c t h h]
      dsimp only
      rw [shift_first (he := block_e V c E he t)]
      rfl)
    (fun t h y => by
      obtain ⟨d, rfl⟩ := exists_row3 y
      rw [outsAt10_B V c t h h]
      dsimp only
      rw [shift_next (he := block_e V c E he t)]
      rfl)
    t ((flush10_8 t).mp hf) _]
  show (0 : EReal) + ∑ s : Fin 32, _ = _
  rw [zero_add, coe_sum]
  generalize hz : ((View.whole main_v14_2).slice (win10_8.rect t)).emb y = z
  have h2 : z 2 = y 2 := Fin.ext (by subst hz; blk_simp [idx t])
  rw [h2]
  have ht := point t
  exact congrArg _ (sum_tiles (fun i => E i (y 2)) _ fun s r => by
    congr 1
    exact Fin.ext (by show (32 * (t.val / 32) + s.val) * 256 + r.val = s.val * 256 + r.val; omega))

include he hx hg in
theorem scale : (dat10 V c).arrAt 9 cfg10.N = fun i => ((∑ r, scalePart X G E r (i 2) : ℝ) : EReal) := by
  refine (dat10 V c).arrAt_eq_of_covers 9 _ (by decide +kernel) fun t hf y => ?_
  blk_simp
  rw [after10_9, Pipeline.eq_sum_fin_of_reset_step_apply_of_flush (fun n h => (outsAt10 V c n h).2.2.2) 32 (fun _ => (0 : EReal))
    (fun t y => ((∑ r, scalePart X G E (row t r) (y 2) : ℝ) : EReal))
    (fun t h y => by
      obtain ⟨d, rfl⟩ := exists_row3 y
      rw [outsAt10_A V c t h h]
      dsimp only
      rw [scale_first (he := block_e V c E he t) (hx := block_x V c X hx t) (hg := block_g V c G hg t)]
      rfl)
    (fun t h y => by
      obtain ⟨d, rfl⟩ := exists_row3 y
      rw [outsAt10_B V c t h h]
      dsimp only
      rw [scale_next (he := block_e V c E he t) (hx := block_x V c X hx t) (hg := block_g V c G hg t)]
      rfl)
    t ((flush10_9 t).mp hf) _]
  show (0 : EReal) + ∑ s : Fin 32, _ = _
  rw [zero_add, coe_sum]
  generalize hz : ((View.whole main_v14_3).slice (win10_9.rect t)).emb y = z
  have h2 : z 2 = y 2 := Fin.ext (by subst hz; blk_simp [idx t])
  rw [h2]
  have ht := point t
  exact congrArg _ (sum_tiles (fun i => scalePart X G E i (y 2)) _ fun s r => by
    congr 1
    exact Fin.ext (by show (32 * (t.val / 32) + s.val) * 256 + r.val = s.val * 256 + r.val; omega))

end NormBack

end Cert.Kernel2Ideal.Value

end
-- ==== Proof.FfnKernelRun.lean ====
/-
  THE FEED-FORWARD'S RUN AT REAL ARGUMENTS. Every execution ends with the feed-forward of the arguments and its gradients: the
  eleven calls in turn, each reading what the ones before it left.
-/
module

public import proofs.«01_k».proof.Proof.FfnStep
public import proofs.«01_k».proof.Proof.FfnNorm
public import proofs.«01_k».proof.Proof.FfnGate
public import proofs.«01_k».proof.Proof.FfnResidual
public import proofs.«01_k».proof.Proof.FfnProducts
public import proofs.«01_k».proof.Proof.FfnNormBack

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FeedForward

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

/-! ## The arguments -/

/-- The arguments' entries as reals. -/
def args (c : Dev nD) : Args where
  x i d := EReal.toReal (m ((c : Thread nD τ).loc main_arg0) (ix2 i d))
  gain d := EReal.toReal (m ((c : Thread nD τ).loc main_arg1) (ix2 (0 : Fin 1) d))
  shift d := EReal.toReal (m ((c : Thread nD τ).loc main_arg2) (ix3 (0 : Fin 1) (0 : Fin 1) d))
  scale d := EReal.toReal (m ((c : Thread nD τ).loc main_arg3) (ix3 (0 : Fin 1) (0 : Fin 1) d))
  gate d := EReal.toReal (m ((c : Thread nD τ).loc main_arg4) (ix3 (0 : Fin 1) (0 : Fin 1) d))
  wIn k f := EReal.toReal (m ((c : Thread nD τ).loc main_arg5) (ix2 k f))
  wOut f d := EReal.toReal (m ((c : Thread nD τ).loc main_arg6) (ix2 f d))
  dout i d := EReal.toReal (m ((c : Thread nD τ).loc main_arg7) (ix2 i d))

/-- Every entry of every argument is a real. -/
structure RealArgs : Prop where
  x : ∀ c i d, m (((c : Dev nD) : Thread nD τ).loc main_arg0) (ix2 i d) = ((args m c).x i d : EReal)
  gain : ∀ c d, m (((c : Dev nD) : Thread nD τ).loc main_arg1) (ix2 (0 : Fin 1) d) = ((args m c).gain d : EReal)
  shift : ∀ c d, m (((c : Dev nD) : Thread nD τ).loc main_arg2) (ix3 (0 : Fin 1) (0 : Fin 1) d) = ((args m c).shift d : EReal)
  scale : ∀ c d, m (((c : Dev nD) : Thread nD τ).loc main_arg3) (ix3 (0 : Fin 1) (0 : Fin 1) d) = ((args m c).scale d : EReal)
  gate : ∀ c d, m (((c : Dev nD) : Thread nD τ).loc main_arg4) (ix3 (0 : Fin 1) (0 : Fin 1) d) = ((args m c).gate d : EReal)
  wIn : ∀ c k f, m (((c : Dev nD) : Thread nD τ).loc main_arg5) (ix2 k f) = ((args m c).wIn k f : EReal)
  wOut : ∀ c f d, m (((c : Dev nD) : Thread nD τ).loc main_arg6) (ix2 f d) = ((args m c).wOut f d : EReal)
  dout : ∀ c i d, m (((c : Dev nD) : Thread nD τ).loc main_arg7) (ix2 i d) = ((args m c).dout i d : EReal)

variable {m} (R : RealArgs m) (c : Dev nD)

/-! ## The host's casts and slices -/

include R in
theorem V1_gate (k : Fin 2048) (f : Fin 5632) : V1 m ρ c main_v1 (ix2 k f) = ((args m c).wGate k f : EReal) := by
  have e : V1 m ρ c main_v1 = extractStridedSlice S2048x5632 ![0, 0]
      (truncf (F := Ideal) .bf16 (m ((c : Thread nD τ).loc main_arg5)) bitsLt_bf16_f32 : (⟨S2048x11264, .bf16⟩ : BufTy).Contents (Elt Ideal))
      slices_S2048x11264_S2048x5632_0_0 := by
    show StableHlo.after hostOps0 _ _ = _
    after_results
  rw [e]
  exact (extractStridedSlice_apply ![0, 0] _ slices_S2048x11264_S2048x5632_0_0 (ix2 k f) (ix2 k ⟨f.val, by omega⟩) (fun a => match a with
    | ⟨0, _⟩ => by show k.val = 0 + k.val; omega
    | ⟨1, _⟩ => by show f.val = 0 + f.val; omega)).trans (R.wIn c k _)
include R in
theorem V1_up (k : Fin 2048) (f : Fin 5632) : V1 m ρ c main_v2 (ix2 k f) = ((args m c).wUp k f : EReal) := by
  have e : V1 m ρ c main_v2 = extractStridedSlice S2048x5632 ![0, 5632]
      (truncf (F := Ideal) .bf16 (m ((c : Thread nD τ).loc main_arg5)) bitsLt_bf16_f32 : (⟨S2048x11264, .bf16⟩ : BufTy).Contents (Elt Ideal))
      slices_S2048x11264_S2048x5632_0_5632 := by
    show StableHlo.after hostOps0 _ _ = _
    after_results
  rw [e]
  exact (extractStridedSlice_apply ![0, 5632] _ slices_S2048x11264_S2048x5632_0_5632 (ix2 k f) (ix2 k ⟨5632 + f.val, by omega⟩) (fun a => match a with
    | ⟨0, _⟩ => by show k.val = 0 + k.val; omega
    | ⟨1, _⟩ => by show 5632 + f.val = 5632 + f.val; rfl)).trans (R.wIn c k _)
include R in
theorem V1_out (f : Fin 5632) (d : Fin 2048) : V1 m ρ c main_v3 (ix2 f d) = ((args m c).wOut f d : EReal) := by
  have e : V1 m ρ c main_v3 = m ((c : Thread nD τ).loc main_arg6) := by
    show StableHlo.after hostOps0 _ _ = _
    after_results
    rfl
  exact (congrFun e _).trans (R.wOut c f d)

/-! ## The calls in turn -/

include R

theorem h_eq : V2 m ρ c main_v4_0 = fun i => (((args m c).h (i 0) (i 1) : ℝ) : EReal) :=
  (W2_arr m ρ c 4).trans (Norm.rows (V1 m ρ) c _ _ _ _ (fun i d => (congrFun (W1_args m ρ c main_arg0 (by decide)) _).trans (R.x c i d)) (fun d => (congrFun
    (W1_args m ρ c main_arg1 (by decide)) _).trans (R.gain c d)) (fun d => (congrFun (W1_args m ρ c main_arg2 (by decide)) _).trans (R.shift c d)) (fun d =>
      (congrFun (W1_args m ρ c main_arg3 (by decide)) _).trans (R.scale c d)))
theorem hT_eq : V2 m ρ c main_v4_1 = fun i => (((args m c).h (i 1) (i 0) : ℝ) : EReal) :=
  (W2_arr m ρ c 5).trans (Norm.cols (V1 m ρ) c _ _ _ _ (fun i d => (congrFun (W1_args m ρ c main_arg0 (by decide)) _).trans (R.x c i d)) (fun d => (congrFun
    (W1_args m ρ c main_arg1 (by decide)) _).trans (R.gain c d)) (fun d => (congrFun (W1_args m ρ c main_arg2 (by decide)) _).trans (R.shift c d)) (fun d =>
      (congrFun (W1_args m ρ c main_arg3 (by decide)) _).trans (R.scale c d)))
theorem p_eq : V3 m ρ c main_v5_0 = fun i => (((args m c).p (i 0) (i 1) : ℝ) : EReal) :=
  (W3_arr m ρ c 3).trans (Up.gate (V2 m ρ) c _ _ (fun _ _ => congrFun (h_eq ρ R c) _) (fun k f => (congrFun ((W2_of m ρ c main_v1 (by decide +kernel))) _).trans
    (V1_gate ρ R c k f)))
theorem u_eq : V3 m ρ c main_v5_1 = fun i => (((args m c).u (i 0) (i 1) : ℝ) : EReal) :=
  (W3_arr m ρ c 4).trans (Up.up (V2 m ρ) c _ _ (fun _ _ => congrFun (h_eq ρ R c) _) (fun k f => (congrFun ((W2_of m ρ c main_v2 (by decide +kernel))) _).trans
    (V1_up ρ R c k f)))
theorem s_eq : V3 m ρ c main_v5_2 = fun i => (((args m c).s (i 0) (i 1) : ℝ) : EReal) :=
  (W3_arr m ρ c 5).trans (Up.activation (V2 m ρ) c _ _ _ (fun _ _ => congrFun (h_eq ρ R c) _) (fun k f => (congrFun ((W2_of m ρ c main_v1 (by decide +kernel)))
    _).trans (V1_gate ρ R c k f)) (fun k f => (congrFun ((W2_of m ρ c main_v2 (by decide +kernel))) _).trans (V1_up ρ R c k f)))
theorem sT_eq : V3 m ρ c main_v5_3 = fun i => (((args m c).s (i 1) (i 0) : ℝ) : EReal) :=
  (W3_arr m ρ c 6).trans (Up.activationT (V2 m ρ) c _ _ _ (fun _ _ => congrFun (h_eq ρ R c) _) (fun k f => (congrFun ((W2_of m ρ c main_v1 (by decide +kernel)))
    _).trans (V1_gate ρ R c k f)) (fun k f => (congrFun ((W2_of m ρ c main_v2 (by decide +kernel))) _).trans (V1_up ρ R c k f)))
theorem out_eq : V4 m ρ c main_v6_0 = fun i => (((args m c).out (i 0) (i 1) : ℝ) : EReal) :=
  (W4_arr m ρ c 4).trans (Down.out (V3 m ρ) c _ _ _ _ (fun _ _ => congrFun (s_eq ρ R c) _) (fun f d => (congrFun ((W3_of m ρ c main_v3 (by decide +kernel)).trans
    ((W2_of m ρ c main_v3 (by decide +kernel)))) _).trans (V1_out ρ R c f d)) (fun i d => (congrFun (W3_args m ρ c main_arg0 (by decide)) _).trans (R.x c i d)) (fun
      d => (congrFun (W3_args m ρ c main_arg4 (by decide)) _).trans (R.gate c d)))
theorem y_eq : V4 m ρ c main_v6_1 = fun i => (((args m c).y (i 0) (i 1) : ℝ) : EReal) :=
  (W4_arr m ρ c 5).trans (Down.product (V3 m ρ) c _ _ (fun _ _ => congrFun (s_eq ρ R c) _) (fun f d => (congrFun ((W3_of m ρ c main_v3 (by decide +kernel)).trans
    ((W2_of m ρ c main_v3 (by decide +kernel)))) _).trans (V1_out ρ R c f d)))
theorem dy_eq : V5 m ρ c main_v7_0 = fun i => (((args m c).dy (i 0) (i 1) : ℝ) : EReal) :=
  (W5_arr m ρ c 3).trans (Residual.rows (V4 m ρ) c _ _ (fun i d => (congrFun (W4_args m ρ c main_arg7 (by decide)) _).trans (R.dout c i d)) (fun d => (congrFun
    (W4_args m ρ c main_arg4 (by decide)) _).trans (R.gate c d)))
theorem dgate_eq : V5 m ρ c main_v7_1 = fun i => (((args m c).dgate (i 2) : ℝ) : EReal) :=
  (W5_arr m ρ c 4).trans (Residual.gate (V4 m ρ) c _ _ (fun i d => (congrFun (W4_args m ρ c main_arg7 (by decide)) _).trans (R.dout c i d)) (fun _ _ => congrFun
    (y_eq ρ R c) _))
theorem dwOut_eq : V6 m ρ c main_v8 = fun i => (((args m c).dwOut (i 0) (i 1) : ℝ) : EReal) :=
  (W6_arr m ρ c 2).trans (Dwo.result (V5 m ρ) c (fun f i => (args m c).s i f) _ (fun _ _ => congrFun ((W5_of m ρ c main_v5_3 (by decide +kernel)).trans ((W4_of m ρ
    c main_v5_3 (by decide +kernel)).trans (sT_eq ρ R c))) _) (fun _ _ => congrFun (dy_eq ρ R c) _))
theorem dP_eq : V7 m ρ c main_v9_0 = fun i => (((args m c).dP (i 0) (i 1) : ℝ) : EReal) :=
  (W7_arr m ρ c 4).trans (Act.gate (V6 m ρ) c _ _ _ _ (fun _ _ => congrFun ((W6_of m ρ c main_v7_0 (by decide +kernel)).trans (dy_eq ρ R c)) _) (fun f d =>
    (congrFun ((W6_of m ρ c main_v3 (by decide +kernel)).trans ((W5_of m ρ c main_v3 (by decide +kernel)).trans ((W4_of m ρ c main_v3 (by decide +kernel)).trans
      ((W3_of m ρ c main_v3 (by decide +kernel)).trans ((W2_of m ρ c main_v3 (by decide +kernel))))))) _).trans (V1_out ρ R c f d)) (fun _ _ => congrFun ((W6_of m ρ
      c main_v5_0 (by decide +kernel)).trans ((W5_of m ρ c main_v5_0 (by decide +kernel)).trans ((W4_of m ρ c main_v5_0 (by decide +kernel)).trans (p_eq ρ R c))))
      _) (fun _ _ => congrFun ((W6_of m ρ c main_v5_1 (by decide +kernel)).trans ((W5_of m ρ c main_v5_1 (by decide +kernel)).trans ((W4_of m ρ c main_v5_1 (by
      decide +kernel)).trans (u_eq ρ R c)))) _))
theorem dU_eq : V7 m ρ c main_v9_1 = fun i => (((args m c).dU (i 0) (i 1) : ℝ) : EReal) :=
  (W7_arr m ρ c 5).trans (Act.up (V6 m ρ) c _ _ _ (fun _ _ => congrFun ((W6_of m ρ c main_v7_0 (by decide +kernel)).trans (dy_eq ρ R c)) _) (fun f d => (congrFun
    ((W6_of m ρ c main_v3 (by decide +kernel)).trans ((W5_of m ρ c main_v3 (by decide +kernel)).trans ((W4_of m ρ c main_v3 (by decide +kernel)).trans ((W3_of m ρ c
      main_v3 (by decide +kernel)).trans ((W2_of m ρ c main_v3 (by decide +kernel))))))) _).trans (V1_out ρ R c f d)) (fun _ _ => congrFun ((W6_of m ρ c main_v5_0
      (by decide +kernel)).trans ((W5_of m ρ c main_v5_0 (by decide +kernel)).trans ((W4_of m ρ c main_v5_0 (by decide +kernel)).trans (p_eq ρ R c)))) _))
theorem dwGate_eq : V8 m ρ c main_v10 = fun i => (((args m c).dwGate (i 0) (i 1) : ℝ) : EReal) :=
  (W8_arr m ρ c 2).trans (Dwg.result (V7 m ρ) c (fun d i => (args m c).h i d) _ (fun _ _ => congrFun ((W7_of m ρ c main_v4_1 (by decide +kernel)).trans ((W6_of m ρ
    c main_v4_1 (by decide +kernel)).trans ((W5_of m ρ c main_v4_1 (by decide +kernel)).trans ((W4_of m ρ c main_v4_1 (by decide +kernel)).trans ((W3_of m ρ c
      main_v4_1 (by decide +kernel)).trans (hT_eq ρ R c)))))) _) (fun _ _ => congrFun (dP_eq ρ R c) _))
theorem dwUp_eq : V9 m ρ c main_v11 = fun i => (((args m c).dwUp (i 0) (i 1) : ℝ) : EReal) :=
  (W9_arr m ρ c 2).trans (Dwu.result (V8 m ρ) c (fun d i => (args m c).h i d) _ (fun _ _ => congrFun ((W8_of m ρ c main_v4_1 (by decide +kernel)).trans ((W7_of m ρ
    c main_v4_1 (by decide +kernel)).trans ((W6_of m ρ c main_v4_1 (by decide +kernel)).trans ((W5_of m ρ c main_v4_1 (by decide +kernel)).trans ((W4_of m ρ c
      main_v4_1 (by decide +kernel)).trans ((W3_of m ρ c main_v4_1 (by decide +kernel)).trans (hT_eq ρ R c))))))) _) (fun _ _ => congrFun ((W8_of m ρ c main_v9_1
      (by decide +kernel)).trans (dU_eq ρ R c)) _))
theorem dhg_eq : V10 m ρ c main_v12 = fun i => ((mmT (args m c).dP (args m c).wGate (i 0) (i 1) : ℝ) : EReal) :=
  (W10_arr m ρ c 2).trans (DhGate.result (V9 m ρ) c _ _ (fun _ _ => congrFun ((W9_of m ρ c main_v9_0 (by decide +kernel)).trans ((W8_of m ρ c main_v9_0 (by
    decide +kernel)).trans (dP_eq ρ R c))) _) (fun k f => (congrFun ((W9_of m ρ c main_v1 (by decide +kernel)).trans ((W8_of m ρ c main_v1 (by
      decide +kernel)).trans ((W7_of m ρ c main_v1 (by decide +kernel)).trans ((W6_of m ρ c main_v1 (by decide +kernel)).trans ((W5_of m ρ c main_v1 (by
      decide +kernel)).trans ((W4_of m ρ c main_v1 (by decide +kernel)).trans ((W3_of m ρ c main_v1 (by decide +kernel)).trans ((W2_of m ρ c main_v1 (by
      decide +kernel)))))))))) _).trans (V1_gate ρ R c k f)))
theorem dh_eq : V11 m ρ c main_v13 = fun i => (((args m c).dh (i 0) (i 1) : ℝ) : EReal) :=
  (W11_arr m ρ c 3).trans (DhUp.result (V10 m ρ) c _ _ (mmT (args m c).dP (args m c).wGate) (fun _ _ => congrFun ((W10_of m ρ c main_v9_1 (by decide +kernel)).trans
    ((W9_of m ρ c main_v9_1 (by decide +kernel)).trans ((W8_of m ρ c main_v9_1 (by decide +kernel)).trans (dU_eq ρ R c)))) _) (fun k f => (congrFun ((W10_of m ρ c
      main_v2 (by decide +kernel)).trans ((W9_of m ρ c main_v2 (by decide +kernel)).trans ((W8_of m ρ c main_v2 (by decide +kernel)).trans ((W7_of m ρ c main_v2 (by
      decide +kernel)).trans ((W6_of m ρ c main_v2 (by decide +kernel)).trans ((W5_of m ρ c main_v2 (by decide +kernel)).trans ((W4_of m ρ c main_v2 (by
      decide +kernel)).trans ((W3_of m ρ c main_v2 (by decide +kernel)).trans ((W2_of m ρ c main_v2 (by decide +kernel))))))))))) _).trans (V1_up ρ R c k f)) (fun _
      _ => congrFun (dhg_eq ρ R c) _))
theorem dx_eq : V12 m ρ c main_v14_0 = fun i => (((args m c).dx (i 0) (i 1) : ℝ) : EReal) :=
  (W12_arr m ρ c 6).trans (NormBack.rows (V11 m ρ) c _ _ _ _ _ (fun _ _ => congrFun (dh_eq ρ R c) _) (fun i d => (congrFun (W11_args m ρ c main_arg0 (by decide))
    _).trans (R.x c i d)) (fun i d => (congrFun (W11_args m ρ c main_arg7 (by decide)) _).trans (R.dout c i d)) (fun d => (congrFun (W11_args m ρ c main_arg1 (by
      decide)) _).trans (R.gain c d)) (fun d => (congrFun (W11_args m ρ c main_arg3 (by decide)) _).trans (R.scale c d)))
theorem dgain_eq : V12 m ρ c main_v14_1 = fun i => (((args m c).dgain (i 1) : ℝ) : EReal) :=
  (W12_arr m ρ c 7).trans (NormBack.gain (V11 m ρ) c _ _ _ (fun _ _ => congrFun (dh_eq ρ R c) _) (fun i d => (congrFun (W11_args m ρ c main_arg0 (by decide))
    _).trans (R.x c i d)) (fun d => (congrFun (W11_args m ρ c main_arg3 (by decide)) _).trans (R.scale c d)))
theorem dshift_eq : V12 m ρ c main_v14_2 = fun i => (((args m c).dshift (i 2) : ℝ) : EReal) :=
  (W12_arr m ρ c 8).trans (NormBack.shift (V11 m ρ) c _ (fun _ _ => congrFun (dh_eq ρ R c) _))
theorem dscale_eq : V12 m ρ c main_v14_3 = fun i => (((args m c).dscale (i 2) : ℝ) : EReal) :=
  (W12_arr m ρ c 9).trans (NormBack.scale (V11 m ρ) c _ _ _ (fun _ _ => congrFun (dh_eq ρ R c) _) (fun i d => (congrFun (W11_args m ρ c main_arg0 (by decide))
    _).trans (R.x c i d)) (fun d => (congrFun (W11_args m ρ c main_arg1 (by decide)) _).trans (R.gain c d)))

omit c in
/-- THE KERNEL'S RUN: the feed-forward and its gradients, the arguments as they were. -/
theorem run : θ_run defs (onTc (τ := τ) (main (F := Ideal))) ⟨m, fun _ => 0, ρ⟩ (fun r => ∀ c : Dev nD,
      r.2.mem ((c.tc : Thread nD τ).loc main_v6_0) = (fun i => (((args m c).out (i 0) (i 1) : ℝ) : EReal))
      ∧ r.2.mem ((c.tc : Thread nD τ).loc main_v14_0) = (fun i => (((args m c).dx (i 0) (i 1) : ℝ) : EReal))
      ∧ r.2.mem ((c.tc : Thread nD τ).loc main_v14_1) = (fun i => (((args m c).dgain (i 1) : ℝ) : EReal))
      ∧ r.2.mem ((c.tc : Thread nD τ).loc main_v14_2) = (fun i => (((args m c).dshift (i 2) : ℝ) : EReal))
      ∧ r.2.mem ((c.tc : Thread nD τ).loc main_v14_3) = (fun i => (((args m c).dscale (i 2) : ℝ) : EReal))
      ∧ r.2.mem ((c.tc : Thread nD τ).loc main_v7_1) = (fun i => (((args m c).dgate (i 2) : ℝ) : EReal))
      ∧ r.2.mem ((c.tc : Thread nD τ).loc main_v10) = (fun i => (((args m c).dwGate (i 0) (i 1) : ℝ) : EReal))
      ∧ r.2.mem ((c.tc : Thread nD τ).loc main_v11) = (fun i => (((args m c).dwUp (i 0) (i 1) : ℝ) : EReal))
      ∧ r.2.mem ((c.tc : Thread nD τ).loc main_v8) = (fun i => (((args m c).dwOut (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_v6_0 (by decide))).trans ((W12_of m ρ c main_v6_0 (by decide +kernel)).trans ((W11_of m ρ c main_v6_0 (by decide +kernel)).trans ((W10_of m
      ρ c main_v6_0 (by decide +kernel)).trans ((W9_of m ρ c main_v6_0 (by decide +kernel)).trans ((W8_of m ρ c main_v6_0 (by decide +kernel)).trans ((W7_of m ρ c
      main_v6_0 (by decide +kernel)).trans ((W6_of m ρ c main_v6_0 (by decide +kernel)).trans ((W5_of m ρ c main_v6_0 (by decide +kernel)).trans (out_eq ρ R c))))))))),
    (h c _ (mem_uc main_v14_0 (by decide))).trans (dx_eq ρ R c),
    (h c _ (mem_uc main_v14_1 (by decide))).trans (dgain_eq ρ R c),
    (h c _ (mem_uc main_v14_2 (by decide))).trans (dshift_eq ρ R c),
    (h c _ (mem_uc main_v14_3 (by decide))).trans (dscale_eq ρ R c),
    (h c _ (mem_uc main_v7_1 (by decide))).trans ((W12_of m ρ c main_v7_1 (by decide +kernel)).trans ((W11_of m ρ c main_v7_1 (by decide +kernel)).trans ((W10_of m
      ρ c main_v7_1 (by decide +kernel)).trans ((W9_of m ρ c main_v7_1 (by decide +kernel)).trans ((W8_of m ρ c main_v7_1 (by decide +kernel)).trans ((W7_of m ρ c
      main_v7_1 (by decide +kernel)).trans ((W6_of m ρ c main_v7_1 (by decide +kernel)).trans (dgate_eq ρ R c)))))))),
    (h c _ (mem_uc main_v10 (by decide))).trans ((W12_of m ρ c main_v10 (by decide +kernel)).trans ((W11_of m ρ c main_v10 (by decide +kernel)).trans ((W10_of m ρ c
      main_v10 (by decide +kernel)).trans ((W9_of m ρ c main_v10 (by decide +kernel)).trans (dwGate_eq ρ R c))))),
    (h c _ (mem_uc main_v11 (by decide))).trans ((W12_of m ρ c main_v11 (by decide +kernel)).trans ((W11_of m ρ c main_v11 (by decide +kernel)).trans ((W10_of m ρ c
      main_v11 (by decide +kernel)).trans (dwUp_eq ρ R c)))),
    (h c _ (mem_uc main_v8 (by decide))).trans ((W12_of m ρ c main_v8 (by decide +kernel)).trans ((W11_of m ρ c main_v8 (by decide +kernel)).trans ((W10_of m ρ c
      main_v8 (by decide +kernel)).trans ((W9_of m ρ c main_v8 (by decide +kernel)).trans ((W8_of m ρ c main_v8 (by decide +kernel)).trans ((W7_of m ρ c main_v8 (by
      decide +kernel)).trans (dwOut_eq ρ R c))))))),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c)⟩)
    (launch m ρ)

end Cert.Kernel2Ideal.Value

end
-- ==== Proof.FfnReferenceValue.lean ====
/-
  THE FEED-FORWARD'S REFERENCE AT REAL ARGUMENTS. Its arrays, in the order it computes them, are those of `FfnStep.lean`; the two
  factors and their gradients are the halves of arrays twice as wide, and the rows' gradient goes back through the mean square.
-/
module

public import proofs.«01_k».proof.Proof.Gen.Reference2Ideal.Read
public import proofs.«01_k».proof.Proof.FfnStep

@[expose] public section

noncomputable section

namespace Cert.Reference2Ideal.Value

open Cert.Reference2Ideal Cert.Reference2Ideal.Gen Cert.Reference2Ideal.Read Idealize.ShloMosaic Idealize.ShloMosaic.TcCoe Idealize.SL.Sem
open Cert.FeedForward

variable (x0 : (⟨S8192x2048, .f32⟩ : BufTy).Contents (Elt Ideal)) (x1 : (⟨S1x2048, .f32⟩ : BufTy).Contents (Elt Ideal))
  (x2 x3 x4 : (⟨S1x1x2048, .f32⟩ : BufTy).Contents (Elt Ideal)) (x5 : (⟨S2048x11264, .f32⟩ : BufTy).Contents (Elt Ideal))
  (x6 : (⟨S5632x2048, .f32⟩ : BufTy).Contents (Elt Ideal)) (x7 : (⟨S8192x2048, .f32⟩ : BufTy).Contents (Elt Ideal)) (a : Args)

/-- The arrays hold the arguments. -/
structure Holds : Prop where
  x : ∀ i d, x0 (ix2 i d) = (a.x i d : EReal)
  gain : ∀ d, x1 (ix2 (0 : Fin 1) d) = (a.gain d : EReal)
  shift : ∀ d, x2 (ix3 (0 : Fin 1) (0 : Fin 1) d) = (a.shift d : EReal)
  scale : ∀ d, x3 (ix3 (0 : Fin 1) (0 : Fin 1) d) = (a.scale d : EReal)
  gate : ∀ d, x4 (ix3 (0 : Fin 1) (0 : Fin 1) d) = (a.gate d : EReal)
  wIn : ∀ k f, x5 (ix2 k f) = (a.wIn k f : EReal)
  wOut : ∀ f d, x6 (ix2 f d) = (a.wOut f d : EReal)
  dout : ∀ i d, x7 (ix2 i d) = (a.dout i d : EReal)

variable {x0 x1 x2 x3 x4 x5 x6 x7 a} (H : Holds x0 x1 x2 x3 x4 x5 x6 x7 a)
include H

/-! ## The norm -/

theorem squares_real (i : Fin 8192) (z : Fin 1) : val_main_v6 (F := Ideal) x0 (ix2 i z) = ((square a.x i : ℝ) : EReal) := by
  have e : val_main_v1 (F := Ideal) x0 (idx_main_v2 (ix2 i z)) = ∑ d, (a.x i d : EReal) * (a.x i d : EReal) := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext, H.x]
    rfl
  rw [val_main_v6_apply, val_main_v4_apply, val_main_v2_apply, e, val_main_v3_apply, val_main_cst_0_apply, val_main_v5_apply, val_main_cst_1_apply,
    ← square_real, ← ofBits_2048, ← ofBits_eps]
  rfl

theorem factor_real (i : Fin 8192) (z : Fin 1) : val_main_v7 (F := Ideal) x0 (ix2 i z) = ((rstd a.x i : ℝ) : EReal) := by
  rw [val_main_v7_apply, squares_real H, Ideal.hostUnary_rsqrt_def, rsqrt_square]

theorem unit_real (i : Fin 8192) (d : Fin 2048) : val_main_v12 (F := Ideal) x0 (ix2 i d) = ((unit a.x i d : ℝ) : EReal) := by
  rw [val_main_v12_apply, val_main_v11_apply, show idx_main_v11 (ix2 i d) = ix2 i (0 : Fin 1) by idx_ext, factor_real H, H.x]
  rfl

theorem gained_real (i : Fin 8192) (d : Fin 2048) : val_main_v14 (F := Ideal) x0 x1 (ix2 i d) = ((unit a.x i d * a.gain d : ℝ) : EReal) := by
  rw [val_main_v14_apply, unit_real H, val_main_v13_apply, show idx_main_v13 (ix2 i d) = ix2 (0 : Fin 1) d by idx_ext, H.gain]
  rfl

theorem scale_real (d : Fin 2048) : val_main_v17 (F := Ideal) x3 (ix2 (0 : Fin 1) d) = ((1 + a.scale d : ℝ) : EReal) := by
  rw [val_main_v17_apply, val_main_v16_apply, val_main_cst_3_apply, val_main_v15_apply,
    show idx_main_v15 (ix2 (0 : Fin 1) d) = ix3 (0 : Fin 1) (0 : Fin 1) d by idx_ext, H.scale, EReal.coe_add, ← ofBits_one]
  rfl

theorem h_real (i : Fin 8192) (d : Fin 2048) : val_main_v22 (F := Ideal) x0 x1 x2 x3 (ix2 i d) = ((a.h i d : ℝ) : EReal) := by
  rw [val_main_v22_apply, val_main_v19_apply, gained_real H, val_main_v18_apply, show idx_main_v18 (ix2 i d) = ix2 (0 : Fin 1) d by idx_ext,
    scale_real H, val_main_v21_apply, val_main_v20_apply,
    show idx_main_v20 (idx_main_v21 (ix2 i d)) = ix3 (0 : Fin 1) (0 : Fin 1) d by idx_ext, H.shift]
  rfl

/-! ## The two products and the residual -/

theorem wide_real (i : Fin 8192) (j : Fin 11264) : val_main_v23 (F := Ideal) x0 x1 x2 x3 x5 (ix2 i j) = ((mm a.h a.wIn i j : ℝ) : EReal) := by
  rw [val_main_v23_apply]
  refine (Finset.sum_congr rfl fun k _ => ?_).trans (mm_real a.h a.wIn i j)
  rw [show lidx_main_v23 (ix2 i j) k = ix2 i k by idx_ext, show ridx_main_v23 (ix2 i j) k = ix2 k j by idx_ext, h_real H, H.wIn]

theorem p_real (i : Fin 8192) (f : Fin 5632) : val_main_v24 (F := Ideal) x0 x1 x2 x3 x5 (ix2 i f) = ((a.p i f : ℝ) : EReal) := by
  rw [val_main_v24_apply, show idx_main_v24 (ix2 i f) = ix2 i (⟨f.val, by omega⟩ : Fin 11264) by idx_ext, wide_real H]
  rfl

theorem u_real (i : Fin 8192) (f : Fin 5632) : val_main_v25 (F := Ideal) x0 x1 x2 x3 x5 (ix2 i f) = ((a.u i f : ℝ) : EReal) := by
  rw [val_main_v25_apply, show idx_main_v25 (ix2 i f) = ix2 i (⟨5632 + f.val, by omega⟩ : Fin 11264) by idx_ext, wide_real H]
  rfl

theorem sigmoid_real (i : Fin 8192) (f : Fin 5632) : val_main_v29_2 (F := Ideal) x0 x1 x2 x3 x5 (ix2 i f) = ((sigmoid (a.p i f) : ℝ) : EReal) := by
  have e : val_main_call0_v3 (F := Ideal) x0 x1 x2 x3 x5 (ix2 i f) = ((1 + Real.exp (-a.p i f) : ℝ) : EReal) := by
    rw [val_main_call0_v3_apply, val_main_call0_v2_apply, val_main_call0_cst_apply, val_main_call0_v1_apply, val_main_call0_v0_apply, p_real H,
      Ideal.hostUnary_exp_def, EReal.coe_add, ← ofBits_one, ← Ideal.exp_coe, EReal.coe_neg]
    rfl
  rw [val_main_v29_2_apply, e, val_main_call0_v4_apply, val_main_call0_cst_0_apply]
  show Ideal.div (Ideal.ofBits .f32 0x3F800000#32) _ = _
  rw [ofBits_one, Ideal.div_coe (by positivity), ← EReal.coe_mul, one_mul, one_div]
  rfl

theorem silu_real (i : Fin 8192) (f : Fin 5632) :
    val_main_v29_0 (F := Ideal) x0 x1 x2 x3 x5 (ix2 i f) = ((a.p i f * sigmoid (a.p i f) : ℝ) : EReal) := by
  rw [val_main_v29_0_apply, p_real H, sigmoid_real H]
  rfl

theorem slope_real (i : Fin 8192) (f : Fin 5632) :
    val_main_v29_1 (F := Ideal) x0 x1 x2 x3 x5 (ix2 i f) = ((sigmoid (a.p i f) * (1 - sigmoid (a.p i f)) : ℝ) : EReal) := by
  rw [val_main_v29_1_apply, val_main_call0_v7_apply, val_main_call0_v6_apply, val_main_call0_cst_1_apply, sigmoid_real H, EReal.coe_mul,
    EReal.coe_sub, ← ofBits_one]
  rfl

theorem s_real (i : Fin 8192) (f : Fin 5632) : val_main_v30 (F := Ideal) x0 x1 x2 x3 x5 (ix2 i f) = ((a.s i f : ℝ) : EReal) := by
  rw [val_main_v30_apply, silu_real H, u_real H]
  rfl

theorem y_real (i : Fin 8192) (d : Fin 2048) : val_main_v31 (F := Ideal) x0 x1 x2 x3 x5 x6 (ix2 i d) = ((a.y i d : ℝ) : EReal) := by
  rw [val_main_v31_apply]
  refine (Finset.sum_congr rfl fun k _ => ?_).trans (mm_real a.s a.wOut i d)
  rw [show lidx_main_v31 (ix2 i d) k = ix2 i k by idx_ext, show ridx_main_v31 (ix2 i d) k = ix2 k d by idx_ext, s_real H, H.wOut]

theorem gate_real (d : Fin 2048) : val_main_v28 (F := Ideal) x4 (ix2 (0 : Fin 1) d) = ((1 / 2 * a.gate d : ℝ) : EReal) := by
  rw [val_main_v28_apply, val_main_v27_apply, val_main_cst_4_apply, val_main_v26_apply,
    show idx_main_v26 (ix2 (0 : Fin 1) d) = ix3 (0 : Fin 1) (0 : Fin 1) d by idx_ext, H.gate, EReal.coe_mul, ← ofBits_half]
  rfl

theorem out_real (i : Fin 8192) (d : Fin 2048) : val_main_v34 (F := Ideal) x0 x1 x2 x3 x4 x5 x6 (ix2 i d) = ((a.out i d : ℝ) : EReal) := by
  rw [val_main_v34_apply, val_main_v33_apply, val_main_v32_apply, show idx_main_v32 (ix2 i d) = ix2 (0 : Fin 1) d by idx_ext, gate_real H,
    y_real H, H.x]
  rfl

/-! ## Back to the activation's factors -/

theorem dout_real (i : Fin 8192) (d : Fin 2048) : val_main_v35 (F := Ideal) x7 (ix2 i d) = ((a.dout i d : ℝ) : EReal) := by
  rw [val_main_v35_apply, show idx_main_v35 (ix2 i d) = ix2 i d by idx_ext, H.dout]

theorem dy_real (i : Fin 8192) (d : Fin 2048) : val_main_v37 (F := Ideal) x4 x7 (ix2 i d) = ((a.dy i d : ℝ) : EReal) := by
  rw [val_main_v37_apply, val_main_v36_apply, show idx_main_v36 (ix2 i d) = ix2 (0 : Fin 1) d by idx_ext, gate_real H, dout_real H,
    show a.dy i d = 1 / 2 * a.gate d * a.dout i d by unfold Args.dy dres; ring]
  rfl

theorem dgate_real (d : Fin 2048) :
    val_main_v49 (F := Ideal) x0 x1 x2 x3 x5 x6 x7 (ix3 (0 : Fin 1) (0 : Fin 1) d) = ((a.dgate d : ℝ) : EReal) := by
  have e : val_main_v39 (F := Ideal) x0 x1 x2 x3 x5 x6 x7 (ix1 d) = ((∑ i, a.dout i d * a.y i d : ℝ) : EReal) := by
    rw [val_main_v39_apply, val_main_cst_5_apply]
    refine (congrArg (· + _) (Ideal.ofBits_zero .f32)).trans ((zero_add _).trans ((Finset.sum_congr rfl fun k _ => ?_).trans (coe_sum _)))
    rw [val_main_v38_apply, show idx_main_v39 (ix1 d) k = ix2 k d by idx_ext, dout_real H, y_real H]
    rfl
  rw [val_main_v49_apply, val_main_v48_apply, val_main_v47_apply, val_main_cst_6_apply, val_main_v40_apply,
    show idx_main_v40 (idx_main_v49 (ix3 (0 : Fin 1) (0 : Fin 1) d)) = ix1 d by idx_ext, e,
    show a.dgate d = 1 / 2 * ∑ i, a.dout i d * a.y i d by
      unfold Args.dgate gatePart; rw [Finset.mul_sum]; exact Finset.sum_congr rfl fun i _ => by ring,
    EReal.coe_mul, ← ofBits_half]
  rfl

theorem dwOut_real (f : Fin 5632) (d : Fin 2048) :
    val_main_v86 (F := Ideal) x0 x1 x2 x3 x4 x5 x7 (ix2 f d) = ((a.dwOut f d : ℝ) : EReal) := by
  have e : val_main_v42 (F := Ideal) x0 x1 x2 x3 x4 x5 x7 (ix2 f d) = ((a.dwOut f d : ℝ) : EReal) := by
    rw [val_main_v42_apply, show idx_main_v42 (ix2 f d) = ix2 d f by idx_ext, val_main_v41_apply]
    refine (Finset.sum_congr rfl fun k _ => ?_).trans (mm_real (fun f i => a.s i f) a.dy f d)
    rw [show lidx_main_v41 (ix2 d f) k = ix2 k d by idx_ext, show ridx_main_v41 (ix2 d f) k = ix2 k f by idx_ext, dy_real H, s_real H, mul_comm]
  rw [val_main_v86_apply, e]
  rfl

theorem ds_real (i : Fin 8192) (f : Fin 5632) : val_main_v43 (F := Ideal) x4 x6 x7 (ix2 i f) = ((a.ds i f : ℝ) : EReal) := by
  rw [val_main_v43_apply]
  refine (Finset.sum_congr rfl fun k _ => ?_).trans (mmT_real a.dy a.wOut i f)
  rw [show lidx_main_v43 (ix2 i f) k = ix2 i k by idx_ext, show ridx_main_v43 (ix2 i f) k = ix2 f k by idx_ext, dy_real H, H.wOut]

theorem dU_real (i : Fin 8192) (f : Fin 5632) : val_main_v44 (F := Ideal) x0 x1 x2 x3 x4 x5 x6 x7 (ix2 i f) = ((a.dU i f : ℝ) : EReal) := by
  rw [val_main_v44_apply, silu_real H, ds_real H, show a.dU i f = a.p i f * sigmoid (a.p i f) * a.ds i f by unfold Args.dU du; ring]
  rfl

theorem dP_real (i : Fin 8192) (f : Fin 5632) : val_main_v46 (F := Ideal) x0 x1 x2 x3 x4 x5 x6 x7 (ix2 i f) = ((a.dP i f : ℝ) : EReal) := by
  rw [val_main_v46_apply, val_main_call1_v1_apply, val_main_call1_v2_apply, val_main_call1_v0_apply, val_main_v45_apply, ds_real H, u_real H, p_real H,
    sigmoid_real H, slope_real H,
    show a.dP i f = a.ds i f * a.u i f * sigmoid (a.p i f) + a.p i f * (a.ds i f * a.u i f) * (sigmoid (a.p i f) * (1 - sigmoid (a.p i f))) by
      unfold Args.dP dp; ring]
  rfl

theorem wide_left (i : Fin 8192) (f : Fin 5632) :
    val_main_v50 (F := Ideal) x0 x1 x2 x3 x4 x5 x6 x7 (ix2 i (⟨f.val, by omega⟩ : Fin 11264)) = ((a.dP i f : ℝ) : EReal) := by
  rw [← dP_real H]
  unfold val_main_v50
  exact concatenate_pair_apply_left (t := S8192x11264) (s₁ := S8192x5632) (s₂ := S8192x5632) 1 _ _ _ (ix2 i (⟨f.val, by omega⟩ : Fin 11264)) rfl (ix2 i f)
    (fun b => match b with | ⟨0, _⟩ => rfl | ⟨1, _⟩ => rfl)

theorem wide_right (i : Fin 8192) (f : Fin 5632) :
    val_main_v50 (F := Ideal) x0 x1 x2 x3 x4 x5 x6 x7 (ix2 i (⟨5632 + f.val, by omega⟩ : Fin 11264)) = ((a.dU i f : ℝ) : EReal) := by
  rw [← dU_real H]
  unfold val_main_v50
  exact concatenate_pair_apply_right (t := S8192x11264) (s₁ := S8192x5632) (s₂ := S8192x5632) 1 _ _ _ (ix2 i (⟨5632 + f.val, by omega⟩ : Fin 11264)) rfl rfl (ix2 i f)
    (fun b hb => match b, hb with | ⟨0, _⟩, _ => rfl | ⟨1, _⟩, hb => absurd rfl hb) (Nat.add_comm _ _)

/-! ## Back to the rows normed -/

theorem dwide_real (d : Fin 2048) (j : Fin 11264) (f : Fin 5632) (g : Fin 8192 → Fin 5632 → ℝ)
    (hg : ∀ i, val_main_v50 (F := Ideal) x0 x1 x2 x3 x4 x5 x6 x7 (ix2 i j) = ((g i f : ℝ) : EReal)) :
    val_main_v83 (F := Ideal) x0 x1 x2 x3 x4 x5 x6 x7 (ix2 d j) = ((mm (fun d i => a.h i d) g d f : ℝ) : EReal) := by
  have e : val_main_v52 (F := Ideal) x0 x1 x2 x3 x4 x5 x6 x7 (ix2 d j) = ((mm (fun d i => a.h i d) g d f : ℝ) : EReal) := by
    rw [val_main_v52_apply, show idx_main_v52 (ix2 d j) = ix2 j d by idx_ext, val_main_v51_apply]
    refine (Finset.sum_congr rfl fun k _ => ?_).trans (mm_real (fun d i => a.h i d) g d f)
    rw [show lidx_main_v51 (ix2 j d) k = ix2 k j by idx_ext, show ridx_main_v51 (ix2 j d) k = ix2 k d by idx_ext, hg, h_real H, mul_comm]
  rw [val_main_v83_apply, e]
  rfl

theorem dwGate_real (d : Fin 2048) (f : Fin 5632) :
    val_main_v84 (F := Ideal) x0 x1 x2 x3 x4 x5 x6 x7 (ix2 d f) = ((a.dwGate d f : ℝ) : EReal) := by
  rw [val_main_v84_apply, show idx_main_v84 (ix2 d f) = ix2 d (⟨f.val, by omega⟩ : Fin 11264) by idx_ext]
  exact dwide_real H d _ f a.dP fun i => wide_left H i f

theorem dwUp_real (d : Fin 2048) (f : Fin 5632) :
    val_main_v85 (F := Ideal) x0 x1 x2 x3 x4 x5 x6 x7 (ix2 d f) = ((a.dwUp d f : ℝ) : EReal) := by
  rw [val_main_v85_apply, show idx_main_v85 (ix2 d f) = ix2 d (⟨5632 + f.val, by omega⟩ : Fin 11264) by idx_ext]
  exact dwide_real H d _ f a.dU fun i => wide_right H i f

theorem dh_real (i : Fin 8192) (d : Fin 2048) : val_main_v53 (F := Ideal) x0 x1 x2 x3 x4 x5 x6 x7 (ix2 i d) = ((a.dh i d : ℝ) : EReal) := by
  have l : ∀ j, lidx_main_v53 (ix2 i d) j = ix2 i j := fun j => by idx_ext
  have r : ∀ j, ridx_main_v53 (ix2 i d) j = ix2 d j := fun j => by idx_ext
  rw [val_main_v53_apply]
  simp only [l, r]
  refine (Fin.sum_univ_add (a := 5632) (b := 5632) fun j : Fin 11264 => val_main_v50 (F := Ideal) x0 x1 x2 x3 x4 x5 x6 x7 (ix2 i j) * x5 (ix2 d j)).trans ?_
  unfold Args.dh
  rw [add_comm (mmT _ _ _ _), EReal.coe_add, ← mmT_real, ← mmT_real]
  refine congrArg₂ (· + ·) (Finset.sum_congr rfl fun f _ => congrArg₂ (· * ·) ?_ ?_) (Finset.sum_congr rfl fun f _ => congrArg₂ (· * ·) ?_ ?_)
  · exact wide_left H i f
  · exact H.wIn d _
  · exact wide_right H i f
  · exact H.wIn d _

/-! ## Back through the norm -/

theorem dshift_real (d : Fin 2048) :
    val_main_v56 (F := Ideal) x0 x1 x2 x3 x4 x5 x6 x7 (ix3 (0 : Fin 1) (0 : Fin 1) d) = ((a.dshift d : ℝ) : EReal) := by
  rw [val_main_v56_apply, val_main_v55_apply, show idx_main_v55 (idx_main_v56 (ix3 (0 : Fin 1) (0 : Fin 1) d)) = ix1 d by idx_ext,
    val_main_v54_apply, val_main_cst_7_apply]
  refine (congrArg (· + _) (Ideal.ofBits_zero .f32)).trans ((zero_add _).trans ((Finset.sum_congr rfl fun k _ => ?_).trans (coe_sum _)))
  rw [show idx_main_v54 (ix1 d) k = ix2 k d by idx_ext, dh_real H]

theorem dscale_real (d : Fin 2048) :
    val_main_v62 (F := Ideal) x0 x1 x2 x3 x4 x5 x6 x7 (ix3 (0 : Fin 1) (0 : Fin 1) d) = ((a.dscale d : ℝ) : EReal) := by
  rw [val_main_v62_apply, val_main_v59_apply, show idx_main_v59 (idx_main_v62 (ix3 (0 : Fin 1) (0 : Fin 1) d)) = ix1 d by idx_ext,
    val_main_v58_apply, val_main_cst_8_apply]
  refine (congrArg (· + _) (Ideal.ofBits_zero .f32)).trans ((zero_add _).trans ((Finset.sum_congr rfl fun k _ => ?_).trans (coe_sum _)))
  rw [val_main_v57_apply, show idx_main_v58 (ix1 d) k = ix2 k d by idx_ext, gained_real H, dh_real H, scalePart, mul_comm (a.dh k d)]
  rfl

theorem dgained_real (i : Fin 8192) (d : Fin 2048) :
    val_main_v61 (F := Ideal) x0 x1 x2 x3 x4 x5 x6 x7 (ix2 i d) = ((FeedForward.dgain a.scale a.dh i d : ℝ) : EReal) := by
  rw [val_main_v61_apply, dh_real H, val_main_v60_apply, show idx_main_v60 (ix2 i d) = ix2 (0 : Fin 1) d by idx_ext, scale_real H]
  rfl

theorem dgain_real (d : Fin 2048) : val_main_v65 (F := Ideal) x0 x1 x2 x3 x4 x5 x6 x7 (ix2 (0 : Fin 1) d) = ((a.dgain d : ℝ) : EReal) := by
  rw [val_main_v65_apply, show idx_main_v65 (ix2 (0 : Fin 1) d) = ix1 d by idx_ext, val_main_v64_apply, val_main_cst_9_apply]
  refine (congrArg (· + _) (Ideal.ofBits_zero .f32)).trans ((zero_add _).trans ((Finset.sum_congr rfl fun k _ => ?_).trans (coe_sum _)))
  rw [val_main_v63_apply, show idx_main_v64 (ix1 d) k = ix2 k d by idx_ext, unit_real H, dgained_real H, gainPart, mul_comm (FeedForward.dgain _ _ k d)]
  rfl

theorem dunit_real (i : Fin 8192) (d : Fin 2048) :
    val_main_v67 (F := Ideal) x0 x1 x2 x3 x4 x5 x6 x7 (ix2 i d) = ((dunit a.gain a.scale a.dh i d : ℝ) : EReal) := by
  rw [val_main_v67_apply, dgained_real H, val_main_v66_apply, show idx_main_v66 (ix2 i d) = ix2 (0 : Fin 1) d by idx_ext, H.gain]
  rfl

/-- What the mean square brings back to each entry of a row, the entry left out. -/
theorem dsquare_real (i : Fin 8192) :
    val_main_v77 (F := Ideal) x0 x1 x2 x3 x4 x5 x6 x7 (ix1 i)
      = (((∑ e, a.x i e * dunit a.gain a.scale a.dh i e) * (-(1 / 2) * (rstd a.x i * (1 / square a.x i))) * (1 / 2048) : ℝ) : EReal) := by
  have e : val_main_v69 (F := Ideal) x0 x1 x2 x3 x4 x5 x6 x7 (ix1 i) = ((∑ e, a.x i e * dunit a.gain a.scale a.dh i e : ℝ) : EReal) := by
    rw [val_main_v69_apply, val_main_cst_10_apply]
    refine (congrArg (· + _) (Ideal.ofBits_zero .f32)).trans ((zero_add _).trans ((Finset.sum_congr rfl fun k _ => ?_).trans (coe_sum _)))
    rw [val_main_v68_apply, show idx_main_v69 (ix1 i) k = ix2 i k by idx_ext, H.x, dunit_real H]
    rfl
  have q : val_main_v10 (F := Ideal) x0 (ix2 i (0 : Fin 1)) = ((-(1 / 2) * (rstd a.x i * (1 / square a.x i)) : ℝ) : EReal) := by
    rw [val_main_v10_apply, val_main_v9_apply, val_main_cst_2_apply, val_main_v8_apply, factor_real H, squares_real H, EReal.coe_mul (-(1 / 2)),
      ← div_square, ← ofBits_neg_half]
    rfl
  rw [val_main_v77_apply, val_main_cst_12_apply]
  refine (congrArg (· + _) (Ideal.ofBits_zero .f32)).trans ((zero_add _).trans ((Fin.sum_univ_one _).trans ?_))
  rw [show idx_main_v77 (ix1 i) 0 = ix2 i (0 : Fin 1) by idx_ext, val_main_v76_apply, val_main_v74_apply, q, val_main_v70_apply,
    show idx_main_v70 (ix2 i (0 : Fin 1)) = ix1 i by idx_ext, e, val_main_v75_apply, val_main_cst_11_apply, ← div_2048, ← ofBits_2048]
  rfl

theorem dx_real (i : Fin 8192) (d : Fin 2048) : val_main_v82 (F := Ideal) x0 x1 x2 x3 x4 x5 x6 x7 (ix2 i d) = ((a.dx i d : ℝ) : EReal) := by
  have t : val_main_v78 (F := Ideal) x0 x1 x2 x3 x4 x5 x6 x7 (ix2 i d)
      = (((∑ e, a.x i e * dunit a.gain a.scale a.dh i e) * (-(1 / 2) * (rstd a.x i * (1 / square a.x i))) * (1 / 2048) : ℝ) : EReal) := by
    rw [val_main_v78_apply, show idx_main_v78 (ix2 i d) = ix1 i by idx_ext, dsquare_real H]
  rw [val_main_v82_apply, val_main_v81_apply, val_main_v80_apply, val_main_v79_apply, val_main_v73_apply, val_main_v72_apply, t, H.x, H.dout,
    dunit_real H, val_main_v71_apply, show idx_main_v71 (ix2 i d) = ix2 i (0 : Fin 1) by idx_ext, factor_real H, Args.dx, ← drows_eq]
  rfl

end Cert.Reference2Ideal.Value

end
-- ==== Proof.FfnReferenceRun.lean ====
/-
  THE FEED-FORWARD REFERENCE'S RUN AT REAL ARGUMENTS. Its composed terms are the feed-forward and its gradients.
-/
module

public import proofs.«01_k».proof.Proof.FfnReferenceValue
public import proofs.«01_k».proof.Proof.Gen.Reference2Ideal.Run

@[expose] public section

set_option maxRecDepth 16384

noncomputable section

namespace Cert.Reference2Ideal.Value

open Cert.Reference2Ideal Cert.Reference2Ideal.Gen Cert.Reference2Ideal.Read Idealize.ShloMosaic Idealize.ShloMosaic.TcCoe Idealize.SL.Sem
open Cert.FeedForward

variable (m : (ℓ : Loc nD τ sig) → Buf (Elt Ideal) ℓ) (ρ : Dev nD → PrngReg) (a : Dev nD → Args)

/-- A device's argument arrays hold `a`. -/
abbrev Given (c : Dev nD) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (a c)

set_option maxHeartbeats 1600000 in
theorem run_real (H : ∀ c, Given m a c) :
    θ_run defs (onTc (τ := τ) (main (F := Ideal))) ⟨m, fun _ => 0, ρ⟩ (fun r => ∀ c : Dev nD,
      r.2.mem ((c.tc : Thread nD τ).loc main_v34) = (fun i => (((a c).out (i 0) (i 1) : ℝ) : EReal))
      ∧ r.2.mem ((c.tc : Thread nD τ).loc main_v82) = (fun i => (((a c).dx (i 0) (i 1) : ℝ) : EReal))
      ∧ r.2.mem ((c.tc : Thread nD τ).loc main_v65) = (fun i => (((a c).dgain (i 1) : ℝ) : EReal))
      ∧ r.2.mem ((c.tc : Thread nD τ).loc main_v56) = (fun i => (((a c).dshift (i 2) : ℝ) : EReal))
      ∧ r.2.mem ((c.tc : Thread nD τ).loc main_v62) = (fun i => (((a c).dscale (i 2) : ℝ) : EReal))
      ∧ r.2.mem ((c.tc : Thread nD τ).loc main_v49) = (fun i => (((a c).dgate (i 2) : ℝ) : EReal))
      ∧ r.2.mem ((c.tc : Thread nD τ).loc main_v84) = (fun i => (((a c).dwGate (i 0) (i 1) : ℝ) : EReal))
      ∧ r.2.mem ((c.tc : Thread nD τ).loc main_v85) = (fun i => (((a c).dwUp (i 0) (i 1) : ℝ) : EReal))
      ∧ r.2.mem ((c.tc : Thread nD τ).loc main_v86) = (fun i => (((a c).dwOut (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m ρ)
  obtain ⟨ho, hx, hn, hs, hc, hg, hwg, hwu, hwo, ha⟩ := h c
  refine ⟨(ho.trans (val_main_v34_eq m c)).trans (funext fun i => ?_), (hx.trans (val_main_v82_eq m c)).trans (funext fun i => ?_),
    (hn.trans (val_main_v65_eq m c)).trans (funext fun i => ?_), (hs.trans (val_main_v56_eq m c)).trans (funext fun i => ?_),
    (hc.trans (val_main_v62_eq m c)).trans (funext fun i => ?_), (hg.trans (val_main_v49_eq m c)).trans (funext fun i => ?_),
    (hwg.trans (val_main_v84_eq m c)).trans (funext fun i => ?_), (hwu.trans (val_main_v85_eq m c)).trans (funext fun i => ?_),
    (hwo.trans (val_main_v86_eq m c)).trans (funext fun i => ?_), ha⟩
  · rw [eq_ix2 i]; exact out_real (H c) _ _
  · rw [eq_ix2 i]; exact dx_real (H c) _ _
  · obtain ⟨d, rfl⟩ := exists_row2 i; exact dgain_real (H c) d
  · obtain ⟨d, rfl⟩ := exists_row3 i; exact dshift_real (H c) d
  · obtain ⟨d, rfl⟩ := exists_row3 i; exact dscale_real (H c) d
  · obtain ⟨d, rfl⟩ := exists_row3 i; exact dgate_real (H c) d
  · rw [eq_ix2 i]; exact dwGate_real (H c) _ _
  · rw [eq_ix2 i]; exact dwUp_real (H c) _ _
  · rw [eq_ix2 i]; exact dwOut_real (H c) _ _

end Cert.Reference2Ideal.Value

end
-- ==== Proof.FirstPrecondition.lean ====
/-
  THE FIRST FEED-FORWARD'S PRECONDITION. As the attention's: every entry of every argument is a real.
-/
module

public import proofs.«01_k».proof.Pre_finite_ffn1
public import proofs.«01_k».proof.Proof.Precondition

@[expose] public section

noncomputable section

namespace Cert.Pre_finite_ffn1

open Idealize.ShloMosaic
open Cert.Pre_finite (real_of_all)

instance facts : Facts where
  bcast_S_S8448x2048 := by decide
  reducesTo_S8448x2048_S_d0_1 := by decide
  h_S_ := by decide
  bcast_S_S1x2048 := by decide
  reducesTo_S1x2048_S_d0_1 := by decide
  bcast_S_S2x1x2048 := by decide
  reducesTo_S2x1x2048_S_d0_1_2 := by decide
  bcast_S_S2048x11264 := by decide
  reducesTo_S2048x11264_S_d0_1 := by decide
  bcast_S_S5632x2048 := by decide
  reducesTo_S5632x2048_S_d0_1 := by decide

theorem reals (x0 : FVec Ideal S8448x2048 .f32) (x1 : FVec Ideal S1x2048 .f32) (x2 x3 x4 : FVec Ideal S2x1x2048 .f32)
    (x5 : FVec Ideal S2048x11264 .f32) (x6 : FVec Ideal S5632x2048 .f32) (x7 : FVec Ideal S8448x2048 .f32)
    (h : fn (F := Ideal) x0 x1 x2 x3 x4 x5 x6 x7 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))
      ∧ (∀ i, x6 i = ((x6 i).toReal : EReal)) ∧ ∀ i, x7 i = ((x7 i).toReal : EReal) := by
  obtain ⟨j⟩ : Nonempty S_.Idx := ⟨fun a => a.elim0⟩
  have e := congrFun h j
  dsimp only [fn, fn_part1, fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 Facts.bcast_S_S8448x2048 Facts.reducesTo_S8448x2048_S_d0_1 Facts.h_S_ j e0,
    real_of_all x1 Facts.bcast_S_S1x2048 Facts.reducesTo_S1x2048_S_d0_1 Facts.h_S_ j e1,
    real_of_all x2 Facts.bcast_S_S2x1x2048 Facts.reducesTo_S2x1x2048_S_d0_1_2 Facts.h_S_ j e2,
    real_of_all x3 Facts.bcast_S_S2x1x2048 Facts.reducesTo_S2x1x2048_S_d0_1_2 Facts.h_S_ j e3,
    real_of_all x4 Facts.bcast_S_S2x1x2048 Facts.reducesTo_S2x1x2048_S_d0_1_2 Facts.h_S_ j e4,
    real_of_all x5 Facts.bcast_S_S2048x11264 Facts.reducesTo_S2048x11264_S_d0_1 Facts.h_S_ j e5,
    real_of_all x6 Facts.bcast_S_S5632x2048 Facts.reducesTo_S5632x2048_S_d0_1 Facts.h_S_ j e6,
    real_of_all x7 Facts.bcast_S_S8448x2048 Facts.reducesTo_S8448x2048_S_d0_1 Facts.h_S_ j e7⟩

end Cert.Pre_finite_ffn1

end
-- ==== Proof.FirstStep.lean ====
/-
  THE FIRST FEED-FORWARD AND ITS WEIGHTS' GRADIENTS, over the reals. The rows are the context's 256, then the latent's 8192, each
  with its own modulation and gate; from the arguments, the result and the gradients of the rows normed and of the weights.
-/
module

public import proofs.«01_k».proof.Proof.FeedForward

@[expose] public section

noncomputable section

namespace Cert.FeedForward

/-- Which of the two modulations a row has. -/
def seg (i : Fin 8448) : Fin 2 := if i.val < 256 then 0 else 1

/-- The arguments; the first weight holds the gate's columns, then the other factor's. -/
structure FirstArgs where
  x : Fin 8448 → Fin 2048 → ℝ
  gain : Fin 2048 → ℝ
  shift : Fin 2 → Fin 2048 → ℝ
  scale : Fin 2 → Fin 2048 → ℝ
  gate : Fin 2 → Fin 2048 → ℝ
  wIn : Fin 2048 → Fin 11264 → ℝ
  wOut : Fin 5632 → Fin 2048 → ℝ
  dout : Fin 8448 → Fin 2048 → ℝ

namespace FirstArgs
variable (a : FirstArgs)

/-- The two halves of the first weight. -/
def wGate (k : Fin 2048) (f : Fin 5632) : ℝ := a.wIn k ⟨f.val, by omega⟩
def wUp (k : Fin 2048) (f : Fin 5632) : ℝ := a.wIn k ⟨5632 + f.val, by omega⟩

/-- Forward: the rows normed, the two factors, the activation, the second product and the result. -/
def h (i : Fin 8448) (d : Fin 2048) : ℝ := norm a.x a.gain (a.shift (seg i)) (a.scale (seg i)) i d
def p : Fin 8448 → Fin 5632 → ℝ := mm a.h a.wGate
def u : Fin 8448 → Fin 5632 → ℝ := mm a.h a.wUp
def s : Fin 8448 → Fin 5632 → ℝ := act a.p a.u
def y : Fin 8448 → Fin 2048 → ℝ := mm a.s a.wOut
def out (i : Fin 8448) (d : Fin 2048) : ℝ := residual a.x a.y (a.gate (seg i)) i d

/-- Back: through the residual, the second product, the activation and the first product. -/
def dy (i : Fin 8448) (d : Fin 2048) : ℝ := dres a.dout (a.gate (seg i)) i d
def dwOut : Fin 5632 → Fin 2048 → ℝ := mm (fun f i => a.s i f) a.dy
def ds : Fin 8448 → Fin 5632 → ℝ := mmT a.dy a.wOut
def dP : Fin 8448 → Fin 5632 → ℝ := dp a.p a.u a.ds
def dU : Fin 8448 → Fin 5632 → ℝ := du a.p a.ds
def dwGate : Fin 2048 → Fin 5632 → ℝ := mm (fun d i => a.h i d) a.dP
def dwUp : Fin 2048 → Fin 5632 → ℝ := mm (fun d i => a.h i d) a.dU
def dh (i : Fin 8448) (d : Fin 2048) : ℝ := mmT a.dU a.wUp i d + mmT a.dP a.wGate i d

end FirstArgs

end Cert.FeedForward

end
-- ==== Proof.FirstNorm.lean ====
/-
  THE FIRST FEED-FORWARD'S NORM: each point takes 256 rows and writes them normed, gained and modulated, and once more transposed;
  the first point's rows have the context's modulation, the others' the latent's.
-/
module

public import proofs.«01_k».proof.Proof.Gen.Kernel3Ideal.Frame
public import proofs.«01_k».proof.Proof.FirstStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Norm

theorem idx : ∀ t : Fin cfg0.N, win0_0.index t = ![t.val, 0] ∧ win0_1.index t = ![0, 0] ∧ win0_2.index t = ![min t.val 1, 0, 0] ∧ win0_3.index t = ![min t.val 1, 0, 0]
    ∧ win0_4.index t = ![t.val, 0] ∧ win0_5.index t = ![0, t.val] :=
  (by decide +kernel : ∀ t : Fin grid0.N, _)

section
variable (x : Vec Ideal S256x2048 .f32) (g : Vec Ideal S1x2048 .f32) (sh sc : Vec Ideal S1x1x2048 .f32)
variable (X : Fin 256 → Fin 2048 → ℝ) (G Sh Sc : Fin 2048 → ℝ)
variable (hx : ∀ i d, x (ix2 i d) = (X i d : EReal)) (hg : ∀ d, g (ix2 (0 : Fin 1) d) = (G d : EReal))
  (hsh : ∀ d, sh (ix3 (0 : Fin 1) (0 : Fin 1) d) = (Sh d : EReal)) (hsc : ∀ d, sc (ix3 (0 : Fin 1) (0 : Fin 1) d) = (Sc d : EReal))

include hx hg hsh hsc

theorem rows_block (i : Fin 256) (d : Fin 2048) : out0_4 (F := Ideal) x g sh sc (ix2 i d) = ((norm X G Sh Sc i d : ℝ) : EReal) := by
  frame_open
  frame_out
  open_payloads
  pointwise [hx, hg, hsh, hsc, ofBits_2048, ofBits_eps, ofBits_one]
  rw [square_real X i, rsqrt_square X i]
  simp only [← EReal.coe_mul, ← EReal.coe_add]
  rfl

theorem cols_block (d : Fin 2048) (i : Fin 256) : out0_5 (F := Ideal) x g sh sc (ix2 d i) = ((norm X G Sh Sc i d : ℝ) : EReal) := by
  frame_open
  frame_out
  open_payloads
  pointwise [hx, hg, hsh, hsc, ofBits_2048, ofBits_eps, ofBits_one]
  rw [square_real X i, rsqrt_square X i]
  simp only [← EReal.coe_mul, ← EReal.coe_add]
  rfl

end

variable (X : Fin 8448 → Fin 2048 → ℝ) (G : Fin 2048 → ℝ) (Sh Sc : Fin 2 → Fin 2048 → ℝ)
variable (hx : ∀ i d, V c main_arg0 (ix2 i d) = (X i d : EReal)) (hg : ∀ d, V c main_arg1 (ix2 (0 : Fin 1) d) = (G d : EReal))
  (hsh : ∀ s d, V c main_arg2 (ix3 s (0 : Fin 1) d) = (Sh s d : EReal)) (hsc : ∀ s d, V c main_arg3 (ix3 s (0 : Fin 1) d) = (Sc s d : EReal))

theorem point (t : Fin cfg0.N) : t.val < 33 := lt_of_lt_of_eq t.isLt N_0

/-- A point's rows of the whole, and which modulation they have. -/
abbrev row (t : Fin cfg0.N) (i : Fin 256) : Fin 8448 := ⟨t.val * 256 + i.val, by have := point t; omega⟩
abbrev part (t : Fin cfg0.N) : Fin 2 := ⟨min t.val 1, by omega⟩
theorem seg_row (t : Fin cfg0.N) (i : Fin 256) : seg (row t i) = part t := by
  unfold seg
  split <;> exact Fin.ext (by simp only [Fin.val_zero, Fin.val_one] at *; omega)

include hx in
theorem block_x (t : Fin cfg0.N) (i : Fin 256) (d : Fin 2048) : iblk0 V c 0 t (ix2 i d)
    = ((X (row t i) d : ℝ) : EReal) := by
  refine Eq.trans ?_ (hx _ _)
  blk_point [iblk0, idx t]

include hg in
theorem block_g (t : Fin cfg0.N) (d : Fin 2048) : iblk0 V c 1 t (ix2 (0 : Fin 1) d) = (G d : EReal) := by
  refine Eq.trans ?_ (hg _)
  blk_point [iblk0, idx t]

include hsh in
theorem block_sh (t : Fin cfg0.N) (d : Fin 2048) : iblk0 V c 2 t (ix3 (0 : Fin 1) (0 : Fin 1) d) = (Sh (part t) d : EReal) := by
  refine Eq.trans ?_ (hsh _ _)
  blk_point [iblk0, idx t]

include hsc in
theorem block_sc (t : Fin cfg0.N) (d : Fin 2048) : iblk0 V c 3 t (ix3 (0 : Fin 1) (0 : Fin 1) d) = (Sc (part t) d : EReal) := by
  refine Eq.trans ?_ (hsc _ _)
  blk_point [iblk0, idx t]

include hx hg hsh hsc

theorem rows : (dat0 V c).arrAt 4 cfg0.N = fun i => ((norm X G (Sh (seg (i 0))) (Sc (seg (i 0))) (i 0) (i 1) : ℝ) : EReal) := by
  refine (dat0 V c).arrAt_eq_of_covers 4 _ (by decide +kernel) fun t hf y => ?_
  blk_simp
  rw [after0_4]
  obtain ⟨r, d, rfl⟩ : ∃ (r : Fin 256) (d : Fin 2048), y = ix2 r d := ⟨y 0, y 1, eq_ix2 y⟩
  generalize hz : ((View.whole main_v4_0).slice (win0_4.rect t)).emb (ix2 r d) = z
  have h0 : z 0 = row t r := Fin.ext (by subst hz; blk_simp [idx t])
  have h1 : z 1 = d := Fin.ext (by subst hz; blk_simp [idx t])
  rw [h0, h1, seg_row]
  exact rows_block _ _ _ _ _ _ _ _ (block_x V c X hx t) (block_g V c G hg t) (block_sh V c Sh hsh t) (block_sc V c Sc hsc t) _ _

theorem cols : (dat0 V c).arrAt 5 cfg0.N = fun i => ((norm X G (Sh (seg (i 1))) (Sc (seg (i 1))) (i 1) (i 0) : ℝ) : EReal) := by
  refine (dat0 V c).arrAt_eq_of_covers 5 _ (by decide +kernel) fun t hf y => ?_
  blk_simp
  rw [after0_5]
  obtain ⟨d, r, rfl⟩ : ∃ (d : Fin 2048) (r : Fin 256), y = ix2 d r := ⟨y 0, y 1, eq_ix2 y⟩
  generalize hz : ((View.whole main_v4_1).slice (win0_5.rect t)).emb (ix2 d r) = z
  have h0 : z 0 = d := Fin.ext (by subst hz; blk_simp [idx t])
  have h1 : z 1 = row t r := Fin.ext (by subst hz; blk_simp [idx t])
  rw [h0, h1, seg_row]
  exact cols_block _ _ _ _ _ _ _ _ (block_x V c X hx t) (block_g V c G hg t) (block_sh V c Sh hsh t) (block_sc V c Sc hsc t) _ _

end Norm

end Cert.Kernel3Ideal.Value

end
-- ==== Proof.FirstGate.lean ====
/-
  THE FIRST FEED-FORWARD'S FIRST PRODUCTS, IN BOTH DIRECTIONS: going forward, a block of each of the two products of the normed rows,
  and of the gated activation, plain and transposed; going back, a block of the activation's gradient and, from it, of the
  gradients of the two products.
-/
module

public import proofs.«01_k».proof.Proof.Gen.Kernel3Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Up

theorem idx : ∀ t : Fin cfg1.N, win1_0.index t = ![t.val / 11, 0] ∧ win1_1.index t = ![0, t.val % 11] ∧ win1_2.index t = ![0, t.val % 11]
    ∧ win1_3.index t = ![t.val / 11, t.val % 11] ∧ win1_4.index t = ![t.val / 11, t.val % 11] ∧ win1_5.index t = ![t.val / 11, t.val % 11]
    ∧ win1_6.index t = ![t.val % 11, t.val / 11] :=
  (by decide +kernel : ∀ t : Fin grid1.N, _)

section
variable (h : Vec Ideal S768x2048 .bf16) (wg wu : Vec Ideal S2048x512 .bf16)
variable (H : Fin 768 → Fin 2048 → ℝ) (Wg Wu : Fin 2048 → Fin 512 → ℝ)
variable (hh : ∀ i k, h (ix2 i k) = (H i k : EReal)) (hwg : ∀ k j, wg (ix2 k j) = (Wg k j : EReal)) (hwu : ∀ k j, wu (ix2 k j) = (Wu k j : EReal))

include hh hwg in
theorem gate_block (i : Fin 768) (j : Fin 512) : out1_3 (F := Ideal) h wg wu (ix2 i j) = ((mm H Wg i j : ℝ) : EReal) := by
  frame_open
  frame_out
  open_payloads
  pointwise [hh, hwg]
  exact mm_real H Wg i j

include hh hwu in
theorem up_block (i : Fin 768) (j : Fin 512) : out1_4 (F := Ideal) h wg wu (ix2 i j) = ((mm H Wu i j : ℝ) : EReal) := by
  frame_open
  frame_out
  open_payloads
  pointwise [hh, hwu]
  exact mm_real H Wu i j

include hh hwg hwu

theorem act_block (i : Fin 768) (j : Fin 512) : out1_5 (F := Ideal) h wg wu (ix2 i j) = ((act (mm H Wg) (mm H Wu) i j : ℝ) : EReal) := by
  frame_open
  frame_out
  open_payloads
  pointwise [hh, hwg, hwu]
  rw [mm_real H Wg i j, mm_real H Wu i j, logistic_real]
  simp only [← EReal.coe_mul]
  rfl

theorem actT_block (j : Fin 512) (i : Fin 768) : out1_6 (F := Ideal) h wg wu (ix2 j i) = ((act (mm H Wg) (mm H Wu) i j : ℝ) : EReal) := by
  frame_open
  frame_out
  open_payloads
  pointwise [hh, hwg, hwu]
  rw [mm_real H Wg i j, mm_real H Wu i j, logistic_real]
  simp only [← EReal.coe_mul]
  rfl

end

variable (H : Fin 8448 → Fin 2048 → ℝ) (Wg Wu : Fin 2048 → Fin 5632 → ℝ)
variable (hh : ∀ i k, V c main_v4_0 (ix2 i k) = (H i k : EReal)) (hwg : ∀ k j, V c main_v1 (ix2 k j) = (Wg k j : EReal))
  (hwu : ∀ k j, V c main_v2 (ix2 k j) = (Wu k j : EReal))

theorem point (t : Fin cfg1.N) : t.val < 121 := lt_of_lt_of_eq t.isLt N_1

/-- A point's rows and columns of the whole. -/
abbrev row (t : Fin cfg1.N) (i : Fin 768) : Fin 8448 := ⟨t.val / 11 * 768 + i.val, by have := point t; omega⟩
abbrev col (t : Fin cfg1.N) (j : Fin 512) : Fin 5632 := ⟨t.val % 11 * 512 + j.val, by omega⟩

include hh in
theorem block_h (t : Fin cfg1.N) (i : Fin 768) (k : Fin 2048) : iblk1 V c 0 t (ix2 i k) = ((H (row t i) k : ℝ) : EReal) := by
  refine Eq.trans ?_ (hh _ _)
  blk_point [iblk1, idx t]

include hwg in
theorem block_wg (t : Fin cfg1.N) (k : Fin 2048) (j : Fin 512) : iblk1 V c 1 t (ix2 k j) = ((Wg k (col t j) : ℝ) : EReal) := by
  refine Eq.trans ?_ (hwg _ _)
  blk_point [iblk1, idx t]

include hwu in
theorem block_wu (t : Fin cfg1.N) (k : Fin 2048) (j : Fin 512) : iblk1 V c 2 t (ix2 k j) = ((Wu k (col t j) : ℝ) : EReal) := by
  refine Eq.trans ?_ (hwu _ _)
  blk_point [iblk1, idx t]

include hh hwg in
theorem gate : (dat1 V c).arrAt 3 cfg1.N = fun i => ((mm H Wg (i 0) (i 1) : ℝ) : EReal) := by
  refine (dat1 V c).arrAt_eq_of_covers 3 _ (by decide +kernel) fun t hf y => ?_
  blk_simp
  rw [after1_3]
  generalize hz : ((View.whole main_v5_0).slice (win1_3.rect t)).emb y = z
  have h0 : z 0 = row t (y 0) := Fin.ext (by subst hz; blk_simp [idx t])
  have h1 : z 1 = col t (y 1) := Fin.ext (by subst hz; blk_simp [idx t])
  rw [h0, h1, eq_ix2 y]
  exact gate_block _ _ _ _ _ (block_h V c H hh t) (block_wg V c Wg hwg t) _ _

include hh hwu in
theorem up : (dat1 V c).arrAt 4 cfg1.N = fun i => ((mm H Wu (i 0) (i 1) : ℝ) : EReal) := by
  refine (dat1 V c).arrAt_eq_of_covers 4 _ (by decide +kernel) fun t hf y => ?_
  blk_simp
  rw [after1_4]
  generalize hz : ((View.whole main_v5_1).slice (win1_4.rect t)).emb y = z
  have h0 : z 0 = row t (y 0) := Fin.ext (by subst hz; blk_simp [idx t])
  have h1 : z 1 = col t (y 1) := Fin.ext (by subst hz; blk_simp [idx t])
  rw [h0, h1, eq_ix2 y]
  exact up_block _ _ _ _ _ (block_h V c H hh t) (block_wu V c Wu hwu t) _ _

include hh hwg hwu

theorem activation : (dat1 V c).arrAt 5 cfg1.N = fun i => ((act (mm H Wg) (mm H Wu) (i 0) (i 1) : ℝ) : EReal) := by
  refine (dat1 V c).arrAt_eq_of_covers 5 _ (by decide +kernel) fun t hf y => ?_
  blk_simp
  rw [after1_5]
  generalize hz : ((View.whole main_v5_2).slice (win1_5.rect t)).emb y = z
  have h0 : z 0 = row t (y 0) := Fin.ext (by subst hz; blk_simp [idx t])
  have h1 : z 1 = col t (y 1) := Fin.ext (by subst hz; blk_simp [idx t])
  rw [h0, h1, eq_ix2 y]
  exact act_block _ _ _ _ _ _ (block_h V c H hh t) (block_wg V c Wg hwg t) (block_wu V c Wu hwu t) _ _

theorem activationT : (dat1 V c).arrAt 6 cfg1.N = fun i => ((act (mm H Wg) (mm H Wu) (i 1) (i 0) : ℝ) : EReal) := by
  refine (dat1 V c).arrAt_eq_of_covers 6 _ (by decide +kernel) fun t hf y => ?_
  blk_simp
  rw [after1_6]
  generalize hz : ((View.whole main_v5_3).slice (win1_6.rect t)).emb y = z
  have h0 : z 0 = col t (y 0) := Fin.ext (by subst hz; blk_simp [idx t])
  have h1 : z 1 = row t (y 1) := Fin.ext (by subst hz; blk_simp [idx t])
  rw [h0, h1, eq_ix2 y]
  exact actT_block _ _ _ _ _ _ (block_h V c H hh t) (block_wg V c Wg hwg t) (block_wu V c Wu hwu t) _ _

end Up

namespace Act

theorem idx : ∀ t : Fin cfg5.N, win5_0.index t = ![t.val / 11, 0] ∧ win5_1.index t = ![t.val % 11, 0] ∧ win5_2.index t = ![t.val / 11, t.val % 11]
    ∧ win5_3.index t = ![t.val / 11, t.val % 11] ∧ win5_4.index t = ![t.val / 11, t.val % 11] ∧ win5_5.index t = ![t.val / 11, t.val % 11] :=
  (by decide +kernel : ∀ t : Fin grid5.N, _)

section
variable (y : Vec Ideal S768x2048 .bf16) (w : Vec Ideal S512x2048 .bf16) (p u : Vec Ideal S768x512 .bf16)
variable (Y : Fin 768 → Fin 2048 → ℝ) (W : Fin 512 → Fin 2048 → ℝ) (P U : Fin 768 → Fin 512 → ℝ)
variable (hy : ∀ i k, y (ix2 i k) = (Y i k : EReal)) (hw : ∀ j k, w (ix2 j k) = (W j k : EReal)) (hp : ∀ i j, p (ix2 i j) = (P i j : EReal))
  (hu : ∀ i j, u (ix2 i j) = (U i j : EReal))

include hy hw hp hu in
theorem dp_block (i : Fin 768) (j : Fin 512) : out5_4 (F := Ideal) y w p u (ix2 i j) = ((dp P U (mmT Y W) i j : ℝ) : EReal) := by
  frame_open
  frame_out
  open_payloads
  pointwise [hy, hw, hp, hu, ofBits_one]
  rw [mmT_real Y W i j, logistic_real]
  simp only [← EReal.coe_mul, ← EReal.coe_add, ← EReal.coe_sub]
  rfl

include hy hw hp in
theorem du_block (i : Fin 768) (j : Fin 512) : out5_5 (F := Ideal) y w p u (ix2 i j) = ((du P (mmT Y W) i j : ℝ) : EReal) := by
  frame_open
  frame_out
  open_payloads
  pointwise [hy, hw, hp]
  rw [mmT_real Y W i j, logistic_real]
  simp only [← EReal.coe_mul]
  rfl

end

variable (Y : Fin 8448 → Fin 2048 → ℝ) (W : Fin 5632 → Fin 2048 → ℝ) (P U : Fin 8448 → Fin 5632 → ℝ)
variable (hy : ∀ i k, V c main_v23 (ix2 i k) = (Y i k : EReal)) (hw : ∀ j k, V c main_v3 (ix2 j k) = (W j k : EReal))
  (hp : ∀ i j, V c main_v5_0 (ix2 i j) = (P i j : EReal)) (hu : ∀ i j, V c main_v5_1 (ix2 i j) = (U i j : EReal))

theorem point (t : Fin cfg5.N) : t.val < 121 := lt_of_lt_of_eq t.isLt N_5

/-- A point's rows and columns of the whole. -/
abbrev row (t : Fin cfg5.N) (i : Fin 768) : Fin 8448 := ⟨t.val / 11 * 768 + i.val, by have := point t; omega⟩
abbrev col (t : Fin cfg5.N) (j : Fin 512) : Fin 5632 := ⟨t.val % 11 * 512 + j.val, by omega⟩

include hy in
theorem block_y (t : Fin cfg5.N) (i : Fin 768) (k : Fin 2048) : iblk5 V c 0 t (ix2 i k) = ((Y (row t i) k : ℝ) : EReal) := by
  refine Eq.trans ?_ (hy _ _)
  blk_point [iblk5, idx t]

include hw in
theorem block_w (t : Fin cfg5.N) (j : Fin 512) (k : Fin 2048) : iblk5 V c 1 t (ix2 j k) = ((W (col t j) k : ℝ) : EReal) := by
  refine Eq.trans ?_ (hw _ _)
  blk_point [iblk5, idx t]

include hp in
theorem block_p (t : Fin cfg5.N) (i : Fin 768) (j : Fin 512) : iblk5 V c 2 t (ix2 i j) = ((P (row t i) (col t j) : ℝ) : EReal) := by
  refine Eq.trans ?_ (hp _ _)
  blk_point [iblk5, idx t]

include hu in
theorem block_u (t : Fin cfg5.N) (i : Fin 768) (j : Fin 512) : iblk5 V c 3 t (ix2 i j) = ((U (row t i) (col t j) : ℝ) : EReal) := by
  refine Eq.trans ?_ (hu _ _)
  blk_point [iblk5, idx t]

include hy hw hp hu in
theorem gate : (dat5 V c).arrAt 4 cfg5.N = fun i => ((dp P U (mmT Y W) (i 0) (i 1) : ℝ) : EReal) := by
  refine (dat5 V c).arrAt_eq_of_covers 4 _ (by decide +kernel) fun t hf y => ?_
  blk_simp
  rw [after5_4]
  generalize hz : ((View.whole main_v25_0).slice (win5_4.rect t)).emb y = z
  have h0 : z 0 = row t (y 0) := Fin.ext (by subst hz; blk_simp [idx t])
  have h1 : z 1 = col t (y 1) := Fin.ext (by subst hz; blk_simp [idx t])
  rw [h0, h1, eq_ix2 y]
  exact dp_block _ _ _ _ _ _ _ _ (block_y V c Y hy t) (block_w V c W hw t) (block_p V c P hp t) (block_u V c U hu t) _ _

include hy hw hp in
theorem up : (dat5 V c).arrAt 5 cfg5.N = fun i => ((du P (mmT Y W) (i 0) (i 1) : ℝ) : EReal) := by
  refine (dat5 V c).arrAt_eq_of_covers 5 _ (by decide +kernel) fun t hf y => ?_
  blk_simp
  rw [after5_5]
  generalize hz : ((View.whole main_v25_1).slice (win5_5.rect t)).emb y = z
  have h0 : z 0 = row t (y 0) := Fin.ext (by subst hz; blk_simp [idx t])
  have h1 : z 1 = col t (y 1) := Fin.ext (by subst hz; blk_simp [idx t])
  rw [h0, h1, eq_ix2 y]
  exact du_block _ _ _ _ _ _ _ (block_y V c Y hy t) (block_w V c W hw t) (block_p V c P hp t) _ _

end Act

end Cert.Kernel3Ideal.Value

end
-- ==== Proof.FirstResidual.lean ====
/-
  THE FIRST FEED-FORWARD'S GATED RESIDUAL: each point adds 256 rows of the second product, halved and gated, to the rows; the first
  point's rows have the context's gate, the others' the latent's.
-/
module

public import proofs.«01_k».proof.Proof.Gen.Kernel3Ideal.Frame
public import proofs.«01_k».proof.Proof.FirstStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Residual

theorem idx : ∀ t : Fin cfg3.N, win3_0.index t = ![t.val, 0] ∧ win3_1.index t = ![t.val, 0] ∧ win3_2.index t = ![min t.val 1, 0, 0]
    ∧ win3_3.index t = ![t.val, 0] :=
  (by decide +kernel : ∀ t : Fin grid3.N, _)

theorem block (x y : Vec Ideal S256x2048 .f32) (g : Vec Ideal S1x1x2048 .f32) (X Y : Fin 256 → Fin 2048 → ℝ) (G : Fin 2048 → ℝ)
    (hx : ∀ i d, x (ix2 i d) = (X i d : EReal)) (hy : ∀ i d, y (ix2 i d) = (Y i d : EReal))
    (hg : ∀ d, g (ix3 (0 : Fin 1) (0 : Fin 1) d) = (G d : EReal)) (i : Fin 256) (d : Fin 2048) :
    out3_3 (F := Ideal) x y g (ix2 i d) = ((residual X Y G i d : ℝ) : EReal) := by
  frame_open
  frame_out
  open_payloads
  pointwise [hx, hy, hg, ofBits_half]
  simp only [← EReal.coe_mul, ← EReal.coe_add]
  rfl

variable (X Y : Fin 8448 → Fin 2048 → ℝ) (G : Fin 2 → Fin 2048 → ℝ)
variable (hx : ∀ i d, V c main_arg0 (ix2 i d) = (X i d : EReal)) (hy : ∀ i d, V c main_v6 (ix2 i d) = (Y i d : EReal))
  (hg : ∀ s d, V c main_arg4 (ix3 s (0 : Fin 1) d) = (G s d : EReal))

theorem point (t : Fin cfg3.N) : t.val < 33 := lt_of_lt_of_eq t.isLt N_3

/-- A point's rows of the whole, and which gate they have. -/
abbrev row (t : Fin cfg3.N) (i : Fin 256) : Fin 8448 := ⟨t.val * 256 + i.val, by have := point t; omega⟩
abbrev part (t : Fin cfg3.N) : Fin 2 := ⟨min t.val 1, by omega⟩
theorem seg_row (t : Fin cfg3.N) (i : Fin 256) : seg (row t i) = part t := by
  unfold seg
  split <;> exact Fin.ext (by simp only [Fin.val_zero, Fin.val_one] at *; omega)

include hx in
theorem block_x (t : Fin cfg3.N) (i : Fin 256) (d : Fin 2048) : iblk3 V c 0 t (ix2 i d) = ((X (row t i) d : ℝ) : EReal) := by
  refine Eq.trans ?_ (hx _ _)
  blk_point [iblk3, idx t]

include hy in
theorem block_y (t : Fin cfg3.N) (i : Fin 256) (d : Fin 2048) : iblk3 V c 1 t (ix2 i d) = ((Y (row t i) d : ℝ) : EReal) := by
  refine Eq.trans ?_ (hy _ _)
  blk_point [iblk3, idx t]

include hg in
theorem block_g (t : Fin cfg3.N) (d : Fin 2048) : iblk3 V c 2 t (ix3 (0 : Fin 1) (0 : Fin 1) d) = (G (part t) d : EReal) := by
  refine Eq.trans ?_ (hg _ _)
  blk_point [iblk3, idx t]

include hx hy hg

theorem rows : (dat3 V c).arrAt 3 cfg3.N = fun i => ((residual X Y (G (seg (i 0))) (i 0) (i 1) : ℝ) : EReal) := by
  refine (dat3 V c).arrAt_eq_of_covers 3 _ (by decide +kernel) fun t hf y => ?_
  blk_simp
  rw [after3_3]
  obtain ⟨r, d, rfl⟩ : ∃ (r : Fin 256) (d : Fin 2048), y = ix2 r d := ⟨y 0, y 1, eq_ix2 y⟩
  generalize hz : ((View.whole main_v7).slice (win3_3.rect t)).emb (ix2 r d) = z
  have h0 : z 0 = row t r := Fin.ext (by subst hz; blk_simp [idx t])
  have h1 : z 1 = d := Fin.ext (by subst hz; blk_simp [idx t])
  rw [h0, h1, seg_row]
  exact block _ _ _ _ _ _ (block_x V c X hx t) (block_y V c Y hy t) (block_g V c G hg t) _ _

end Residual

end Cert.Kernel3Ideal.Value

end
-- ==== Proof.FirstProducts.lean ====
/-
  THE FIRST FEED-FORWARD'S CALLS THAT ARE PLAIN PRODUCTS: each point writes one block of the product of the two arrays the call reads.
-/
module

public import proofs.«01_k».proof.Proof.Gen.Kernel3Ideal.Frame
public import proofs.«01_k».proof.Proof.FeedForward
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Down

theorem idx : ∀ t : Fin cfg2.N, win2_0.index t = ![t.val / 4, 0] ∧ win2_1.index t = ![0, t.val % 4] ∧ win2_2.index t = ![t.val / 4, t.val % 4] :=
  (by decide +kernel : ∀ t : Fin grid2.N, _)

theorem block (a : Vec Ideal S768x5632 .bf16) (b : Vec Ideal S5632x512 .bf16) (A : Fin 768 → Fin 5632 → ℝ) (B : Fin 5632 → Fin 512 → ℝ)
    (ha : ∀ i k, a (ix2 i k) = (A i k : EReal)) (hb : ∀ k j, b (ix2 k j) = (B k j : EReal)) (i : Fin 768) (j : Fin 512) :
    out2_2 (F := Ideal) a b (ix2 i j) = ((mm A B i j : ℝ) : EReal) := by
  frame_open
  frame_out
  open_payloads
  pointwise [ha, hb]
  exact mm_real A B i j

theorem result (A : Fin 8448 → Fin 5632 → ℝ) (B : Fin 5632 → Fin 2048 → ℝ)
    (ha : ∀ i k, V c main_v5_2 (ix2 i k) = (A i k : EReal)) (hb : ∀ k j, V c main_v3 (ix2 k j) = (B k j : EReal)) :
    (dat2 V c).arrAt 2 cfg2.N = fun i => ((mm A B (i 0) (i 1) : ℝ) : EReal) := by
  refine (dat2 V c).arrAt_eq_of_covers 2 _ (by decide +kernel) fun t hf y => ?_
  blk_simp
  rw [after2_2]
  have ht : t.val < 44 := lt_of_lt_of_eq t.isLt N_2
  generalize hz : ((View.whole main_v6).slice (win2_2.rect t)).emb y = z
  have h0 : z 0 = ⟨t.val / 4 * 768 + (y 0).val, by have : (y 0).val < 768 := (y 0).isLt; show _ < 8448; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 768 + i.val, by omega⟩ k) (fun k j => B k ⟨t.val % 4 * 512 + j.val, by omega⟩) (fun i k => ?_) (fun k j => ?_) _ _)
  · refine Eq.trans ?_ (ha _ _)
    blk_point [iblk2, idx t]
  · refine Eq.trans ?_ (hb _ _)
    blk_point [iblk2, idx t]

end Down

namespace Dwo

theorem idx : ∀ t : Fin cfg4.N, win4_0.index t = ![t.val / 4, 0] ∧ win4_1.index t = ![0, t.val % 4] ∧ win4_2.index t = ![t.val / 4, t.val % 4] :=
  (by decide +kernel : ∀ t : Fin grid4.N, _)

theorem block (a : Vec Ideal S512x8448 .bf16) (b : Vec Ideal S8448x512 .bf16) (A : Fin 512 → Fin 8448 → ℝ) (B : Fin 8448 → Fin 512 → ℝ)
    (ha : ∀ i k, a (ix2 i k) = (A i k : EReal)) (hb : ∀ k j, b (ix2 k j) = (B k j : EReal)) (i : Fin 512) (j : Fin 512) :
    out4_2 (F := Ideal) a b (ix2 i j) = ((mm A B i j : ℝ) : EReal) := by
  frame_open
  frame_out
  open_payloads
  pointwise [ha, hb]
  exact mm_real A B i j

theorem result (A : Fin 5632 → Fin 8448 → ℝ) (B : Fin 8448 → Fin 2048 → ℝ)
    (ha : ∀ i k, V c main_v5_3 (ix2 i k) = (A i k : EReal)) (hb : ∀ k j, V c main_v23 (ix2 k j) = (B k j : EReal)) :
    (dat4 V c).arrAt 2 cfg4.N = fun i => ((mm A B (i 0) (i 1) : ℝ) : EReal) := by
  refine (dat4 V c).arrAt_eq_of_covers 2 _ (by decide +kernel) fun t hf y => ?_
  blk_simp
  rw [after4_2]
  have ht : t.val < 44 := lt_of_lt_of_eq t.isLt N_4
  generalize hz : ((View.whole main_v24).slice (win4_2.rect t)).emb y = z
  have h0 : z 0 = ⟨t.val / 4 * 512 + (y 0).val, by have : (y 0).val < 512 := (y 0).isLt; show _ < 5632; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 512 + i.val, by omega⟩ k) (fun k j => B k ⟨t.val % 4 * 512 + j.val, by omega⟩) (fun i k => ?_) (fun k j => ?_) _ _)
  · refine Eq.trans ?_ (ha _ _)
    blk_point [iblk4, idx t]
  · refine Eq.trans ?_ (hb _ _)
    blk_point [iblk4, idx t]

end Dwo

namespace Dwg

theorem idx : ∀ t : Fin cfg6.N, win6_0.index t = ![t.val / 11, 0] ∧ win6_1.index t = ![0, t.val % 11] ∧ win6_2.index t = ![t.val / 11, t.val % 11] :=
  (by decide +kernel : ∀ t : Fin grid6.N, _)

theorem block (a : Vec Ideal S512x8448 .bf16) (b : Vec Ideal S8448x512 .bf16) (A : Fin 512 → Fin 8448 → ℝ) (B : Fin 8448 → Fin 512 → ℝ)
    (ha : ∀ i k, a (ix2 i k) = (A i k : EReal)) (hb : ∀ k j, b (ix2 k j) = (B k j : EReal)) (i : Fin 512) (j : Fin 512) :
    out6_2 (F := Ideal) a b (ix2 i j) = ((mm A B i j : ℝ) : EReal) := by
  frame_open
  frame_out
  open_payloads
  pointwise [ha, hb]
  exact mm_real A B i j

theorem result (A : Fin 2048 → Fin 8448 → ℝ) (B : Fin 8448 → Fin 5632 → ℝ)
    (ha : ∀ i k, V c main_v4_1 (ix2 i k) = (A i k : EReal)) (hb : ∀ k j, V c main_v25_0 (ix2 k j) = (B k j : EReal)) :
    (dat6 V c).arrAt 2 cfg6.N = fun i => ((mm A B (i 0) (i 1) : ℝ) : EReal) := by
  refine (dat6 V c).arrAt_eq_of_covers 2 _ (by decide +kernel) fun t hf y => ?_
  blk_simp
  rw [after6_2]
  have ht : t.val < 44 := lt_of_lt_of_eq t.isLt N_6
  generalize hz : ((View.whole main_v26).slice (win6_2.rect t)).emb y = z
  have h0 : z 0 = ⟨t.val / 11 * 512 + (y 0).val, by have : (y 0).val < 512 := (y 0).isLt; show _ < 2048; omega⟩ := Fin.ext (by subst hz; blk_simp [idx t])
  have h1 : z 1 = ⟨t.val % 11 * 512 + (y 1).val, by have : (y 1).val < 512 := (y 1).isLt; show _ < 5632; omega⟩ := Fin.ext (by subst hz; blk_simp [idx t])
  rw [h0, h1, eq_ix2 y]
  refine (block _ _ (fun i k => A ⟨t.val / 11 * 512 + i.val, by omega⟩ k) (fun k j => B k ⟨t.val % 11 * 512 + j.val, by omega⟩) (fun i k => ?_) (fun k j => ?_) _ _)
  · refine Eq.trans ?_ (ha _ _)
    blk_point [iblk6, idx t]
  · refine Eq.trans ?_ (hb _ _)
    blk_point [iblk6, idx t]

end Dwg

namespace Dwu

theorem idx : ∀ t : Fin cfg7.N, win7_0.index t = ![t.val / 11, 0] ∧ win7_1.index t = ![0, t.val % 11] ∧ win7_2.index t = ![t.val / 11, t.val % 11] :=
  (by decide +kernel : ∀ t : Fin grid7.N, _)

theorem block (a : Vec Ideal S512x8448 .bf16) (b : Vec Ideal S8448x512 .bf16) (A : Fin 512 → Fin 8448 → ℝ) (B : Fin 8448 → Fin 512 → ℝ)
    (ha : ∀ i k, a (ix2 i k) = (A i k : EReal)) (hb : ∀ k j, b (ix2 k j) = (B k j : EReal)) (i : Fin 512) (j : Fin 512) :
    out7_2 (F := Ideal) a b (ix2 i j) = ((mm A B i j : ℝ) : EReal) := by
  frame_open
  frame_out
  open_payloads
  pointwise [ha, hb]
  exact mm_real A B i j

theorem result (A : Fin 2048 → Fin 8448 → ℝ) (B : Fin 8448 → Fin 5632 → ℝ)
    (ha : ∀ i k, V c main_v4_1 (ix2 i k) = (A i k : EReal)) (hb : ∀ k j, V c main_v25_1 (ix2 k j) = (B k j : EReal)) :
    (dat7 V c).arrAt 2 cfg7.N = fun i => ((mm A B (i 0) (i 1) : ℝ) : EReal) := by
  refine (dat7 V c).arrAt_eq_of_covers 2 _ (by decide +kernel) fun t hf y => ?_
  blk_simp
  rw [after7_2]
  have ht : t.val < 44 := lt_of_lt_of_eq t.isLt N_7
  generalize hz : ((View.whole main_v27).slice (win7_2.rect t)).emb y = z
  have h0 : z 0 = ⟨t.val / 11 * 512 + (y 0).val, by have : (y 0).val < 512 := (y 0).isLt; show _ < 2048; omega⟩ := Fin.ext (by subst hz; blk_simp [idx t])
  have h1 : z 1 = ⟨t.val % 11 * 512 + (y 1).val, by have : (y 1).val < 512 := (y 1).isLt; show _ < 5632; omega⟩ := Fin.ext (by subst hz; blk_simp [idx t])
  rw [h0, h1, eq_ix2 y]
  refine (block _ _ (fun i k => A ⟨t.val / 11 * 512 + i.val, by omega⟩ k) (fun k j => B k ⟨t.val % 11 * 512 + j.val, by omega⟩) (fun i k => ?_) (fun k j => ?_) _ _)
  · refine Eq.trans ?_ (ha _ _)
    blk_point [iblk7, idx t]
  · refine Eq.trans ?_ (hb _ _)
    blk_point [iblk7, idx t]

end Dwu

/-! The gradient of the normed rows, in two calls: the second adds its product to the first's. -/

namespace DhGate

theorem idx : ∀ t : Fin cfg8.N, win8_0.index t = ![t.val / 4, 0] ∧ win8_1.index t = ![t.val % 4, 0] ∧ win8_2.index t = ![t.val / 4, t.val % 4] :=
  (by decide +kernel : ∀ t : Fin grid8.N, _)

theorem block (a : Vec Ideal S768x5632 .bf16) (b : Vec Ideal S512x5632 .bf16) (A : Fin 768 → Fin 5632 → ℝ) (B : Fin 512 → Fin 5632 → ℝ)
    (ha : ∀ i k, a (ix2 i k) = (A i k : EReal)) (hb : ∀ j k, b (ix2 j k) = (B j k : EReal)) (i : Fin 768) (j : Fin 512) :
    out8_2 (F := Ideal) a b (ix2 i j) = ((mmT A B i j : ℝ) : EReal) := by
  frame_open
  frame_out
  open_payloads
  pointwise [ha, hb]
  exact mmT_real A B i j

theorem result (A : Fin 8448 → Fin 5632 → ℝ) (B : Fin 2048 → Fin 5632 → ℝ)
    (ha : ∀ i k, V c main_v25_0 (ix2 i k) = (A i k : EReal)) (hb : ∀ j k, V c main_v1 (ix2 j k) = (B j k : EReal)) :
    (dat8 V c).arrAt 2 cfg8.N = fun i => ((mmT A B (i 0) (i 1) : ℝ) : EReal) := by
  refine (dat8 V c).arrAt_eq_of_covers 2 _ (by decide +kernel) fun t hf y => ?_
  blk_simp
  rw [after8_2]
  have ht : t.val < 44 := lt_of_lt_of_eq t.isLt N_8
  generalize hz : ((View.whole main_v28).slice (win8_2.rect t)).emb y = z
  have h0 : z 0 = ⟨t.val / 4 * 768 + (y 0).val, by have : (y 0).val < 768 := (y 0).isLt; show _ < 8448; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 768 + i.val, by omega⟩ k) (fun j k => B ⟨t.val % 4 * 512 + j.val, by omega⟩ k) (fun i k => ?_) (fun j k => ?_) _ _)
  · refine Eq.trans ?_ (ha _ _)
    blk_point [iblk8, idx t]
  · refine Eq.trans ?_ (hb _ _)
    blk_point [iblk8, idx t]

end DhGate

namespace DhUp

theorem idx : ∀ t : Fin cfg9.N, win9_0.index t = ![t.val / 4, 0] ∧ win9_1.index t = ![t.val % 4, 0] ∧ win9_2.index t = ![t.val / 4, t.val % 4]
    ∧ win9_3.index t = ![t.val / 4, t.val % 4] :=
  (by decide +kernel : ∀ t : Fin grid9.N, _)

theorem block (a : Vec Ideal S768x5632 .bf16) (b : Vec Ideal S512x5632 .bf16) (e : Vec Ideal S768x512 .f32) (A : Fin 768 → Fin 5632 → ℝ)
    (B : Fin 512 → Fin 5632 → ℝ) (E : Fin 768 → Fin 512 → ℝ) (ha : ∀ i k, a (ix2 i k) = (A i k : EReal)) (hb : ∀ j k, b (ix2 j k) = (B j k : EReal))
    (he : ∀ i j, e (ix2 i j) = (E i j : EReal)) (i : Fin 768) (j : Fin 512) :
    out9_3 (F := Ideal) a b e (ix2 i j) = ((mmT A B i j + E i j : ℝ) : EReal) := by
  frame_open
  frame_out
  open_payloads
  pointwise [ha, hb, he]
  rw [EReal.coe_add, ← mmT_real A B i j]

theorem result (A : Fin 8448 → Fin 5632 → ℝ) (B : Fin 2048 → Fin 5632 → ℝ) (E : Fin 8448 → Fin 2048 → ℝ)
    (ha : ∀ i k, V c main_v25_1 (ix2 i k) = (A i k : EReal)) (hb : ∀ j k, V c main_v2 (ix2 j k) = (B j k : EReal))
    (he : ∀ i j, V c main_v28 (ix2 i j) = (E i j : EReal)) :
    (dat9 V c).arrAt 3 cfg9.N = fun i => ((mmT A B (i 0) (i 1) + E (i 0) (i 1) : ℝ) : EReal) := by
  refine (dat9 V c).arrAt_eq_of_covers 3 _ (by decide +kernel) fun t hf y => ?_
  blk_simp
  rw [after9_3]
  have ht : t.val < 44 := lt_of_lt_of_eq t.isLt N_9
  generalize hz : ((View.whole main_v29).slice (win9_3.rect t)).emb y = z
  have h0 : z 0 = ⟨t.val / 4 * 768 + (y 0).val, by have : (y 0).val < 768 := (y 0).isLt; show _ < 8448; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ _ (fun i k => A ⟨t.val / 4 * 768 + i.val, by omega⟩ k) (fun j k => B ⟨t.val % 4 * 512 + j.val, by omega⟩ k)
    (fun i j => E ⟨t.val / 4 * 768 + i.val, by omega⟩ ⟨t.val % 4 * 512 + j.val, by omega⟩) (fun i k => ?_) (fun j k => ?_) (fun i j => ?_) _ _)
  · refine Eq.trans ?_ (ha _ _)
    blk_point [iblk9, idx t]
  · refine Eq.trans ?_ (hb _ _)
    blk_point [iblk9, idx t]
  · refine Eq.trans ?_ (he _ _)
    blk_point [iblk9, idx t]

end DhUp

end Cert.Kernel3Ideal.Value

end
-- ==== Proof.FirstKernelRun.lean ====
/-
  THE FIRST FEED-FORWARD'S RUN AT REAL ARGUMENTS. Every execution ends with the feed-forward of the arguments and its weights'
  gradients: the ten calls in turn, each reading what the ones before it left.
-/
module

public import proofs.«01_k».proof.Proof.FirstStep
public import proofs.«01_k».proof.Proof.FirstNorm
public import proofs.«01_k».proof.Proof.FirstGate
public import proofs.«01_k».proof.Proof.FirstResidual
public import proofs.«01_k».proof.Proof.FirstProducts

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FeedForward

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

/-! ## The arguments -/

/-- The arguments' entries as reals. -/
def args (c : Dev nD) : FirstArgs where
  x i d := EReal.toReal (m ((c : Thread nD τ).loc main_arg0) (ix2 i d))
  gain d := EReal.toReal (m ((c : Thread nD τ).loc main_arg1) (ix2 (0 : Fin 1) d))
  shift s d := EReal.toReal (m ((c : Thread nD τ).loc main_arg2) (ix3 s (0 : Fin 1) d))
  scale s d := EReal.toReal (m ((c : Thread nD τ).loc main_arg3) (ix3 s (0 : Fin 1) d))
  gate s d := EReal.toReal (m ((c : Thread nD τ).loc main_arg4) (ix3 s (0 : Fin 1) d))
  wIn k f := EReal.toReal (m ((c : Thread nD τ).loc main_arg5) (ix2 k f))
  wOut f d := EReal.toReal (m ((c : Thread nD τ).loc main_arg6) (ix2 f d))
  dout i d := EReal.toReal (m ((c : Thread nD τ).loc main_arg7) (ix2 i d))

/-- Every entry of every argument is a real. -/
structure RealArgs : Prop where
  x : ∀ c i d, m (((c : Dev nD) : Thread nD τ).loc main_arg0) (ix2 i d) = ((args m c).x i d : EReal)
  gain : ∀ c d, m (((c : Dev nD) : Thread nD τ).loc main_arg1) (ix2 (0 : Fin 1) d) = ((args m c).gain d : EReal)
  shift : ∀ c s d, m (((c : Dev nD) : Thread nD τ).loc main_arg2) (ix3 s (0 : Fin 1) d) = ((args m c).shift s d : EReal)
  scale : ∀ c s d, m (((c : Dev nD) : Thread nD τ).loc main_arg3) (ix3 s (0 : Fin 1) d) = ((args m c).scale s d : EReal)
  gate : ∀ c s d, m (((c : Dev nD) : Thread nD τ).loc main_arg4) (ix3 s (0 : Fin 1) d) = ((args m c).gate s d : EReal)
  wIn : ∀ c k f, m (((c : Dev nD) : Thread nD τ).loc main_arg5) (ix2 k f) = ((args m c).wIn k f : EReal)
  wOut : ∀ c f d, m (((c : Dev nD) : Thread nD τ).loc main_arg6) (ix2 f d) = ((args m c).wOut f d : EReal)
  dout : ∀ c i d, m (((c : Dev nD) : Thread nD τ).loc main_arg7) (ix2 i d) = ((args m c).dout i d : EReal)

variable {m} (R : RealArgs m) (c : Dev nD)

/-! ## The host's casts and slices of the weights -/

include R in
theorem V1_gate (k : Fin 2048) (f : Fin 5632) : V1 m ρ c main_v1 (ix2 k f) = ((args m c).wGate k f : EReal) := by
  have e : V1 m ρ c main_v1 = extractStridedSlice S2048x5632 ![0, 0]
      (truncf (F := Ideal) .bf16 (m ((c : Thread nD τ).loc main_arg5)) bitsLt_bf16_f32 : (⟨S2048x11264, .bf16⟩ : BufTy).Contents (Elt Ideal))
      slices_S2048x11264_S2048x5632_0_0 := by
    show StableHlo.after hostOps0 _ _ = _
    after_results
  rw [e]
  exact (extractStridedSlice_apply ![0, 0] _ slices_S2048x11264_S2048x5632_0_0 (ix2 k f) (ix2 k ⟨f.val, by omega⟩) (fun a => match a with
    | ⟨0, _⟩ => by show k.val = 0 + k.val; omega
    | ⟨1, _⟩ => by show f.val = 0 + f.val; omega)).trans (R.wIn c k _)
include R in
theorem V1_up (k : Fin 2048) (f : Fin 5632) : V1 m ρ c main_v2 (ix2 k f) = ((args m c).wUp k f : EReal) := by
  have e : V1 m ρ c main_v2 = extractStridedSlice S2048x5632 ![0, 5632]
      (truncf (F := Ideal) .bf16 (m ((c : Thread nD τ).loc main_arg5)) bitsLt_bf16_f32 : (⟨S2048x11264, .bf16⟩ : BufTy).Contents (Elt Ideal))
      slices_S2048x11264_S2048x5632_0_5632 := by
    show StableHlo.after hostOps0 _ _ = _
    after_results
  rw [e]
  exact (extractStridedSlice_apply ![0, 5632] _ slices_S2048x11264_S2048x5632_0_5632 (ix2 k f) (ix2 k ⟨5632 + f.val, by omega⟩) (fun a => match a with
    | ⟨0, _⟩ => by show k.val = 0 + k.val; omega
    | ⟨1, _⟩ => by show 5632 + f.val = 5632 + f.val; rfl)).trans (R.wIn c k _)
include R in
theorem V1_out (f : Fin 5632) (d : Fin 2048) : V1 m ρ c main_v3 (ix2 f d) = ((args m c).wOut f d : EReal) := by
  have e : V1 m ρ c main_v3 = m ((c : Thread nD τ).loc main_arg6) := by
    show StableHlo.after hostOps0 _ _ = _
    after_results
    rfl
  exact (congrFun e _).trans (R.wOut c f d)

/-! ## The host's gradient of the second product -/

/-- The context's rows of the gradient, then the latent's, as the host computes them. -/
theorem V6_rows : V6 m ρ c main_v23 = concatenate S8448x2048 0
    [⟨S256x2048, mulf (F := Ideal) (φ := .f32)
        (mulf (extractStridedSlice S256x2048 ![0, 0] (V5 m ρ c main_arg7 : (⟨S8448x2048, .f32⟩ : BufTy).Contents (Elt Ideal)) slices_S8448x2048_S256x2048_0_0)
          (broadcastInDim S256x2048 ![] bcast_S_S256x2048 (constant S_ .f32 0x3F000000#32)))
        (broadcastInDim S256x2048 ![0, 1] bcast_S1x2048_S256x2048_0_1 (shapeCast S1x2048
          (extractStridedSlice S1x1x2048 ![0, 0, 0] (V5 m ρ c main_arg4 : (⟨S2x1x2048, .f32⟩ : BufTy).Contents (Elt Ideal)) slices_S2x1x2048_S1x1x2048_0_0_0)
          shapeCasts_S1x1x2048_S1x2048))⟩,
     ⟨S8192x2048, mulf (F := Ideal) (φ := .f32)
        (mulf (extractStridedSlice S8192x2048 ![256, 0] (V5 m ρ c main_arg7 : (⟨S8448x2048, .f32⟩ : BufTy).Contents (Elt Ideal)) slices_S8448x2048_S8192x2048_256_0)
          (broadcastInDim S8192x2048 ![] bcast_S_S8192x2048 (constant S_ .f32 0x3F000000#32)))
        (broadcastInDim S8192x2048 ![0, 1] bcast_S1x2048_S8192x2048_0_1 (shapeCast S1x2048
          (extractStridedSlice S1x1x2048 ![1, 0, 0] (V5 m ρ c main_arg4 : (⟨S2x1x2048, .f32⟩ : BufTy).Contents (Elt Ideal)) slices_S2x1x2048_S1x1x2048_1_0_0)
          shapeCasts_S1x1x2048_S1x2048))⟩]
    concatenates_S256x2048_S8192x2048_S8448x2048_d0 := by
  show StableHlo.after hostOps4 _ _ = _
  after_results
  rfl

section
variable {D : (⟨S8448x2048, .f32⟩ : BufTy).Contents (Elt Ideal)} {G : (⟨S2x1x2048, .f32⟩ : BufTy).Contents (Elt Ideal)}

/-- An entry of either: the incoming gradient's, halved, times the gate's. -/
theorem context_rows (r : Fin 256) (d : Fin 2048) : mulf (F := Ideal) (φ := .f32)
      (mulf (extractStridedSlice S256x2048 ![0, 0] D slices_S8448x2048_S256x2048_0_0)
        (broadcastInDim S256x2048 ![] bcast_S_S256x2048 (constant S_ .f32 0x3F000000#32)))
      (broadcastInDim S256x2048 ![0, 1] bcast_S1x2048_S256x2048_0_1 (shapeCast S1x2048
        (extractStridedSlice S1x1x2048 ![0, 0, 0] G slices_S2x1x2048_S1x1x2048_0_0_0) shapeCasts_S1x1x2048_S1x2048)) (ix2 r d)
    = D (ix2 (⟨r.val, by omega⟩ : Fin 8448) d) * ((1 / 2 : ℝ) : EReal) * G (ix3 (0 : Fin 2) (0 : Fin 1) d) := by
  pointwise [ofBits_half]

theorem latent_rows (r : Fin 8192) (d : Fin 2048) : mulf (F := Ideal) (φ := .f32)
      (mulf (extractStridedSlice S8192x2048 ![256, 0] D slices_S8448x2048_S8192x2048_256_0)
        (broadcastInDim S8192x2048 ![] bcast_S_S8192x2048 (constant S_ .f32 0x3F000000#32)))
      (broadcastInDim S8192x2048 ![0, 1] bcast_S1x2048_S8192x2048_0_1 (shapeCast S1x2048
        (extractStridedSlice S1x1x2048 ![1, 0, 0] G slices_S2x1x2048_S1x1x2048_1_0_0) shapeCasts_S1x1x2048_S1x2048)) (ix2 r d)
    = D (ix2 (⟨256 + r.val, by omega⟩ : Fin 8448) d) * ((1 / 2 : ℝ) : EReal) * G (ix3 (1 : Fin 2) (0 : Fin 1) d) := by
  pointwise [ofBits_half]

end

include R in
theorem V6_dy (i : Fin 8448) (d : Fin 2048) : V6 m ρ c main_v23 (ix2 i d) = ((args m c).dy i d : EReal) := by
  have D : ∀ i d, V5 m ρ c main_arg7 (ix2 i d) = ((args m c).dout i d : EReal) := fun i d =>
    (congrFun (W5_args m ρ c main_arg7 (by decide)) _).trans (R.dout c i d)
  have G : ∀ s d, V5 m ρ c main_arg4 (ix3 s (0 : Fin 1) d) = ((args m c).gate s d : EReal) := fun s d =>
    (congrFun (W5_args m ρ c main_arg4 (by decide)) _).trans (R.gate c s d)
  rw [V6_rows, FirstArgs.dy, dres, seg, EReal.coe_mul, EReal.coe_mul]
  by_cases h : i.val < 256
  · rw [if_pos h, ← D i d, ← G 0 d]
    exact (concatenate_pair_apply_left (t := S8448x2048) (s₁ := S256x2048) (s₂ := S8192x2048) 0 _ _ _ (ix2 i d) rfl (ix2 (⟨i.val, h⟩ : Fin 256) d)
      (fun b => match b with | ⟨0, _⟩ => rfl | ⟨1, _⟩ => rfl)).trans (context_rows _ _)
  · obtain ⟨r, hr⟩ : ∃ r : Fin 8192, i.val = r.val + 256 := ⟨⟨i.val - 256, by omega⟩, by show i.val = i.val - 256 + 256; omega⟩
    have hi : (⟨256 + r.val, by omega⟩ : Fin 8448) = i := Fin.ext (by show 256 + r.val = i.val; omega)
    rw [if_neg h, ← D i d, ← G 1 d]
    exact (concatenate_pair_apply_right (t := S8448x2048) (s₁ := S256x2048) (s₂ := S8192x2048) 0 _ _ _ (ix2 i d) rfl rfl (ix2 r d)
      (fun b hb => match b, hb with | ⟨0, _⟩, hb => absurd rfl hb | ⟨1, _⟩, _ => rfl) hr.symm).trans ((latent_rows _ _).trans (by rw [hi]))

/-! ## The calls in turn -/

include R

theorem h_eq : V2 m ρ c main_v4_0 = fun i => (((args m c).h (i 0) (i 1) : ℝ) : EReal) :=
  (W2_arr m ρ c 4).trans (Norm.rows (V1 m ρ) c _ _ _ _ (fun i d => (congrFun (W1_args m ρ c main_arg0 (by decide)) _).trans (R.x c i d)) (fun d => (congrFun
    (W1_args m ρ c main_arg1 (by decide)) _).trans (R.gain c d)) (fun s d => (congrFun (W1_args m ρ c main_arg2 (by decide)) _).trans (R.shift c s d)) (fun s d =>
      (congrFun (W1_args m ρ c main_arg3 (by decide)) _).trans (R.scale c s d)))
theorem hT_eq : V2 m ρ c main_v4_1 = fun i => (((args m c).h (i 1) (i 0) : ℝ) : EReal) :=
  (W2_arr m ρ c 5).trans (Norm.cols (V1 m ρ) c _ _ _ _ (fun i d => (congrFun (W1_args m ρ c main_arg0 (by decide)) _).trans (R.x c i d)) (fun d => (congrFun
    (W1_args m ρ c main_arg1 (by decide)) _).trans (R.gain c d)) (fun s d => (congrFun (W1_args m ρ c main_arg2 (by decide)) _).trans (R.shift c s d)) (fun s d =>
      (congrFun (W1_args m ρ c main_arg3 (by decide)) _).trans (R.scale c s d)))
theorem p_eq : V3 m ρ c main_v5_0 = fun i => (((args m c).p (i 0) (i 1) : ℝ) : EReal) :=
  (W3_arr m ρ c 3).trans (Up.gate (V2 m ρ) c _ _ (fun _ _ => congrFun (h_eq ρ R c) _) (fun k f => (congrFun ((W2_of m ρ c main_v1 (by decide +kernel))) _).trans
    (V1_gate ρ R c k f)))
theorem u_eq : V3 m ρ c main_v5_1 = fun i => (((args m c).u (i 0) (i 1) : ℝ) : EReal) :=
  (W3_arr m ρ c 4).trans (Up.up (V2 m ρ) c _ _ (fun _ _ => congrFun (h_eq ρ R c) _) (fun k f => (congrFun ((W2_of m ρ c main_v2 (by decide +kernel))) _).trans
    (V1_up ρ R c k f)))
theorem s_eq : V3 m ρ c main_v5_2 = fun i => (((args m c).s (i 0) (i 1) : ℝ) : EReal) :=
  (W3_arr m ρ c 5).trans (Up.activation (V2 m ρ) c _ _ _ (fun _ _ => congrFun (h_eq ρ R c) _) (fun k f => (congrFun ((W2_of m ρ c main_v1 (by decide +kernel)))
    _).trans (V1_gate ρ R c k f)) (fun k f => (congrFun ((W2_of m ρ c main_v2 (by decide +kernel))) _).trans (V1_up ρ R c k f)))
theorem sT_eq : V3 m ρ c main_v5_3 = fun i => (((args m c).s (i 1) (i 0) : ℝ) : EReal) :=
  (W3_arr m ρ c 6).trans (Up.activationT (V2 m ρ) c _ _ _ (fun _ _ => congrFun (h_eq ρ R c) _) (fun k f => (congrFun ((W2_of m ρ c main_v1 (by decide +kernel)))
    _).trans (V1_gate ρ R c k f)) (fun k f => (congrFun ((W2_of m ρ c main_v2 (by decide +kernel))) _).trans (V1_up ρ R c k f)))
theorem y_eq : V4 m ρ c main_v6 = fun i => (((args m c).y (i 0) (i 1) : ℝ) : EReal) :=
  (W4_arr m ρ c 2).trans (Down.result (V3 m ρ) c _ _ (fun _ _ => congrFun (s_eq ρ R c) _) (fun f d => (congrFun ((W3_of m ρ c main_v3 (by decide +kernel)).trans
    ((W2_of m ρ c main_v3 (by decide +kernel)))) _).trans (V1_out ρ R c f d)))
theorem out_eq : V5 m ρ c main_v7 = fun i => (((args m c).out (i 0) (i 1) : ℝ) : EReal) :=
  (W5_arr m ρ c 3).trans (Residual.rows (V4 m ρ) c _ _ _ (fun i d => (congrFun (W4_args m ρ c main_arg0 (by decide)) _).trans (R.x c i d)) (fun _ _ => congrFun
    (y_eq ρ R c) _) (fun s d => (congrFun (W4_args m ρ c main_arg4 (by decide)) _).trans (R.gate c s d)))
theorem dwOut_eq : V7 m ρ c main_v24 = fun i => (((args m c).dwOut (i 0) (i 1) : ℝ) : EReal) :=
  (W7_arr m ρ c 2).trans (Dwo.result (V6 m ρ) c (fun f i => (args m c).s i f) _ (fun _ _ => congrFun ((W6_of m ρ c main_v5_3 (by decide +kernel)).trans ((W5_of m ρ
    c main_v5_3 (by decide +kernel)).trans ((W4_of m ρ c main_v5_3 (by decide +kernel)).trans (sT_eq ρ R c)))) _) (V6_dy ρ R c))
theorem dP_eq : V8 m ρ c main_v25_0 = fun i => (((args m c).dP (i 0) (i 1) : ℝ) : EReal) :=
  (W8_arr m ρ c 4).trans (Act.gate (V7 m ρ) c _ _ _ _ (fun i d => (congrFun ((W7_of m ρ c main_v23 (by decide +kernel))) _).trans (V6_dy ρ R c i d)) (fun f d =>
    (congrFun ((W7_of m ρ c main_v3 (by decide +kernel)).trans ((W6_of m ρ c main_v3 (by decide +kernel)).trans ((W5_of m ρ c main_v3 (by decide +kernel)).trans
      ((W4_of m ρ c main_v3 (by decide +kernel)).trans ((W3_of m ρ c main_v3 (by decide +kernel)).trans ((W2_of m ρ c main_v3 (by decide +kernel)))))))) _).trans
      (V1_out ρ R c f d)) (fun _ _ => congrFun ((W7_of m ρ c main_v5_0 (by decide +kernel)).trans ((W6_of m ρ c main_v5_0 (by decide +kernel)).trans ((W5_of m ρ c
      main_v5_0 (by decide +kernel)).trans ((W4_of m ρ c main_v5_0 (by decide +kernel)).trans (p_eq ρ R c))))) _) (fun _ _ => congrFun ((W7_of m ρ c main_v5_1 (by
      decide +kernel)).trans ((W6_of m ρ c main_v5_1 (by decide +kernel)).trans ((W5_of m ρ c main_v5_1 (by decide +kernel)).trans ((W4_of m ρ c main_v5_1 (by
      decide +kernel)).trans (u_eq ρ R c))))) _))
theorem dU_eq : V8 m ρ c main_v25_1 = fun i => (((args m c).dU (i 0) (i 1) : ℝ) : EReal) :=
  (W8_arr m ρ c 5).trans (Act.up (V7 m ρ) c _ _ _ (fun i d => (congrFun ((W7_of m ρ c main_v23 (by decide +kernel))) _).trans (V6_dy ρ R c i d)) (fun f d =>
    (congrFun ((W7_of m ρ c main_v3 (by decide +kernel)).trans ((W6_of m ρ c main_v3 (by decide +kernel)).trans ((W5_of m ρ c main_v3 (by decide +kernel)).trans
      ((W4_of m ρ c main_v3 (by decide +kernel)).trans ((W3_of m ρ c main_v3 (by decide +kernel)).trans ((W2_of m ρ c main_v3 (by decide +kernel)))))))) _).trans
      (V1_out ρ R c f d)) (fun _ _ => congrFun ((W7_of m ρ c main_v5_0 (by decide +kernel)).trans ((W6_of m ρ c main_v5_0 (by decide +kernel)).trans ((W5_of m ρ c
      main_v5_0 (by decide +kernel)).trans ((W4_of m ρ c main_v5_0 (by decide +kernel)).trans (p_eq ρ R c))))) _))
theorem dwGate_eq : V9 m ρ c main_v26 = fun i => (((args m c).dwGate (i 0) (i 1) : ℝ) : EReal) :=
  (W9_arr m ρ c 2).trans (Dwg.result (V8 m ρ) c (fun d i => (args m c).h i d) _ (fun _ _ => congrFun ((W8_of m ρ c main_v4_1 (by decide +kernel)).trans ((W7_of m ρ
    c main_v4_1 (by decide +kernel)).trans ((W6_of m ρ c main_v4_1 (by decide +kernel)).trans ((W5_of m ρ c main_v4_1 (by decide +kernel)).trans ((W4_of m ρ c
      main_v4_1 (by decide +kernel)).trans ((W3_of m ρ c main_v4_1 (by decide +kernel)).trans (hT_eq ρ R c))))))) _) (fun _ _ => congrFun (dP_eq ρ R c) _))
theorem dwUp_eq : V10 m ρ c main_v27 = fun i => (((args m c).dwUp (i 0) (i 1) : ℝ) : EReal) :=
  (W10_arr m ρ c 2).trans (Dwu.result (V9 m ρ) c (fun d i => (args m c).h i d) _ (fun _ _ => congrFun ((W9_of m ρ c main_v4_1 (by decide +kernel)).trans ((W8_of m ρ
    c main_v4_1 (by decide +kernel)).trans ((W7_of m ρ c main_v4_1 (by decide +kernel)).trans ((W6_of m ρ c main_v4_1 (by decide +kernel)).trans ((W5_of m ρ c
      main_v4_1 (by decide +kernel)).trans ((W4_of m ρ c main_v4_1 (by decide +kernel)).trans ((W3_of m ρ c main_v4_1 (by decide +kernel)).trans (hT_eq ρ R
      c)))))))) _) (fun _ _ => congrFun ((W9_of m ρ c main_v25_1 (by decide +kernel)).trans (dU_eq ρ R c)) _))
theorem dhg_eq : V11 m ρ c main_v28 = fun i => ((mmT (args m c).dP (args m c).wGate (i 0) (i 1) : ℝ) : EReal) :=
  (W11_arr m ρ c 2).trans (DhGate.result (V10 m ρ) c _ _ (fun _ _ => congrFun ((W10_of m ρ c main_v25_0 (by decide +kernel)).trans ((W9_of m ρ c main_v25_0 (by
    decide +kernel)).trans (dP_eq ρ R c))) _) (fun k f => (congrFun ((W10_of m ρ c main_v1 (by decide +kernel)).trans ((W9_of m ρ c main_v1 (by
      decide +kernel)).trans ((W8_of m ρ c main_v1 (by decide +kernel)).trans ((W7_of m ρ c main_v1 (by decide +kernel)).trans ((W6_of m ρ c main_v1 (by
      decide +kernel)).trans ((W5_of m ρ c main_v1 (by decide +kernel)).trans ((W4_of m ρ c main_v1 (by decide +kernel)).trans ((W3_of m ρ c main_v1 (by
      decide +kernel)).trans ((W2_of m ρ c main_v1 (by decide +kernel))))))))))) _).trans (V1_gate ρ R c k f)))
theorem dh_eq : V12 m ρ c main_v29 = fun i => (((args m c).dh (i 0) (i 1) : ℝ) : EReal) :=
  (W12_arr m ρ c 3).trans (DhUp.result (V11 m ρ) c _ _ (mmT (args m c).dP (args m c).wGate) (fun _ _ => congrFun ((W11_of m ρ c main_v25_1 (by
    decide +kernel)).trans ((W10_of m ρ c main_v25_1 (by decide +kernel)).trans ((W9_of m ρ c main_v25_1 (by decide +kernel)).trans (dU_eq ρ R c)))) _) (fun k f =>
      (congrFun ((W11_of m ρ c main_v2 (by decide +kernel)).trans ((W10_of m ρ c main_v2 (by decide +kernel)).trans ((W9_of m ρ c main_v2 (by decide +kernel)).trans
      ((W8_of m ρ c main_v2 (by decide +kernel)).trans ((W7_of m ρ c main_v2 (by decide +kernel)).trans ((W6_of m ρ c main_v2 (by decide +kernel)).trans ((W5_of m ρ
      c main_v2 (by decide +kernel)).trans ((W4_of m ρ c main_v2 (by decide +kernel)).trans ((W3_of m ρ c main_v2 (by decide +kernel)).trans ((W2_of m ρ c main_v2
      (by decide +kernel)))))))))))) _).trans (V1_up ρ R c k f)) (fun _ _ => congrFun (dhg_eq ρ R c) _))

omit c in
/-- THE KERNEL'S RUN: the first feed-forward and its weights' gradients, the arguments as they were. -/
theorem run : θ_run defs (onTc (τ := τ) (main (F := Ideal))) ⟨m, fun _ => 0, ρ⟩ (fun r => ∀ c : Dev nD,
      r.2.mem ((c.tc : Thread nD τ).loc main_v7) = (fun i => (((args m c).out (i 0) (i 1) : ℝ) : EReal))
      ∧ r.2.mem ((c.tc : Thread nD τ).loc main_v29) = (fun i => (((args m c).dh (i 0) (i 1) : ℝ) : EReal))
      ∧ r.2.mem ((c.tc : Thread nD τ).loc main_v26) = (fun i => (((args m c).dwGate (i 0) (i 1) : ℝ) : EReal))
      ∧ r.2.mem ((c.tc : Thread nD τ).loc main_v27) = (fun i => (((args m c).dwUp (i 0) (i 1) : ℝ) : EReal))
      ∧ r.2.mem ((c.tc : Thread nD τ).loc main_v24) = (fun i => (((args m c).dwOut (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_v7 (by decide))).trans ((W12_of m ρ c main_v7 (by decide +kernel)).trans ((W11_of m ρ c main_v7 (by decide +kernel)).trans ((W10_of m ρ c
      main_v7 (by decide +kernel)).trans ((W9_of m ρ c main_v7 (by decide +kernel)).trans ((W8_of m ρ c main_v7 (by decide +kernel)).trans ((W7_of m ρ c main_v7 (by
      decide +kernel)).trans ((W6_of m ρ c main_v7 (by decide +kernel)).trans (out_eq ρ R c)))))))),
    (h c _ (mem_uc main_v29 (by decide))).trans (dh_eq ρ R c),
    (h c _ (mem_uc main_v26 (by decide))).trans ((W12_of m ρ c main_v26 (by decide +kernel)).trans ((W11_of m ρ c main_v26 (by decide +kernel)).trans ((W10_of m ρ c
      main_v26 (by decide +kernel)).trans (dwGate_eq ρ R c)))),
    (h c _ (mem_uc main_v27 (by decide))).trans ((W12_of m ρ c main_v27 (by decide +kernel)).trans ((W11_of m ρ c main_v27 (by decide +kernel)).trans (dwUp_eq ρ R c))),
    (h c _ (mem_uc main_v24 (by decide))).trans ((W12_of m ρ c main_v24 (by decide +kernel)).trans ((W11_of m ρ c main_v24 (by decide +kernel)).trans ((W10_of m ρ c
      main_v24 (by decide +kernel)).trans ((W9_of m ρ c main_v24 (by decide +kernel)).trans ((W8_of m ρ c main_v24 (by decide +kernel)).trans (dwOut_eq ρ R c)))))),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c)⟩)
    (launch m ρ)

end Cert.Kernel3Ideal.Value

end
-- ==== Proof.FirstReferenceValue.lean ====
/-
  THE FIRST FEED-FORWARD'S REFERENCE AT REAL ARGUMENTS. Its arrays, in the order it computes them, are those of `FirstStep.lean`; a row's
  modulation is selected from the two by the row's number, and the two factors and their gradients are the halves of arrays twice
  as wide.
-/
module

public import proofs.«01_k».proof.Proof.Gen.Reference3Ideal.Read
public import proofs.«01_k».proof.Proof.FirstStep

@[expose] public section

noncomputable section

namespace Cert.Reference3Ideal.Value

open Cert.Reference3Ideal Cert.Reference3Ideal.Gen Cert.Reference3Ideal.Read Idealize.ShloMosaic Idealize.ShloMosaic.TcCoe Idealize.SL.Sem
open Cert.FeedForward

variable (x0 : (⟨S8448x2048, .f32⟩ : BufTy).Contents (Elt Ideal)) (x1 : (⟨S1x2048, .f32⟩ : BufTy).Contents (Elt Ideal))
  (x2 x3 x4 : (⟨S2x1x2048, .f32⟩ : BufTy).Contents (Elt Ideal)) (x5 : (⟨S2048x11264, .f32⟩ : BufTy).Contents (Elt Ideal))
  (x6 : (⟨S5632x2048, .f32⟩ : BufTy).Contents (Elt Ideal)) (x7 : (⟨S8448x2048, .f32⟩ : BufTy).Contents (Elt Ideal)) (a : FirstArgs)

/-- The arrays hold the arguments. -/
structure Holds : Prop where
  x : ∀ i d, x0 (ix2 i d) = (a.x i d : EReal)
  gain : ∀ d, x1 (ix2 (0 : Fin 1) d) = (a.gain d : EReal)
  shift : ∀ s d, x2 (ix3 s (0 : Fin 1) d) = (a.shift s d : EReal)
  scale : ∀ s d, x3 (ix3 s (0 : Fin 1) d) = (a.scale s d : EReal)
  gate : ∀ s d, x4 (ix3 s (0 : Fin 1) d) = (a.gate s d : EReal)
  wIn : ∀ k f, x5 (ix2 k f) = (a.wIn k f : EReal)
  wOut : ∀ f d, x6 (ix2 f d) = (a.wOut f d : EReal)
  dout : ∀ i d, x7 (ix2 i d) = (a.dout i d : EReal)

variable {x0 x1 x2 x3 x4 x5 x6 x7 a} (H : Holds x0 x1 x2 x3 x4 x5 x6 x7 a)
include H

/-! ## The modulation of a row -/

omit H in
/-- Below row 256 the context's, from there on the latent's. -/
theorem select_seg (i : Fin 8448) (f : Fin 2 → EReal) :
    Scalar.select (IntOp.cmpi .slt (BitVec.ofNat 32 i.val) 256#32) (f 0) (f 1) = f (seg i) := by
  have e : ∀ i : Fin 8448, IntOp.cmpi .slt (BitVec.ofNat 32 i.val) 256#32 = if i.val < 256 then 1#1 else 0#1 := by decide +kernel
  rw [e, seg]
  split <;> rfl

theorem scale_real (i : Fin 8448) (d : Fin 2048) : val_main_v20 (F := Ideal) x3 (ix2 i d) = ((a.scale (seg i) d : ℝ) : EReal) := by
  rw [val_main_v20_apply, val_main_call0_v0_apply, show idx_main_call0_v0 (ix2 i d) = ix2 i (0 : Fin 1) by idx_ext, val_main_v17_apply,
    val_main_v15_apply, val_main_v14_apply, val_main_v16_apply, val_main_c_apply, val_main_call0_v1_apply, val_main_v18_apply,
    val_main_v12_apply, val_main_call0_v2_apply, val_main_v19_apply, val_main_v13_apply,
    show idx_main_v12 (idx_main_v18 (idx_main_call0_v1 (ix2 i d))) = ix3 (0 : Fin 2) (0 : Fin 1) d by idx_ext,
    show idx_main_v13 (idx_main_v19 (idx_main_call0_v2 (ix2 i d))) = ix3 (1 : Fin 2) (0 : Fin 1) d by idx_ext, H.scale, H.scale]
  exact select_seg i fun s => ((a.scale s d : ℝ) : EReal)

theorem shift_real (i : Fin 8448) (d : Fin 2048) : val_main_v32 (F := Ideal) x2 (ix2 i d) = ((a.shift (seg i) d : ℝ) : EReal) := by
  rw [val_main_v32_apply, val_main_call1_v0_apply, show idx_main_call1_v0 (ix2 i d) = ix2 i (0 : Fin 1) by idx_ext, val_main_v29_apply,
    val_main_v27_apply, val_main_v26_apply, val_main_v28_apply, val_main_c_3_apply, val_main_call1_v1_apply, val_main_v30_apply,
    val_main_v24_apply, val_main_call1_v2_apply, val_main_v31_apply, val_main_v25_apply,
    show idx_main_v24 (idx_main_v30 (idx_main_call1_v1 (ix2 i d))) = ix3 (0 : Fin 2) (0 : Fin 1) d by idx_ext,
    show idx_main_v25 (idx_main_v31 (idx_main_call1_v2 (ix2 i d))) = ix3 (1 : Fin 2) (0 : Fin 1) d by idx_ext, H.shift, H.shift]
  exact select_seg i fun s => ((a.shift s d : ℝ) : EReal)

theorem gate_real (i : Fin 8448) (d : Fin 2048) : val_main_v45 (F := Ideal) x4 (ix2 i d) = ((a.gate (seg i) d : ℝ) : EReal) := by
  rw [val_main_v45_apply, val_main_call2_v0_apply, show idx_main_call2_v0 (ix2 i d) = ix2 i (0 : Fin 1) by idx_ext, val_main_v42_apply,
    val_main_v40_apply, val_main_v39_apply, val_main_v41_apply, val_main_c_4_apply, val_main_call2_v1_apply, val_main_v43_apply,
    val_main_v37_apply, val_main_call2_v2_apply, val_main_v44_apply, val_main_v38_apply,
    show idx_main_v37 (idx_main_v43 (idx_main_call2_v1 (ix2 i d))) = ix3 (0 : Fin 2) (0 : Fin 1) d by idx_ext,
    show idx_main_v38 (idx_main_v44 (idx_main_call2_v2 (ix2 i d))) = ix3 (1 : Fin 2) (0 : Fin 1) d by idx_ext, H.gate, H.gate]
  exact select_seg i fun s => ((a.gate s d : ℝ) : EReal)

/-! ## The norm -/

theorem squares_real (i : Fin 8448) (z : Fin 1) : val_main_v6 (F := Ideal) x0 (ix2 i z) = ((square a.x i : ℝ) : EReal) := by
  have e : val_main_v1 (F := Ideal) x0 (idx_main_v2 (ix2 i z)) = ∑ d, (a.x i d : EReal) * (a.x i d : EReal) := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext, H.x]
    rfl
  rw [val_main_v6_apply, val_main_v4_apply, val_main_v2_apply, e, val_main_v3_apply, val_main_cst_0_apply, val_main_v5_apply, val_main_cst_1_apply,
    ← square_real, ← ofBits_2048, ← ofBits_eps]
  rfl

theorem factor_real (i : Fin 8448) (z : Fin 1) : val_main_v7 (F := Ideal) x0 (ix2 i z) = ((rstd a.x i : ℝ) : EReal) := by
  rw [val_main_v7_apply, squares_real H, Ideal.hostUnary_rsqrt_def, rsqrt_square]

theorem unit_real (i : Fin 8448) (d : Fin 2048) : val_main_v9 (F := Ideal) x0 (ix2 i d) = ((unit a.x i d : ℝ) : EReal) := by
  rw [val_main_v9_apply, val_main_v8_apply, show idx_main_v8 (ix2 i d) = ix2 i (0 : Fin 1) by idx_ext, factor_real H, H.x]
  rfl

theorem gained_real (i : Fin 8448) (d : Fin 2048) : val_main_v11 (F := Ideal) x0 x1 (ix2 i d) = ((unit a.x i d * a.gain d : ℝ) : EReal) := by
  rw [val_main_v11_apply, unit_real H, val_main_v10_apply, show idx_main_v10 (ix2 i d) = ix2 (0 : Fin 1) d by idx_ext, H.gain]
  rfl

theorem h_real (i : Fin 8448) (d : Fin 2048) : val_main_v33 (F := Ideal) x0 x1 x2 x3 (ix2 i d) = ((a.h i d : ℝ) : EReal) := by
  rw [val_main_v33_apply, val_main_v23_apply, gained_real H, val_main_v22_apply, scale_real H, shift_real H, val_main_v21_apply,
    val_main_cst_2_apply, show a.h i d = unit a.x i d * a.gain d * (1 + a.scale (seg i) d) + a.shift (seg i) d from rfl, EReal.coe_add,
    EReal.coe_mul _ (1 + _), EReal.coe_add 1, ← ofBits_one]
  rfl

/-! ## The two products and the residual -/

theorem wide_real (i : Fin 8448) (j : Fin 11264) : val_main_v34 (F := Ideal) x0 x1 x2 x3 x5 (ix2 i j) = ((mm a.h a.wIn i j : ℝ) : EReal) := by
  rw [val_main_v34_apply]
  refine (Finset.sum_congr rfl fun k _ => ?_).trans (mm_real a.h a.wIn i j)
  rw [show lidx_main_v34 (ix2 i j) k = ix2 i k by idx_ext, show ridx_main_v34 (ix2 i j) k = ix2 k j by idx_ext, h_real H, H.wIn]

theorem p_real (i : Fin 8448) (f : Fin 5632) : val_main_v35 (F := Ideal) x0 x1 x2 x3 x5 (ix2 i f) = ((a.p i f : ℝ) : EReal) := by
  rw [val_main_v35_apply, show idx_main_v35 (ix2 i f) = ix2 i (⟨f.val, by omega⟩ : Fin 11264) by idx_ext, wide_real H]
  rfl

theorem u_real (i : Fin 8448) (f : Fin 5632) : val_main_v36 (F := Ideal) x0 x1 x2 x3 x5 (ix2 i f) = ((a.u i f : ℝ) : EReal) := by
  rw [val_main_v36_apply, show idx_main_v36 (ix2 i f) = ix2 i (⟨5632 + f.val, by omega⟩ : Fin 11264) by idx_ext, wide_real H]
  rfl

theorem sigmoid_real (i : Fin 8448) (f : Fin 5632) : val_main_v48_2 (F := Ideal) x0 x1 x2 x3 x5 (ix2 i f) = ((sigmoid (a.p i f) : ℝ) : EReal) := by
  have e : val_main_call3_v3 (F := Ideal) x0 x1 x2 x3 x5 (ix2 i f) = ((1 + Real.exp (-a.p i f) : ℝ) : EReal) := by
    rw [val_main_call3_v3_apply, val_main_call3_v2_apply, val_main_call3_cst_apply, val_main_call3_v1_apply, val_main_call3_v0_apply, p_real H,
      Ideal.hostUnary_exp_def, EReal.coe_add, ← ofBits_one, ← Ideal.exp_coe, EReal.coe_neg]
    rfl
  rw [val_main_v48_2_apply, e, val_main_call3_v4_apply, val_main_call3_cst_0_apply]
  show Ideal.div (Ideal.ofBits .f32 0x3F800000#32) _ = _
  rw [ofBits_one, Ideal.div_coe (by positivity), ← EReal.coe_mul, one_mul, one_div]
  rfl

theorem silu_real (i : Fin 8448) (f : Fin 5632) :
    val_main_v48_0 (F := Ideal) x0 x1 x2 x3 x5 (ix2 i f) = ((a.p i f * sigmoid (a.p i f) : ℝ) : EReal) := by
  rw [val_main_v48_0_apply, p_real H, sigmoid_real H]
  rfl

theorem slope_real (i : Fin 8448) (f : Fin 5632) :
    val_main_v48_1 (F := Ideal) x0 x1 x2 x3 x5 (ix2 i f) = ((sigmoid (a.p i f) * (1 - sigmoid (a.p i f)) : ℝ) : EReal) := by
  rw [val_main_v48_1_apply, val_main_call3_v7_apply, val_main_call3_v6_apply, val_main_call3_cst_1_apply, sigmoid_real H, EReal.coe_mul,
    EReal.coe_sub, ← ofBits_one]
  rfl

theorem s_real (i : Fin 8448) (f : Fin 5632) : val_main_v49 (F := Ideal) x0 x1 x2 x3 x5 (ix2 i f) = ((a.s i f : ℝ) : EReal) := by
  rw [val_main_v49_apply, silu_real H, u_real H]
  rfl

theorem y_real (i : Fin 8448) (d : Fin 2048) : val_main_v50 (F := Ideal) x0 x1 x2 x3 x5 x6 (ix2 i d) = ((a.y i d : ℝ) : EReal) := by
  rw [val_main_v50_apply]
  refine (Finset.sum_congr rfl fun k _ => ?_).trans (mm_real a.s a.wOut i d)
  rw [show lidx_main_v50 (ix2 i d) k = ix2 i k by idx_ext, show ridx_main_v50 (ix2 i d) k = ix2 k d by idx_ext, s_real H, H.wOut]

theorem half_real (i : Fin 8448) (d : Fin 2048) : val_main_v47 (F := Ideal) x4 (ix2 i d) = ((1 / 2 * a.gate (seg i) d : ℝ) : EReal) := by
  rw [val_main_v47_apply, gate_real H, val_main_v46_apply, val_main_cst_5_apply, EReal.coe_mul, ← ofBits_half]
  rfl

theorem out_real (i : Fin 8448) (d : Fin 2048) : val_main_v52 (F := Ideal) x0 x1 x2 x3 x4 x5 x6 (ix2 i d) = ((a.out i d : ℝ) : EReal) := by
  rw [val_main_v52_apply, val_main_v51_apply, half_real H, y_real H, H.x]
  rfl

/-! ## Back to the activation's factors -/

theorem dy_real (i : Fin 8448) (d : Fin 2048) : val_main_v53 (F := Ideal) x4 x7 (ix2 i d) = ((a.dy i d : ℝ) : EReal) := by
  rw [val_main_v53_apply, half_real H, H.dout,
    show a.dy i d = 1 / 2 * a.gate (seg i) d * a.dout i d by unfold FirstArgs.dy dres; ring]
  rfl

theorem dwOut_real (f : Fin 5632) (d : Fin 2048) :
    val_main_v67 (F := Ideal) x0 x1 x2 x3 x4 x5 x7 (ix2 f d) = ((a.dwOut f d : ℝ) : EReal) := by
  have e : val_main_v55 (F := Ideal) x0 x1 x2 x3 x4 x5 x7 (ix2 f d) = ((a.dwOut f d : ℝ) : EReal) := by
    rw [val_main_v55_apply, show idx_main_v55 (ix2 f d) = ix2 d f by idx_ext, val_main_v54_apply]
    refine (Finset.sum_congr rfl fun k _ => ?_).trans (mm_real (fun f i => a.s i f) a.dy f d)
    rw [show lidx_main_v54 (ix2 d f) k = ix2 k d by idx_ext, show ridx_main_v54 (ix2 d f) k = ix2 k f by idx_ext, dy_real H, s_real H, mul_comm]
  rw [val_main_v67_apply, e]
  rfl

theorem ds_real (i : Fin 8448) (f : Fin 5632) : val_main_v56 (F := Ideal) x4 x6 x7 (ix2 i f) = ((a.ds i f : ℝ) : EReal) := by
  rw [val_main_v56_apply]
  refine (Finset.sum_congr rfl fun k _ => ?_).trans (mmT_real a.dy a.wOut i f)
  rw [show lidx_main_v56 (ix2 i f) k = ix2 i k by idx_ext, show ridx_main_v56 (ix2 i f) k = ix2 f k by idx_ext, dy_real H, H.wOut]

theorem dU_real (i : Fin 8448) (f : Fin 5632) : val_main_v57 (F := Ideal) x0 x1 x2 x3 x4 x5 x6 x7 (ix2 i f) = ((a.dU i f : ℝ) : EReal) := by
  rw [val_main_v57_apply, silu_real H, ds_real H, show a.dU i f = a.p i f * sigmoid (a.p i f) * a.ds i f by unfold FirstArgs.dU du; ring]
  rfl

theorem dP_real (i : Fin 8448) (f : Fin 5632) : val_main_v59 (F := Ideal) x0 x1 x2 x3 x4 x5 x6 x7 (ix2 i f) = ((a.dP i f : ℝ) : EReal) := by
  rw [val_main_v59_apply, val_main_call4_v1_apply, val_main_call4_v2_apply, val_main_call4_v0_apply, val_main_v58_apply, ds_real H, u_real H, p_real H,
    sigmoid_real H, slope_real H,
    show a.dP i f = a.ds i f * a.u i f * sigmoid (a.p i f) + a.p i f * (a.ds i f * a.u i f) * (sigmoid (a.p i f) * (1 - sigmoid (a.p i f))) by
      unfold FirstArgs.dP dp; ring]
  rfl

theorem wide_left (i : Fin 8448) (f : Fin 5632) :
    val_main_v60 (F := Ideal) x0 x1 x2 x3 x4 x5 x6 x7 (ix2 i (⟨f.val, by omega⟩ : Fin 11264)) = ((a.dP i f : ℝ) : EReal) := by
  rw [← dP_real H]
  unfold val_main_v60
  exact concatenate_pair_apply_left (t := S8448x11264) (s₁ := S8448x5632) (s₂ := S8448x5632) 1 _ _ _ (ix2 i (⟨f.val, by omega⟩ : Fin 11264)) rfl (ix2 i f)
    (fun b => match b with | ⟨0, _⟩ => rfl | ⟨1, _⟩ => rfl)

theorem wide_right (i : Fin 8448) (f : Fin 5632) :
    val_main_v60 (F := Ideal) x0 x1 x2 x3 x4 x5 x6 x7 (ix2 i (⟨5632 + f.val, by omega⟩ : Fin 11264)) = ((a.dU i f : ℝ) : EReal) := by
  rw [← dU_real H]
  unfold val_main_v60
  exact concatenate_pair_apply_right (t := S8448x11264) (s₁ := S8448x5632) (s₂ := S8448x5632) 1 _ _ _ (ix2 i (⟨5632 + f.val, by omega⟩ : Fin 11264)) rfl rfl (ix2 i f)
    (fun b hb => match b, hb with | ⟨0, _⟩, _ => rfl | ⟨1, _⟩, hb => absurd rfl hb) (Nat.add_comm _ _)

/-! ## Back to the rows normed -/

theorem dwide_real (d : Fin 2048) (j : Fin 11264) (f : Fin 5632) (g : Fin 8448 → Fin 5632 → ℝ)
    (hg : ∀ i, val_main_v60 (F := Ideal) x0 x1 x2 x3 x4 x5 x6 x7 (ix2 i j) = ((g i f : ℝ) : EReal)) :
    val_main_v64 (F := Ideal) x0 x1 x2 x3 x4 x5 x6 x7 (ix2 d j) = ((mm (fun d i => a.h i d) g d f : ℝ) : EReal) := by
  have e : val_main_v62 (F := Ideal) x0 x1 x2 x3 x4 x5 x6 x7 (ix2 d j) = ((mm (fun d i => a.h i d) g d f : ℝ) : EReal) := by
    rw [val_main_v62_apply, show idx_main_v62 (ix2 d j) = ix2 j d by idx_ext, val_main_v61_apply]
    refine (Finset.sum_congr rfl fun k _ => ?_).trans (mm_real (fun d i => a.h i d) g d f)
    rw [show lidx_main_v61 (ix2 j d) k = ix2 k j by idx_ext, show ridx_main_v61 (ix2 j d) k = ix2 k d by idx_ext, hg, h_real H, mul_comm]
  rw [val_main_v64_apply, e]
  rfl

theorem dwGate_real (d : Fin 2048) (f : Fin 5632) :
    val_main_v65 (F := Ideal) x0 x1 x2 x3 x4 x5 x6 x7 (ix2 d f) = ((a.dwGate d f : ℝ) : EReal) := by
  rw [val_main_v65_apply, show idx_main_v65 (ix2 d f) = ix2 d (⟨f.val, by omega⟩ : Fin 11264) by idx_ext]
  exact dwide_real H d _ f a.dP fun i => wide_left H i f

theorem dwUp_real (d : Fin 2048) (f : Fin 5632) :
    val_main_v66 (F := Ideal) x0 x1 x2 x3 x4 x5 x6 x7 (ix2 d f) = ((a.dwUp d f : ℝ) : EReal) := by
  rw [val_main_v66_apply, show idx_main_v66 (ix2 d f) = ix2 d (⟨5632 + f.val, by omega⟩ : Fin 11264) by idx_ext]
  exact dwide_real H d _ f a.dU fun i => wide_right H i f

theorem dh_real (i : Fin 8448) (d : Fin 2048) : val_main_v63 (F := Ideal) x0 x1 x2 x3 x4 x5 x6 x7 (ix2 i d) = ((a.dh i d : ℝ) : EReal) := by
  have l : ∀ j, lidx_main_v63 (ix2 i d) j = ix2 i j := fun j => by idx_ext
  have r : ∀ j, ridx_main_v63 (ix2 i d) j = ix2 d j := fun j => by idx_ext
  rw [val_main_v63_apply]
  simp only [l, r]
  refine (Fin.sum_univ_add (a := 5632) (b := 5632) fun j : Fin 11264 => val_main_v60 (F := Ideal) x0 x1 x2 x3 x4 x5 x6 x7 (ix2 i j) * x5 (ix2 d j)).trans ?_
  unfold FirstArgs.dh
  rw [add_comm (mmT _ _ _ _), EReal.coe_add, ← mmT_real, ← mmT_real]
  refine congrArg₂ (· + ·) (Finset.sum_congr rfl fun f _ => congrArg₂ (· * ·) ?_ ?_) (Finset.sum_congr rfl fun f _ => congrArg₂ (· * ·) ?_ ?_)
  · exact wide_left H i f
  · exact H.wIn d _
  · exact wide_right H i f
  · exact H.wIn d _

end Cert.Reference3Ideal.Value

end
-- ==== Proof.FirstReferenceRun.lean ====
/-
  THE FIRST FEED-FORWARD'S REFERENCE'S RUN AT REAL ARGUMENTS. Its composed terms are the feed-forward and its weights' gradients.
-/
module

public import proofs.«01_k».proof.Proof.FirstReferenceValue
public import proofs.«01_k».proof.Proof.Gen.Reference3Ideal.Run

@[expose] public section

set_option maxRecDepth 16384

noncomputable section

namespace Cert.Reference3Ideal.Value

open Cert.Reference3Ideal Cert.Reference3Ideal.Gen Cert.Reference3Ideal.Read Idealize.ShloMosaic Idealize.ShloMosaic.TcCoe Idealize.SL.Sem
open Cert.FeedForward

variable (m : (ℓ : Loc nD τ sig) → Buf (Elt Ideal) ℓ) (ρ : Dev nD → PrngReg) (a : Dev nD → FirstArgs)

/-- A device's argument arrays hold `a`. -/
abbrev Given (c : Dev nD) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (a c)

set_option maxHeartbeats 1600000 in
theorem run_real (H : ∀ c, Given m a c) :
    θ_run defs (onTc (τ := τ) (main (F := Ideal))) ⟨m, fun _ => 0, ρ⟩ (fun r => ∀ c : Dev nD,
      r.2.mem ((c.tc : Thread nD τ).loc main_v52) = (fun i => (((a c).out (i 0) (i 1) : ℝ) : EReal))
      ∧ r.2.mem ((c.tc : Thread nD τ).loc main_v63) = (fun i => (((a c).dh (i 0) (i 1) : ℝ) : EReal))
      ∧ r.2.mem ((c.tc : Thread nD τ).loc main_v65) = (fun i => (((a c).dwGate (i 0) (i 1) : ℝ) : EReal))
      ∧ r.2.mem ((c.tc : Thread nD τ).loc main_v66) = (fun i => (((a c).dwUp (i 0) (i 1) : ℝ) : EReal))
      ∧ r.2.mem ((c.tc : Thread nD τ).loc main_v67) = (fun i => (((a c).dwOut (i 0) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m ρ)
  obtain ⟨ho, hh, hwg, hwu, hwo, ha⟩ := h c
  refine ⟨(ho.trans (val_main_v52_eq m c)).trans (funext fun i => ?_), (hh.trans (val_main_v63_eq m c)).trans (funext fun i => ?_),
    (hwg.trans (val_main_v65_eq m c)).trans (funext fun i => ?_), (hwu.trans (val_main_v66_eq m c)).trans (funext fun i => ?_),
    (hwo.trans (val_main_v67_eq m c)).trans (funext fun i => ?_), ha⟩
  · rw [eq_ix2 i]; exact out_real (H c) _ _
  · rw [eq_ix2 i]; exact dh_real (H c) _ _
  · rw [eq_ix2 i]; exact dwGate_real (H c) _ _
  · rw [eq_ix2 i]; exact dwUp_real (H c) _ _
  · rw [eq_ix2 i]; exact dwOut_real (H c) _ _

end Cert.Reference3Ideal.Value

end
-- ==== Proof.ProjectStep.lean ====
/-
  THE MIXING BLOCK'S TWO OUTER PROJECTIONS AND THEIR WEIGHTS' GRADIENTS, over the extended reals. The first norms and modulates the
  context's 256 rows and the latent's 8192 and multiplies them by a weight; the second multiplies the latent's mixed rows by a weight
  and adds them, gated, to the residual. Back, from what comes in at each of the two results. Both programs compute these sums and
  products in the same form up to the order of addition and of multiplication, so nothing here asks that an entry be finite.
-/
module

public import proofs.«01_k».proof.Proof.FirstStep

@[expose] public section

noncomputable section

open Idealize.ShloMosaic

namespace Cert.FeedForward

variable {N K M : ℕ}

/-- The product of two matrices, and the product with the second transposed. -/
def matmul (a : Fin N → Fin K → EReal) (b : Fin K → Fin M → EReal) (i : Fin N) (j : Fin M) : EReal := ∑ k, a i k * b k j
def matmulT (a : Fin N → Fin K → EReal) (b : Fin M → Fin K → EReal) (i : Fin N) (j : Fin M) : EReal := ∑ k, a i k * b j k

/-- A row's mean square, the constant added; its factor; and the rows normed, gained and modulated. -/
def meanSquare (x : Fin N → Fin K → EReal) (i : Fin N) : EReal := Ideal.div (∑ d, x i d * x i d) ((2048 : ℝ) : EReal) + ((eps : ℝ) : EReal)
def factor (x : Fin N → Fin K → EReal) (i : Fin N) : EReal := Ideal.rsqrt (meanSquare x i)
def normed (x : Fin N → Fin K → EReal) (g shift scale : Fin K → EReal) (i : Fin N) (d : Fin K) : EReal :=
  x i d * factor x i * g d * (1 + scale d) + shift d

/-- Rows added to a residual, each column times its gate; what goes back to them; and the part of the gate's gradient a row gives. -/
def gated (x y : Fin N → Fin M → EReal) (g : Fin M → EReal) (i : Fin N) (d : Fin M) : EReal := x i d + g d * y i d
def dgated (o : Fin N → Fin M → EReal) (g : Fin M → EReal) (i : Fin N) (d : Fin M) : EReal := o i d * g d
def dgatePart (y o : Fin N → Fin M → EReal) (i : Fin N) (d : Fin M) : EReal := o i d * y i d

/-- A sum over 8192 rows is the sum over 32 tiles of the sums over a tile's 256, `at_` naming a tile's rows. -/
theorem sum_tiles_ereal (f : Fin 8192 → EReal) (at_ : Fin 32 → Fin 256 → EReal)
    (h : ∀ s r, at_ s r = f ⟨s.val * 256 + r.val, by omega⟩) : ∑ s, ∑ r, at_ s r = ∑ i, f i := by
  simp only [h]
  exact (Fin.sum_univ_tiles 32 256 rfl f).symm

/-- The arguments. -/
structure ProjectArgs where
  x : Fin 8448 → Fin 2048 → EReal
  gain : Fin 2048 → EReal
  shift : Fin 2 → Fin 2048 → EReal
  scale : Fin 2 → Fin 2048 → EReal
  wIn : Fin 2048 → Fin 4096 → EReal
  dProj : Fin 8448 → Fin 4096 → EReal
  r : Fin 8192 → Fin 2048 → EReal
  mixed : Fin 8192 → Fin 2048 → EReal
  wOut : Fin 2048 → Fin 2048 → EReal
  gate : Fin 2048 → EReal
  dout : Fin 8192 → Fin 2048 → EReal

namespace ProjectArgs
variable (a : ProjectArgs)

/-- The projection of the rows normed. -/
def h (i : Fin 8448) (d : Fin 2048) : EReal := normed a.x a.gain (a.shift (seg i)) (a.scale (seg i)) i d
def proj : Fin 8448 → Fin 4096 → EReal := matmul a.h a.wIn

/-- The projection of the mixed rows, and the residual. -/
def y : Fin 8192 → Fin 2048 → EReal := matmul a.mixed a.wOut
def out : Fin 8192 → Fin 2048 → EReal := gated a.r a.y a.gate

/-- Back through each. -/
def dy : Fin 8192 → Fin 2048 → EReal := dgated a.dout a.gate
def dgate (d : Fin 2048) : EReal := ∑ i, dgatePart a.y a.dout i d
def dwOut : Fin 2048 → Fin 2048 → EReal := matmul (fun f i => a.mixed i f) a.dy
def da : Fin 8192 → Fin 2048 → EReal := matmulT a.dy a.wOut
def dwIn : Fin 2048 → Fin 4096 → EReal := matmul (fun d i => a.h i d) a.dProj
def dh : Fin 8448 → Fin 2048 → EReal := matmulT a.dProj a.wIn

end ProjectArgs

end Cert.FeedForward

end
-- ==== Proof.ProjectNorm.lean ====
/-
  THE FIRST PROJECTION'S NORM: each point takes 256 rows and writes them normed, gained and modulated, and once more transposed;
  the first point's rows have the context's modulation, the others' the latent's.
-/
module

public import proofs.«01_k».proof.Proof.Gen.Kernel4Ideal.Frame
public import proofs.«01_k».proof.Proof.ProjectStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Norm

theorem idx : ∀ t : Fin cfg0.N, win0_0.index t = ![t.val, 0] ∧ win0_1.index t = ![0, 0] ∧ win0_2.index t = ![min t.val 1, 0, 0] ∧ win0_3.index t = ![min t.val 1, 0, 0]
    ∧ win0_4.index t = ![t.val, 0] ∧ win0_5.index t = ![0, t.val] :=
  (by decide +kernel : ∀ t : Fin grid0.N, _)

section
variable (x : Vec Ideal S256x2048 .f32) (g : Vec Ideal S1x2048 .f32) (sh sc : Vec Ideal S1x1x2048 .f32)
variable (X : Fin 256 → Fin 2048 → EReal) (G Sh Sc : Fin 2048 → EReal)
variable (hx : ∀ i d, x (ix2 i d) = X i d) (hg : ∀ d, g (ix2 (0 : Fin 1) d) = G d)
  (hsh : ∀ d, sh (ix3 (0 : Fin 1) (0 : Fin 1) d) = Sh d) (hsc : ∀ d, sc (ix3 (0 : Fin 1) (0 : Fin 1) d) = Sc d)

include hx hg hsh hsc

theorem rows_block (i : Fin 256) (d : Fin 2048) : out0_4 (F := Ideal) x g sh sc (ix2 i d) = normed X G Sh Sc i d := by
  frame_open
  frame_out
  open_payloads
  pointwise [hx, hg, hsh, hsc, ofBits_2048, ofBits_eps, ofBits_one, EReal.coe_one]
  rfl

theorem cols_block (d : Fin 2048) (i : Fin 256) : out0_5 (F := Ideal) x g sh sc (ix2 d i) = normed X G Sh Sc i d := by
  frame_open
  frame_out
  open_payloads
  pointwise [hx, hg, hsh, hsc, ofBits_2048, ofBits_eps, ofBits_one, EReal.coe_one]
  rfl

end

variable (X : Fin 8448 → Fin 2048 → EReal) (G : Fin 2048 → EReal) (Sh Sc : Fin 2 → Fin 2048 → EReal)
variable (hx : ∀ i d, V c main_arg0 (ix2 i d) = X i d) (hg : ∀ d, V c main_arg1 (ix2 (0 : Fin 1) d) = G d)
  (hsh : ∀ s d, V c main_arg2 (ix3 s (0 : Fin 1) d) = Sh s d) (hsc : ∀ s d, V c main_arg3 (ix3 s (0 : Fin 1) d) = Sc s d)

theorem point (t : Fin cfg0.N) : t.val < 33 := lt_of_lt_of_eq t.isLt N_0

/-- A point's rows of the whole, and which modulation they have. -/
abbrev row (t : Fin cfg0.N) (i : Fin 256) : Fin 8448 := ⟨t.val * 256 + i.val, by have := point t; omega⟩
abbrev part (t : Fin cfg0.N) : Fin 2 := ⟨min t.val 1, by omega⟩
theorem seg_row (t : Fin cfg0.N) (i : Fin 256) : seg (row t i) = part t := by
  unfold seg
  split <;> exact Fin.ext (by simp only [Fin.val_zero, Fin.val_one] at *; omega)

include hx in
theorem block_x (t : Fin cfg0.N) (i : Fin 256) (d : Fin 2048) : iblk0 V c 0 t (ix2 i d)
    = X (row t i) d := by
  refine Eq.trans ?_ (hx _ _)
  blk_point [iblk0, idx t]

include hg in
theorem block_g (t : Fin cfg0.N) (d : Fin 2048) : iblk0 V c 1 t (ix2 (0 : Fin 1) d) = G d := by
  refine Eq.trans ?_ (hg _)
  blk_point [iblk0, idx t]

include hsh in
theorem block_sh (t : Fin cfg0.N) (d : Fin 2048) : iblk0 V c 2 t (ix3 (0 : Fin 1) (0 : Fin 1) d) = Sh (part t) d := by
  refine Eq.trans ?_ (hsh _ _)
  blk_point [iblk0, idx t]

include hsc in
theorem block_sc (t : Fin cfg0.N) (d : Fin 2048) : iblk0 V c 3 t (ix3 (0 : Fin 1) (0 : Fin 1) d) = Sc (part t) d := by
  refine Eq.trans ?_ (hsc _ _)
  blk_point [iblk0, idx t]

include hx hg hsh hsc

theorem rows : (dat0 V c).arrAt 4 cfg0.N = fun i => normed X G (Sh (seg (i 0))) (Sc (seg (i 0))) (i 0) (i 1) := by
  refine (dat0 V c).arrAt_eq_of_covers 4 _ (by decide +kernel) fun t hf y => ?_
  blk_simp
  rw [after0_4]
  obtain ⟨r, d, rfl⟩ : ∃ (r : Fin 256) (d : Fin 2048), y = ix2 r d := ⟨y 0, y 1, eq_ix2 y⟩
  generalize hz : ((View.whole main_v2_0).slice (win0_4.rect t)).emb (ix2 r d) = z
  have h0 : z 0 = row t r := Fin.ext (by subst hz; blk_simp [idx t])
  have h1 : z 1 = d := Fin.ext (by subst hz; blk_simp [idx t])
  rw [h0, h1, seg_row]
  exact rows_block _ _ _ _ _ _ _ _ (block_x V c X hx t) (block_g V c G hg t) (block_sh V c Sh hsh t) (block_sc V c Sc hsc t) _ _

theorem cols : (dat0 V c).arrAt 5 cfg0.N = fun i => normed X G (Sh (seg (i 1))) (Sc (seg (i 1))) (i 1) (i 0) := by
  refine (dat0 V c).arrAt_eq_of_covers 5 _ (by decide +kernel) fun t hf y => ?_
  blk_simp
  rw [after0_5]
  obtain ⟨d, r, rfl⟩ : ∃ (d : Fin 2048) (r : Fin 256), y = ix2 d r := ⟨y 0, y 1, eq_ix2 y⟩
  generalize hz : ((View.whole main_v2_1).slice (win0_5.rect t)).emb (ix2 d r) = z
  have h0 : z 0 = d := Fin.ext (by subst hz; blk_simp [idx t])
  have h1 : z 1 = row t r := Fin.ext (by subst hz; blk_simp [idx t])
  rw [h0, h1, seg_row]
  exact cols_block _ _ _ _ _ _ _ _ (block_x V c X hx t) (block_g V c G hg t) (block_sh V c Sh hsh t) (block_sc V c Sc hsc t) _ _

end Norm

end Cert.Kernel4Ideal.Value

end
-- ==== Proof.ProjectResidual.lean ====
/-
  THE SECOND PROJECTION'S GATED RESIDUAL, IN BOTH DIRECTIONS: going forward, a block of the product and of the residual it is
  added to; going back, 256 rows of the gradient of what the residual adds, and those rows' part of the gate's gradient,
  which stays in place from point to point and gathers the 32 parts.
-/
module

public import proofs.«01_k».proof.Proof.Gen.Kernel4Ideal.Frame
public import proofs.«01_k».proof.Proof.ProjectStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace Out

theorem idx : ∀ t : Fin cfg2.N, win2_0.index t = ![t.val / 4, 0] ∧ win2_1.index t = ![0, t.val % 4] ∧ win2_2.index t = ![t.val / 4, t.val % 4]
    ∧ win2_3.index t = ![0, 0, t.val % 4] ∧ win2_4.index t = ![t.val / 4, t.val % 4] ∧ win2_5.index t = ![t.val / 4, t.val % 4] :=
  (by decide +kernel : ∀ t : Fin grid2.N, _)

section
variable (a : Vec Ideal S1024x2048 .bf16) (w : Vec Ideal S2048x512 .bf16) (x : Vec Ideal S1024x512 .f32) (g : Vec Ideal S1x1x512 .f32)
variable (A : Fin 1024 → Fin 2048 → EReal) (W : Fin 2048 → Fin 512 → EReal) (X : Fin 1024 → Fin 512 → EReal) (G : Fin 512 → EReal)
variable (ha : ∀ i k, a (ix2 i k) = A i k) (hw : ∀ k j, w (ix2 k j) = W k j) (hx : ∀ i j, x (ix2 i j) = X i j)
  (hg : ∀ j, g (ix3 (0 : Fin 1) (0 : Fin 1) j) = G j)

include ha hw in
theorem product_block (i : Fin 1024) (j : Fin 512) : out2_5 (F := Ideal) a w x g (ix2 i j) = matmul A W i j := by
  frame_open
  frame_out
  open_payloads
  pointwise [ha, hw]
  rfl

include ha hw hx hg in
theorem out_block (i : Fin 1024) (j : Fin 512) : out2_4 (F := Ideal) a w x g (ix2 i j) = gated X (matmul A W) G i j := by
  frame_open
  frame_out
  open_payloads
  pointwise [ha, hw, hx, hg, ofBits_one, EReal.coe_one, one_mul]
  rfl

end

variable (A : Fin 8192 → Fin 2048 → EReal) (W : Fin 2048 → Fin 2048 → EReal) (X : Fin 8192 → Fin 2048 → EReal) (G : Fin 2048 → EReal)
variable (ha : ∀ i k, V c main_v4 (ix2 i k) = A i k) (hw : ∀ k j, V c main_v1 (ix2 k j) = W k j)
  (hx : ∀ i j, V c main_arg6 (ix2 i j) = X i j) (hg : ∀ j, V c main_arg9 (ix3 (0 : Fin 1) (0 : Fin 1) j) = G j)

theorem point (t : Fin cfg2.N) : t.val < 32 := lt_of_lt_of_eq t.isLt N_2

/-- A point's rows and columns of the whole. -/
abbrev row (t : Fin cfg2.N) (i : Fin 1024) : Fin 8192 := ⟨t.val / 4 * 1024 + i.val, by have := point t; omega⟩
abbrev col (t : Fin cfg2.N) (j : Fin 512) : Fin 2048 := ⟨t.val % 4 * 512 + j.val, by omega⟩

include ha in
theorem block_a (t : Fin cfg2.N) (i : Fin 1024) (k : Fin 2048) : iblk2 V c 0 t (ix2 i k) = A (row t i) k := by
  refine Eq.trans ?_ (ha _ _)
  blk_point [iblk2, idx t]

include hw in
theorem block_w (t : Fin cfg2.N) (k : Fin 2048) (j : Fin 512) : iblk2 V c 1 t (ix2 k j) = W k (col t j) := by
  refine Eq.trans ?_ (hw _ _)
  blk_point [iblk2, idx t]

include hx in
theorem block_x (t : Fin cfg2.N) (i : Fin 1024) (j : Fin 512) : iblk2 V c 2 t (ix2 i j) = X (row t i) (col t j) := by
  refine Eq.trans ?_ (hx _ _)
  blk_point [iblk2, idx t]

include hg in
theorem block_g (t : Fin cfg2.N) (j : Fin 512) : iblk2 V c 3 t (ix3 (0 : Fin 1) (0 : Fin 1) j) = G (col t j) := by
  refine Eq.trans ?_ (hg _)
  blk_point [iblk2, idx t]

include ha hw in
theorem product : (dat2 V c).arrAt 5 cfg2.N = fun i => matmul A W (i 0) (i 1) := by
  refine (dat2 V c).arrAt_eq_of_covers 5 _ (by decide +kernel) fun t hf y => ?_
  blk_simp
  rw [after2_5]
  generalize hz : ((View.whole main_v5_1).slice (win2_5.rect t)).emb y = z
  have h0 : z 0 = row t (y 0) := Fin.ext (by subst hz; blk_simp [idx t])
  have h1 : z 1 = col t (y 1) := Fin.ext (by subst hz; blk_simp [idx t])
  rw [h0, h1, eq_ix2 y]
  exact product_block _ _ _ _ _ _ (block_a V c A ha t) (block_w V c W hw t) _ _

include ha hw hx hg in
theorem out : (dat2 V c).arrAt 4 cfg2.N = fun i => gated X (matmul A W) G (i 0) (i 1) := by
  refine (dat2 V c).arrAt_eq_of_covers 4 _ (by decide +kernel) fun t hf y => ?_
  blk_simp
  rw [after2_4]
  generalize hz : ((View.whole main_v5_0).slice (win2_4.rect t)).emb y = z
  have h0 : z 0 = row t (y 0) := Fin.ext (by subst hz; blk_simp [idx t])
  have h1 : z 1 = col t (y 1) := Fin.ext (by subst hz; blk_simp [idx t])
  rw [h0, h1, eq_ix2 y]
  exact out_block _ _ _ _ _ _ _ _ (block_a V c A ha t) (block_w V c W hw t) (block_x V c X hx t) (block_g V c G hg t) _ _

end Out

namespace Residual

theorem idx : ∀ t : Fin cfg3.N, win3_0.index t = ![t.val, 0] ∧ win3_1.index t = ![t.val, 0] ∧ win3_2.index t = ![0, 0, 0]
    ∧ win3_3.index t = ![t.val, 0] ∧ win3_4.index t = ![0, 0, 0] :=
  (by decide +kernel : ∀ t : Fin grid3.N, _)

section
variable (i : grid3.Coords) (arg1 : Memref sig .tc .vmem S256x2048 .f32) (harg1 : arg1.IsWhole) (arg2 : Memref sig .tc .vmem S256x2048 .bf16)
  (harg2 : arg2.IsWhole) (arg3 : Memref sig .tc .vmem S1x1x2048 .f32) (harg3 : arg3.IsWhole) (arg4 : Memref sig .tc .vmem S256x2048 .bf16)
  (harg4 : arg4.IsWhole) (arg5 : Memref sig .tc .vmem S1x1x2048 .f32) (harg5 : arg5.IsWhole)
variable (o : Vec Ideal S256x2048 .f32) (y : Vec Ideal S256x2048 .bf16) (g s : Vec Ideal S1x1x2048 .f32)
variable (O Y : Fin 256 → Fin 2048 → EReal) (G : Fin 2048 → EReal)
variable (ho : ∀ r d, o (ix2 r d) = O r d) (hy : ∀ r d, y (ix2 r d) = Y r d)
  (hg : ∀ d, g (ix3 (0 : Fin 1) (0 : Fin 1) d) = G d)

include ho hg in
theorem rows_first (hc : cond3_0 i) (r : Fin 256) (d : Fin 2048) :
    out3_A_3 (F := Ideal) c i arg1 harg1 arg2 harg2 arg3 harg3 arg4 harg4 arg5 harg5 hc o y g (ix2 r d) = dgated O G r d := by
  frame_open
  frame_out
  open_payloads
  pointwise [ho, hg, ofBits_one, EReal.coe_one, mul_one]
  rfl

include ho hg in
theorem rows_next (hc : ¬cond3_0 i) (r : Fin 256) (d : Fin 2048) :
    out3_B_3 (F := Ideal) c i arg1 harg1 arg2 harg2 arg3 harg3 arg4 harg4 arg5 harg5 hc o y g s (ix2 r d) = dgated O G r d := by
  frame_open
  frame_out
  open_payloads
  pointwise [ho, hg, ofBits_one, EReal.coe_one, mul_one]
  rfl

include ho hy in
/-- At the first point the gate's gradient starts from zero, -/
theorem gate_first (hc : cond3_0 i) (a b : Fin 1) (d : Fin 2048) :
    out3_A_4 (F := Ideal) c i arg1 harg1 arg2 harg2 arg3 harg3 arg4 harg4 arg5 harg5 hc o y g (ix3 a b d)
      = 0 + (∑ r, dgatePart Y O r d) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [ho, hy, ofBits_one, EReal.coe_one, mul_one]
  rfl

include ho hy in
/-- and at the others from what the point before left. -/
theorem gate_next (hc : ¬cond3_0 i) (a b : Fin 1) (d : Fin 2048) :
    out3_B_4 (F := Ideal) c i arg1 harg1 arg2 harg2 arg3 harg3 arg4 harg4 arg5 harg5 hc o y g s (ix3 a b d)
      = s (ix3 a b d) + (∑ r, dgatePart Y O r d) := by
  obtain rfl : a = 0 := Subsingleton.elim a 0
  obtain rfl : b = 0 := Subsingleton.elim b 0
  frame_open
  simp (disch := decide) only [↓ View.readCov_skip, ↓ View.readCov_cons_toLoadRect, ↓ View.readCov_fill]
  frame_out
  open_payloads
  pointwise [ho, hy, ofBits_one, EReal.coe_one, mul_one]
  rfl

end

variable (O Y : Fin 8192 → Fin 2048 → EReal) (G : Fin 2048 → EReal)
variable (ho : ∀ i d, V c main_arg10 (ix2 i d) = O i d) (hy : ∀ i d, V c main_v5_1 (ix2 i d) = Y i d)
  (hg : ∀ d, V c main_arg9 (ix3 (0 : Fin 1) (0 : Fin 1) d) = G d)

theorem point (t : Fin cfg3.N) : t.val < 32 := lt_of_lt_of_eq t.isLt N_3

/-- A point's rows of the whole. -/
abbrev row (t : Fin cfg3.N) (r : Fin 256) : Fin 8192 := ⟨t.val * 256 + r.val, by have := point t; omega⟩

include ho in
theorem block_o (t : Fin cfg3.N) (r : Fin 256) (d : Fin 2048) : iblk3 V c 0 t (ix2 r d) = O (row t r) d := by
  refine Eq.trans ?_ (ho _ _)
  blk_point [iblk3, idx t]

include hy in
theorem block_y (t : Fin cfg3.N) (r : Fin 256) (d : Fin 2048) : iblk3 V c 1 t (ix2 r d) = Y (row t r) d := by
  refine Eq.trans ?_ (hy _ _)
  blk_point [iblk3, idx t]

include hg in
theorem block_g (t : Fin cfg3.N) (d : Fin 2048) : iblk3 V c 2 t (ix3 (0 : Fin 1) (0 : Fin 1) d) = G d := by
  refine Eq.trans ?_ (hg _)
  blk_point [iblk3, idx t]

include ho hg in
theorem rows : (dat3 V c).arrAt 3 cfg3.N = fun i => dgated O G (i 0) (i 1) := by
  refine (dat3 V c).arrAt_eq_of_covers 3 _ (by decide +kernel) fun t hf y => ?_
  blk_simp
  rw [after3_3]
  obtain ⟨r, d, rfl⟩ : ∃ (r : Fin 256) (d : Fin 2048), y = ix2 r d := ⟨y 0, y 1, eq_ix2 y⟩
  generalize hz : ((View.whole main_v6_0).slice (win3_3.rect t)).emb (ix2 r d) = z
  have h0 : z 0 = row t r := Fin.ext (by subst hz; blk_simp [idx t])
  have h1 : z 1 = d := Fin.ext (by subst hz; blk_simp [idx t])
  rw [h0, h1]
  by_cases h : t.val % 32 = 0
  · rw [outsAt3_A V c t h]
    dsimp only
    rw [rows_first (ho := block_o V c O ho t) (hg := block_g V c G hg t)]
    rfl
  · rw [outsAt3_B V c t h]
    dsimp only
    rw [rows_next (ho := block_o V c O ho t) (hg := block_g V c G hg t)]
    rfl

include ho hy in
theorem gate : (dat3 V c).arrAt 4 cfg3.N = fun i => ∑ r, dgatePart Y O r (i 2) := by
  refine (dat3 V c).arrAt_eq_of_covers 4 _ (by decide +kernel) fun t hf y => ?_
  blk_simp
  rw [after3_4, Pipeline.eq_sum_fin_of_reset_step_apply_of_flush (fun n h => (outsAt3 V c n h).2) 32 (fun _ => (0 : EReal))
    (fun t y => ∑ r, dgatePart Y O (row t r) (y 2))
    (fun t h y => by
      obtain ⟨d, rfl⟩ := exists_row3 y
      rw [outsAt3_A V c t h]
      dsimp only
      rw [gate_first (ho := block_o V c O ho t) (hy := block_y V c Y hy t)]
      rfl)
    (fun t h y => by
      obtain ⟨d, rfl⟩ := exists_row3 y
      rw [outsAt3_B V c t h]
      dsimp only
      rw [gate_next (ho := block_o V c O ho t) (hy := block_y V c Y hy t)]
      rfl)
    t ((flush3_4 t).mp hf) _]
  show (0 : EReal) + ∑ s : Fin 32, _ = _
  rw [zero_add]
  generalize hz : ((View.whole main_v6_1).slice (win3_4.rect t)).emb y = z
  have h2 : z 2 = y 2 := Fin.ext (by subst hz; blk_simp [idx t])
  rw [h2]
  have ht := point t
  exact (sum_tiles_ereal (fun i => dgatePart Y O i (y 2)) _ fun s r => by
    congr 1
    exact Fin.ext (by show (32 * (t.val / 32) + s.val) * 256 + r.val = s.val * 256 + r.val; omega))

end Residual

end Cert.Kernel4Ideal.Value

end
-- ==== Proof.ProjectProducts.lean ====
/-
  THE PROJECTIONS' CALLS THAT ARE PLAIN PRODUCTS: each point writes one block of the product of the two arrays the call reads.
-/
module

public import proofs.«01_k».proof.Proof.Gen.Kernel4Ideal.Frame
public import proofs.«01_k».proof.Proof.ProjectStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace In

theorem idx : ∀ t : Fin cfg1.N, win1_0.index t = ![t.val / 4, 0] ∧ win1_1.index t = ![0, t.val % 4] ∧ win1_2.index t = ![t.val / 4, t.val % 4] :=
  (by decide +kernel : ∀ t : Fin grid1.N, _)

theorem block (a : Vec Ideal S768x2048 .bf16) (b : Vec Ideal S2048x1024 .bf16) (A : Fin 768 → Fin 2048 → EReal) (B : Fin 2048 → Fin 1024 → EReal)
    (ha : ∀ i k, a (ix2 i k) = A i k) (hb : ∀ k j, b (ix2 k j) = B k j) (i : Fin 768) (j : Fin 1024) :
    out1_2 (F := Ideal) a b (ix2 i j) = matmul A B i j := by
  frame_open
  frame_out
  open_payloads
  pointwise [ha, hb]
  rfl

theorem result (A : Fin 8448 → Fin 2048 → EReal) (B : Fin 2048 → Fin 4096 → EReal)
    (ha : ∀ i k, V c main_v2_0 (ix2 i k) = A i k) (hb : ∀ k j, V c main_v0 (ix2 k j) = B k j) :
    (dat1 V c).arrAt 2 cfg1.N = fun i => matmul A B (i 0) (i 1) := by
  refine (dat1 V c).arrAt_eq_of_covers 2 _ (by decide +kernel) fun t hf y => ?_
  blk_simp
  rw [after1_2]
  have ht : t.val < 44 := lt_of_lt_of_eq t.isLt N_1
  generalize hz : ((View.whole main_v3).slice (win1_2.rect t)).emb y = z
  have h0 : z 0 = ⟨t.val / 4 * 768 + (y 0).val, by have : (y 0).val < 768 := (y 0).isLt; show _ < 8448; omega⟩ := Fin.ext (by subst hz; blk_simp [idx t])
  have h1 : z 1 = ⟨t.val % 4 * 1024 + (y 1).val, by have : (y 1).val < 1024 := (y 1).isLt; show _ < 4096; omega⟩ := Fin.ext (by subst hz; blk_simp [idx t])
  rw [h0, h1, eq_ix2 y]
  refine (block _ _ (fun i k => A ⟨t.val / 4 * 768 + i.val, by omega⟩ k) (fun k j => B k ⟨t.val % 4 * 1024 + j.val, by omega⟩) (fun i k => ?_) (fun k j => ?_) _ _)
  · refine Eq.trans ?_ (ha _ _)
    blk_point [iblk1, idx t]
  · refine Eq.trans ?_ (hb _ _)
    blk_point [iblk1, idx t]

end In

namespace Dwo

theorem idx : ∀ t : Fin cfg4.N, win4_0.index t = ![t.val / 4, 0] ∧ win4_1.index t = ![0, t.val % 4] ∧ win4_2.index t = ![t.val / 4, t.val % 4] :=
  (by decide +kernel : ∀ t : Fin grid4.N, _)

theorem block (a : Vec Ideal S512x8192 .bf16) (b : Vec Ideal S8192x512 .bf16) (A : Fin 512 → Fin 8192 → EReal) (B : Fin 8192 → Fin 512 → EReal)
    (ha : ∀ i k, a (ix2 i k) = A i k) (hb : ∀ k j, b (ix2 k j) = B k j) (i : Fin 512) (j : Fin 512) :
    out4_2 (F := Ideal) a b (ix2 i j) = matmul A B i j := by
  frame_open
  frame_out
  open_payloads
  pointwise [ha, hb]
  rfl

theorem result (A : Fin 2048 → Fin 8192 → EReal) (B : Fin 8192 → Fin 2048 → EReal)
    (ha : ∀ i k, V c main_v7 (ix2 i k) = A i k) (hb : ∀ k j, V c main_v6_0 (ix2 k j) = B k j) :
    (dat4 V c).arrAt 2 cfg4.N = fun i => matmul A B (i 0) (i 1) := by
  refine (dat4 V c).arrAt_eq_of_covers 2 _ (by decide +kernel) fun t hf y => ?_
  blk_simp
  rw [after4_2]
  have ht : t.val < 16 := lt_of_lt_of_eq t.isLt N_4
  generalize hz : ((View.whole main_v8).slice (win4_2.rect t)).emb y = z
  have h0 : z 0 = ⟨t.val / 4 * 512 + (y 0).val, by have : (y 0).val < 512 := (y 0).isLt; show _ < 2048; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 512 + i.val, by omega⟩ k) (fun k j => B k ⟨t.val % 4 * 512 + j.val, by omega⟩) (fun i k => ?_) (fun k j => ?_) _ _)
  · refine Eq.trans ?_ (ha _ _)
    blk_point [iblk4, idx t]
  · refine Eq.trans ?_ (hb _ _)
    blk_point [iblk4, idx t]

end Dwo

namespace Da

theorem idx : ∀ t : Fin cfg5.N, win5_0.index t = ![t.val / 2, 0] ∧ win5_1.index t = ![t.val % 2, 0] ∧ win5_2.index t = ![t.val / 2, t.val % 2] :=
  (by decide +kernel : ∀ t : Fin grid5.N, _)

theorem block (a : Vec Ideal S1024x2048 .bf16) (b : Vec Ideal S1024x2048 .bf16) (A : Fin 1024 → Fin 2048 → EReal) (B : Fin 1024 → Fin 2048 → EReal)
    (ha : ∀ i k, a (ix2 i k) = A i k) (hb : ∀ j k, b (ix2 j k) = B j k) (i : Fin 1024) (j : Fin 1024) :
    out5_2 (F := Ideal) a b (ix2 i j) = matmulT A B i j := by
  frame_open
  frame_out
  open_payloads
  pointwise [ha, hb]
  rfl

theorem result (A : Fin 8192 → Fin 2048 → EReal) (B : Fin 2048 → Fin 2048 → EReal)
    (ha : ∀ i k, V c main_v6_0 (ix2 i k) = A i k) (hb : ∀ j k, V c main_v1 (ix2 j k) = B j k) :
    (dat5 V c).arrAt 2 cfg5.N = fun i => matmulT A B (i 0) (i 1) := by
  refine (dat5 V c).arrAt_eq_of_covers 2 _ (by decide +kernel) fun t hf y => ?_
  blk_simp
  rw [after5_2]
  have ht : t.val < 16 := lt_of_lt_of_eq t.isLt N_5
  generalize hz : ((View.whole main_v9).slice (win5_2.rect t)).emb y = z
  have h0 : z 0 = ⟨t.val / 2 * 1024 + (y 0).val, by have : (y 0).val < 1024 := (y 0).isLt; show _ < 8192; omega⟩ := Fin.ext (by subst hz; blk_simp [idx t])
  have h1 : z 1 = ⟨t.val % 2 * 1024 + (y 1).val, by have : (y 1).val < 1024 := (y 1).isLt; show _ < 2048; omega⟩ := Fin.ext (by subst hz; blk_simp [idx t])
  rw [h0, h1, eq_ix2 y]
  refine (block _ _ (fun i k => A ⟨t.val / 2 * 1024 + i.val, by omega⟩ k) (fun j k => B ⟨t.val % 2 * 1024 + j.val, by omega⟩ k) (fun i k => ?_) (fun j k => ?_) _ _)
  · refine Eq.trans ?_ (ha _ _)
    blk_point [iblk5, idx t]
  · refine Eq.trans ?_ (hb _ _)
    blk_point [iblk5, idx t]

end Da

namespace Dwi

theorem idx : ∀ t : Fin cfg6.N, win6_0.index t = ![t.val / 8, 0] ∧ win6_1.index t = ![0, t.val % 8] ∧ win6_2.index t = ![t.val / 8, t.val % 8] :=
  (by decide +kernel : ∀ t : Fin grid6.N, _)

theorem block (a : Vec Ideal S512x8448 .bf16) (b : Vec Ideal S8448x512 .bf16) (A : Fin 512 → Fin 8448 → EReal) (B : Fin 8448 → Fin 512 → EReal)
    (ha : ∀ i k, a (ix2 i k) = A i k) (hb : ∀ k j, b (ix2 k j) = B k j) (i : Fin 512) (j : Fin 512) :
    out6_2 (F := Ideal) a b (ix2 i j) = matmul A B i j := by
  frame_open
  frame_out
  open_payloads
  pointwise [ha, hb]
  rfl

theorem result (A : Fin 2048 → Fin 8448 → EReal) (B : Fin 8448 → Fin 4096 → EReal)
    (ha : ∀ i k, V c main_v2_1 (ix2 i k) = A i k) (hb : ∀ k j, V c main_v10 (ix2 k j) = B k j) :
    (dat6 V c).arrAt 2 cfg6.N = fun i => matmul A B (i 0) (i 1) := by
  refine (dat6 V c).arrAt_eq_of_covers 2 _ (by decide +kernel) fun t hf y => ?_
  blk_simp
  rw [after6_2]
  have ht : t.val < 32 := lt_of_lt_of_eq t.isLt N_6
  generalize hz : ((View.whole main_v11).slice (win6_2.rect t)).emb y = z
  have h0 : z 0 = ⟨t.val / 8 * 512 + (y 0).val, by have : (y 0).val < 512 := (y 0).isLt; show _ < 2048; omega⟩ := Fin.ext (by subst hz; blk_simp [idx t])
  have h1 : z 1 = ⟨t.val % 8 * 512 + (y 1).val, by have : (y 1).val < 512 := (y 1).isLt; show _ < 4096; omega⟩ := Fin.ext (by subst hz; blk_simp [idx t])
  rw [h0, h1, eq_ix2 y]
  refine (block _ _ (fun i k => A ⟨t.val / 8 * 512 + i.val, by omega⟩ k) (fun k j => B k ⟨t.val % 8 * 512 + j.val, by omega⟩) (fun i k => ?_) (fun k j => ?_) _ _)
  · refine Eq.trans ?_ (ha _ _)
    blk_point [iblk6, idx t]
  · refine Eq.trans ?_ (hb _ _)
    blk_point [iblk6, idx t]

end Dwi

namespace Dh

theorem idx : ∀ t : Fin cfg7.N, win7_0.index t = ![t.val / 4, 0] ∧ win7_1.index t = ![t.val % 4, 0] ∧ win7_2.index t = ![t.val / 4, t.val % 4] :=
  (by decide +kernel : ∀ t : Fin grid7.N, _)

theorem block (a : Vec Ideal S768x4096 .bf16) (b : Vec Ideal S512x4096 .bf16) (A : Fin 768 → Fin 4096 → EReal) (B : Fin 512 → Fin 4096 → EReal)
    (ha : ∀ i k, a (ix2 i k) = A i k) (hb : ∀ j k, b (ix2 j k) = B j k) (i : Fin 768) (j : Fin 512) :
    out7_2 (F := Ideal) a b (ix2 i j) = matmulT A B i j := by
  frame_open
  frame_out
  open_payloads
  pointwise [ha, hb]
  rfl

theorem result (A : Fin 8448 → Fin 4096 → EReal) (B : Fin 2048 → Fin 4096 → EReal)
    (ha : ∀ i k, V c main_v10 (ix2 i k) = A i k) (hb : ∀ j k, V c main_v0 (ix2 j k) = B j k) :
    (dat7 V c).arrAt 2 cfg7.N = fun i => matmulT A B (i 0) (i 1) := by
  refine (dat7 V c).arrAt_eq_of_covers 2 _ (by decide +kernel) fun t hf y => ?_
  blk_simp
  rw [after7_2]
  have ht : t.val < 44 := lt_of_lt_of_eq t.isLt N_7
  generalize hz : ((View.whole main_v12).slice (win7_2.rect t)).emb y = z
  have h0 : z 0 = ⟨t.val / 4 * 768 + (y 0).val, by have : (y 0).val < 768 := (y 0).isLt; show _ < 8448; omega⟩ := Fin.ext (by subst hz; blk_simp [idx t])
  have h1 : z 1 = ⟨t.val % 4 * 512 + (y 1).val, by have : (y 1).val < 512 := (y 1).isLt; show _ < 2048; omega⟩ := Fin.ext (by subst hz; blk_simp [idx t])
  rw [h0, h1, eq_ix2 y]
  refine (block _ _ (fun i k => A ⟨t.val / 4 * 768 + i.val, by omega⟩ k) (fun j k => B ⟨t.val % 4 * 512 + j.val, by omega⟩ k) (fun i k => ?_) (fun j k => ?_) _ _)
  · refine Eq.trans ?_ (ha _ _)
    blk_point [iblk7, idx t]
  · refine Eq.trans ?_ (hb _ _)
    blk_point [iblk7, idx t]

end Dh

end Cert.Kernel4Ideal.Value

end
-- ==== Proof.ProjectKernelRun.lean ====
/-
  THE PROJECTIONS' RUN. Every execution ends with the two projections of the arguments and their weights'
  gradients: the eight calls in turn, each reading what the ones before it left.
-/
module

public import proofs.«01_k».proof.Proof.ProjectStep
public import proofs.«01_k».proof.Proof.ProjectNorm
public import proofs.«01_k».proof.Proof.ProjectResidual
public import proofs.«01_k».proof.Proof.ProjectProducts

@[expose] public section

set_option maxRecDepth 16384

noncomputable section

namespace Cert.Kernel4Ideal.Value

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FeedForward

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

/-! ## The arguments -/

/-- The arguments' entries. -/
def args (c : Dev nD) : ProjectArgs where
  x i d := m ((c : Thread nD τ).loc main_arg0) (ix2 i d)
  gain d := m ((c : Thread nD τ).loc main_arg1) (ix2 (0 : Fin 1) d)
  shift s d := m ((c : Thread nD τ).loc main_arg2) (ix3 s (0 : Fin 1) d)
  scale s d := m ((c : Thread nD τ).loc main_arg3) (ix3 s (0 : Fin 1) d)
  wIn k f := m ((c : Thread nD τ).loc main_arg4) (ix2 k f)
  dProj i f := m ((c : Thread nD τ).loc main_arg5) (ix2 i f)
  r i d := m ((c : Thread nD τ).loc main_arg6) (ix2 i d)
  mixed i d := m ((c : Thread nD τ).loc main_arg7) (ix2 i d)
  wOut f d := m ((c : Thread nD τ).loc main_arg8) (ix2 f d)
  gate d := m ((c : Thread nD τ).loc main_arg9) (ix3 (0 : Fin 1) (0 : Fin 1) d)
  dout i d := m ((c : Thread nD τ).loc main_arg10) (ix2 i d)

variable {m} (c : Dev nD)

/-! ## What the host casts and transposes -/

theorem V1_in (k : Fin 2048) (f : Fin 4096) : V1 m ρ c main_v0 (ix2 k f) = (args m c).wIn k f := by
  have e : V1 m ρ c main_v0 = m ((c : Thread nD τ).loc main_arg4) := by
    show StableHlo.after hostOps0 _ _ = _
    after_results
    rfl
  exact congrFun e _
theorem V1_out (f : Fin 2048) (d : Fin 2048) : V1 m ρ c main_v1 (ix2 f d) = (args m c).wOut f d := by
  have e : V1 m ρ c main_v1 = m ((c : Thread nD τ).loc main_arg8) := by
    show StableHlo.after hostOps0 _ _ = _
    after_results
    rfl
  exact congrFun e _
theorem V4_mixed (i : Fin 8192) (d : Fin 2048) : V4 m ρ c main_v4 (ix2 i d) = (args m c).mixed i d := by
  have e : V4 m ρ c main_v4 = V3 m ρ c main_arg7 := by
    show StableHlo.after hostOps2 _ _ = _
    after_results
    rfl
  exact congrFun (e.trans (W3_args m ρ c main_arg7 (by decide))) _
theorem V7_mixedT (d : Fin 2048) (i : Fin 8192) : V7 m ρ c main_v7 (ix2 d i) = (args m c).mixed i d := by
  have e : V7 m ρ c main_v7 = transpose S2048x8192 [1, 0] (V6 m ρ c main_v4 : (⟨S8192x2048, .bf16⟩ : BufTy).Contents (Elt Ideal))
      transposes_S8192x2048_S2048x8192_1_0 := by
    show StableHlo.after hostOps4 _ _ = _
    after_results
  have k : V6 m ρ c main_v4 = V4 m ρ c main_v4 := (W6_of m ρ c main_v4 (by decide +kernel)).trans (W5_of m ρ c main_v4 (by decide +kernel))
  rw [e, k, ← V4_mixed ρ c i d]
  pointwise []
theorem V10_dProj (i : Fin 8448) (f : Fin 4096) : V10 m ρ c main_v10 (ix2 i f) = (args m c).dProj i f := by
  have e : V10 m ρ c main_v10 = V9 m ρ c main_arg5 := by
    show StableHlo.after hostOps6 _ _ = _
    after_results
    rfl
  exact congrFun (e.trans (W9_args m ρ c main_arg5 (by decide))) _

/-! ## The calls in turn -/

theorem h_eq : V2 m ρ c main_v2_0 = fun i => ((args m c).h (i 0) (i 1)) :=
  (W2_arr m ρ c 4).trans (Norm.rows (V1 m ρ) c _ _ _ _ (fun i d => congrFun (W1_args m ρ c main_arg0 (by decide)) _) (fun d => congrFun
    (W1_args m ρ c main_arg1 (by decide)) _) (fun s d => congrFun (W1_args m ρ c main_arg2 (by decide)) _) (fun s d =>
      congrFun (W1_args m ρ c main_arg3 (by decide)) _))
theorem hT_eq : V2 m ρ c main_v2_1 = fun i => ((args m c).h (i 1) (i 0)) :=
  (W2_arr m ρ c 5).trans (Norm.cols (V1 m ρ) c _ _ _ _ (fun i d => congrFun (W1_args m ρ c main_arg0 (by decide)) _) (fun d => congrFun
    (W1_args m ρ c main_arg1 (by decide)) _) (fun s d => congrFun (W1_args m ρ c main_arg2 (by decide)) _) (fun s d =>
      congrFun (W1_args m ρ c main_arg3 (by decide)) _))
theorem proj_eq : V3 m ρ c main_v3 = fun i => ((args m c).proj (i 0) (i 1)) :=
  (W3_arr m ρ c 2).trans (In.result (V2 m ρ) c _ _ (fun _ _ => congrFun (h_eq ρ c) _) (fun k f => (congrFun ((W2_of m ρ c main_v0 (by decide +kernel))) _).trans
    (V1_in ρ c k f)))
theorem out_eq : V5 m ρ c main_v5_0 = fun i => ((args m c).out (i 0) (i 1)) :=
  (W5_arr m ρ c 4).trans (Out.out (V4 m ρ) c _ _ _ _ (V4_mixed ρ c) (fun f d => (congrFun ((W4_of m ρ c main_v1 (by decide +kernel)).trans ((W3_of m ρ c main_v1
    (by decide +kernel)).trans ((W2_of m ρ c main_v1 (by decide +kernel))))) _).trans (V1_out ρ c f d)) (fun i d => congrFun (W4_args m ρ c main_arg6 (by
      decide)) _) (fun d => congrFun (W4_args m ρ c main_arg9 (by decide)) _))
theorem y_eq : V5 m ρ c main_v5_1 = fun i => ((args m c).y (i 0) (i 1)) :=
  (W5_arr m ρ c 5).trans (Out.product (V4 m ρ) c _ _ (V4_mixed ρ c) (fun f d => (congrFun ((W4_of m ρ c main_v1 (by decide +kernel)).trans ((W3_of m ρ c main_v1
    (by decide +kernel)).trans ((W2_of m ρ c main_v1 (by decide +kernel))))) _).trans (V1_out ρ c f d)))
theorem dy_eq : V6 m ρ c main_v6_0 = fun i => ((args m c).dy (i 0) (i 1)) :=
  (W6_arr m ρ c 3).trans (Residual.rows (V5 m ρ) c _ _ (fun i d => congrFun (W5_args m ρ c main_arg10 (by decide)) _) (fun d => congrFun
    (W5_args m ρ c main_arg9 (by decide)) _))
theorem dgate_eq : V6 m ρ c main_v6_1 = fun i => ((args m c).dgate (i 2)) :=
  (W6_arr m ρ c 4).trans (Residual.gate (V5 m ρ) c _ _ (fun i d => congrFun (W5_args m ρ c main_arg10 (by decide)) _) (fun _ _ => congrFun
    (y_eq ρ c) _))
theorem dwOut_eq : V8 m ρ c main_v8 = fun i => ((args m c).dwOut (i 0) (i 1)) :=
  (W8_arr m ρ c 2).trans (Dwo.result (V7 m ρ) c (fun f i => (args m c).mixed i f) _ (V7_mixedT ρ c) (fun _ _ => congrFun ((W7_of m ρ c main_v6_0 (by
    decide +kernel)).trans (dy_eq ρ c)) _))
theorem da_eq : V9 m ρ c main_v9 = fun i => ((args m c).da (i 0) (i 1)) :=
  (W9_arr m ρ c 2).trans (Da.result (V8 m ρ) c _ _ (fun _ _ => congrFun ((W8_of m ρ c main_v6_0 (by decide +kernel)).trans ((W7_of m ρ c main_v6_0 (by
    decide +kernel)).trans (dy_eq ρ c))) _) (fun f d => (congrFun ((W8_of m ρ c main_v1 (by decide +kernel)).trans ((W7_of m ρ c main_v1 (by
      decide +kernel)).trans ((W6_of m ρ c main_v1 (by decide +kernel)).trans ((W5_of m ρ c main_v1 (by decide +kernel)).trans ((W4_of m ρ c main_v1 (by
      decide +kernel)).trans ((W3_of m ρ c main_v1 (by decide +kernel)).trans ((W2_of m ρ c main_v1 (by decide +kernel))))))))) _).trans (V1_out ρ c f d)))
theorem dwIn_eq : V11 m ρ c main_v11 = fun i => ((args m c).dwIn (i 0) (i 1)) :=
  (W11_arr m ρ c 2).trans (Dwi.result (V10 m ρ) c (fun d i => (args m c).h i d) _ (fun _ _ => congrFun ((W10_of m ρ c main_v2_1 (by decide +kernel)).trans ((W9_of m
    ρ c main_v2_1 (by decide +kernel)).trans ((W8_of m ρ c main_v2_1 (by decide +kernel)).trans ((W7_of m ρ c main_v2_1 (by decide +kernel)).trans ((W6_of m ρ c
      main_v2_1 (by decide +kernel)).trans ((W5_of m ρ c main_v2_1 (by decide +kernel)).trans ((W4_of m ρ c main_v2_1 (by decide +kernel)).trans ((W3_of m ρ c
      main_v2_1 (by decide +kernel)).trans (hT_eq ρ c))))))))) _) (V10_dProj ρ c))
theorem dh_eq : V12 m ρ c main_v12 = fun i => ((args m c).dh (i 0) (i 1)) :=
  (W12_arr m ρ c 2).trans (Dh.result (V11 m ρ) c _ _ (fun i f => (congrFun ((W11_of m ρ c main_v10 (by decide +kernel))) _).trans (V10_dProj ρ c i f)) (fun k f =>
    (congrFun ((W11_of m ρ c main_v0 (by decide +kernel)).trans ((W10_of m ρ c main_v0 (by decide +kernel)).trans ((W9_of m ρ c main_v0 (by decide +kernel)).trans
      ((W8_of m ρ c main_v0 (by decide +kernel)).trans ((W7_of m ρ c main_v0 (by decide +kernel)).trans ((W6_of m ρ c main_v0 (by decide +kernel)).trans ((W5_of m ρ
      c main_v0 (by decide +kernel)).trans ((W4_of m ρ c main_v0 (by decide +kernel)).trans ((W3_of m ρ c main_v0 (by decide +kernel)).trans ((W2_of m ρ c main_v0
      (by decide +kernel)))))))))))) _).trans (V1_in ρ c k f)))

omit c in
/-- THE KERNEL'S RUN: the projections and their weights' gradients, the arguments as they were. -/
theorem run : θ_run defs (onTc (τ := τ) (main (F := Ideal))) ⟨m, fun _ => 0, ρ⟩ (fun r => ∀ c : Dev nD,
      r.2.mem ((c.tc : Thread nD τ).loc main_v3) = (fun i => (args m c).proj (i 0) (i 1))
      ∧ r.2.mem ((c.tc : Thread nD τ).loc main_v5_0) = (fun i => (args m c).out (i 0) (i 1))
      ∧ r.2.mem ((c.tc : Thread nD τ).loc main_v9) = (fun i => (args m c).da (i 0) (i 1))
      ∧ r.2.mem ((c.tc : Thread nD τ).loc main_v8) = (fun i => (args m c).dwOut (i 0) (i 1))
      ∧ r.2.mem ((c.tc : Thread nD τ).loc main_v6_1) = (fun i => (args m c).dgate (i 2))
      ∧ r.2.mem ((c.tc : Thread nD τ).loc main_v12) = (fun i => (args m c).dh (i 0) (i 1))
      ∧ r.2.mem ((c.tc : Thread nD τ).loc main_v11) = (fun i => (args m c).dwIn (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_v3 (by decide))).trans ((W12_of m ρ c main_v3 (by decide +kernel)).trans ((W11_of m ρ c main_v3 (by decide +kernel)).trans ((W10_of m ρ c
      main_v3 (by decide +kernel)).trans ((W9_of m ρ c main_v3 (by decide +kernel)).trans ((W8_of m ρ c main_v3 (by decide +kernel)).trans ((W7_of m ρ c main_v3 (by
      decide +kernel)).trans ((W6_of m ρ c main_v3 (by decide +kernel)).trans ((W5_of m ρ c main_v3 (by decide +kernel)).trans ((W4_of m ρ c main_v3 (by
      decide +kernel)).trans (proj_eq ρ c)))))))))),
    (h c _ (mem_uc main_v5_0 (by decide))).trans ((W12_of m ρ c main_v5_0 (by decide +kernel)).trans ((W11_of m ρ c main_v5_0 (by decide +kernel)).trans ((W10_of m
      ρ c main_v5_0 (by decide +kernel)).trans ((W9_of m ρ c main_v5_0 (by decide +kernel)).trans ((W8_of m ρ c main_v5_0 (by decide +kernel)).trans ((W7_of m ρ c
      main_v5_0 (by decide +kernel)).trans ((W6_of m ρ c main_v5_0 (by decide +kernel)).trans (out_eq ρ c)))))))),
    (h c _ (mem_uc main_v9 (by decide))).trans ((W12_of m ρ c main_v9 (by decide +kernel)).trans ((W11_of m ρ c main_v9 (by decide +kernel)).trans ((W10_of m ρ c
      main_v9 (by decide +kernel)).trans (da_eq ρ c)))),
    (h c _ (mem_uc main_v8 (by decide))).trans ((W12_of m ρ c main_v8 (by decide +kernel)).trans ((W11_of m ρ c main_v8 (by decide +kernel)).trans ((W10_of m ρ c
      main_v8 (by decide +kernel)).trans ((W9_of m ρ c main_v8 (by decide +kernel)).trans (dwOut_eq ρ c))))),
    (h c _ (mem_uc main_v6_1 (by decide))).trans ((W12_of m ρ c main_v6_1 (by decide +kernel)).trans ((W11_of m ρ c main_v6_1 (by decide +kernel)).trans ((W10_of m
      ρ c main_v6_1 (by decide +kernel)).trans ((W9_of m ρ c main_v6_1 (by decide +kernel)).trans ((W8_of m ρ c main_v6_1 (by decide +kernel)).trans ((W7_of m ρ c
      main_v6_1 (by decide +kernel)).trans (dgate_eq ρ c))))))),
    (h c _ (mem_uc main_v12 (by decide))).trans (dh_eq ρ c),
    (h c _ (mem_uc main_v11 (by decide))).trans ((W12_of m ρ c main_v11 (by decide +kernel)).trans (dwIn_eq ρ c)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c)⟩)
    (launch m ρ)

end Cert.Kernel4Ideal.Value

end
-- ==== Proof.ProjectReferenceValue.lean ====
/-
  THE PROJECTIONS' REFERENCE. Its arrays, in the order it computes them, are those of `ProjectStep.lean`; a row's
  modulation is selected from the two by the row's number.
-/
module

public import proofs.«01_k».proof.Proof.Gen.Reference4Ideal.Read
public import proofs.«01_k».proof.Proof.ProjectStep

@[expose] public section

noncomputable section

namespace Cert.Reference4Ideal.Value

open Cert.Reference4Ideal Cert.Reference4Ideal.Gen Cert.Reference4Ideal.Read Idealize.ShloMosaic Idealize.ShloMosaic.TcCoe Idealize.SL.Sem
open Cert.FeedForward

variable (x0 : (⟨S8448x2048, .f32⟩ : BufTy).Contents (Elt Ideal)) (x1 : (⟨S1x2048, .f32⟩ : BufTy).Contents (Elt Ideal))
  (x2 x3 : (⟨S2x1x2048, .f32⟩ : BufTy).Contents (Elt Ideal)) (x4 : (⟨S2048x4096, .f32⟩ : BufTy).Contents (Elt Ideal))
  (x5 : (⟨S8448x4096, .f32⟩ : BufTy).Contents (Elt Ideal)) (x6 x7 : (⟨S8192x2048, .f32⟩ : BufTy).Contents (Elt Ideal))
  (x8 : (⟨S2048x2048, .f32⟩ : BufTy).Contents (Elt Ideal)) (x9 : (⟨S1x1x2048, .f32⟩ : BufTy).Contents (Elt Ideal))
  (x10 : (⟨S8192x2048, .f32⟩ : BufTy).Contents (Elt Ideal)) (a : ProjectArgs)

/-- The arrays hold the arguments. -/
structure Holds : Prop where
  x : ∀ i d, x0 (ix2 i d) = a.x i d
  gain : ∀ d, x1 (ix2 (0 : Fin 1) d) = a.gain d
  shift : ∀ s d, x2 (ix3 s (0 : Fin 1) d) = a.shift s d
  scale : ∀ s d, x3 (ix3 s (0 : Fin 1) d) = a.scale s d
  wIn : ∀ k f, x4 (ix2 k f) = a.wIn k f
  dProj : ∀ i f, x5 (ix2 i f) = a.dProj i f
  r : ∀ i d, x6 (ix2 i d) = a.r i d
  mixed : ∀ i d, x7 (ix2 i d) = a.mixed i d
  wOut : ∀ f d, x8 (ix2 f d) = a.wOut f d
  gate : ∀ d, x9 (ix3 (0 : Fin 1) (0 : Fin 1) d) = a.gate d
  dout : ∀ i d, x10 (ix2 i d) = a.dout i d

variable {x0 x1 x2 x3 x4 x5 x6 x7 x8 x9 x10 a} (H : Holds x0 x1 x2 x3 x4 x5 x6 x7 x8 x9 x10 a)
include H

/-! ## The modulation of a row -/

omit H in
/-- Below row 256 the context's, from there on the latent's. -/
theorem select_seg (i : Fin 8448) (f : Fin 2 → EReal) :
    Scalar.select (IntOp.cmpi .slt (BitVec.ofNat 32 i.val) 256#32) (f 0) (f 1) = f (seg i) := by
  have e : ∀ i : Fin 8448, IntOp.cmpi .slt (BitVec.ofNat 32 i.val) 256#32 = if i.val < 256 then 1#1 else 0#1 := by decide +kernel
  rw [e, seg]
  split <;> rfl

theorem scale_apply (i : Fin 8448) (d : Fin 2048) : val_main_v20 (F := Ideal) x3 (ix2 i d) = a.scale (seg i) d := by
  rw [val_main_v20_apply, val_main_call0_v0_apply, show idx_main_call0_v0 (ix2 i d) = ix2 i (0 : Fin 1) by idx_ext, val_main_v17_apply,
    val_main_v15_apply, val_main_v14_apply, val_main_v16_apply, val_main_c_apply, val_main_call0_v1_apply, val_main_v18_apply,
    val_main_v12_apply, val_main_call0_v2_apply, val_main_v19_apply, val_main_v13_apply,
    show idx_main_v12 (idx_main_v18 (idx_main_call0_v1 (ix2 i d))) = ix3 (0 : Fin 2) (0 : Fin 1) d by idx_ext,
    show idx_main_v13 (idx_main_v19 (idx_main_call0_v2 (ix2 i d))) = ix3 (1 : Fin 2) (0 : Fin 1) d by idx_ext, H.scale, H.scale]
  exact select_seg i fun s => a.scale s d

theorem shift_apply (i : Fin 8448) (d : Fin 2048) : val_main_v32 (F := Ideal) x2 (ix2 i d) = a.shift (seg i) d := by
  rw [val_main_v32_apply, val_main_call1_v0_apply, show idx_main_call1_v0 (ix2 i d) = ix2 i (0 : Fin 1) by idx_ext, val_main_v29_apply,
    val_main_v27_apply, val_main_v26_apply, val_main_v28_apply, val_main_c_3_apply, val_main_call1_v1_apply, val_main_v30_apply,
    val_main_v24_apply, val_main_call1_v2_apply, val_main_v31_apply, val_main_v25_apply,
    show idx_main_v24 (idx_main_v30 (idx_main_call1_v1 (ix2 i d))) = ix3 (0 : Fin 2) (0 : Fin 1) d by idx_ext,
    show idx_main_v25 (idx_main_v31 (idx_main_call1_v2 (ix2 i d))) = ix3 (1 : Fin 2) (0 : Fin 1) d by idx_ext, H.shift, H.shift]
  exact select_seg i fun s => a.shift s d

/-! ## The norm -/

theorem squares_apply (i : Fin 8448) (z : Fin 1) : val_main_v6 (F := Ideal) x0 (ix2 i z) = meanSquare a.x i := by
  have e : val_main_v1 (F := Ideal) x0 (idx_main_v2 (ix2 i z)) = ∑ d, a.x i d * a.x i d := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext, H.x]
    rfl
  rw [val_main_v6_apply, val_main_v4_apply, val_main_v2_apply, e, val_main_v3_apply, val_main_cst_0_apply, val_main_v5_apply, val_main_cst_1_apply,
    meanSquare, ← ofBits_2048, ← ofBits_eps]
  rfl

theorem factor_apply (i : Fin 8448) (z : Fin 1) : val_main_v7 (F := Ideal) x0 (ix2 i z) = factor a.x i := by
  rw [val_main_v7_apply, squares_apply H, Ideal.hostUnary_rsqrt_def]; rfl

theorem unit_apply (i : Fin 8448) (d : Fin 2048) : val_main_v9 (F := Ideal) x0 (ix2 i d) = a.x i d * factor a.x i := by
  rw [val_main_v9_apply, val_main_v8_apply, show idx_main_v8 (ix2 i d) = ix2 i (0 : Fin 1) by idx_ext, factor_apply H, H.x]
  rfl

theorem gained_apply (i : Fin 8448) (d : Fin 2048) : val_main_v11 (F := Ideal) x0 x1 (ix2 i d) = a.x i d * factor a.x i * a.gain d := by
  rw [val_main_v11_apply, unit_apply H, val_main_v10_apply, show idx_main_v10 (ix2 i d) = ix2 (0 : Fin 1) d by idx_ext, H.gain]
  rfl

theorem h_apply (i : Fin 8448) (d : Fin 2048) : val_main_v33 (F := Ideal) x0 x1 x2 x3 (ix2 i d) = a.h i d := by
  rw [val_main_v33_apply, val_main_v23_apply, gained_apply H, val_main_v22_apply, scale_apply H, shift_apply H, val_main_v21_apply,
    val_main_cst_2_apply, show a.h i d = a.x i d * factor a.x i * a.gain d * (1 + a.scale (seg i) d) + a.shift (seg i) d from rfl,
    ← EReal.coe_one, ← ofBits_one]
  rfl

/-! ## The two projections -/

theorem proj_apply (i : Fin 8448) (j : Fin 4096) : val_main_v34 (F := Ideal) x0 x1 x2 x3 x4 (ix2 i j) = a.proj i j := by
  rw [val_main_v34_apply]
  refine Finset.sum_congr (g := fun k => a.h i k * a.wIn k j) rfl fun k _ => ?_
  rw [show lidx_main_v34 (ix2 i j) k = ix2 i k by idx_ext, show ridx_main_v34 (ix2 i j) k = ix2 k j by idx_ext, h_apply H, H.wIn]

theorem gate_apply (d : Fin 2048) : val_main_v35 (F := Ideal) x9 (ix2 (0 : Fin 1) d) = a.gate d := by
  rw [val_main_v35_apply, show idx_main_v35 (ix2 (0 : Fin 1) d) = ix3 (0 : Fin 1) (0 : Fin 1) d by idx_ext, H.gate]

theorem y_apply (i : Fin 8192) (d : Fin 2048) : val_main_v36 (F := Ideal) x7 x8 (ix2 i d) = a.y i d := by
  rw [val_main_v36_apply]
  refine Finset.sum_congr (g := fun k => a.mixed i k * a.wOut k d) rfl fun k _ => ?_
  rw [show lidx_main_v36 (ix2 i d) k = ix2 i k by idx_ext, show ridx_main_v36 (ix2 i d) k = ix2 k d by idx_ext, H.mixed, H.wOut]

theorem out_apply (i : Fin 8192) (d : Fin 2048) : val_main_v39 (F := Ideal) x6 x7 x8 x9 (ix2 i d) = a.out i d := by
  rw [val_main_v39_apply, val_main_v38_apply, val_main_v37_apply, show idx_main_v37 (ix2 i d) = ix2 (0 : Fin 1) d by idx_ext, gate_apply H,
    y_apply H, H.r]
  rfl

/-! ## Back through the second -/

theorem dy_apply (i : Fin 8192) (d : Fin 2048) : val_main_v41 (F := Ideal) x9 x10 (ix2 i d) = a.dy i d := by
  rw [val_main_v41_apply, val_main_v40_apply, show idx_main_v40 (ix2 i d) = ix2 (0 : Fin 1) d by idx_ext, gate_apply H, H.dout,
    show a.dy i d = a.gate d * a.dout i d from mul_comm _ _]
  rfl

theorem dgate_apply (d : Fin 2048) : val_main_v48 (F := Ideal) x7 x8 x10 (ix3 (0 : Fin 1) (0 : Fin 1) d) = a.dgate d := by
  rw [val_main_v48_apply, val_main_v44_apply,
    show idx_main_v44 (idx_main_v48 (ix3 (0 : Fin 1) (0 : Fin 1) d)) = ix1 d by idx_ext, val_main_v43_apply, val_main_cst_4_apply]
  refine (congrArg (· + _) (Ideal.ofBits_zero .f32)).trans ((zero_add _).trans (Finset.sum_congr rfl fun k _ => ?_))
  rw [val_main_v42_apply, show idx_main_v43 (ix1 d) k = ix2 k d by idx_ext, y_apply H, H.dout]
  rfl

theorem dwOut_apply (f d : Fin 2048) : val_main_v52 (F := Ideal) x7 x9 x10 (ix2 f d) = a.dwOut f d := by
  have e : val_main_v46 (F := Ideal) x7 x9 x10 (ix2 f d) = ∑ k, a.mixed k f * a.dy k d := by
    rw [val_main_v46_apply, show idx_main_v46 (ix2 f d) = ix2 d f by idx_ext, val_main_v45_apply]
    refine Finset.sum_congr rfl fun k _ => ?_
    rw [show lidx_main_v45 (ix2 d f) k = ix2 k d by idx_ext, show ridx_main_v45 (ix2 d f) k = ix2 k f by idx_ext, dy_apply H, H.mixed, mul_comm]
  rw [val_main_v52_apply, e]
  rfl

theorem da_apply (i : Fin 8192) (f : Fin 2048) : val_main_v47 (F := Ideal) x8 x9 x10 (ix2 i f) = a.da i f := by
  rw [val_main_v47_apply]
  refine Finset.sum_congr (g := fun k => a.dy i k * a.wOut f k) rfl fun k _ => ?_
  rw [show lidx_main_v47 (ix2 i f) k = ix2 i k by idx_ext, show ridx_main_v47 (ix2 i f) k = ix2 f k by idx_ext, dy_apply H, H.wOut]

/-! ## Back through the first -/

theorem dwIn_apply (d : Fin 2048) (f : Fin 4096) : val_main_v53 (F := Ideal) x0 x1 x2 x3 x5 (ix2 d f) = a.dwIn d f := by
  have e : val_main_v50 (F := Ideal) x0 x1 x2 x3 x5 (ix2 d f) = ∑ k, a.h k d * a.dProj k f := by
    rw [val_main_v50_apply, show idx_main_v50 (ix2 d f) = ix2 f d by idx_ext, val_main_v49_apply]
    refine Finset.sum_congr rfl fun k _ => ?_
    rw [show lidx_main_v49 (ix2 f d) k = ix2 k f by idx_ext, show ridx_main_v49 (ix2 f d) k = ix2 k d by idx_ext, H.dProj, h_apply H, mul_comm]
  rw [val_main_v53_apply, e]
  rfl

theorem dh_apply (i : Fin 8448) (d : Fin 2048) : val_main_v51 (F := Ideal) x4 x5 (ix2 i d) = a.dh i d := by
  rw [val_main_v51_apply]
  refine Finset.sum_congr (g := fun k => a.dProj i k * a.wIn d k) rfl fun k _ => ?_
  rw [show lidx_main_v51 (ix2 i d) k = ix2 i k by idx_ext, show ridx_main_v51 (ix2 i d) k = ix2 d k by idx_ext, H.dProj, H.wIn]

end Cert.Reference4Ideal.Value

end
-- ==== Proof.ProjectReferenceRun.lean ====
/-
  THE PROJECTIONS' REFERENCE'S RUN. Its composed terms are the projections and their weights' gradients.
-/
module

public import proofs.«01_k».proof.Proof.ProjectReferenceValue
public import proofs.«01_k».proof.Proof.Gen.Reference4Ideal.Run

@[expose] public section

set_option maxRecDepth 16384

noncomputable section

namespace Cert.Reference4Ideal.Value

open Cert.Reference4Ideal Cert.Reference4Ideal.Gen Cert.Reference4Ideal.Read Idealize.ShloMosaic Idealize.ShloMosaic.TcCoe Idealize.SL.Sem
open Cert.FeedForward

variable (m : (ℓ : Loc nD τ sig) → Buf (Elt Ideal) ℓ) (ρ : Dev nD → PrngReg) (a : Dev nD → ProjectArgs)

/-- A device's argument arrays hold `a`. -/
abbrev Given (c : Dev nD) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (a c)

set_option maxHeartbeats 1600000 in
theorem run_value (H : ∀ c, Given m a c) :
    θ_run defs (onTc (τ := τ) (main (F := Ideal))) ⟨m, fun _ => 0, ρ⟩ (fun r => ∀ c : Dev nD,
      r.2.mem ((c.tc : Thread nD τ).loc main_v34) = (fun i => (a c).proj (i 0) (i 1))
      ∧ r.2.mem ((c.tc : Thread nD τ).loc main_v39) = (fun i => (a c).out (i 0) (i 1))
      ∧ r.2.mem ((c.tc : Thread nD τ).loc main_v47) = (fun i => (a c).da (i 0) (i 1))
      ∧ r.2.mem ((c.tc : Thread nD τ).loc main_v52) = (fun i => (a c).dwOut (i 0) (i 1))
      ∧ r.2.mem ((c.tc : Thread nD τ).loc main_v48) = (fun i => (a c).dgate (i 2))
      ∧ r.2.mem ((c.tc : Thread nD τ).loc main_v51) = (fun i => (a c).dh (i 0) (i 1))
      ∧ r.2.mem ((c.tc : Thread nD τ).loc main_v53) = (fun i => (a c).dwIn (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run m ρ)
  obtain ⟨h0, h1, h2, h3, h4, h5, h6, ha⟩ := h c
  refine ⟨(h0.trans (val_main_v34_eq _ _ _ _ _)).trans (funext fun i => ?_),
    (h1.trans (val_main_v39_eq _ _ _ _)).trans (funext fun i => ?_),
    (h2.trans (val_main_v47_eq _ _ _)).trans (funext fun i => ?_),
    (h3.trans (val_main_v52_eq _ _ _)).trans (funext fun i => ?_),
    (h4.trans (val_main_v48_eq _ _ _)).trans (funext fun i => ?_),
    (h5.trans (val_main_v51_eq _ _)).trans (funext fun i => ?_),
    (h6.trans (val_main_v53_eq _ _ _ _ _)).trans (funext fun i => ?_), ha⟩
  · rw [eq_ix2 i]; exact proj_apply (H c) _ _
  · rw [eq_ix2 i]; exact out_apply (H c) _ _
  · rw [eq_ix2 i]; exact da_apply (H c) _ _
  · rw [eq_ix2 i]; exact dwOut_apply (H c) _ _
  · obtain ⟨d, rfl⟩ := exists_row3 i; exact dgate_apply (H c) _
  · rw [eq_ix2 i]; exact dh_apply (H c) _ _
  · rw [eq_ix2 i]; exact dwIn_apply (H c) _ _

end Cert.Reference4Ideal.Value

end
-- ==== Proof.UpStep.lean ====
/-
  THE LATENT ATTENTION'S UP-PROJECTIONS AND THEIR WEIGHTS' GRADIENTS, over the extended reals: rows of a low rank are normed, with a
  gain, and multiplied by a weight; back, from what comes in at the product, to the rows normed and to the weight. Nothing here asks
  that an entry be finite.
-/
module

public import proofs.«01_k».proof.Proof.ProjectStep

@[expose] public section

noncomputable section

open Idealize.ShloMosaic

namespace Cert.FeedForward

/-- The arguments of one: `n` rows of rank `k` and width `p` above. -/
structure UpArgs (n k p : ℕ) where
  x : Fin n → Fin k → EReal
  gain : Fin k → EReal
  w : Fin k → Fin p → EReal
  dy : Fin n → Fin p → EReal

/-- The arguments as the arrays have them. -/
def upOf {n k p : ℕ} (x : Shape.Idx ⟨2, ![n, k]⟩ → EReal) (g : Shape.Idx ⟨2, ![1, k]⟩ → EReal) (w : Shape.Idx ⟨2, ![k, p]⟩ → EReal)
    (dy : Shape.Idx ⟨2, ![n, p]⟩ → EReal) : UpArgs n k p where
  x i d := x (ix2 i d)
  gain d := g (ix2 (0 : Fin 1) d)
  w d j := w (ix2 d j)
  dy i j := dy (ix2 i j)

namespace UpArgs
variable {n k p : ℕ} (a : UpArgs n k p)

/-- A row's mean square, the constant added, and its factor. -/
def square (i : Fin n) : EReal := Ideal.div (∑ d, a.x i d * a.x i d) ((k : ℝ) : EReal) + ((eps : ℝ) : EReal)
def factor (i : Fin n) : EReal := Ideal.rsqrt (a.square i)

/-- The rows normed, and their product. -/
def h (i : Fin n) (d : Fin k) : EReal := a.x i d * a.factor i * a.gain d
def y : Fin n → Fin p → EReal := matmul a.h a.w

/-- Back through the product. -/
def dw : Fin k → Fin p → EReal := matmul (fun d i => a.h i d) a.dy
def dh : Fin n → Fin k → EReal := matmulT a.dy a.w

end UpArgs

theorem ofBits_512 : Ideal.ofBits .f32 0x44000000#32 = (((512 : ℕ) : ℝ) : EReal) := by
  simp [Ideal.ofBits, Ideal.ieee, -EReal.coe_mul]; norm_num
theorem ofBits_256 : Ideal.ofBits .f32 0x43800000#32 = (((256 : ℕ) : ℝ) : EReal) := by
  simp [Ideal.ofBits, Ideal.ieee, -EReal.coe_mul]; norm_num

end Cert.FeedForward

end
-- ==== Proof.UpNorm.lean ====
/-
  THE UP-PROJECTIONS' NORMS: each point takes 256 rows and writes them normed and gained, and once more transposed. The modulation
  that the call has is zero.
-/
module

public import proofs.«01_k».proof.Proof.Gen.Kernel5Ideal.Frame
public import proofs.«01_k».proof.Proof.UpStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace QNorm

theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] ∧ win0_5.index t = ![0, t.val] :=
  (by decide +kernel : ∀ t : Fin grid0.N, _)

section
variable (x : Vec Ideal S256x512 .f32) (g : Vec Ideal S1x512 .f32) (sh sc : Vec Ideal S1x1x512 .f32) (a : UpArgs 8192 512 1536) (at_ : Fin 256 → Fin 8192)
variable (hx : ∀ i d, x (ix2 i d) = a.x (at_ i) d) (hg : ∀ d, g (ix2 (0 : Fin 1) d) = a.gain d)
  (hsh : ∀ d, sh (ix3 (0 : Fin 1) (0 : Fin 1) d) = 0) (hsc : ∀ d, sc (ix3 (0 : Fin 1) (0 : Fin 1) d) = 0)

include hx hg hsh hsc

theorem rows_block (i : Fin 256) (d : Fin 512) : out0_4 (F := Ideal) x g sh sc (ix2 i d) = a.h (at_ i) d := by
  frame_open
  frame_out
  open_payloads
  pointwise [hx, hg, hsh, hsc, ofBits_512, ofBits_eps, ofBits_one, EReal.coe_one]
  rw [UpArgs.h, UpArgs.factor, UpArgs.square]

theorem cols_block (d : Fin 512) (i : Fin 256) : out0_5 (F := Ideal) x g sh sc (ix2 d i) = a.h (at_ i) d := by
  frame_open
  frame_out
  open_payloads
  pointwise [hx, hg, hsh, hsc, ofBits_512, ofBits_eps, ofBits_one, EReal.coe_one]
  rw [UpArgs.h, UpArgs.factor, UpArgs.square]

end

variable (a : UpArgs 8192 512 1536)
variable (hx : ∀ i d, V c main_arg0 (ix2 i d) = a.x i d) (hg : ∀ d, V c main_arg1 (ix2 (0 : Fin 1) d) = a.gain d)
  (hz : ∀ d, V c main_v1 (ix3 (0 : Fin 1) (0 : Fin 1) d) = (0 : EReal))

theorem point (t : Fin cfg0.N) : t.val < 32 := lt_of_lt_of_eq t.isLt N_0

/-- A point's rows of the whole. -/
abbrev row (t : Fin cfg0.N) (i : Fin 256) : Fin 8192 := ⟨t.val * 256 + i.val, by have := point t; omega⟩

include hx in
theorem block_x (t : Fin cfg0.N) (i : Fin 256) (d : Fin 512) : iblk0 V c 0 t (ix2 i d) = a.x (row t i) d := by
  refine Eq.trans ?_ (hx _ _)
  blk_point [iblk0, idx t]

include hg in
theorem block_g (t : Fin cfg0.N) (d : Fin 512) : iblk0 V c 1 t (ix2 (0 : Fin 1) d) = a.gain d := by
  refine Eq.trans ?_ (hg _)
  blk_point [iblk0, idx t]

include hz in
theorem block_sh (t : Fin cfg0.N) (d : Fin 512) : iblk0 V c 2 t (ix3 (0 : Fin 1) (0 : Fin 1) d) = (0 : EReal) := by
  refine Eq.trans ?_ (hz d)
  blk_point [iblk0, idx t]

include hz in
theorem block_sc (t : Fin cfg0.N) (d : Fin 512) : iblk0 V c 3 t (ix3 (0 : Fin 1) (0 : Fin 1) d) = (0 : EReal) := by
  refine Eq.trans ?_ (hz d)
  blk_point [iblk0, idx t]

include hx hg hz

theorem rows : (dat0 V c).arrAt 4 cfg0.N = fun i => a.h (i 0) (i 1) := by
  refine (dat0 V c).arrAt_eq_of_covers 4 _ (by decide +kernel) fun t hf y => ?_
  blk_simp
  rw [after0_4]
  obtain ⟨r, d, rfl⟩ : ∃ (r : Fin 256) (d : Fin 512), y = ix2 r d := ⟨y 0, y 1, eq_ix2 y⟩
  generalize hz' : ((View.whole main_v2_0).slice (win0_4.rect t)).emb (ix2 r d) = z
  have h0 : z 0 = row t r := Fin.ext (by subst hz'; blk_simp [idx t])
  have h1 : z 1 = d := Fin.ext (by subst hz'; blk_simp [idx t])
  rw [h0, h1]
  exact rows_block _ _ _ _ a (row t) (block_x V c a hx t) (block_g V c a hg t) (block_sh V c hz t) (block_sc V c hz t) _ _

theorem cols : (dat0 V c).arrAt 5 cfg0.N = fun i => a.h (i 1) (i 0) := by
  refine (dat0 V c).arrAt_eq_of_covers 5 _ (by decide +kernel) fun t hf y => ?_
  blk_simp
  rw [after0_5]
  obtain ⟨d, r, rfl⟩ : ∃ (d : Fin 512) (r : Fin 256), y = ix2 d r := ⟨y 0, y 1, eq_ix2 y⟩
  generalize hz' : ((View.whole main_v2_1).slice (win0_5.rect t)).emb (ix2 d r) = z
  have h0 : z 0 = d := Fin.ext (by subst hz'; blk_simp [idx t])
  have h1 : z 1 = row t r := Fin.ext (by subst hz'; blk_simp [idx t])
  rw [h0, h1]
  exact cols_block _ _ _ _ a (row t) (block_x V c a hx t) (block_g V c a hg t) (block_sh V c hz t) (block_sc V c hz t) _ _

end QNorm

namespace KvNorm

theorem idx : ∀ t : Fin cfg4.N, win4_0.index t = ![t.val, 0] ∧ win4_1.index t = ![0, 0] ∧ win4_2.index t = ![0, 0, 0] ∧ win4_3.index t = ![0, 0, 0]
    ∧ win4_4.index t = ![t.val, 0] ∧ win4_5.index t = ![0, t.val] :=
  (by decide +kernel : ∀ t : Fin grid4.N, _)

section
variable (x : Vec Ideal S256x256 .f32) (g : Vec Ideal S1x256 .f32) (sh sc : Vec Ideal S1x1x256 .f32) (a : UpArgs 8448 256 2048) (at_ : Fin 256 → Fin 8448)
variable (hx : ∀ i d, x (ix2 i d) = a.x (at_ i) d) (hg : ∀ d, g (ix2 (0 : Fin 1) d) = a.gain d)
  (hsh : ∀ d, sh (ix3 (0 : Fin 1) (0 : Fin 1) d) = 0) (hsc : ∀ d, sc (ix3 (0 : Fin 1) (0 : Fin 1) d) = 0)

include hx hg hsh hsc

theorem rows_block (i : Fin 256) (d : Fin 256) : out4_4 (F := Ideal) x g sh sc (ix2 i d) = a.h (at_ i) d := by
  frame_open
  frame_out
  open_payloads
  pointwise [hx, hg, hsh, hsc, ofBits_256, ofBits_eps, ofBits_one, EReal.coe_one]
  rw [UpArgs.h, UpArgs.factor, UpArgs.square]

theorem cols_block (d : Fin 256) (i : Fin 256) : out4_5 (F := Ideal) x g sh sc (ix2 d i) = a.h (at_ i) d := by
  frame_open
  frame_out
  open_payloads
  pointwise [hx, hg, hsh, hsc, ofBits_256, ofBits_eps, ofBits_one, EReal.coe_one]
  rw [UpArgs.h, UpArgs.factor, UpArgs.square]

end

variable (a : UpArgs 8448 256 2048)
variable (hx : ∀ i d, V c main_arg4 (ix2 i d) = a.x i d) (hg : ∀ d, V c main_arg5 (ix2 (0 : Fin 1) d) = a.gain d)
  (hz : ∀ d, V c main_v8 (ix3 (0 : Fin 1) (0 : Fin 1) d) = (0 : EReal))

theorem point (t : Fin cfg4.N) : t.val < 33 := lt_of_lt_of_eq t.isLt N_4

/-- A point's rows of the whole. -/
abbrev row (t : Fin cfg4.N) (i : Fin 256) : Fin 8448 := ⟨t.val * 256 + i.val, by have := point t; omega⟩

include hx in
theorem block_x (t : Fin cfg4.N) (i : Fin 256) (d : Fin 256) : iblk4 V c 0 t (ix2 i d) = a.x (row t i) d := by
  refine Eq.trans ?_ (hx _ _)
  blk_point [iblk4, idx t]

include hg in
theorem block_g (t : Fin cfg4.N) (d : Fin 256) : iblk4 V c 1 t (ix2 (0 : Fin 1) d) = a.gain d := by
  refine Eq.trans ?_ (hg _)
  blk_point [iblk4, idx t]

include hz in
theorem block_sh (t : Fin cfg4.N) (d : Fin 256) : iblk4 V c 2 t (ix3 (0 : Fin 1) (0 : Fin 1) d) = (0 : EReal) := by
  refine Eq.trans ?_ (hz d)
  blk_point [iblk4, idx t]

include hz in
theorem block_sc (t : Fin cfg4.N) (d : Fin 256) : iblk4 V c 3 t (ix3 (0 : Fin 1) (0 : Fin 1) d) = (0 : EReal) := by
  refine Eq.trans ?_ (hz d)
  blk_point [iblk4, idx t]

include hx hg hz

theorem rows : (dat4 V c).arrAt 4 cfg4.N = fun i => a.h (i 0) (i 1) := by
  refine (dat4 V c).arrAt_eq_of_covers 4 _ (by decide +kernel) fun t hf y => ?_
  blk_simp
  rw [after4_4]
  obtain ⟨r, d, rfl⟩ : ∃ (r : Fin 256) (d : Fin 256), y = ix2 r d := ⟨y 0, y 1, eq_ix2 y⟩
  generalize hz' : ((View.whole main_v9_0).slice (win4_4.rect t)).emb (ix2 r d) = z
  have h0 : z 0 = row t r := Fin.ext (by subst hz'; blk_simp [idx t])
  have h1 : z 1 = d := Fin.ext (by subst hz'; blk_simp [idx t])
  rw [h0, h1]
  exact rows_block _ _ _ _ a (row t) (block_x V c a hx t) (block_g V c a hg t) (block_sh V c hz t) (block_sc V c hz t) _ _

theorem cols : (dat4 V c).arrAt 5 cfg4.N = fun i => a.h (i 1) (i 0) := by
  refine (dat4 V c).arrAt_eq_of_covers 5 _ (by decide +kernel) fun t hf y => ?_
  blk_simp
  rw [after4_5]
  obtain ⟨d, r, rfl⟩ : ∃ (d : Fin 256) (r : Fin 256), y = ix2 d r := ⟨y 0, y 1, eq_ix2 y⟩
  generalize hz' : ((View.whole main_v9_1).slice (win4_5.rect t)).emb (ix2 d r) = z
  have h0 : z 0 = d := Fin.ext (by subst hz'; blk_simp [idx t])
  have h1 : z 1 = row t r := Fin.ext (by subst hz'; blk_simp [idx t])
  rw [h0, h1]
  exact cols_block _ _ _ _ a (row t) (block_x V c a hx t) (block_g V c a hg t) (block_sh V c hz t) (block_sc V c hz t) _ _

end KvNorm

end Cert.Kernel5Ideal.Value

end
-- ==== Proof.UpProducts.lean ====
/-
  THE UP-PROJECTIONS' CALLS THAT ARE PLAIN PRODUCTS: each point writes one block of the product of the two arrays the call reads.
-/
module

public import proofs.«01_k».proof.Proof.Gen.Kernel5Ideal.Frame
public import proofs.«01_k».proof.Proof.UpStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace QUp

theorem idx : ∀ t : Fin cfg1.N, win1_0.index t = ![t.val / 2, 0] ∧ win1_1.index t = ![0, t.val % 2] ∧ win1_2.index t = ![t.val / 2, t.val % 2] :=
  (by decide +kernel : ∀ t : Fin grid1.N, _)

theorem block (a : Vec Ideal S1024x512 .bf16) (b : Vec Ideal S512x768 .bf16) (A : Fin 1024 → Fin 512 → EReal) (B : Fin 512 → Fin 768 → EReal)
    (ha : ∀ i k, a (ix2 i k) = A i k) (hb : ∀ k j, b (ix2 k j) = B k j) (i : Fin 1024) (j : Fin 768) : out1_2 (F := Ideal) a b (ix2 i j) = matmul A B i j := by
  frame_open
  frame_out
  open_payloads
  pointwise [ha, hb]
  rfl

theorem result (A : Fin 8192 → Fin 512 → EReal) (B : Fin 512 → Fin 1536 → EReal)
    (ha : ∀ i k, V c main_v2_0 (ix2 i k) = A i k) (hb : ∀ k j, V c main_v0 (ix2 k j) = B k j) : (dat1 V c).arrAt 2 cfg1.N = fun i => matmul A B (i 0) (i 1) := by
  refine (dat1 V c).arrAt_eq_of_covers 2 _ (by decide +kernel) fun t hf y => ?_
  blk_simp
  rw [after1_2]
  have ht : t.val < 16 := lt_of_lt_of_eq t.isLt N_1
  generalize hz : ((View.whole main_v3).slice (win1_2.rect t)).emb y = z
  have h0 : z 0 = ⟨t.val / 2 * 1024 + (y 0).val, by have : (y 0).val < 1024 := (y 0).isLt; show _ < 8192; omega⟩ := Fin.ext (by subst hz; blk_simp [idx t])
  have h1 : z 1 = ⟨t.val % 2 * 768 + (y 1).val, by have : (y 1).val < 768 := (y 1).isLt; show _ < 1536; omega⟩ := Fin.ext (by subst hz; blk_simp [idx t])
  rw [h0, h1, eq_ix2 y]
  refine (block _ _ (fun i k => A ⟨t.val / 2 * 1024 + i.val, by omega⟩ k) (fun k j => B k ⟨t.val % 2 * 768 + j.val, by omega⟩) (fun i k => ?_) (fun k j => ?_) _ _)
  · refine Eq.trans ?_ (ha _ _)
    blk_point [iblk1, idx t]
  · refine Eq.trans ?_ (hb _ _)
    blk_point [iblk1, idx t]

end QUp

namespace QDw

theorem idx : ∀ t : Fin cfg2.N, win2_0.index t = ![0, 0] ∧ win2_1.index t = ![0, t.val] ∧ win2_2.index t = ![0, t.val] :=
  (by decide +kernel : ∀ t : Fin grid2.N, _)

theorem block (a : Vec Ideal S512x8192 .bf16) (b : Vec Ideal S8192x512 .bf16) (A : Fin 512 → Fin 8192 → EReal) (B : Fin 8192 → Fin 512 → EReal)
    (ha : ∀ i k, a (ix2 i k) = A i k) (hb : ∀ k j, b (ix2 k j) = B k j) (i : Fin 512) (j : Fin 512) : out2_2 (F := Ideal) a b (ix2 i j) = matmul A B i j := by
  frame_open
  frame_out
  open_payloads
  pointwise [ha, hb]
  rfl

theorem result (A : Fin 512 → Fin 8192 → EReal) (B : Fin 8192 → Fin 1536 → EReal)
    (ha : ∀ i k, V c main_v2_1 (ix2 i k) = A i k) (hb : ∀ k j, V c main_v4 (ix2 k j) = B k j) : (dat2 V c).arrAt 2 cfg2.N = fun i => matmul A B (i 0) (i 1) := by
  refine (dat2 V c).arrAt_eq_of_covers 2 _ (by decide +kernel) fun t hf y => ?_
  blk_simp
  rw [after2_2]
  have ht : t.val < 3 := lt_of_lt_of_eq t.isLt N_2
  generalize hz : ((View.whole main_v5).slice (win2_2.rect t)).emb y = z
  have h0 : z 0 = y 0 := Fin.ext (by subst hz; blk_simp [idx t])
  have h1 : z 1 = ⟨t.val * 512 + (y 1).val, by have : (y 1).val < 512 := (y 1).isLt; show _ < 1536; omega⟩ := Fin.ext (by subst hz; blk_simp [idx t])
  rw [h0, h1, eq_ix2 y]
  refine (block _ _ A (fun k j => B k ⟨t.val * 512 + j.val, by omega⟩) (fun i k => ?_) (fun k j => ?_) _ _)
  · refine Eq.trans ?_ (ha _ _)
    blk_point [iblk2, idx t]
  · refine Eq.trans ?_ (hb _ _)
    blk_point [iblk2, idx t]

end QDw

namespace QDh

theorem idx : ∀ t : Fin cfg3.N, win3_0.index t = ![t.val, 0] ∧ win3_1.index t = ![0, 0] ∧ win3_2.index t = ![t.val, 0] :=
  (by decide +kernel : ∀ t : Fin grid3.N, _)

theorem block (a : Vec Ideal S1024x1536 .bf16) (b : Vec Ideal S512x1536 .bf16) (A : Fin 1024 → Fin 1536 → EReal) (B : Fin 512 → Fin 1536 → EReal)
    (ha : ∀ i k, a (ix2 i k) = A i k) (hb : ∀ j k, b (ix2 j k) = B j k) (i : Fin 1024) (j : Fin 512) : out3_2 (F := Ideal) a b (ix2 i j) = matmulT A B i j := by
  frame_open
  frame_out
  open_payloads
  pointwise [ha, hb]
  rfl

theorem result (A : Fin 8192 → Fin 1536 → EReal) (B : Fin 512 → Fin 1536 → EReal)
    (ha : ∀ i k, V c main_v4 (ix2 i k) = A i k) (hb : ∀ j k, V c main_v0 (ix2 j k) = B j k) : (dat3 V c).arrAt 2 cfg3.N = fun i => matmulT A B (i 0) (i 1) := by
  refine (dat3 V c).arrAt_eq_of_covers 2 _ (by decide +kernel) fun t hf y => ?_
  blk_simp
  rw [after3_2]
  have ht : t.val < 8 := lt_of_lt_of_eq t.isLt N_3
  generalize hz : ((View.whole main_v6).slice (win3_2.rect t)).emb y = z
  have h0 : z 0 = ⟨t.val * 1024 + (y 0).val, by have : (y 0).val < 1024 := (y 0).isLt; show _ < 8192; omega⟩ := Fin.ext (by subst hz; blk_simp [idx t])
  have h1 : z 1 = y 1 := Fin.ext (by subst hz; blk_simp [idx t])
  rw [h0, h1, eq_ix2 y]
  refine (block _ _ (fun i k => A ⟨t.val * 1024 + i.val, by omega⟩ k) B (fun i k => ?_) (fun k j => ?_) _ _)
  · refine Eq.trans ?_ (ha _ _)
    blk_point [iblk3, idx t]
  · refine Eq.trans ?_ (hb _ _)
    blk_point [iblk3, idx t]

end QDh

namespace KvUp

theorem idx : ∀ t : Fin cfg5.N, win5_0.index t = ![t.val / 2, 0] ∧ win5_1.index t = ![0, t.val % 2] ∧ win5_2.index t = ![t.val / 2, t.val % 2] :=
  (by decide +kernel : ∀ t : Fin grid5.N, _)

theorem block (a : Vec Ideal S768x256 .bf16) (b : Vec Ideal S256x1024 .bf16) (A : Fin 768 → Fin 256 → EReal) (B : Fin 256 → Fin 1024 → EReal)
    (ha : ∀ i k, a (ix2 i k) = A i k) (hb : ∀ k j, b (ix2 k j) = B k j) (i : Fin 768) (j : Fin 1024) : out5_2 (F := Ideal) a b (ix2 i j) = matmul A B i j := by
  frame_open
  frame_out
  open_payloads
  pointwise [ha, hb]
  rfl

theorem result (A : Fin 8448 → Fin 256 → EReal) (B : Fin 256 → Fin 2048 → EReal)
    (ha : ∀ i k, V c main_v9_0 (ix2 i k) = A i k) (hb : ∀ k j, V c main_v7 (ix2 k j) = B k j) : (dat5 V c).arrAt 2 cfg5.N = fun i => matmul A B (i 0) (i 1) := by
  refine (dat5 V c).arrAt_eq_of_covers 2 _ (by decide +kernel) fun t hf y => ?_
  blk_simp
  rw [after5_2]
  have ht : t.val < 22 := lt_of_lt_of_eq t.isLt N_5
  generalize hz : ((View.whole main_v10).slice (win5_2.rect t)).emb y = z
  have h0 : z 0 = ⟨t.val / 2 * 768 + (y 0).val, by have : (y 0).val < 768 := (y 0).isLt; show _ < 8448; omega⟩ := Fin.ext (by subst hz; blk_simp [idx t])
  have h1 : z 1 = ⟨t.val % 2 * 1024 + (y 1).val, by have : (y 1).val < 1024 := (y 1).isLt; show _ < 2048; omega⟩ := Fin.ext (by subst hz; blk_simp [idx t])
  rw [h0, h1, eq_ix2 y]
  refine (block _ _ (fun i k => A ⟨t.val / 2 * 768 + i.val, by omega⟩ k) (fun k j => B k ⟨t.val % 2 * 1024 + j.val, by omega⟩) (fun i k => ?_) (fun k j => ?_) _ _)
  · refine Eq.trans ?_ (ha _ _)
    blk_point [iblk5, idx t]
  · refine Eq.trans ?_ (hb _ _)
    blk_point [iblk5, idx t]

end KvUp

namespace KvDw

theorem idx : ∀ t : Fin cfg6.N, win6_0.index t = ![0, 0] ∧ win6_1.index t = ![0, t.val] ∧ win6_2.index t = ![0, t.val] :=
  (by decide +kernel : ∀ t : Fin grid6.N, _)

theorem block (a : Vec Ideal S256x8448 .bf16) (b : Vec Ideal S8448x512 .bf16) (A : Fin 256 → Fin 8448 → EReal) (B : Fin 8448 → Fin 512 → EReal)
    (ha : ∀ i k, a (ix2 i k) = A i k) (hb : ∀ k j, b (ix2 k j) = B k j) (i : Fin 256) (j : Fin 512) : out6_2 (F := Ideal) a b (ix2 i j) = matmul A B i j := by
  frame_open
  frame_out
  open_payloads
  pointwise [ha, hb]
  rfl

theorem result (A : Fin 256 → Fin 8448 → EReal) (B : Fin 8448 → Fin 2048 → EReal)
    (ha : ∀ i k, V c main_v9_1 (ix2 i k) = A i k) (hb : ∀ k j, V c main_v11 (ix2 k j) = B k j) : (dat6 V c).arrAt 2 cfg6.N = fun i => matmul A B (i 0) (i 1) := by
  refine (dat6 V c).arrAt_eq_of_covers 2 _ (by decide +kernel) fun t hf y => ?_
  blk_simp
  rw [after6_2]
  have ht : t.val < 4 := lt_of_lt_of_eq t.isLt N_6
  generalize hz : ((View.whole main_v12).slice (win6_2.rect t)).emb y = z
  have h0 : z 0 = y 0 := Fin.ext (by subst hz; blk_simp [idx t])
  have h1 : z 1 = ⟨t.val * 512 + (y 1).val, by have : (y 1).val < 512 := (y 1).isLt; show _ < 2048; omega⟩ := Fin.ext (by subst hz; blk_simp [idx t])
  rw [h0, h1, eq_ix2 y]
  refine (block _ _ A (fun k j => B k ⟨t.val * 512 + j.val, by omega⟩) (fun i k => ?_) (fun k j => ?_) _ _)
  · refine Eq.trans ?_ (ha _ _)
    blk_point [iblk6, idx t]
  · refine Eq.trans ?_ (hb _ _)
    blk_point [iblk6, idx t]

end KvDw

namespace KvDh

theorem idx : ∀ t : Fin cfg7.N, win7_0.index t = ![t.val, 0] ∧ win7_1.index t = ![0, 0] ∧ win7_2.index t = ![t.val, 0] :=
  (by decide +kernel : ∀ t : Fin grid7.N, _)

theorem block (a : Vec Ideal S768x2048 .bf16) (b : Vec Ideal S256x2048 .bf16) (A : Fin 768 → Fin 2048 → EReal) (B : Fin 256 → Fin 2048 → EReal)
    (ha : ∀ i k, a (ix2 i k) = A i k) (hb : ∀ j k, b (ix2 j k) = B j k) (i : Fin 768) (j : Fin 256) : out7_2 (F := Ideal) a b (ix2 i j) = matmulT A B i j := by
  frame_open
  frame_out
  open_payloads
  pointwise [ha, hb]
  rfl

theorem result (A : Fin 8448 → Fin 2048 → EReal) (B : Fin 256 → Fin 2048 → EReal)
    (ha : ∀ i k, V c main_v11 (ix2 i k) = A i k) (hb : ∀ j k, V c main_v7 (ix2 j k) = B j k) : (dat7 V c).arrAt 2 cfg7.N = fun i => matmulT A B (i 0) (i 1) := by
  refine (dat7 V c).arrAt_eq_of_covers 2 _ (by decide +kernel) fun t hf y => ?_
  blk_simp
  rw [after7_2]
  have ht : t.val < 11 := lt_of_lt_of_eq t.isLt N_7
  generalize hz : ((View.whole main_v13).slice (win7_2.rect t)).emb y = z
  have h0 : z 0 = ⟨t.val * 768 + (y 0).val, by have : (y 0).val < 768 := (y 0).isLt; show _ < 8448; omega⟩ := Fin.ext (by subst hz; blk_simp [idx t])
  have h1 : z 1 = y 1 := Fin.ext (by subst hz; blk_simp [idx t])
  rw [h0, h1, eq_ix2 y]
  refine (block _ _ (fun i k => A ⟨t.val * 768 + i.val, by omega⟩ k) B (fun i k => ?_) (fun k j => ?_) _ _)
  · refine Eq.trans ?_ (ha _ _)
    blk_point [iblk7, idx t]
  · refine Eq.trans ?_ (hb _ _)
    blk_point [iblk7, idx t]

end KvDh

end Cert.Kernel5Ideal.Value

end
-- ==== Proof.UpKernelRun.lean ====
/-
  THE UP-PROJECTIONS' RUN. Every execution ends with the two products of the arguments and their gradients: the eight calls in turn,
  each reading what the ones before it left.
-/
module

public import proofs.«01_k».proof.Proof.UpStep
public import proofs.«01_k».proof.Proof.UpNorm
public import proofs.«01_k».proof.Proof.UpProducts

@[expose] public section

set_option maxRecDepth 16384

noncomputable section

namespace Cert.Kernel5Ideal.Value

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FeedForward

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => h)

/-! ## The arguments -/

/-- The queries' arguments, and the keys' and values'. -/
def q (c : Dev nD) : UpArgs 8192 512 1536 := upOf (m ((c : Thread nD τ).loc main_arg0)) (m ((c : Thread nD τ).loc main_arg1)) (m ((c : Thread nD τ).loc
      main_arg2)) (m ((c : Thread nD τ).loc main_arg3))
def kv (c : Dev nD) : UpArgs 8448 256 2048 := upOf (m ((c : Thread nD τ).loc main_arg4)) (m ((c : Thread nD τ).loc main_arg5)) (m ((c : Thread nD τ).loc
      main_arg6)) (m ((c : Thread nD τ).loc main_arg7))

variable {m} (c : Dev nD)

/-! ## What the host casts, and the zeros -/

theorem V1_w (d : Fin 512) (j : Fin 1536) : V1 m ρ c main_v0 (ix2 d j) = (q m c).w d j := by
  have e : V1 m ρ c main_v0 = m ((c : Thread nD τ).loc main_arg2) := by
    show StableHlo.after hostOps0 _ _ = _
    after_results
    rfl
  exact congrFun e _
theorem V1_zero (d : Fin 512) : V1 m ρ c main_v1 (ix3 (0 : Fin 1) (0 : Fin 1) d) = (0 : EReal) := by
  have e : V1 m ρ c main_v1 (ix3 (0 : Fin 1) (0 : Fin 1) d) = Ideal.ofBits .f32 0x00000000#32 := by
    show StableHlo.after hostOps0 _ _ _ = _
    after_results
    rfl
  exact e.trans (Ideal.ofBits_zero .f32)
theorem V4_dy (i : Fin 8192) (j : Fin 1536) : V4 m ρ c main_v4 (ix2 i j) = (q m c).dy i j := by
  have e : V4 m ρ c main_v4 = V3 m ρ c main_arg3 := by
    show StableHlo.after hostOps2 _ _ = _
    after_results
    rfl
  exact congrFun (e.trans (W3_args m ρ c main_arg3 (by decide))) _
theorem V7_w (d : Fin 256) (j : Fin 2048) : V7 m ρ c main_v7 (ix2 d j) = (kv m c).w d j := by
  have e : V7 m ρ c main_v7 = V6 m ρ c main_arg6 := by
    show StableHlo.after hostOps4 _ _ = _
    after_results
    rfl
  exact congrFun (e.trans (W6_args m ρ c main_arg6 (by decide))) _
theorem V7_zero (d : Fin 256) : V7 m ρ c main_v8 (ix3 (0 : Fin 1) (0 : Fin 1) d) = (0 : EReal) := by
  have e : V7 m ρ c main_v8 (ix3 (0 : Fin 1) (0 : Fin 1) d) = Ideal.ofBits .f32 0x00000000#32 := by
    show StableHlo.after hostOps4 _ _ _ = _
    after_results
    rfl
  exact e.trans (Ideal.ofBits_zero .f32)
theorem V10_dy (i : Fin 8448) (j : Fin 2048) : V10 m ρ c main_v11 (ix2 i j) = (kv m c).dy i j := by
  have e : V10 m ρ c main_v11 = V9 m ρ c main_arg7 := by
    show StableHlo.after hostOps6 _ _ = _
    after_results
    rfl
  exact congrFun (e.trans (W9_args m ρ c main_arg7 (by decide))) _

/-! ## The calls in turn -/

theorem q_h : V2 m ρ c main_v2_0 = fun i => (q m c).h (i 0) (i 1) :=
  (W2_arr m ρ c 4).trans (QNorm.rows (V1 m ρ) c (q m c) (fun _ _ => congrFun (W1_args m ρ c main_arg0 (by decide)) _) (fun _ => congrFun (W1_args m ρ c
      main_arg1 (by decide)) _) (V1_zero ρ c))
theorem q_hT : V2 m ρ c main_v2_1 = fun i => (q m c).h (i 1) (i 0) :=
  (W2_arr m ρ c 5).trans (QNorm.cols (V1 m ρ) c (q m c) (fun _ _ => congrFun (W1_args m ρ c main_arg0 (by decide)) _) (fun _ => congrFun (W1_args m ρ c
      main_arg1 (by decide)) _) (V1_zero ρ c))
theorem q_y : V3 m ρ c main_v3 = fun i => (q m c).y (i 0) (i 1) :=
  (W3_arr m ρ c 2).trans (QUp.result (V2 m ρ) c (q m c).h (q m c).w (fun _ _ => congrFun (q_h ρ c) _) (fun _ _ => (congrFun (W2_of m ρ c main_v0
      (by decide +kernel)) _).trans (V1_w ρ c _ _)))
theorem q_dw : V5 m ρ c main_v5 = fun i => (q m c).dw (i 0) (i 1) :=
  (W5_arr m ρ c 2).trans (QDw.result (V4 m ρ) c (fun d i => (q m c).h i d) (q m c).dy (fun _ _ => congrFun (((W4_of m ρ c main_v2_1
      (by decide +kernel)).trans (W3_of m ρ c main_v2_1 (by decide +kernel))).trans (q_hT ρ c)) _) (V4_dy ρ c))
theorem q_dh : V6 m ρ c main_v6 = fun i => (q m c).dh (i 0) (i 1) :=
  (W6_arr m ρ c 2).trans (QDh.result (V5 m ρ) c (q m c).dy (q m c).w (fun _ _ => (congrFun (W5_of m ρ c main_v4 (by decide +kernel)) _).trans (V4_dy ρ c _
      _)) (fun _ _ => (congrFun ((W5_of m ρ c main_v0 (by decide +kernel)).trans ((W4_of m ρ c main_v0 (by decide +kernel)).trans ((W3_of m ρ c main_v0
      (by decide +kernel)).trans (W2_of m ρ c main_v0 (by decide +kernel))))) _).trans (V1_w ρ c _ _)))
theorem kv_h : V8 m ρ c main_v9_0 = fun i => (kv m c).h (i 0) (i 1) :=
  (W8_arr m ρ c 4).trans (KvNorm.rows (V7 m ρ) c (kv m c) (fun _ _ => congrFun (W7_args m ρ c main_arg4 (by decide)) _) (fun _ => congrFun (W7_args m ρ c
      main_arg5 (by decide)) _) (V7_zero ρ c))
theorem kv_hT : V8 m ρ c main_v9_1 = fun i => (kv m c).h (i 1) (i 0) :=
  (W8_arr m ρ c 5).trans (KvNorm.cols (V7 m ρ) c (kv m c) (fun _ _ => congrFun (W7_args m ρ c main_arg4 (by decide)) _) (fun _ => congrFun (W7_args m ρ c
      main_arg5 (by decide)) _) (V7_zero ρ c))
theorem kv_y : V9 m ρ c main_v10 = fun i => (kv m c).y (i 0) (i 1) :=
  (W9_arr m ρ c 2).trans (KvUp.result (V8 m ρ) c (kv m c).h (kv m c).w (fun _ _ => congrFun (kv_h ρ c) _) (fun _ _ => (congrFun (W8_of m ρ c main_v7
      (by decide +kernel)) _).trans (V7_w ρ c _ _)))
theorem kv_dw : V11 m ρ c main_v12 = fun i => (kv m c).dw (i 0) (i 1) :=
  (W11_arr m ρ c 2).trans (KvDw.result (V10 m ρ) c (fun d i => (kv m c).h i d) (kv m c).dy (fun _ _ => congrFun (((W10_of m ρ c main_v9_1
      (by decide +kernel)).trans (W9_of m ρ c main_v9_1 (by decide +kernel))).trans (kv_hT ρ c)) _) (V10_dy ρ c))
theorem kv_dh : V12 m ρ c main_v13 = fun i => (kv m c).dh (i 0) (i 1) :=
  (W12_arr m ρ c 2).trans (KvDh.result (V11 m ρ) c (kv m c).dy (kv m c).w (fun _ _ => (congrFun (W11_of m ρ c main_v11 (by decide +kernel)) _).trans (V10_dy
      ρ c _ _)) (fun _ _ => (congrFun ((W11_of m ρ c main_v7 (by decide +kernel)).trans ((W10_of m ρ c main_v7 (by decide +kernel)).trans ((W9_of m ρ c
      main_v7 (by decide +kernel)).trans (W8_of m ρ c main_v7 (by decide +kernel))))) _).trans (V7_w ρ c _ _)))

omit c in
/-- THE KERNEL'S RUN: the products and their gradients, the arguments as they were. -/
theorem run : θ_run defs (onTc (τ := τ) (main (F := Ideal))) ⟨m, fun _ => 0, ρ⟩ (fun r => ∀ c : Dev nD,
      r.2.mem ((c.tc : Thread nD τ).loc main_v3) = (fun i => (q m c).y (i 0) (i 1))
      ∧ r.2.mem ((c.tc : Thread nD τ).loc main_v6) = (fun i => (q m c).dh (i 0) (i 1))
      ∧ r.2.mem ((c.tc : Thread nD τ).loc main_v5) = (fun i => (q m c).dw (i 0) (i 1))
      ∧ r.2.mem ((c.tc : Thread nD τ).loc main_v10) = (fun i => (kv m c).y (i 0) (i 1))
      ∧ r.2.mem ((c.tc : Thread nD τ).loc main_v13) = (fun i => (kv m c).dh (i 0) (i 1))
      ∧ r.2.mem ((c.tc : Thread nD τ).loc main_v12) = (fun i => (kv m c).dw (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_v3 (by decide))).trans (((W12_of m ρ c main_v3 (by decide +kernel)).trans ((W11_of m ρ c main_v3 (by decide +kernel)).trans ((W10_of
      m ρ c main_v3 (by decide +kernel)).trans ((W9_of m ρ c main_v3 (by decide +kernel)).trans ((W8_of m ρ c main_v3 (by decide +kernel)).trans ((W7_of m ρ
      c main_v3 (by decide +kernel)).trans ((W6_of m ρ c main_v3 (by decide +kernel)).trans ((W5_of m ρ c main_v3 (by decide +kernel)).trans (W4_of m ρ c
      main_v3 (by decide +kernel)))))))))).trans (q_y ρ c)),
    (h c _ (mem_uc main_v6 (by decide))).trans (((W12_of m ρ c main_v6 (by decide +kernel)).trans ((W11_of m ρ c main_v6 (by decide +kernel)).trans ((W10_of
      m ρ c main_v6 (by decide +kernel)).trans ((W9_of m ρ c main_v6 (by decide +kernel)).trans ((W8_of m ρ c main_v6 (by decide +kernel)).trans (W7_of m ρ c
      main_v6 (by decide +kernel))))))).trans (q_dh ρ c)),
    (h c _ (mem_uc main_v5 (by decide))).trans (((W12_of m ρ c main_v5 (by decide +kernel)).trans ((W11_of m ρ c main_v5 (by decide +kernel)).trans ((W10_of
      m ρ c main_v5 (by decide +kernel)).trans ((W9_of m ρ c main_v5 (by decide +kernel)).trans ((W8_of m ρ c main_v5 (by decide +kernel)).trans ((W7_of m ρ
      c main_v5 (by decide +kernel)).trans (W6_of m ρ c main_v5 (by decide +kernel)))))))).trans (q_dw ρ c)),
    (h c _ (mem_uc main_v10 (by decide))).trans (((W12_of m ρ c main_v10 (by decide +kernel)).trans ((W11_of m ρ c main_v10 (by decide +kernel)).trans
      (W10_of m ρ c main_v10 (by decide +kernel)))).trans (kv_y ρ c)),
    (h c _ (mem_uc main_v13 (by decide))).trans (kv_dh ρ c),
    (h c _ (mem_uc main_v12 (by decide))).trans ((W12_of m ρ c main_v12 (by decide +kernel)).trans (kv_dw ρ c)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c)⟩)
    (launch m ρ)

end Cert.Kernel5Ideal.Value

end
-- ==== Proof.UpReferenceValue.lean ====
/-
  THE UP-PROJECTIONS' REFERENCE. Its arrays, in the order it computes them, are those of `UpStep.lean`, once for the queries and once
  for the keys and values.
-/
module

public import proofs.«01_k».proof.Proof.Gen.Reference5Ideal.Read
public import proofs.«01_k».proof.Proof.UpStep

@[expose] public section

noncomputable section

namespace Cert.Reference5Ideal.Value

open Cert.Reference5Ideal Cert.Reference5Ideal.Gen Cert.Reference5Ideal.Read Idealize.ShloMosaic Idealize.ShloMosaic.TcCoe Idealize.SL.Sem
open Cert.FeedForward

variable (x0 : (⟨S8192x512, .f32⟩ : BufTy).Contents (Elt Ideal)) (x1 : (⟨S1x512, .f32⟩ : BufTy).Contents (Elt Ideal))
  (x2 : (⟨S512x1536, .f32⟩ : BufTy).Contents (Elt Ideal)) (x3 : (⟨S8192x1536, .f32⟩ : BufTy).Contents (Elt Ideal))
  (x4 : (⟨S8448x256, .f32⟩ : BufTy).Contents (Elt Ideal)) (x5 : (⟨S1x256, .f32⟩ : BufTy).Contents (Elt Ideal))
  (x6 : (⟨S256x2048, .f32⟩ : BufTy).Contents (Elt Ideal)) (x7 : (⟨S8448x2048, .f32⟩ : BufTy).Contents (Elt Ideal))

/-! ## The queries -/

namespace Q

theorem square_apply (i : Fin 8192) (z : Fin 1) : val_main_v6 (F := Ideal) x0 (ix2 i z) = (upOf x0 x1 x2 x3).square i := by
  have e : val_main_v1 (F := Ideal) x0 (idx_main_v2 (ix2 i z)) = ∑ d, x0 (ix2 i d) * x0 (ix2 i d) := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext]
    rfl
  rw [val_main_v6_apply, val_main_v4_apply, val_main_v2_apply, e, val_main_v3_apply, val_main_cst_0_apply, val_main_v5_apply, val_main_cst_1_apply, UpArgs.square,
    ← ofBits_512, ← ofBits_eps]
  rfl

theorem h_apply (i : Fin 8192) (d : Fin 512) : val_main_v11 (F := Ideal) x0 x1 (ix2 i d) = (upOf x0 x1 x2 x3).h i d := by
  rw [val_main_v11_apply, val_main_v9_apply, val_main_v8_apply, show idx_main_v8 (ix2 i d) = ix2 i (0 : Fin 1) by idx_ext, val_main_v7_apply,
    square_apply x0 x1 x2 x3, Ideal.hostUnary_rsqrt_def, val_main_v10_apply, show idx_main_v10 (ix2 i d) = ix2 (0 : Fin 1) d by idx_ext]
  rfl

theorem y_apply (i : Fin 8192) (j : Fin 1536) : val_main_v12 (F := Ideal) x0 x1 x2 (ix2 i j) = (upOf x0 x1 x2 x3).y i j := by
  rw [val_main_v12_apply]
  refine Finset.sum_congr (g := fun k => (upOf x0 x1 x2 x3).h i k * x2 (ix2 k j)) rfl fun k _ => ?_
  rw [show lidx_main_v12 (ix2 i j) k = ix2 i k by idx_ext, show ridx_main_v12 (ix2 i j) k = ix2 k j by idx_ext, h_apply x0 x1 x2 x3]

theorem dh_apply (i : Fin 8192) (d : Fin 512) : val_main_v15 (F := Ideal) x2 x3 (ix2 i d) = (upOf x0 x1 x2 x3).dh i d := by
  rw [val_main_v15_apply]
  refine Finset.sum_congr (g := fun k => x3 (ix2 i k) * x2 (ix2 d k)) rfl fun k _ => ?_
  rw [show lidx_main_v15 (ix2 i d) k = ix2 i k by idx_ext, show ridx_main_v15 (ix2 i d) k = ix2 d k by idx_ext]

theorem dw_apply (d : Fin 512) (j : Fin 1536) : val_main_v16 (F := Ideal) x0 x1 x3 (ix2 d j) = (upOf x0 x1 x2 x3).dw d j := by
  have e : val_main_v14 (F := Ideal) x0 x1 x3 (ix2 d j) = ∑ k, (upOf x0 x1 x2 x3).h k d * x3 (ix2 k j) := by
    rw [val_main_v14_apply, show idx_main_v14 (ix2 d j) = ix2 j d by idx_ext, val_main_v13_apply]
    refine Finset.sum_congr rfl fun k _ => ?_
    rw [show lidx_main_v13 (ix2 j d) k = ix2 k j by idx_ext, show ridx_main_v13 (ix2 j d) k = ix2 k d by idx_ext, h_apply x0 x1 x2 x3, mul_comm]
  rw [val_main_v16_apply, e]
  rfl

end Q

/-! ## The keys and values -/

namespace Kv

theorem square_apply (i : Fin 8448) (z : Fin 1) : val_main_v23 (F := Ideal) x4 (ix2 i z) = (upOf x4 x5 x6 x7).square i := by
  have e : val_main_v18 (F := Ideal) x4 (idx_main_v19 (ix2 i z)) = ∑ d, x4 (ix2 i d) * x4 (ix2 i d) := by
    rw [val_main_v18_apply, val_main_cst_2_apply]
    refine (congrArg (· + _) (Ideal.ofBits_zero .f32)).trans ((zero_add _).trans (Finset.sum_congr rfl fun k _ => ?_))
    rw [val_main_v17_apply, show idx_main_v18 (idx_main_v19 (ix2 i z)) k = ix2 i k by idx_ext]
    rfl
  rw [val_main_v23_apply, val_main_v21_apply, val_main_v19_apply, e, val_main_v20_apply, val_main_cst_3_apply, val_main_v22_apply, val_main_cst_4_apply, UpArgs.square,
    ← ofBits_256, ← ofBits_eps]
  rfl

theorem h_apply (i : Fin 8448) (d : Fin 256) : val_main_v28 (F := Ideal) x4 x5 (ix2 i d) = (upOf x4 x5 x6 x7).h i d := by
  rw [val_main_v28_apply, val_main_v26_apply, val_main_v25_apply, show idx_main_v25 (ix2 i d) = ix2 i (0 : Fin 1) by idx_ext, val_main_v24_apply,
    square_apply x4 x5 x6 x7, Ideal.hostUnary_rsqrt_def, val_main_v27_apply, show idx_main_v27 (ix2 i d) = ix2 (0 : Fin 1) d by idx_ext]
  rfl

theorem y_apply (i : Fin 8448) (j : Fin 2048) : val_main_v29 (F := Ideal) x4 x5 x6 (ix2 i j) = (upOf x4 x5 x6 x7).y i j := by
  rw [val_main_v29_apply]
  refine Finset.sum_congr (g := fun k => (upOf x4 x5 x6 x7).h i k * x6 (ix2 k j)) rfl fun k _ => ?_
  rw [show lidx_main_v29 (ix2 i j) k = ix2 i k by idx_ext, show ridx_main_v29 (ix2 i j) k = ix2 k j by idx_ext, h_apply x4 x5 x6 x7]

theorem dh_apply (i : Fin 8448) (d : Fin 256) : val_main_v32 (F := Ideal) x6 x7 (ix2 i d) = (upOf x4 x5 x6 x7).dh i d := by
  rw [val_main_v32_apply]
  refine Finset.sum_congr (g := fun k => x7 (ix2 i k) * x6 (ix2 d k)) rfl fun k _ => ?_
  rw [show lidx_main_v32 (ix2 i d) k = ix2 i k by idx_ext, show ridx_main_v32 (ix2 i d) k = ix2 d k by idx_ext]

theorem dw_apply (d : Fin 256) (j : Fin 2048) : val_main_v33 (F := Ideal) x4 x5 x7 (ix2 d j) = (upOf x4 x5 x6 x7).dw d j := by
  have e : val_main_v31 (F := Ideal) x4 x5 x7 (ix2 d j) = ∑ k, (upOf x4 x5 x6 x7).h k d * x7 (ix2 k j) := by
    rw [val_main_v31_apply, show idx_main_v31 (ix2 d j) = ix2 j d by idx_ext, val_main_v30_apply]
    refine Finset.sum_congr rfl fun k _ => ?_
    rw [show lidx_main_v30 (ix2 j d) k = ix2 k j by idx_ext, show ridx_main_v30 (ix2 j d) k = ix2 k d by idx_ext, h_apply x4 x5 x6 x7, mul_comm]
  rw [val_main_v33_apply, e]
  rfl

end Kv

end Cert.Reference5Ideal.Value

end
-- ==== Proof.UpReferenceRun.lean ====
/-
  THE UP-PROJECTIONS' REFERENCE'S RUN. Its composed terms are the products and their gradients.
-/
module

public import proofs.«01_k».proof.Proof.UpReferenceValue
public import proofs.«01_k».proof.Proof.Gen.Reference5Ideal.Run

@[expose] public section

set_option maxRecDepth 16384

noncomputable section

namespace Cert.Reference5Ideal.Value

open Cert.Reference5Ideal Cert.Reference5Ideal.Gen Cert.Reference5Ideal.Read Idealize.ShloMosaic Idealize.ShloMosaic.TcCoe Idealize.SL.Sem
open Cert.FeedForward

variable (m : (ℓ : Loc nD τ sig) → Buf (Elt Ideal) ℓ) (ρ : Dev nD → PrngReg) (q : Dev nD → UpArgs 8192 512 1536) (kv : Dev nD → UpArgs 8448 256 2048)

set_option maxHeartbeats 1600000 in
theorem run_value
    (hq : ∀ c : Dev nD, q c = upOf (m ((c : Thread nD τ).loc main_arg0)) (m ((c : Thread nD τ).loc main_arg1)) (m ((c : Thread nD τ).loc main_arg2)) (m ((c : Thread nD τ).loc main_arg3)))
    (hkv : ∀ c : Dev nD, kv c = upOf (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ (fun r => ∀ c : Dev nD,
      r.2.mem ((c.tc : Thread nD τ).loc main_v12) = (fun i => (q c).y (i 0) (i 1))
      ∧ r.2.mem ((c.tc : Thread nD τ).loc main_v15) = (fun i => (q c).dh (i 0) (i 1))
      ∧ r.2.mem ((c.tc : Thread nD τ).loc main_v16) = (fun i => (q c).dw (i 0) (i 1))
      ∧ r.2.mem ((c.tc : Thread nD τ).loc main_v29) = (fun i => (kv c).y (i 0) (i 1))
      ∧ r.2.mem ((c.tc : Thread nD τ).loc main_v32) = (fun i => (kv c).dh (i 0) (i 1))
      ∧ r.2.mem ((c.tc : Thread nD τ).loc main_v33) = (fun i => (kv c).dw (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m ρ)
  obtain ⟨h0, h1, h2, h3, h4, h5, ha⟩ := h c
  rw [hq c, hkv c]
  refine ⟨(h0.trans (val_main_v12_eq _ _ _)).trans (funext fun i => ?_),
    (h1.trans (val_main_v15_eq _ _)).trans (funext fun i => ?_),
    (h2.trans (val_main_v16_eq _ _ _)).trans (funext fun i => ?_),
    (h3.trans (val_main_v29_eq _ _ _)).trans (funext fun i => ?_),
    (h4.trans (val_main_v32_eq _ _)).trans (funext fun i => ?_),
    (h5.trans (val_main_v33_eq _ _ _)).trans (funext fun i => ?_), ha⟩
  · rw [eq_ix2 i]; exact Q.y_apply _ _ _ _ _ _
  · rw [eq_ix2 i]; exact Q.dh_apply _ _ _ _ _ _
  · rw [eq_ix2 i]; exact Q.dw_apply _ _ _ _ _ _
  · rw [eq_ix2 i]; exact Kv.y_apply _ _ _ _ _ _
  · rw [eq_ix2 i]; exact Kv.dh_apply _ _ _ _ _ _
  · rw [eq_ix2 i]; exact Kv.dw_apply _ _ _ _ _ _

end Cert.Reference5Ideal.Value

end
-- ==== Proof.NormStep.lean ====
/-
  A NORM'S GRADIENT, over the extended reals: from what comes in at the rows normed and gained, back to the rows and to the gain.
  `jax.vjp` writes a row's gradient as three terms, the kernel as one product; they are the same whatever the entries are. A row's
  mean square is at least the constant added, so its factor is a positive real, by which a sum may be multiplied term by term, or,
  where the square is infinite, it is zero, and all terms are.
-/
module

public import proofs.«01_k».proof.Proof.UpStep

@[expose] public section

noncomputable section

open Idealize.ShloMosaic

namespace Cert.FeedForward

/-- The arguments of one: `n` rows of width `k`, the gain, and the gradient that comes in. -/
structure NormArgs (n k : ℕ) where
  e : Fin n → Fin k → EReal
  x : Fin n → Fin k → EReal
  gain : Fin k → EReal

/-- The arguments as the arrays have them. -/
def normOf {n k : ℕ} (e x : Shape.Idx ⟨2, ![n, k]⟩ → EReal) (g : Shape.Idx ⟨2, ![1, k]⟩ → EReal) : NormArgs n k where
  e i d := e (ix2 i d)
  x i d := x (ix2 i d)
  gain d := g (ix2 (0 : Fin 1) d)

namespace NormArgs
variable {n k : ℕ} (a : NormArgs n k)

/-- A row's mean square, the constant added, and its factor. -/
def square (i : Fin n) : EReal := Ideal.div (∑ d, a.x i d * a.x i d) ((k : ℝ) : EReal) + ((eps : ℝ) : EReal)
def factor (i : Fin n) : EReal := Ideal.rsqrt (a.square i)

/-- What comes in at the rows normed, and the rows' gradient. -/
def dy (i : Fin n) (d : Fin k) : EReal := a.e i d * a.gain d
def dx (i : Fin n) (d : Fin k) : EReal :=
  a.factor i * (a.dy i d - a.x i d * a.factor i * Ideal.div (∑ j, a.dy i j * (a.x i j * a.factor i)) ((k : ℝ) : EReal))

/-- A row's part of the gain's gradient. -/
def part (i : Fin n) (d : Fin k) : EReal := a.e i d * (a.x i d * a.factor i)

/-- What comes in at a row's sum of squares, as `jax.vjp` has it. -/
def back (i : Fin n) : EReal :=
  Ideal.div ((∑ j, a.x i j * a.dy i j) * (((-(1 / 2) : ℝ) : EReal) * Ideal.div (a.factor i) (a.square i))) ((k : ℝ) : EReal)

end NormArgs

theorem sum_mul_real {k : ℕ} (f : Fin k → EReal) {r : ℝ} (hr : 0 ≤ r) : ∑ j, f j * (r : EReal) = (∑ j, f j) * (r : EReal) := by
  classical
  have : ∀ s : Finset (Fin k), ∑ j ∈ s, f j * (r : EReal) = (∑ j ∈ s, f j) * (r : EReal) := fun s => by
    induction s using Finset.induction_on with
    | empty => simp
    | insert j s hj ih =>
      rw [Finset.sum_insert hj, Finset.sum_insert hj, ih,
        EReal.right_distrib_of_nonneg_of_ne_top (EReal.coe_nonneg.mpr hr) (EReal.coe_ne_top r)]
  exact this _

theorem add_self (z : EReal) : z + z = z * ((2 : ℝ) : EReal) := by
  induction z with
  | bot => rw [EReal.bot_mul_coe_of_pos (by norm_num)]; rfl
  | top => rw [EReal.top_mul_coe_of_pos (by norm_num)]; rfl
  | coe z => rw [← EReal.coe_add, ← EReal.coe_mul, mul_two]

theorem mul_self_nonneg (z : EReal) : 0 ≤ z * z := by
  induction z with
  | bot => rw [EReal.bot_mul_bot]; exact le_top
  | top => rw [EReal.top_mul_top]; exact le_top
  | coe z => rw [← EReal.coe_mul]; exact EReal.coe_nonneg.mpr (_root_.mul_self_nonneg z)

namespace NormArgs
variable {n k : ℕ} (a : NormArgs n k)

/-- A row's square is infinite or a positive real. -/
theorem square_cases (hk : k ≠ 0) (i : Fin n) : a.square i = ⊤ ∨ ∃ v : ℝ, 0 < v ∧ a.square i = (v : EReal) := by
  have hk' : (0 : ℝ) < k := by exact_mod_cast Nat.pos_of_ne_zero hk
  have h0 : 0 ≤ Ideal.div (∑ d, a.x i d * a.x i d) ((k : ℝ) : EReal) := by
    rw [Ideal.div_coe hk'.ne']
    exact mul_nonneg (Finset.sum_nonneg fun d _ => mul_self_nonneg _) (EReal.coe_nonneg.mpr (by positivity))
  have he : (0 : ℝ) < eps := by unfold eps; norm_num
  unfold square
  induction h : Ideal.div (∑ d, a.x i d * a.x i d) ((k : ℝ) : EReal) with
  | bot => rw [h] at h0; exact absurd h0 (by simp)
  | top => exact Or.inl (EReal.top_add_coe _)
  | coe v =>
    rw [h] at h0
    exact Or.inr ⟨v + eps, add_pos_of_nonneg_of_pos (EReal.coe_nonneg.mp h0) he, (EReal.coe_add _ _).symm⟩

/-- The three terms that `jax.vjp` adds up are the kernel's product. -/
theorem dx_eq (hk : k ≠ 0) (i : Fin n) (d : Fin k) :
    a.dy i d * a.factor i + a.x i d * a.back i + a.back i * a.x i d = a.dx i d := by
  have hk' : (k : ℝ) ≠ 0 := by exact_mod_cast hk
  rw [mul_comm (a.back i), add_assoc, add_self]
  rcases a.square_cases hk i with h | ⟨v, hv, h⟩
  · have hf : a.factor i = 0 := by unfold factor; rw [h, Ideal.rsqrt_top]
    have hb : a.back i = 0 := by
      unfold back
      rw [hf, Ideal.div_coe hk', h]
      simp [Ideal.div]
    unfold dx
    rw [hf, hb]
    simp
  · have hs : 0 < Real.sqrt v := Real.sqrt_pos.mpr hv
    have hf : a.factor i = (((Real.sqrt v)⁻¹ : ℝ) : EReal) := by
      unfold factor; rw [h, Ideal.rsqrt_coe, if_neg hv.not_gt, if_neg hv.ne']
    have hr : 0 ≤ (Real.sqrt v)⁻¹ := by positivity
    have hsum : ∑ j, a.dy i j * (a.x i j * a.factor i) = (∑ j, a.x i j * a.dy i j) * (((Real.sqrt v)⁻¹ : ℝ) : EReal) := by
      rw [← sum_mul_real _ hr, hf]
      exact Finset.sum_congr rfl fun j _ => by rw [← mul_assoc, mul_comm (a.dy i j)]
    unfold dx back
    rw [hsum, hf, h, Ideal.div_coe hk', Ideal.div_coe hk', Ideal.div_coe hv.ne', sub_eq_add_neg,
      EReal.left_distrib_of_nonneg_of_ne_top (EReal.coe_nonneg.mpr hr) (EReal.coe_ne_top _), mul_comm (a.dy i d)]
    generalize ∑ j, a.x i j * a.dy i j = P
    have hc : (((-(1 / 2) : ℝ) : EReal) * ((((Real.sqrt v)⁻¹ : ℝ) : EReal) * ((1 / v : ℝ) : EReal))) * ((2 : ℝ) : EReal)
        = -((((Real.sqrt v)⁻¹ : ℝ) : EReal) * (((Real.sqrt v)⁻¹ : ℝ) : EReal) * (((Real.sqrt v)⁻¹ : ℝ) : EReal)) := by
      simp only [← EReal.coe_mul, ← EReal.coe_neg]
      congr 1
      have hv' : v = Real.sqrt v * Real.sqrt v := (Real.mul_self_sqrt hv.le).symm
      generalize Real.sqrt v = s at *
      subst hv'
      field_simp
    generalize (((Real.sqrt v)⁻¹ : ℝ) : EReal) = r at *
    generalize ((1 / (k : ℝ) : ℝ) : EReal) = q at *
    congr 1
    calc a.x i d * (P * (((-(1 / 2) : ℝ) : EReal) * (r * ((1 / v : ℝ) : EReal))) * q) * ((2 : ℝ) : EReal)
        = a.x i d * P * q * ((((-(1 / 2) : ℝ) : EReal) * (r * ((1 / v : ℝ) : EReal))) * ((2 : ℝ) : EReal)) := by ac_rfl
      _ = -(a.x i d * P * q * (r * r * r)) := by rw [hc, mul_neg]
      _ = -(r * (a.x i d * r * (P * r * q))) := by congr 1; ac_rfl
      _ = r * -(a.x i d * r * (P * r * q)) := by rw [mul_neg]

end NormArgs

end Cert.FeedForward

end
-- ==== Proof.NormBackBody.lean ====
/-
  WHAT A POINT OF THE UP-PROJECTIONS' NORMS, GOING BACK, LEAVES IN ITS OUTPUT BLOCKS: the gradient of its 256 rows, and the gain's row
  with the rows' parts added.
-/
module

public import proofs.«01_k».proof.Proof.Gen.Kernel6Ideal.Frame
public import proofs.«01_k».proof.Proof.NormStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.FeedForward

variable (c : Dev nD)

namespace QBack

section
variable (i : grid0.Coords) (arg1 : Memref sig .tc .vmem S256x512 .f32) (harg1 : arg1.IsWhole) (arg2 : Memref sig .tc .vmem S256x512 .f32) (harg2 :
  arg2.IsWhole)
  (arg3 : Memref sig .tc .vmem S1x512 .f32) (harg3 : arg3.IsWhole) (arg4 : Memref sig .tc .vmem S1x1x512 .f32) (harg4 : arg4.IsWhole)
  (arg5 : Memref sig .tc .vmem S1x1x512 .f32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S1x1x512 .f32) (harg8 : arg8.IsWhole)
  (arg9 : Memref sig .tc .vmem S1x1x512 .f32) (harg9 : arg9.IsWhole)
variable (e x : Vec Ideal S256x512 .f32) (g : Vec Ideal S1x512 .f32) (sh sc : Vec Ideal S1x1x512 .f32) (s6 : Vec Ideal S1x512 .f32)
  (s7 s8 : Vec Ideal S1x1x512 .f32) (a : NormArgs 8192 512) (at_ : Fin 256 → Fin 8192)
variable (he : ∀ r d, e (ix2 r d) = a.e (at_ r) d) (hx : ∀ r d, x (ix2 r d) = a.x (at_ r) d) (hg : ∀ d, g (ix2 (0 : Fin 1) d) = a.gain d)
  (hsc : ∀ d, sc (ix3 (0 : Fin 1) (0 : Fin 1) d) = 0)

include he hx hg hsc

theorem rows_first (hc : cond0_0 i) (hc' : cond0_1 i) (r : Fin 256) (d : Fin 512) :
    out0_A_5 (F := Ideal) c i arg1 harg1 arg2 harg2 arg3 harg3 arg4 harg4 arg5 harg5 arg6 harg6 arg7 harg7 arg8 harg8 arg9 harg9 hc hc' e x g sh sc (ix2 r d)
      = a.dx (at_ r) d := by
  frame_open
  frame_out
  open_payloads
  pointwise [he, hx, hg, hsc, ofBits_512, ofBits_eps, ofBits_one, EReal.coe_one]
  simp only [NormArgs.dx, NormArgs.dy, NormArgs.factor, NormArgs.square]

theorem rows_next (hc : ¬cond0_0 i) (hc' : ¬cond0_1 i) (r : Fin 256) (d : Fin 512) :
    out0_B_5 (F := Ideal) c i arg1 harg1 arg2 harg2 arg3 harg3 arg4 harg4 arg5 harg5 arg6 harg6 arg7 harg7 arg8 harg8 arg9 harg9 hc hc' e x g sh sc s6 s7 s8
      (ix2 r d)
      = a.dx (at_ r) d := by
  frame_open
  frame_out
  open_payloads
  pointwise [he, hx, hg, hsc, ofBits_512, ofBits_eps, ofBits_one, EReal.coe_one]
  simp only [NormArgs.dx, NormArgs.dy, NormArgs.factor, NormArgs.square]

omit hg in
/-- At the first point the gain's row starts from zero, at the others from what the point before left. -/
theorem gain_first (hc : cond0_0 i) (hc' : cond0_1 i) (d : Fin 512) :
    out0_A_6 (F := Ideal) c i arg1 harg1 arg2 harg2 arg3 harg3 arg4 harg4 arg5 harg5 arg6 harg6 arg7 harg7 arg8 harg8 arg9 harg9 hc hc' e x g sh sc (ix2 (0 :
      Fin 1) d)
      = 0 + ∑ r, a.part (at_ r) d := by
  frame_open
  simp (disch := decide) only [↓ View.readCov_skip, ↓ View.readCov_cons_toLoadRect, ↓ View.readCov_fill]
  frame_out
  open_payloads
  pointwise [he, hx, hsc, ofBits_512, ofBits_eps, ofBits_one, EReal.coe_one]
  simp only [NormArgs.part, NormArgs.factor, NormArgs.square]

omit hg in
theorem gain_next (hc : ¬cond0_0 i) (hc' : ¬cond0_1 i) (d : Fin 512) :
    out0_B_6 (F := Ideal) c i arg1 harg1 arg2 harg2 arg3 harg3 arg4 harg4 arg5 harg5 arg6 harg6 arg7 harg7 arg8 harg8 arg9 harg9 hc hc' e x g sh sc s6 s7 s8
      (ix2 (0 : Fin 1) d)
      = s6 (ix2 (0 : Fin 1) d) + ∑ r, a.part (at_ r) d := by
  frame_open
  simp (disch := decide) only [↓ View.readCov_skip, ↓ View.readCov_cons_toLoadRect, ↓ View.readCov_fill]
  frame_out
  open_payloads
  pointwise [he, hx, hsc, ofBits_512, ofBits_eps, ofBits_one, EReal.coe_one]
  simp only [NormArgs.part, NormArgs.factor, NormArgs.square]

end

end QBack

namespace KvBack

section
variable (i : grid1.Coords) (arg1 : Memref sig .tc .vmem S256x256 .f32) (harg1 : arg1.IsWhole) (arg2 : Memref sig .tc .vmem S256x256 .f32) (harg2 :
  arg2.IsWhole)
  (arg3 : Memref sig .tc .vmem S1x256 .f32) (harg3 : arg3.IsWhole) (arg4 : Memref sig .tc .vmem S1x1x256 .f32) (harg4 : arg4.IsWhole)
  (arg5 : Memref sig .tc .vmem S1x1x256 .f32) (harg5 : arg5.IsWhole) (arg6 : Memref sig .tc .vmem S256x256 .f32) (harg6 : arg6.IsWhole)
  (arg7 : Memref sig .tc .vmem S1x256 .f32) (harg7 : arg7.IsWhole) (arg8 : Memref sig .tc .vmem S1x1x256 .f32) (harg8 : arg8.IsWhole)
  (arg9 : Memref sig .tc .vmem S1x1x256 .f32) (harg9 : arg9.IsWhole)
variable (e x : Vec Ideal S256x256 .f32) (g : Vec Ideal S1x256 .f32) (sh sc : Vec Ideal S1x1x256 .f32) (s6 : Vec Ideal S1x256 .f32)
  (s7 s8 : Vec Ideal S1x1x256 .f32) (a : NormArgs 8448 256) (at_ : Fin 256 → Fin 8448)
variable (he : ∀ r d, e (ix2 r d) = a.e (at_ r) d) (hx : ∀ r d, x (ix2 r d) = a.x (at_ r) d) (hg : ∀ d, g (ix2 (0 : Fin 1) d) = a.gain d)
  (hsc : ∀ d, sc (ix3 (0 : Fin 1) (0 : Fin 1) d) = 0)

include he hx hg hsc

theorem rows_first (hc : cond1_0 i) (hc' : cond1_1 i) (r : Fin 256) (d : Fin 256) :
    out1_A_5 (F := Ideal) c i arg1 harg1 arg2 harg2 arg3 harg3 arg4 harg4 arg5 harg5 arg6 harg6 arg7 harg7 arg8 harg8 arg9 harg9 hc hc' e x g sh sc (ix2 r d)
      = a.dx (at_ r) d := by
  frame_open
  frame_out
  open_payloads
  pointwise [he, hx, hg, hsc, ofBits_256, ofBits_eps, ofBits_one, EReal.coe_one]
  simp only [NormArgs.dx, NormArgs.dy, NormArgs.factor, NormArgs.square]

theorem rows_next (hc : ¬cond1_0 i) (hc' : ¬cond1_1 i) (r : Fin 256) (d : Fin 256) :
    out1_B_5 (F := Ideal) c i arg1 harg1 arg2 harg2 arg3 harg3 arg4 harg4 arg5 harg5 arg6 harg6 arg7 harg7 arg8 harg8 arg9 harg9 hc hc' e x g sh sc s6 s7 s8
      (ix2 r d)
      = a.dx (at_ r) d := by
  frame_open
  frame_out
  open_payloads
  pointwise [he, hx, hg, hsc, ofBits_256, ofBits_eps, ofBits_one, EReal.coe_one]
  simp only [NormArgs.dx, NormArgs.dy, NormArgs.factor, NormArgs.square]

omit hg in
/-- At the first point the gain's row starts from zero, at the others from what the point before left. -/
theorem gain_first (hc : cond1_0 i) (hc' : cond1_1 i) (d : Fin 256) :
    out1_A_6 (F := Ideal) c i arg1 harg1 arg2 harg2 arg3 harg3 arg4 harg4 arg5 harg5 arg6 harg6 arg7 harg7 arg8 harg8 arg9 harg9 hc hc' e x g sh sc (ix2 (0 :
      Fin 1) d)
      = 0 + ∑ r, a.part (at_ r) d := by
  frame_open
  simp (disch := decide) only [↓ View.readCov_skip, ↓ View.readCov_cons_toLoadRect, ↓ View.readCov_fill]
  frame_out
  open_payloads
  pointwise [he, hx, hsc, ofBits_256, ofBits_eps, ofBits_one, EReal.coe_one]
  simp only [NormArgs.part, NormArgs.factor, NormArgs.square]

omit hg in
theorem gain_next (hc : ¬cond1_0 i) (hc' : ¬cond1_1 i) (d : Fin 256) :
    out1_B_6 (F := Ideal) c i arg1 harg1 arg2 harg2 arg3 harg3 arg4 harg4 arg5 harg5 arg6 harg6 arg7 harg7 arg8 harg8 arg9 harg9 hc hc' e x g sh sc s6 s7 s8
      (ix2 (0 : Fin 1) d)
      = s6 (ix2 (0 : Fin 1) d) + ∑ r, a.part (at_ r) d := by
  frame_open
  simp (disch := decide) only [↓ View.readCov_skip, ↓ View.readCov_cons_toLoadRect, ↓ View.readCov_fill]
  frame_out
  open_payloads
  pointwise [he, hx, hsc, ofBits_256, ofBits_eps, ofBits_one, EReal.coe_one]
  simp only [NormArgs.part, NormArgs.factor, NormArgs.square]

end

end KvBack

end Cert.Kernel6Ideal.Value

end
-- ==== Proof.NormBack.lean ====
/-
  THE UP-PROJECTIONS' NORMS, GOING BACK: each point takes 256 rows, writes their gradient, and adds the rows' parts of the gain's
  gradient to a row that stays in place from point to point. The modulation that the call has is zero.
-/
module

public import proofs.«01_k».proof.Proof.NormBackBody
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.FeedForward

variable (V : (c : Dev nD) → (b : Ref sig .tc) → Buf (Elt Ideal) ((c : Thread nD τ).loc b)) (c : Dev nD)

namespace QBack

theorem idx : ∀ t : Fin cfg0.N, win0_0.index t = ![t.val, 0] ∧ win0_1.index t = ![t.val, 0] ∧ win0_2.index t = ![0, 0]
    ∧ win0_4.index t = ![0, 0, 0] ∧ win0_5.index t = ![t.val, 0] ∧ win0_6.index t = ![0, 0] :=
  (by decide +kernel : ∀ t : Fin grid0.N, _)

variable (a : NormArgs 8192 512)
variable (he : ∀ i d, V c main_arg0 (ix2 i d) = a.e i d) (hx : ∀ i d, V c main_arg1 (ix2 i d) = a.x i d)
  (hg : ∀ d, V c main_arg2 (ix2 (0 : Fin 1) d) = a.gain d) (hz : ∀ d, V c main_v0 (ix3 (0 : Fin 1) (0 : Fin 1) d) = (0 : EReal))

theorem point (t : Fin cfg0.N) : t.val < 32 := lt_of_lt_of_eq t.isLt N_0

/-- A point's rows of the whole. -/
abbrev row (t : Fin cfg0.N) (r : Fin 256) : Fin 8192 := ⟨t.val * 256 + r.val, by have := point t; omega⟩

include he in
theorem block_e (t : Fin cfg0.N) (r : Fin 256) (d : Fin 512) : iblk0 V c 0 t (ix2 r d) = a.e (row t r) d := by
  refine Eq.trans ?_ (he _ _)
  blk_point [iblk0, idx t]

include hx in
theorem block_x (t : Fin cfg0.N) (r : Fin 256) (d : Fin 512) : iblk0 V c 1 t (ix2 r d) = a.x (row t r) d := by
  refine Eq.trans ?_ (hx _ _)
  blk_point [iblk0, idx t]

include hg in
theorem block_g (t : Fin cfg0.N) (d : Fin 512) : iblk0 V c 2 t (ix2 (0 : Fin 1) d) = a.gain d := by
  refine Eq.trans ?_ (hg _)
  blk_point [iblk0, idx t]

include hz in
theorem block_sc (t : Fin cfg0.N) (d : Fin 512) : iblk0 V c 4 t (ix3 (0 : Fin 1) (0 : Fin 1) d) = (0 : EReal) := by
  refine Eq.trans ?_ (hz d)
  blk_point [iblk0, idx t]

include he hx hg hz in
theorem rows : (dat0 V c).arrAt 5 cfg0.N = fun i => a.dx (i 0) (i 1) := by
  refine (dat0 V c).arrAt_eq_of_covers 5 _ (by decide +kernel) fun t hf y => ?_
  blk_simp
  rw [after0_5]
  obtain ⟨r, d, rfl⟩ : ∃ (r : Fin 256) (d : Fin 512), y = ix2 r d := ⟨y 0, y 1, eq_ix2 y⟩
  generalize hz' : ((View.whole main_v1_0).slice (win0_5.rect t)).emb (ix2 r d) = z
  have h0 : z 0 = row t r := Fin.ext (by subst hz'; blk_simp [idx t])
  have h1 : z 1 = d := Fin.ext (by subst hz'; blk_simp [idx t])
  rw [h0, h1]
  by_cases h : t.val % 32 = 0
  · rw [outsAt0_A V c t h h]
    dsimp only
    rw [rows_first (he := block_e V c a he t) (hx := block_x V c a hx t) (hg := block_g V c a hg t) (hsc := block_sc V c hz t)]
  · rw [outsAt0_B V c t h h]
    dsimp only
    rw [rows_next (he := block_e V c a he t) (hx := block_x V c a hx t) (hg := block_g V c a hg t) (hsc := block_sc V c hz t)]

include he hx hz in
theorem gain : (dat0 V c).arrAt 6 cfg0.N = fun i => ∑ r, a.part r (i 1) := by
  refine (dat0 V c).arrAt_eq_of_covers 6 _ (by decide +kernel) fun t hf y => ?_
  blk_simp
  rw [after0_6, Pipeline.eq_sum_fin_of_reset_step_apply_of_flush (fun n h => (outsAt0 V c n h).2.1) 32 (fun _ => (0 : EReal))
    (fun t y => ∑ r, a.part (row t r) (y 1))
    (fun t h y => by
      obtain ⟨d, rfl⟩ := exists_row2 y
      rw [outsAt0_A V c t h h]
      dsimp only
      rw [gain_first (he := block_e V c a he t) (hx := block_x V c a hx t) (hsc := block_sc V c hz t)]
      rfl)
    (fun t h y => by
      obtain ⟨d, rfl⟩ := exists_row2 y
      rw [outsAt0_B V c t h h]
      dsimp only
      rw [gain_next (he := block_e V c a he t) (hx := block_x V c a hx t) (hsc := block_sc V c hz t)]
      rfl)
    t ((flush0_6 t).mp hf) _]
  show (0 : EReal) + ∑ s : Fin 32, _ = _
  rw [zero_add]
  generalize hz' : ((View.whole main_v1_1).slice (win0_6.rect t)).emb y = z
  have h1 : z 1 = y 1 := Fin.ext (by subst hz'; blk_simp [idx t])
  rw [h1]
  have ht := point t
  refine (Finset.sum_congr rfl fun s _ => Finset.sum_congr rfl fun r _ => ?_).trans (Fin.sum_univ_tiles 32 256 rfl fun i => a.part i (y 1)).symm
  congr 1
  exact Fin.ext (by show (32 * (t.val / 32) + s.val) * 256 + r.val = s.val * 256 + r.val; omega)

end QBack

namespace KvBack

theorem idx : ∀ t : Fin cfg1.N, win1_0.index t = ![t.val, 0] ∧ win1_1.index t = ![t.val, 0] ∧ win1_2.index t = ![0, 0]
    ∧ win1_4.index t = ![0, 0, 0] ∧ win1_5.index t = ![t.val, 0] ∧ win1_6.index t = ![0, 0] :=
  (by decide +kernel : ∀ t : Fin grid1.N, _)

variable (a : NormArgs 8448 256)
variable (he : ∀ i d, V c main_arg3 (ix2 i d) = a.e i d) (hx : ∀ i d, V c main_arg4 (ix2 i d) = a.x i d)
  (hg : ∀ d, V c main_arg5 (ix2 (0 : Fin 1) d) = a.gain d) (hz : ∀ d, V c main_v2 (ix3 (0 : Fin 1) (0 : Fin 1) d) = (0 : EReal))

theorem point (t : Fin cfg1.N) : t.val < 33 := lt_of_lt_of_eq t.isLt N_1

/-- A point's rows of the whole. -/
abbrev row (t : Fin cfg1.N) (r : Fin 256) : Fin 8448 := ⟨t.val * 256 + r.val, by have := point t; omega⟩

include he in
theorem block_e (t : Fin cfg1.N) (r : Fin 256) (d : Fin 256) : iblk1 V c 0 t (ix2 r d) = a.e (row t r) d := by
  refine Eq.trans ?_ (he _ _)
  blk_point [iblk1, idx t]

include hx in
theorem block_x (t : Fin cfg1.N) (r : Fin 256) (d : Fin 256) : iblk1 V c 1 t (ix2 r d) = a.x (row t r) d := by
  refine Eq.trans ?_ (hx _ _)
  blk_point [iblk1, idx t]

include hg in
theorem block_g (t : Fin cfg1.N) (d : Fin 256) : iblk1 V c 2 t (ix2 (0 : Fin 1) d) = a.gain d := by
  refine Eq.trans ?_ (hg _)
  blk_point [iblk1, idx t]

include hz in
theorem block_sc (t : Fin cfg1.N) (d : Fin 256) : iblk1 V c 4 t (ix3 (0 : Fin 1) (0 : Fin 1) d) = (0 : EReal) := by
  refine Eq.trans ?_ (hz d)
  blk_point [iblk1, idx t]

include he hx hg hz in
theorem rows : (dat1 V c).arrAt 5 cfg1.N = fun i => a.dx (i 0) (i 1) := by
  refine (dat1 V c).arrAt_eq_of_covers 5 _ (by decide +kernel) fun t hf y => ?_
  blk_simp
  rw [after1_5]
  obtain ⟨r, d, rfl⟩ : ∃ (r : Fin 256) (d : Fin 256), y = ix2 r d := ⟨y 0, y 1, eq_ix2 y⟩
  generalize hz' : ((View.whole main_v3_0).slice (win1_5.rect t)).emb (ix2 r d) = z
  have h0 : z 0 = row t r := Fin.ext (by subst hz'; blk_simp [idx t])
  have h1 : z 1 = d := Fin.ext (by subst hz'; blk_simp [idx t])
  rw [h0, h1]
  by_cases h : t.val % 33 = 0
  · rw [outsAt1_A V c t h h]
    dsimp only
    rw [rows_first (he := block_e V c a he t) (hx := block_x V c a hx t) (hg := block_g V c a hg t) (hsc := block_sc V c hz t)]
  · rw [outsAt1_B V c t h h]
    dsimp only
    rw [rows_next (he := block_e V c a he t) (hx := block_x V c a hx t) (hg := block_g V c a hg t) (hsc := block_sc V c hz t)]

include he hx hz in
theorem gain : (dat1 V c).arrAt 6 cfg1.N = fun i => ∑ r, a.part r (i 1) := by
  refine (dat1 V c).arrAt_eq_of_covers 6 _ (by decide +kernel) fun t hf y => ?_
  blk_simp
  rw [after1_6, Pipeline.eq_sum_fin_of_reset_step_apply_of_flush (fun n h => (outsAt1 V c n h).2.1) 33 (fun _ => (0 : EReal))
    (fun t y => ∑ r, a.part (row t r) (y 1))
    (fun t h y => by
      obtain ⟨d, rfl⟩ := exists_row2 y
      rw [outsAt1_A V c t h h]
      dsimp only
      rw [gain_first (he := block_e V c a he t) (hx := block_x V c a hx t) (hsc := block_sc V c hz t)]
      rfl)
    (fun t h y => by
      obtain ⟨d, rfl⟩ := exists_row2 y
      rw [outsAt1_B V c t h h]
      dsimp only
      rw [gain_next (he := block_e V c a he t) (hx := block_x V c a hx t) (hsc := block_sc V c hz t)]
      rfl)
    t ((flush1_6 t).mp hf) _]
  show (0 : EReal) + ∑ s : Fin 33, _ = _
  rw [zero_add]
  generalize hz' : ((View.whole main_v3_1).slice (win1_6.rect t)).emb y = z
  have h1 : z 1 = y 1 := Fin.ext (by subst hz'; blk_simp [idx t])
  rw [h1]
  have ht := point t
  refine (Finset.sum_congr rfl fun s _ => Finset.sum_congr rfl fun r _ => ?_).trans (Fin.sum_univ_tiles 33 256 rfl fun i => a.part i (y 1)).symm
  congr 1
  exact Fin.ext (by show (33 * (t.val / 33) + s.val) * 256 + r.val = s.val * 256 + r.val; omega)

end KvBack

end Cert.Kernel6Ideal.Value

end
-- ==== Proof.NormKernelRun.lean ====
/-
  THE NORMS' GRADIENTS' RUN. Every execution ends with the gradients of the rows and of the gains, the queries' and then the keys' and
  values': two calls, one after the other.
-/
module

public import proofs.«01_k».proof.Proof.NormBack

@[expose] public section

set_option maxRecDepth 16384

noncomputable section

namespace Cert.Kernel6Ideal.Value

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FeedForward

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-! ## The arguments -/

/-- The queries' arguments, and the keys' and values'. -/
def q (c : Dev nD) : NormArgs 8192 512 :=
  normOf (m ((c : Thread nD τ).loc main_arg0)) (m ((c : Thread nD τ).loc main_arg1)) (m ((c : Thread nD τ).loc main_arg2))
def kv (c : Dev nD) : NormArgs 8448 256 :=
  normOf (m ((c : Thread nD τ).loc main_arg3)) (m ((c : Thread nD τ).loc main_arg4)) (m ((c : Thread nD τ).loc main_arg5))

variable {m} (c : Dev nD)

/-! ## The zeros of the modulation -/

theorem V1_zero (d : Fin 512) : V1 m ρ c main_v0 (ix3 (0 : Fin 1) (0 : Fin 1) d) = (0 : EReal) := by
  have e : V1 m ρ c main_v0 (ix3 (0 : Fin 1) (0 : Fin 1) d) = Ideal.ofBits .f32 0x00000000#32 := by
    show StableHlo.after hostOps0 _ _ _ = _
    after_results
    rfl
  exact e.trans (Ideal.ofBits_zero .f32)
theorem V3_zero (d : Fin 256) : V3 m ρ c main_v2 (ix3 (0 : Fin 1) (0 : Fin 1) d) = (0 : EReal) := by
  have e : V3 m ρ c main_v2 (ix3 (0 : Fin 1) (0 : Fin 1) d) = Ideal.ofBits .f32 0x00000000#32 := by
    show StableHlo.after hostOps1 _ _ _ = _
    after_results
    rfl
  exact e.trans (Ideal.ofBits_zero .f32)

/-! ## The calls in turn -/

theorem q_rows : V2 m ρ c main_v1_0 = fun i => (q m c).dx (i 0) (i 1) :=
  (W2_arr m ρ c 5).trans (QBack.rows (V1 m ρ) c (q m c) (fun _ _ => congrFun (W1_args m ρ c main_arg0 (by decide)) _)
    (fun _ _ => congrFun (W1_args m ρ c main_arg1 (by decide)) _) (fun _ => congrFun (W1_args m ρ c main_arg2 (by decide)) _) (V1_zero ρ c))
theorem q_gain : V2 m ρ c main_v1_1 = fun i => ∑ r, (q m c).part r (i 1) :=
  (W2_arr m ρ c 6).trans (QBack.gain (V1 m ρ) c (q m c) (fun _ _ => congrFun (W1_args m ρ c main_arg0 (by decide)) _)
    (fun _ _ => congrFun (W1_args m ρ c main_arg1 (by decide)) _) (V1_zero ρ c))
theorem kv_rows : V4 m ρ c main_v3_0 = fun i => (kv m c).dx (i 0) (i 1) :=
  (W4_arr m ρ c 5).trans (KvBack.rows (V3 m ρ) c (kv m c) (fun _ _ => congrFun (W3_args m ρ c main_arg3 (by decide)) _)
    (fun _ _ => congrFun (W3_args m ρ c main_arg4 (by decide)) _) (fun _ => congrFun (W3_args m ρ c main_arg5 (by decide)) _) (V3_zero ρ c))
theorem kv_gain : V4 m ρ c main_v3_1 = fun i => ∑ r, (kv m c).part r (i 1) :=
  (W4_arr m ρ c 6).trans (KvBack.gain (V3 m ρ) c (kv m c) (fun _ _ => congrFun (W3_args m ρ c main_arg3 (by decide)) _)
    (fun _ _ => congrFun (W3_args m ρ c main_arg4 (by decide)) _) (V3_zero ρ c))

omit c in
/-- THE KERNEL'S RUN: the gradients, the arguments as they were. -/
theorem run : θ_run defs (onTc (τ := τ) (main (F := Ideal))) ⟨m, fun _ => 0, ρ⟩ (fun r => ∀ c : Dev nD,
      r.2.mem ((c.tc : Thread nD τ).loc main_v1_0) = (fun i => (q m c).dx (i 0) (i 1))
      ∧ r.2.mem ((c.tc : Thread nD τ).loc main_v1_1) = (fun i => ∑ r, (q m c).part r (i 1))
      ∧ r.2.mem ((c.tc : Thread nD τ).loc main_v3_0) = (fun i => (kv m c).dx (i 0) (i 1))
      ∧ r.2.mem ((c.tc : Thread nD τ).loc main_v3_1) = (fun i => ∑ r, (kv m c).part r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_v1_0 (by decide))).trans (((W4_of m ρ c main_v1_0 (by decide +kernel)).trans (W3_of m ρ c main_v1_0 (by decide +kernel))).trans
      (q_rows ρ c)),
    (h c _ (mem_uc main_v1_1 (by decide))).trans (((W4_of m ρ c main_v1_1 (by decide +kernel)).trans (W3_of m ρ c main_v1_1 (by decide +kernel))).trans
      (q_gain ρ c)),
    (h c _ (mem_uc main_v3_0 (by decide))).trans ((kv_rows ρ c)),
    (h c _ (mem_uc main_v3_1 (by decide))).trans ((kv_gain ρ c)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c)⟩)
    (launch m ρ)

end Cert.Kernel6Ideal.Value

end
-- ==== Proof.NormReferenceValue.lean ====
/-
  THE NORMS' GRADIENTS' REFERENCE. Its arrays, in the order it computes them, are those of `NormStep.lean`, once for the queries and
  once for the keys and values.
-/
module

public import proofs.«01_k».proof.Proof.Gen.Reference6Ideal.Read
public import proofs.«01_k».proof.Proof.NormStep

@[expose] public section

noncomputable section

namespace Cert.Reference6Ideal.Value

open Cert.Reference6Ideal Cert.Reference6Ideal.Gen Cert.Reference6Ideal.Read Idealize.ShloMosaic Idealize.ShloMosaic.TcCoe Idealize.SL.Sem
open Cert.FeedForward

variable (x0 x1 : (⟨S8192x512, .f32⟩ : BufTy).Contents (Elt Ideal)) (x2 : (⟨S1x512, .f32⟩ : BufTy).Contents (Elt Ideal))
  (x3 x4 : (⟨S8448x256, .f32⟩ : BufTy).Contents (Elt Ideal)) (x5 : (⟨S1x256, .f32⟩ : BufTy).Contents (Elt Ideal))

/-! ## The queries -/

namespace Q

theorem square_apply (i : Fin 8192) (z : Fin 1) : val_main_v6 (F := Ideal) x1 (ix2 i z) = (normOf x0 x1 x2).square i := by
  have s : val_main_v1 (F := Ideal) x1 (idx_main_v2 (ix2 i z)) = ∑ d, x1 (ix2 i d) * x1 (ix2 i d) := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext]
    rfl
  rw [val_main_v6_apply, val_main_v4_apply, val_main_v2_apply, s, val_main_v3_apply, val_main_cst_0_apply, val_main_v5_apply, val_main_cst_1_apply,
    NormArgs.square,
    ← ofBits_512, ← ofBits_eps]
  rfl

theorem factor_apply (i : Fin 8192) (z : Fin 1) : val_main_v7 (F := Ideal) x1 (ix2 i z) = (normOf x0 x1 x2).factor i := by
  rw [val_main_v7_apply, square_apply x0 x1 x2, Ideal.hostUnary_rsqrt_def]
  rfl

theorem part_apply (i : Fin 8192) (d : Fin 512) : val_main_v15 (F := Ideal) x0 x1 (ix2 i d) = (normOf x0 x1 x2).part i d := by
  rw [val_main_v15_apply, val_main_v12_apply, val_main_v11_apply, show idx_main_v11 (ix2 i d) = ix2 i (0 : Fin 1) by idx_ext, factor_apply x0 x1 x2]
  exact mul_comm _ _

theorem gain_apply (d : Fin 512) : val_main_v17 (F := Ideal) x0 x1 (ix2 (0 : Fin 1) d) = ∑ i, (normOf x0 x1 x2).part i d := by
  rw [val_main_v17_apply, val_main_v16_apply, val_main_cst_3_apply]
  refine (congrArg (· + _) (Ideal.ofBits_zero .f32)).trans ((zero_add _).trans (Finset.sum_congr rfl fun i _ => ?_))
  rw [show idx_main_v16 (idx_main_v17 (ix2 (0 : Fin 1) d)) i = ix2 i d by idx_ext, part_apply x0 x1 x2]

theorem dy_apply (i : Fin 8192) (d : Fin 512) : val_main_v19 (F := Ideal) x0 x2 (ix2 i d) = (normOf x0 x1 x2).dy i d := by
  rw [val_main_v19_apply, val_main_v18_apply, show idx_main_v18 (ix2 i d) = ix2 (0 : Fin 1) d by idx_ext]
  rfl

theorem back_apply (i : Fin 8192) : val_main_v28 (F := Ideal) x0 x1 x2 (ix1 i) = (normOf x0 x1 x2).back i := by
  have s : val_main_v21 (F := Ideal) x0 x1 x2 (idx_main_v22 (ix2 i (0 : Fin 1))) = ∑ d, (normOf x0 x1 x2).x i d * (normOf x0 x1 x2).dy i d := by
    rw [val_main_v21_apply, val_main_cst_4_apply]
    refine (congrArg (· + _) (Ideal.ofBits_zero .f32)).trans ((zero_add _).trans (Finset.sum_congr rfl fun k _ => ?_))
    rw [val_main_v20_apply, show idx_main_v21 (idx_main_v22 (ix2 i (0 : Fin 1))) k = ix2 i k by idx_ext, dy_apply x0 x1 x2]
    rfl
  rw [val_main_v28_apply, val_main_cst_6_apply]
  refine (congrArg (· + _) (Ideal.ofBits_zero .f32)).trans ((zero_add _).trans (Fin.sum_univ_one _ |>.trans ?_))
  rw [show idx_main_v28 (ix1 i) 0 = ix2 i (0 : Fin 1) by idx_ext, val_main_v27_apply, val_main_v25_apply, val_main_v22_apply, s, val_main_v10_apply,
    val_main_v9_apply, val_main_cst_2_apply,
    val_main_v8_apply, factor_apply x0 x1 x2, square_apply x0 x1 x2, val_main_v26_apply, val_main_cst_5_apply, NormArgs.back, ← ofBits_512, ← ofBits_neg_half]
  rfl

theorem rows_apply (i : Fin 8192) (d : Fin 512) : val_main_v33 (F := Ideal) x0 x1 x2 (ix2 i d) = (normOf x0 x1 x2).dx i d := by
  rw [← NormArgs.dx_eq _ (by decide), val_main_v33_apply, val_main_v31_apply, val_main_v32_apply, val_main_v24_apply, val_main_v30_apply, val_main_v29_apply,
    val_main_v23_apply,
    show idx_main_v23 (ix2 i d) = ix2 i (0 : Fin 1) by idx_ext, show idx_main_v29 (ix2 i d) = ix1 i by idx_ext, factor_apply x0 x1 x2, back_apply, dy_apply
      x0 x1 x2]
  rfl

end Q

/-! ## The keys and values -/

namespace Kv

theorem square_apply (i : Fin 8448) (z : Fin 1) : val_main_v40 (F := Ideal) x4 (ix2 i z) = (normOf x3 x4 x5).square i := by
  have s : val_main_v35 (F := Ideal) x4 (idx_main_v36 (ix2 i z)) = ∑ d, x4 (ix2 i d) * x4 (ix2 i d) := by
    rw [val_main_v35_apply, val_main_cst_7_apply]
    refine (congrArg (· + _) (Ideal.ofBits_zero .f32)).trans ((zero_add _).trans (Finset.sum_congr rfl fun k _ => ?_))
    rw [val_main_v34_apply, show idx_main_v35 (idx_main_v36 (ix2 i z)) k = ix2 i k by idx_ext]
    rfl
  rw [val_main_v40_apply, val_main_v38_apply, val_main_v36_apply, s, val_main_v37_apply, val_main_cst_8_apply, val_main_v39_apply, val_main_cst_9_apply,
    NormArgs.square,
    ← ofBits_256, ← ofBits_eps]
  rfl

theorem factor_apply (i : Fin 8448) (z : Fin 1) : val_main_v41 (F := Ideal) x4 (ix2 i z) = (normOf x3 x4 x5).factor i := by
  rw [val_main_v41_apply, square_apply x3 x4 x5, Ideal.hostUnary_rsqrt_def]
  rfl

theorem part_apply (i : Fin 8448) (d : Fin 256) : val_main_v49 (F := Ideal) x3 x4 (ix2 i d) = (normOf x3 x4 x5).part i d := by
  rw [val_main_v49_apply, val_main_v46_apply, val_main_v45_apply, show idx_main_v45 (ix2 i d) = ix2 i (0 : Fin 1) by idx_ext, factor_apply x3 x4 x5]
  exact mul_comm _ _

theorem gain_apply (d : Fin 256) : val_main_v51 (F := Ideal) x3 x4 (ix2 (0 : Fin 1) d) = ∑ i, (normOf x3 x4 x5).part i d := by
  rw [val_main_v51_apply, val_main_v50_apply, val_main_cst_11_apply]
  refine (congrArg (· + _) (Ideal.ofBits_zero .f32)).trans ((zero_add _).trans (Finset.sum_congr rfl fun i _ => ?_))
  rw [show idx_main_v50 (idx_main_v51 (ix2 (0 : Fin 1) d)) i = ix2 i d by idx_ext, part_apply x3 x4 x5]

theorem dy_apply (i : Fin 8448) (d : Fin 256) : val_main_v53 (F := Ideal) x3 x5 (ix2 i d) = (normOf x3 x4 x5).dy i d := by
  rw [val_main_v53_apply, val_main_v52_apply, show idx_main_v52 (ix2 i d) = ix2 (0 : Fin 1) d by idx_ext]
  rfl

theorem back_apply (i : Fin 8448) : val_main_v62 (F := Ideal) x3 x4 x5 (ix1 i) = (normOf x3 x4 x5).back i := by
  have s : val_main_v55 (F := Ideal) x3 x4 x5 (idx_main_v56 (ix2 i (0 : Fin 1))) = ∑ d, (normOf x3 x4 x5).x i d * (normOf x3 x4 x5).dy i d := by
    rw [val_main_v55_apply, val_main_cst_12_apply]
    refine (congrArg (· + _) (Ideal.ofBits_zero .f32)).trans ((zero_add _).trans (Finset.sum_congr rfl fun k _ => ?_))
    rw [val_main_v54_apply, show idx_main_v55 (idx_main_v56 (ix2 i (0 : Fin 1))) k = ix2 i k by idx_ext, dy_apply x3 x4 x5]
    rfl
  rw [val_main_v62_apply, val_main_cst_14_apply]
  refine (congrArg (· + _) (Ideal.ofBits_zero .f32)).trans ((zero_add _).trans (Fin.sum_univ_one _ |>.trans ?_))
  rw [show idx_main_v62 (ix1 i) 0 = ix2 i (0 : Fin 1) by idx_ext, val_main_v61_apply, val_main_v59_apply, val_main_v56_apply, s, val_main_v44_apply,
    val_main_v43_apply, val_main_cst_10_apply,
    val_main_v42_apply, factor_apply x3 x4 x5, square_apply x3 x4 x5, val_main_v60_apply, val_main_cst_13_apply, NormArgs.back, ← ofBits_256, ← ofBits_neg_half]
  rfl

theorem rows_apply (i : Fin 8448) (d : Fin 256) : val_main_v67 (F := Ideal) x3 x4 x5 (ix2 i d) = (normOf x3 x4 x5).dx i d := by
  rw [← NormArgs.dx_eq _ (by decide), val_main_v67_apply, val_main_v65_apply, val_main_v66_apply, val_main_v58_apply, val_main_v64_apply, val_main_v63_apply,
    val_main_v57_apply,
    show idx_main_v57 (ix2 i d) = ix2 i (0 : Fin 1) by idx_ext, show idx_main_v63 (ix2 i d) = ix1 i by idx_ext, factor_apply x3 x4 x5, back_apply, dy_apply
      x3 x4 x5]
  rfl

end Kv

end Cert.Reference6Ideal.Value

end
-- ==== Proof.NormReferenceRun.lean ====
/-
  THE NORMS' GRADIENTS' REFERENCE'S RUN. Its composed terms are the gradients of the rows and of the gains.
-/
module

public import proofs.«01_k».proof.Proof.NormReferenceValue
public import proofs.«01_k».proof.Proof.Gen.Reference6Ideal.Run

@[expose] public section

set_option maxRecDepth 16384

noncomputable section

namespace Cert.Reference6Ideal.Value

open Cert.Reference6Ideal Cert.Reference6Ideal.Gen Cert.Reference6Ideal.Read Idealize.ShloMosaic Idealize.ShloMosaic.TcCoe Idealize.SL.Sem
open Cert.FeedForward

variable (m : (ℓ : Loc nD τ sig) → Buf (Elt Ideal) ℓ) (ρ : Dev nD → PrngReg) (q : Dev nD → NormArgs 8192 512) (kv : Dev nD → NormArgs 8448 256)

set_option maxHeartbeats 1600000 in
theorem run_value
    (hq : ∀ c : Dev nD, q c = normOf (m ((c : Thread nD τ).loc main_arg0)) (m ((c : Thread nD τ).loc main_arg1)) (m ((c : Thread nD τ).loc main_arg2)))
    (hkv : ∀ c : Dev nD, kv c = normOf (m ((c : Thread nD τ).loc main_arg3)) (m ((c : Thread nD τ).loc main_arg4)) (m ((c : Thread nD τ).loc main_arg5))) :
    θ_run defs (onTc (τ := τ) (main (F := Ideal))) ⟨m, fun _ => 0, ρ⟩ (fun r => ∀ c : Dev nD,
      r.2.mem ((c.tc : Thread nD τ).loc main_v33) = (fun i => (q c).dx (i 0) (i 1))
      ∧ r.2.mem ((c.tc : Thread nD τ).loc main_v17) = (fun i => ∑ r, (q c).part r (i 1))
      ∧ r.2.mem ((c.tc : Thread nD τ).loc main_v67) = (fun i => (kv c).dx (i 0) (i 1))
      ∧ r.2.mem ((c.tc : Thread nD τ).loc main_v51) = (fun i => ∑ r, (kv c).part r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run m ρ)
  obtain ⟨h0, h1, h2, h3, ha⟩ := h c
  rw [hq c, hkv c]
  refine ⟨(h0.trans (val_main_v33_eq _ _ _)).trans (funext fun i => ?_),
    (h1.trans (val_main_v17_eq _ _)).trans (funext fun i => ?_),
    (h2.trans (val_main_v67_eq _ _ _)).trans (funext fun i => ?_),
    (h3.trans (val_main_v51_eq _ _)).trans (funext fun i => ?_), ha⟩
  · rw [eq_ix2 i]; exact Q.rows_apply _ _ _ _ _
  · obtain ⟨d, rfl⟩ := exists_row2 i; exact Q.gain_apply _ _ _ _
  · rw [eq_ix2 i]; exact Kv.rows_apply _ _ _ _ _
  · obtain ⟨d, rfl⟩ := exists_row2 i; exact Kv.gain_apply _ _ _ _

end Cert.Reference6Ideal.Value

end
-- ==== Proof.LossStep.lean ====
/-
  THE LOSS, over the extended reals: half the sum over the rows of the mean square of what the final norm's rows differ by from the
  target, and what comes back from it to the rows normed. From there on its gradients are those of a norm, `NormStep.lean`.
-/
module

public import proofs.«01_k».proof.Proof.NormStep

@[expose] public section

noncomputable section

open Idealize.ShloMosaic

namespace Cert.FeedForward

/-- The rows, the gain and the target. -/
structure LossArgs where
  x : Fin 8192 → Fin 2048 → EReal
  gain : Fin 2048 → EReal
  target : Fin 8192 → Fin 2048 → EReal

/-- The arguments as the arrays have them. -/
def lossOf (x : Shape.Idx ⟨2, ![8192, 2048]⟩ → EReal) (g : Shape.Idx ⟨2, ![1, 2048]⟩ → EReal)
    (t : Shape.Idx ⟨2, ![8192, 2048]⟩ → EReal) : LossArgs where
  x i d := x (ix2 i d)
  gain d := g (ix2 (0 : Fin 1) d)
  target i d := t (ix2 i d)

namespace LossArgs
variable (a : LossArgs)

/-- A row's mean square, the constant added, and its factor. -/
def square (i : Fin 8192) : EReal := Ideal.div (∑ d, a.x i d * a.x i d) (((2048 : ℕ) : ℝ) : EReal) + ((eps : ℝ) : EReal)
def factor (i : Fin 8192) : EReal := Ideal.rsqrt (a.square i)

/-- A row normed, less the target. -/
def err (i : Fin 8192) (d : Fin 2048) : EReal := a.x i d * a.factor i * a.gain d - a.target i d

/-- A row's mean square of that, and the loss. -/
def mean (i : Fin 8192) : EReal := Ideal.div (∑ d, a.err i d * a.err i d) (((2048 : ℕ) : ℝ) : EReal)
def loss : EReal := ((1 / 2 : ℝ) : EReal) * ∑ i, a.mean i

/-- The final norm, with what comes back to its rows. -/
def norm : NormArgs 8192 2048 := ⟨fun i d => a.err i d * ((1 / 2048 : ℝ) : EReal), a.x, a.gain⟩

theorem norm_square (i : Fin 8192) : a.norm.square i = a.square i := rfl
theorem norm_factor (i : Fin 8192) : a.norm.factor i = a.factor i := rfl

/-- `jax.vjp` has a half of one, over the width, times twice the difference. -/
theorem back_eq (i : Fin 8192) (d : Fin 2048) :
    Ideal.div (((1 / 2 : ℝ) : EReal) * ((1 : ℝ) : EReal)) (((2048 : ℕ) : ℝ) : EReal) * (((2 : ℝ) : EReal) * a.err i d) = a.norm.e i d := by
  rw [Ideal.div_coe (by norm_num), ← mul_assoc]
  simp only [← EReal.coe_mul]
  rw [mul_comm]
  show _ = a.err i d * _
  congr 2
  norm_num

/-- The loss is a sum over tiles of rows. -/
theorem loss_tiles : ∑ s : Fin 32, ((1 / 2 : ℝ) : EReal) * ∑ r : Fin 256, a.mean ⟨s.val * 256 + r.val, by omega⟩ = a.loss := by
  rw [loss, mul_comm, Fin.sum_univ_tiles 32 256 rfl, ← sum_mul_real _ (by norm_num)]
  exact Finset.sum_congr rfl fun s _ => mul_comm _ _

end LossArgs

theorem ofBits_width : Ideal.ofBits .f32 0x45000000#32 = (((2048 : ℕ) : ℝ) : EReal) := by rw [ofBits_2048]; norm_num
theorem ofBits_two : Ideal.ofBits .f32 0x40000000#32 = ((2 : ℝ) : EReal) := by
  simp [Ideal.ofBits, Ideal.ieee, -EReal.coe_mul]; norm_num
theorem ofBits_inv_width : Ideal.ofBits .f32 0x3A000000#32 = ((1 / 2048 : ℝ) : EReal) := by
  simp [Ideal.ofBits, Ideal.ieee, -EReal.coe_mul]; norm_num

end Cert.FeedForward

end
-- ==== Proof.LossPoint.lean ====
/-
  WHAT A POINT OF THE LOSS LEAVES IN ITS OUTPUT BLOCKS: the gradient of its 256 rows, and the loss and the gain's row with the rows' parts
  added.
-/
module

public import proofs.«01_k».proof.Proof.Gen.Kernel7Ideal.Frame
public import proofs.«01_k».proof.Proof.LossStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Cert.FeedForward

variable (c : Dev nD)

variable (i : grid0.Coords) (arg1 : Memref sig .tc .vmem S256x2048 .f32) (harg1 : arg1.IsWhole)
  (arg2 : Memref sig .tc .vmem S1x2048 .f32) (harg2 : arg2.IsWhole) (arg3 : Memref sig .tc .vmem S256x2048 .f32) (harg3 : arg3.IsWhole)
  (arg4 : Memref sig .tc .vmem S1x1 .f32) (harg4 : arg4.IsWhole) (arg5 : Memref sig .tc .vmem S256x2048 .f32) (harg5 : arg5.IsWhole)
  (arg6 : Memref sig .tc .vmem S1x2048 .f32) (harg6 : arg6.IsWhole)
variable (x : Vec Ideal S256x2048 .f32) (g : Vec Ideal S1x2048 .f32) (t : Vec Ideal S256x2048 .f32) (s3 : Vec Ideal S1x1 .f32)
  (s5 : Vec Ideal S1x2048 .f32) (a : LossArgs) (at_ : Fin 256 → Fin 8192)
variable (hx : ∀ r d, x (ix2 r d) = a.x (at_ r) d) (hg : ∀ d, g (ix2 (0 : Fin 1) d) = a.gain d) (ht : ∀ r d, t (ix2 r d) = a.target (at_ r) d)

include hx hg ht

theorem rows_first (hc : cond0_0 i) (r : Fin 256) (d : Fin 2048) :
    out0_A_4 (F := Ideal) c i arg1 harg1 arg2 harg2 arg3 harg3 arg4 harg4 arg5 harg5 arg6 harg6 hc x g t (ix2 r d)
      = a.norm.dx (at_ r) d := by
  frame_open
  frame_out
  open_payloads
  pointwise [hx, hg, ht, ofBits_width, ofBits_eps, ofBits_inv_width, ofBits_half]
  simp only [NormArgs.dx, NormArgs.dy, LossArgs.norm_factor]
  simp only [LossArgs.norm, LossArgs.err, LossArgs.factor, LossArgs.square]

theorem rows_next (hc : ¬cond0_0 i) (r : Fin 256) (d : Fin 2048) :
    out0_B_4 (F := Ideal) c i arg1 harg1 arg2 harg2 arg3 harg3 arg4 harg4 arg5 harg5 arg6 harg6 hc x g t s3 s5 (ix2 r d)
      = a.norm.dx (at_ r) d := by
  frame_open
  frame_out
  open_payloads
  pointwise [hx, hg, ht, ofBits_width, ofBits_eps, ofBits_inv_width, ofBits_half]
  simp only [NormArgs.dx, NormArgs.dy, LossArgs.norm_factor]
  simp only [LossArgs.norm, LossArgs.err, LossArgs.factor, LossArgs.square]

/-- At the first point the gain's row and the loss start from zero, at the others from what the point before left. -/
theorem gain_first (hc : cond0_0 i) (d : Fin 2048) :
    out0_A_5 (F := Ideal) c i arg1 harg1 arg2 harg2 arg3 harg3 arg4 harg4 arg5 harg5 arg6 harg6 hc x g t (ix2 (0 : Fin 1) d)
      = 0 + ∑ r, a.norm.part (at_ r) d := by
  frame_open
  simp (disch := decide) only [↓ View.readCov_skip, ↓ View.readCov_cons_toLoadRect, ↓ View.readCov_fill]
  frame_out
  open_payloads
  pointwise [hx, hg, ht, ofBits_width, ofBits_eps, ofBits_inv_width, ofBits_half]
  simp only [NormArgs.part, LossArgs.norm_factor]
  simp only [LossArgs.norm, LossArgs.err, LossArgs.factor, LossArgs.square]

theorem gain_next (hc : ¬cond0_0 i) (d : Fin 2048) :
    out0_B_5 (F := Ideal) c i arg1 harg1 arg2 harg2 arg3 harg3 arg4 harg4 arg5 harg5 arg6 harg6 hc x g t s3 s5 (ix2 (0 : Fin 1) d)
      = s5 (ix2 (0 : Fin 1) d) + ∑ r, a.norm.part (at_ r) d := by
  frame_open
  simp (disch := decide) only [↓ View.readCov_skip, ↓ View.readCov_cons_toLoadRect, ↓ View.readCov_fill]
  frame_out
  open_payloads
  pointwise [hx, hg, ht, ofBits_width, ofBits_eps, ofBits_inv_width, ofBits_half]
  simp only [NormArgs.part, LossArgs.norm_factor]
  simp only [LossArgs.norm, LossArgs.err, LossArgs.factor, LossArgs.square]

theorem loss_first (hc : cond0_0 i) :
    out0_A_3 (F := Ideal) c i arg1 harg1 arg2 harg2 arg3 harg3 arg4 harg4 arg5 harg5 arg6 harg6 hc x g t (ix2 (0 : Fin 1) (0 : Fin 1))
      = 0 + ((1 / 2 : ℝ) : EReal) * ∑ r, a.mean (at_ r) := by
  frame_open
  simp (disch := decide) only [↓ View.readCov_skip, ↓ View.readCov_cons_toLoadRect, ↓ View.readCov_fill]
  frame_out
  open_payloads
  pointwise [hx, hg, ht, ofBits_width, ofBits_eps, ofBits_inv_width, ofBits_half]
  simp only [LossArgs.mean, LossArgs.err, LossArgs.factor, LossArgs.square]

theorem loss_next (hc : ¬cond0_0 i) :
    out0_B_3 (F := Ideal) c i arg1 harg1 arg2 harg2 arg3 harg3 arg4 harg4 arg5 harg5 arg6 harg6 hc x g t s3 s5 (ix2 (0 : Fin 1) (0 : Fin 1))
      = s3 (ix2 (0 : Fin 1) (0 : Fin 1)) + ((1 / 2 : ℝ) : EReal) * ∑ r, a.mean (at_ r) := by
  frame_open
  simp (disch := decide) only [↓ View.readCov_skip, ↓ View.readCov_cons_toLoadRect, ↓ View.readCov_fill]
  frame_out
  open_payloads
  pointwise [hx, hg, ht, ofBits_width, ofBits_eps, ofBits_inv_width, ofBits_half]
  simp only [LossArgs.mean, LossArgs.err, LossArgs.factor, LossArgs.square]

end Cert.Kernel7Ideal.Value

end
-- ==== Proof.LossKernelRun.lean ====
/-
  THE LOSS'S RUN. Each point takes 256 rows, writes their gradient, and adds the rows' parts of the gain's gradient and of the loss to
  blocks that stay in place from point to point. Every execution ends with the loss and its gradients of the rows and of the gain.
-/
module

public import proofs.«01_k».proof.Proof.LossPoint
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Cert.FeedForward

variable (m : (ℓ : Loc nD τ sig) → Buf (Elt Ideal) ℓ) (ρ : Dev nD → PrngReg) (c : Dev nD)

/-- The arguments. -/
def args : LossArgs :=
  lossOf (m ((c : Thread nD τ).loc main_arg0)) (m ((c : Thread nD τ).loc main_arg1)) (m ((c : Thread nD τ).loc main_arg2))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem point (t : Fin cfg0.N) : t.val < 32 := lt_of_lt_of_eq t.isLt N_0

/-- A point's rows of the whole. -/
abbrev row (t : Fin cfg0.N) (r : Fin 256) : Fin 8192 := ⟨t.val * 256 + r.val, by have := point t; omega⟩

theorem block_x (t : Fin cfg0.N) (r : Fin 256) (d : Fin 2048) : iblk m c 0 t (ix2 r d) = (args m c).x (row t r) d := by
  show _ = m ((c : Thread nD τ).loc main_arg0) (ix2 (row t r) d)
  blk_point [iblk, idx t]
theorem block_g (t : Fin cfg0.N) (d : Fin 2048) : iblk m c 1 t (ix2 (0 : Fin 1) d) = (args m c).gain d := by
  show _ = m ((c : Thread nD τ).loc main_arg1) (ix2 (0 : Fin 1) d)
  blk_point [iblk, idx t]
theorem block_t (t : Fin cfg0.N) (r : Fin 256) (d : Fin 2048) : iblk m c 2 t (ix2 r d) = (args m c).target (row t r) d := by
  show _ = m ((c : Thread nD τ).loc main_arg2) (ix2 (row t r) d)
  blk_point [iblk, idx t]

theorem rows : (dats m 0 c).arrAt 4 cfg0.N = fun i => (args m c).norm.dx (i 0) (i 1) := by
  refine (dats m 0 c).arrAt_eq_of_covers 4 _ (by decide +kernel) fun t hf y => ?_
  blk_simp
  rw [after0_4]
  obtain ⟨r, d, rfl⟩ : ∃ (r : Fin 256) (d : Fin 2048), y = ix2 r d := ⟨y 0, y 1, eq_ix2 y⟩
  generalize hz' : ((View.whole main_v0_1).slice (win0_4.rect t)).emb (ix2 r d) = z
  have h0 : z 0 = row t r := Fin.ext (by subst hz'; blk_simp [idx t])
  have h1 : z 1 = d := Fin.ext (by subst hz'; blk_simp [idx t])
  rw [h0, h1]
  by_cases h : t.val % 32 = 0
  · rw [outsAt0_A m c t h]
    dsimp only
    rw [rows_first (hx := block_x m c t) (hg := block_g m c t) (ht := block_t m c t)]
  · rw [outsAt0_B m c t h]
    dsimp only
    rw [rows_next (hx := block_x m c t) (hg := block_g m c t) (ht := block_t m c t)]

theorem gain : (dats m 0 c).arrAt 5 cfg0.N = fun i => ∑ r, (args m c).norm.part r (i 1) := by
  refine (dats m 0 c).arrAt_eq_of_covers 5 _ (by decide +kernel) fun t hf y => ?_
  blk_simp
  rw [after0_5, Pipeline.eq_sum_fin_of_reset_step_apply_of_flush (fun n h => (outsAt0 m c n h).2.2) 32 (fun _ => (0 : EReal))
    (fun t y => ∑ r, (args m c).norm.part (row t r) (y 1))
    (fun t h y => by
      obtain ⟨d, rfl⟩ := exists_row2 y
      rw [outsAt0_A m c t h]
      dsimp only
      rw [gain_first (hx := block_x m c t) (hg := block_g m c t) (ht := block_t m c t)]
      rfl)
    (fun t h y => by
      obtain ⟨d, rfl⟩ := exists_row2 y
      rw [outsAt0_B m c t h]
      dsimp only
      rw [gain_next (hx := block_x m c t) (hg := block_g m c t) (ht := block_t m c t)]
      rfl)
    t ((flush0_5 t).mp hf) _]
  show (0 : EReal) + ∑ s : Fin 32, _ = _
  rw [zero_add]
  generalize hz' : ((View.whole main_v0_2).slice (win0_5.rect t)).emb y = z
  have h1 : z 1 = y 1 := Fin.ext (by subst hz'; blk_simp [idx t])
  rw [h1]
  have ht := point t
  refine (Finset.sum_congr rfl fun s _ => Finset.sum_congr rfl fun r _ => ?_).trans
    (Fin.sum_univ_tiles 32 256 rfl fun i => (args m c).norm.part i (y 1)).symm
  congr 1
  exact Fin.ext (by show (32 * (t.val / 32) + s.val) * 256 + r.val = s.val * 256 + r.val; omega)

theorem loss : (dats m 0 c).arrAt 3 cfg0.N = fun _ => (args m c).loss := by
  refine (dats m 0 c).arrAt_eq_of_covers 3 _ (by decide +kernel) fun t hf y => ?_
  blk_simp
  rw [after0_3, Pipeline.eq_sum_fin_of_reset_step_apply_of_flush (fun n h => (outsAt0 m c n h).1) 32 (fun _ => (0 : EReal))
    (fun t _ => ((1 / 2 : ℝ) : EReal) * ∑ r, (args m c).mean (row t r))
    (fun t h y => by
      obtain rfl : y = ix2 (0 : Fin 1) (0 : Fin 1) := by idx_ext
      rw [outsAt0_A m c t h]
      dsimp only
      rw [loss_first (hx := block_x m c t) (hg := block_g m c t) (ht := block_t m c t)])
    (fun t h y => by
      obtain rfl : y = ix2 (0 : Fin 1) (0 : Fin 1) := by idx_ext
      rw [outsAt0_B m c t h]
      dsimp only
      rw [loss_next (hx := block_x m c t) (hg := block_g m c t) (ht := block_t m c t)])
    t ((flush0_3 t).mp hf) _]
  show (0 : EReal) + ∑ s : Fin 32, _ = _
  rw [zero_add]
  have ht := point t
  rw [← LossArgs.loss_tiles]
  refine Finset.sum_congr rfl fun s _ => congrArg _ (Finset.sum_congr rfl fun r _ => congrArg _ ?_)
  exact Fin.ext (by show (32 * (t.val / 32) + s.val) * 256 + r.val = s.val * 256 + r.val; omega)

/-- THE KERNEL'S RUN: the loss and its gradients, the arguments as they were. -/
theorem run : θ_run defs (onTc (τ := τ) (main (F := Ideal))) ⟨m, fun _ => 0, ρ⟩ (fun r => ∀ c : Dev nD,
      r.2.mem ((c.tc : Thread nD τ).loc main_v1) = (fun _ => (args m c).loss)
      ∧ r.2.mem ((c.tc : Thread nD τ).loc main_v0_1) = (fun i => (args m c).norm.dx (i 0) (i 1))
      ∧ r.2.mem ((c.tc : Thread nD τ).loc main_v0_2) = (fun i => ∑ r, (args m c).norm.part r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
    ((h c).2 main_v1 (by decide)).trans (by
      have e : Pipeline.withArrays spec0 c (V0 m c) (fun w => (dats m 0 c).arrAt w cfg0.N) (Proc.devRef .tc main_v0_0)
          = fun _ => (args m c).loss := (Pipeline.withArrays_arr spec0 launch0.win.arr_inj c (V0 m c) _ 3).trans (loss m c)
      show StableHlo.after hostOps1 _ _ = _
      after_results
      exact funext fun i => congrFun e _),
    ((h c).1 4).trans (rows m c),
    ((h c).1 5).trans (gain m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩)
    (run_main m ρ)

end Cert.Kernel7Ideal.Value

end
-- ==== Proof.LossReference.lean ====
/-
  THE LOSS'S REFERENCE. Its arrays, in the order it computes them, are those of `LossStep.lean` and `NormStep.lean`, and so are its
  results.
-/
module

public import proofs.«01_k».proof.Proof.Gen.Reference7Ideal.Read
public import proofs.«01_k».proof.Proof.Gen.Reference7Ideal.Run
public import proofs.«01_k».proof.Proof.LossStep

@[expose] public section

set_option maxRecDepth 16384

noncomputable section

namespace Cert.Reference7Ideal.Value

open Cert.Reference7Ideal Cert.Reference7Ideal.Gen Cert.Reference7Ideal.Read Idealize.ShloMosaic Idealize.ShloMosaic.TcCoe Idealize.SL.Sem
open Cert.FeedForward

variable (x0 : (⟨S8192x2048, .f32⟩ : BufTy).Contents (Elt Ideal)) (x1 : (⟨S1x2048, .f32⟩ : BufTy).Contents (Elt Ideal))
  (x2 : (⟨S8192x2048, .f32⟩ : BufTy).Contents (Elt Ideal))

theorem square_apply (i : Fin 8192) (z : Fin 1) : val_main_v6 (F := Ideal) x0 (ix2 i z) = (lossOf x0 x1 x2).square i := by
  have s : val_main_v1 (F := Ideal) x0 (idx_main_v2 (ix2 i z)) = ∑ d, x0 (ix2 i d) * x0 (ix2 i d) := by
    rw [val_main_v1_apply, val_main_cst_apply]
    refine (congrArg (· + _) (Ideal.ofBits_zero .f32)).trans ((zero_add _).trans (Finset.sum_congr rfl fun k _ => ?_))
    rw [val_main_v0_apply, show idx_main_v1 (idx_main_v2 (ix2 i z)) k = ix2 i k by idx_ext]
    rfl
  rw [val_main_v6_apply, val_main_v4_apply, val_main_v2_apply, s, val_main_v3_apply, val_main_cst_0_apply, val_main_v5_apply, val_main_cst_1_apply, LossArgs.square, ← ofBits_width, ← ofBits_eps]
  rfl

theorem factor_apply (i : Fin 8192) (z : Fin 1) : val_main_v7 (F := Ideal) x0 (ix2 i z) = (lossOf x0 x1 x2).factor i := by
  rw [val_main_v7_apply, square_apply x0 x1 x2, Ideal.hostUnary_rsqrt_def]
  rfl

theorem xhat_apply (i : Fin 8192) (d : Fin 2048) : val_main_v12 (F := Ideal) x0 (ix2 i d) = (lossOf x0 x1 x2).x i d * (lossOf x0 x1 x2).factor i := by
  rw [val_main_v12_apply, val_main_v11_apply, show idx_main_v11 (ix2 i d) = ix2 i (0 : Fin 1) by idx_ext, factor_apply x0 x1 x2]
  rfl

theorem err_apply (i : Fin 8192) (d : Fin 2048) : val_main_v15 (F := Ideal) x0 x1 x2 (ix2 i d) = (lossOf x0 x1 x2).err i d := by
  rw [val_main_v15_apply, val_main_v14_apply, xhat_apply x0 x1 x2, val_main_v13_apply, show idx_main_v13 (ix2 i d) = ix2 (0 : Fin 1) d by idx_ext]
  rfl

theorem mean_apply (i : Fin 8192) : val_main_v21 (F := Ideal) x0 x1 x2 (ix1 i) = (lossOf x0 x1 x2).mean i := by
  have s : val_main_v19 (F := Ideal) x0 x1 x2 (ix1 i) = ∑ d, (lossOf x0 x1 x2).err i d * (lossOf x0 x1 x2).err i d := by
    rw [val_main_v19_apply, val_main_cst_4_apply]
    refine (congrArg (· + _) (Ideal.ofBits_zero .f32)).trans ((zero_add _).trans (Finset.sum_congr rfl fun k _ => ?_))
    rw [val_main_v16_apply, show idx_main_v19 (ix1 i) k = ix2 i k by idx_ext, err_apply]
    rfl
  rw [val_main_v21_apply, s, val_main_v20_apply, val_main_cst_5_apply, LossArgs.mean, ← ofBits_width]
  rfl

theorem loss_apply (i : S_.Idx) : val_main_v23 (F := Ideal) x0 x1 x2 i = (lossOf x0 x1 x2).loss := by
  have s : val_main_v22 (F := Ideal) x0 x1 x2 i = ∑ j, (lossOf x0 x1 x2).mean j := by
    rw [val_main_v22_apply, val_main_cst_6_apply]
    refine (congrArg (· + _) (Ideal.ofBits_zero .f32)).trans ((zero_add _).trans ?_)
    exact Fintype.sum_equiv ⟨fun j => j 0, fun j => ix1 j, fun j => (eq_ix1 j).symm, fun j => rfl⟩ _ _ fun j => by
      rw [eq_ix1 j]; exact mean_apply x0 x1 x2 _
  rw [val_main_v23_apply, s, val_main_cst_7_apply, LossArgs.loss, ← ofBits_half]
  rfl

theorem back_apply (i : Fin 8192) (d : Fin 2048) : val_main_v29 (F := Ideal) x0 x1 x2 (ix2 i d) = (lossOf x0 x1 x2).norm.e i d := by
  rw [val_main_v29_apply, val_main_v28_apply, val_main_v27_apply, val_main_v25_apply, val_main_v24_apply, val_main_cst_8_apply, val_main_cst_9_apply, val_main_v26_apply, val_main_cst_10_apply, val_main_v18_apply,
    val_main_v17_apply, val_main_cst_3_apply, err_apply, ← LossArgs.back_eq, ← ofBits_half, ← ofBits_one, ← ofBits_width, ← ofBits_two]
  rfl

theorem gain_apply (d : Fin 2048) : val_main_v32 (F := Ideal) x0 x1 x2 (ix2 (0 : Fin 1) d) = ∑ i, (lossOf x0 x1 x2).norm.part i d := by
  rw [val_main_v32_apply, val_main_v31_apply, val_main_cst_11_apply]
  refine (congrArg (· + _) (Ideal.ofBits_zero .f32)).trans ((zero_add _).trans (Finset.sum_congr rfl fun i _ => ?_))
  rw [show idx_main_v31 (idx_main_v32 (ix2 (0 : Fin 1) d)) i = ix2 i d by idx_ext, val_main_v30_apply, xhat_apply x0 x1 x2, back_apply]
  exact mul_comm _ _

theorem dy_apply (i : Fin 8192) (d : Fin 2048) : val_main_v34 (F := Ideal) x0 x1 x2 (ix2 i d) = (lossOf x0 x1 x2).norm.dy i d := by
  rw [val_main_v34_apply, back_apply, val_main_v33_apply, show idx_main_v33 (ix2 i d) = ix2 (0 : Fin 1) d by idx_ext]
  rfl

theorem norm_apply (i : Fin 8192) : val_main_v43 (F := Ideal) x0 x1 x2 (ix1 i) = (lossOf x0 x1 x2).norm.back i := by
  have s : val_main_v36 (F := Ideal) x0 x1 x2 (idx_main_v37 (ix2 i (0 : Fin 1))) = ∑ d, (lossOf x0 x1 x2).norm.x i d * (lossOf x0 x1 x2).norm.dy i d := by
    rw [val_main_v36_apply, val_main_cst_12_apply]
    refine (congrArg (· + _) (Ideal.ofBits_zero .f32)).trans ((zero_add _).trans (Finset.sum_congr rfl fun k _ => ?_))
    rw [val_main_v35_apply, show idx_main_v36 (idx_main_v37 (ix2 i (0 : Fin 1))) k = ix2 i k by idx_ext, dy_apply]
    rfl
  rw [val_main_v43_apply, val_main_cst_14_apply]
  refine (congrArg (· + _) (Ideal.ofBits_zero .f32)).trans ((zero_add _).trans (Fin.sum_univ_one _ |>.trans ?_))
  rw [show idx_main_v43 (ix1 i) 0 = ix2 i (0 : Fin 1) by idx_ext, val_main_v42_apply, val_main_v40_apply, val_main_v37_apply, s, val_main_v10_apply, val_main_v9_apply, val_main_cst_2_apply,
    val_main_v8_apply, factor_apply x0 x1 x2, square_apply x0 x1 x2, val_main_v41_apply, val_main_cst_13_apply, NormArgs.back, ← ofBits_width, ← ofBits_neg_half]
  rfl

theorem rows_apply (i : Fin 8192) (d : Fin 2048) : val_main_v48 (F := Ideal) x0 x1 x2 (ix2 i d) = (lossOf x0 x1 x2).norm.dx i d := by
  rw [← NormArgs.dx_eq _ (by decide), val_main_v48_apply, val_main_v46_apply, val_main_v47_apply, val_main_v39_apply, val_main_v45_apply, val_main_v44_apply, val_main_v38_apply,
    show idx_main_v38 (ix2 i d) = ix2 i (0 : Fin 1) by idx_ext, show idx_main_v44 (ix2 i d) = ix1 i by idx_ext, factor_apply x0 x1 x2, norm_apply, dy_apply]
  rfl

variable (m : (ℓ : Loc nD τ sig) → Buf (Elt Ideal) ℓ) (ρ : Dev nD → PrngReg) (a : Dev nD → LossArgs)

set_option maxHeartbeats 1600000 in
theorem run_value
    (ha : ∀ c : Dev nD, a c = lossOf (m ((c : Thread nD τ).loc main_arg0)) (m ((c : Thread nD τ).loc main_arg1)) (m ((c : Thread nD τ).loc main_arg2))) :
    θ_run defs (onTc (τ := τ) (main (F := Ideal))) ⟨m, fun _ => 0, ρ⟩ (fun r => ∀ c : Dev nD,
      r.2.mem ((c.tc : Thread nD τ).loc main_v23) = (fun _ => (a c).loss)
      ∧ r.2.mem ((c.tc : Thread nD τ).loc main_v48) = (fun i => (a c).norm.dx (i 0) (i 1))
      ∧ r.2.mem ((c.tc : Thread nD τ).loc main_v32) = (fun i => ∑ r, (a c).norm.part r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨h0, h1, h2, hm⟩ := h c
  rw [ha c]
  refine ⟨(h0.trans (val_main_v23_eq _ _ _)).trans (funext fun i => loss_apply _ _ _ i),
    (h1.trans (val_main_v48_eq m c)).trans (funext fun i => ?_),
    (h2.trans (val_main_v32_eq _ _ _)).trans (funext fun i => ?_), hm⟩
  · rw [eq_ix2 i]; exact rows_apply _ _ _ _ _
  · obtain ⟨d, rfl⟩ := exists_row2 i; exact gain_apply _ _ _ _

end Cert.Reference7Ideal.Value

end
-- ==== Proof.UpdateStep.lean ====
/-
  THE UPDATE OF A WEIGHT, over the extended reals, entry by entry: the two moments, and the change from them and the weight. The constants
  are the rounded ones of both programs.
-/
module

public import Idealize.ShloMosaic.PureOps.Ideal

@[expose] public section

noncomputable section

open Idealize.ShloMosaic

namespace Cert.Update

/-- The mean of the gradients and of their squares, each a mix of what was and what came. -/
def moment (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)

/-- The change: the first over the root of the second, each over what it lacks so early, and the weight's decay. -/
def delta (w g m v : EReal) : EReal :=
  Ideal.ofBits .f32 0xBA83126F#32
    * (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Cert.Update

end
-- ==== Proof.UpdateCalls.lean ====
/-
  A CALL OF THE UPDATE. Each point takes a tile of the weight's rows and leaves the tile's moments and change: entry by entry, so that the
  three arrays are the functions of `UpdateStep.lean` of the four given.
-/
module

public import proofs.«01_k».proof.Proof.Gen.Kernel8Ideal.Frame
public import proofs.«01_k».proof.Proof.UpdateStep
public import Idealize.ShloMosaic.Lib.Pipeline.ValueKit
public import Idealize.ShloMosaic.Lib.Pipeline.ReadBack
public import Idealize.ShloMosaic.Lib.Pointwise
public import Idealize.ShloMosaic.PureOps.IdealRules

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Cert.Update

variable (V : (c : Dev nD) → (b : Ref sig .tc) → Buf (Elt Ideal) ((c : Thread nD τ).loc b)) (c : Dev nD)

/-! ## The first weight -/

namespace In

theorem delta_point (w g u v : Vec Ideal S64x2816 .f32) (i : S64x2816.Idx) : out0_4 (F := Ideal) w g u v i = delta (w i) (g i) (u i) (v i) := by
  frame_open
  frame_out
  open_payloads
  pointwise
  rfl
theorem moment_point (w g u v : Vec Ideal S64x2816 .f32) (i : S64x2816.Idx) : out0_5 (F := Ideal) w g u v i = moment (g i) (u i) := by
  frame_open
  frame_out
  open_payloads
  pointwise
  rfl
theorem square_point (w g u v : Vec Ideal S64x2816 .f32) (i : S64x2816.Idx) : out0_6 (F := Ideal) w g u v i = square (g i) (v i) := by
  frame_open
  frame_out
  open_payloads
  pointwise
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point (t : Fin cfg0.N) : t.val < 32 := lt_of_lt_of_eq t.isLt N_0

/-- A point's rows of the whole. -/
abbrev row (t : Fin cfg0.N) (r : Fin 64) : Fin 2048 := ⟨t.val * 64 + r.val, by have := point t; omega⟩

theorem block_0 (t : Fin cfg0.N) (r : Fin 64) (d : Fin 2816) : iblk0 V c 0 t (ix2 r d) = V c main_arg0 (ix2 (row t r) d) := by
  blk_point [iblk0, idx t]
theorem block_1 (t : Fin cfg0.N) (r : Fin 64) (d : Fin 2816) : iblk0 V c 1 t (ix2 r d) = V c main_arg1 (ix2 (row t r) d) := by
  blk_point [iblk0, idx t]
theorem block_2 (t : Fin cfg0.N) (r : Fin 64) (d : Fin 2816) : iblk0 V c 2 t (ix2 r d) = V c main_arg2 (ix2 (row t r) d) := by
  blk_point [iblk0, idx t]
theorem block_3 (t : Fin cfg0.N) (r : Fin 64) (d : Fin 2816) : iblk0 V c 3 t (ix2 r d) = V c main_arg3 (ix2 (row t r) d) := by
  blk_point [iblk0, idx t]

theorem delta : (dat0 V c).arrAt 4 cfg0.N = fun i => Cert.Update.delta (V c main_arg0 i) (V c main_arg1 i) (V c main_arg2 i) (V c main_arg3 i) := by
  refine (dat0 V c).arrAt_eq_of_covers 4 _ (by decide +kernel) fun t hf y => ?_
  blk_simp
  rw [after0_4]
  obtain ⟨r, d, rfl⟩ : ∃ (r : Fin 64) (d : Fin 2816), y = ix2 r d := ⟨y 0, y 1, eq_ix2 y⟩
  generalize hz : ((View.whole main_v0_0).slice (win0_4.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [delta_point, block_0, block_1, block_2, block_3]
theorem moment : (dat0 V c).arrAt 5 cfg0.N = fun i => Cert.Update.moment (V c main_arg1 i) (V c main_arg2 i) := by
  refine (dat0 V c).arrAt_eq_of_covers 5 _ (by decide +kernel) fun t hf y => ?_
  blk_simp
  rw [after0_5]
  obtain ⟨r, d, rfl⟩ : ∃ (r : Fin 64) (d : Fin 2816), y = ix2 r d := ⟨y 0, y 1, eq_ix2 y⟩
  generalize hz : ((View.whole main_v0_1).slice (win0_5.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [moment_point, block_1, block_2]
theorem square : (dat0 V c).arrAt 6 cfg0.N = fun i => Cert.Update.square (V c main_arg1 i) (V c main_arg3 i) := by
  refine (dat0 V c).arrAt_eq_of_covers 6 _ (by decide +kernel) fun t hf y => ?_
  blk_simp
  rw [after0_6]
  obtain ⟨r, d, rfl⟩ : ∃ (r : Fin 64) (d : Fin 2816), y = ix2 r d := ⟨y 0, y 1, eq_ix2 y⟩
  generalize hz : ((View.whole main_v0_2).slice (win0_6.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [square_point, block_1, block_3]

end In

/-! ## The second weight -/

namespace Out

theorem delta_point (w g u v : Vec Ideal S128x2048 .f32) (i : S128x2048.Idx) : out1_4 (F := Ideal) w g u v i = delta (w i) (g i) (u i) (v i) := by
  frame_open
  frame_out
  open_payloads
  pointwise
  rfl
theorem moment_point (w g u v : Vec Ideal S128x2048 .f32) (i : S128x2048.Idx) : out1_5 (F := Ideal) w g u v i = moment (g i) (u i) := by
  frame_open
  frame_out
  open_payloads
  pointwise
  rfl
theorem square_point (w g u v : Vec Ideal S128x2048 .f32) (i : S128x2048.Idx) : out1_6 (F := Ideal) w g u v i = square (g i) (v i) := by
  frame_open
  frame_out
  open_payloads
  pointwise
  rfl

theorem idx : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0] :=
  (by decide +kernel : ∀ t : Fin grid1.N, _)

theorem point (t : Fin cfg1.N) : t.val < 11 := lt_of_lt_of_eq t.isLt N_1

/-- A point's rows of the whole. -/
abbrev row (t : Fin cfg1.N) (r : Fin 128) : Fin 1408 := ⟨t.val * 128 + r.val, by have := point t; omega⟩

theorem block_0 (t : Fin cfg1.N) (r : Fin 128) (d : Fin 2048) : iblk1 V c 0 t (ix2 r d) = V c main_arg4 (ix2 (row t r) d) := by
  blk_point [iblk1, idx t]
theorem block_1 (t : Fin cfg1.N) (r : Fin 128) (d : Fin 2048) : iblk1 V c 1 t (ix2 r d) = V c main_arg5 (ix2 (row t r) d) := by
  blk_point [iblk1, idx t]
theorem block_2 (t : Fin cfg1.N) (r : Fin 128) (d : Fin 2048) : iblk1 V c 2 t (ix2 r d) = V c main_arg6 (ix2 (row t r) d) := by
  blk_point [iblk1, idx t]
theorem block_3 (t : Fin cfg1.N) (r : Fin 128) (d : Fin 2048) : iblk1 V c 3 t (ix2 r d) = V c main_arg7 (ix2 (row t r) d) := by
  blk_point [iblk1, idx t]

theorem delta : (dat1 V c).arrAt 4 cfg1.N = fun i => Cert.Update.delta (V c main_arg4 i) (V c main_arg5 i) (V c main_arg6 i) (V c main_arg7 i) := by
  refine (dat1 V c).arrAt_eq_of_covers 4 _ (by decide +kernel) fun t hf y => ?_
  blk_simp
  rw [after1_4]
  obtain ⟨r, d, rfl⟩ : ∃ (r : Fin 128) (d : Fin 2048), y = ix2 r d := ⟨y 0, y 1, eq_ix2 y⟩
  generalize hz : ((View.whole main_v1_0).slice (win1_4.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [delta_point, block_0, block_1, block_2, block_3]
theorem moment : (dat1 V c).arrAt 5 cfg1.N = fun i => Cert.Update.moment (V c main_arg5 i) (V c main_arg6 i) := by
  refine (dat1 V c).arrAt_eq_of_covers 5 _ (by decide +kernel) fun t hf y => ?_
  blk_simp
  rw [after1_5]
  obtain ⟨r, d, rfl⟩ : ∃ (r : Fin 128) (d : Fin 2048), y = ix2 r d := ⟨y 0, y 1, eq_ix2 y⟩
  generalize hz : ((View.whole main_v1_1).slice (win1_5.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [moment_point, block_1, block_2]
theorem square : (dat1 V c).arrAt 6 cfg1.N = fun i => Cert.Update.square (V c main_arg5 i) (V c main_arg7 i) := by
  refine (dat1 V c).arrAt_eq_of_covers 6 _ (by decide +kernel) fun t hf y => ?_
  blk_simp
  rw [after1_6]
  obtain ⟨r, d, rfl⟩ : ∃ (r : Fin 128) (d : Fin 2048), y = ix2 r d := ⟨y 0, y 1, eq_ix2 y⟩
  generalize hz : ((View.whole main_v1_2).slice (win1_6.rect t)).emb (ix2 r d) = z
  have h0 : z 0 = row t r := Fin.ext (by subst hz; blk_simp [idx t])
  have h1 : z 1 = d := Fin.ext (by subst hz; blk_simp [idx t])
  obtain rfl : z = ix2 (row t r) d := by rw [eq_ix2 z, h0, h1]
  rw [square_point, block_1, block_3]

end Out

end Cert.Kernel8Ideal.Value

end
-- ==== Proof.UpdateKernelRun.lean ====
/-
  THE UPDATE'S RUN. Every execution ends with the change and the moments of the first weight and then of the second: two calls, one
  after the other.
-/
module

public import proofs.«01_k».proof.Proof.UpdateCalls

@[expose] public section

set_option maxRecDepth 16384

noncomputable section

namespace Cert.Kernel8Ideal.Value

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Update

local notation "𝕄" => MT nD τ sig Unit (Elt Ideal) ℕ (UR sig nD τ) ℕ

variable (m : (ℓ : Loc nD τ sig) → Buf (Elt Ideal) ℓ) (ρ : Dev nD → PrngReg)

/-! ## The launch, read at every buffer -/

set_option backward.isDefEq.respectTransparency.types false in
/-- Every execution ends with each of the program's buffers at what the last call leaves there. -/
theorem launch : θ_run defs (onTc (τ := τ) (main (F := Ideal))) ⟨m, fun _ => 0, ρ⟩ (fun r => ∀ (c : Dev nD), ∀ b ∈ Pipeline.ucRefs τ sig,
      r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-! ## The calls in turn -/

variable (c : Dev nD)

/-- What the first call leaves stays. -/
theorem first (w : Fin cfg0.W) (h : ∀ v : Fin cfg1.W, Pipeline.arrRef spec1 v = Pipeline.arrRef spec0 w → (cfg1.win v).isOut = false) :
    W2 m ρ c (Proc.devRef .tc (Pipeline.arrRef spec0 w)) = (dat0 (V0 m ρ) c).arrAt w cfg0.N :=
  (W2_of m ρ c _ h).trans (W1_arr m ρ c w)

/-- The second call finds its arguments as they were. -/
theorem given (a : Ref sig .tc) (h : a ∈ argRefs) : V1 m ρ c a = m ((c.tc : Thread nD τ).loc a) := W1_args m ρ c a h

omit c in
/-- THE KERNEL'S RUN: the changes and the moments, the arguments as they were. -/
theorem run : θ_run defs (onTc (τ := τ) (main (F := Ideal))) ⟨m, fun _ => 0, ρ⟩ (fun r => ∀ c : Dev nD,
      r.2.mem ((c.tc : Thread nD τ).loc main_v0_0) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v0_1) = (fun i => moment (m ((c.tc : Thread nD τ).loc main_arg1) i) (m ((c.tc : Thread nD τ).loc main_arg2) i))
      ∧ r.2.mem ((c.tc : Thread nD τ).loc main_v0_2) = (fun i => square (m ((c.tc : Thread nD τ).loc main_arg1) i) (m ((c.tc : Thread nD τ).loc main_arg3) i))
      ∧ r.2.mem ((c.tc : Thread nD τ).loc main_v1_0) = (fun i => delta (m ((c.tc : Thread nD τ).loc main_arg4) i) (m ((c.tc : Thread nD τ).loc main_arg5) i) (m ((c.tc : Thread nD τ).loc main_arg6) i) (m ((c.tc : Thread nD τ).loc main_arg7) i))
      ∧ r.2.mem ((c.tc : Thread nD τ).loc main_v1_1) = (fun i => moment (m ((c.tc : Thread nD τ).loc main_arg5) i) (m ((c.tc : Thread nD τ).loc main_arg6) i))
      ∧ r.2.mem ((c.tc : Thread nD τ).loc main_v1_2) = (fun i => square (m ((c.tc : Thread nD τ).loc main_arg5) i) (m ((c.tc : Thread nD τ).loc main_arg7) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_v0_0 (by decide))).trans ((first m ρ c 4 (by decide +kernel)).trans (In.delta (V0 m ρ) c)),
    (h c _ (mem_uc main_v0_1 (by decide))).trans ((first m ρ c 5 (by decide +kernel)).trans (In.moment (V0 m ρ) c)),
    (h c _ (mem_uc main_v0_2 (by decide))).trans ((first m ρ c 6 (by decide +kernel)).trans (In.square (V0 m ρ) c)),
    (h c _ (mem_uc main_v1_0 (by decide))).trans ((W2_arr m ρ c 4).trans ((Out.delta (V1 m ρ) c).trans (by
      rw [given m ρ c main_arg4 (by decide), given m ρ c main_arg5 (by decide), given m ρ c main_arg6 (by decide), given m ρ c main_arg7 (by decide)]))),
    (h c _ (mem_uc main_v1_1 (by decide))).trans ((W2_arr m ρ c 5).trans ((Out.moment (V1 m ρ) c).trans (by
      rw [given m ρ c main_arg5 (by decide), given m ρ c main_arg6 (by decide)]))),
    (h c _ (mem_uc main_v1_2 (by decide))).trans ((W2_arr m ρ c 6).trans ((Out.square (V1 m ρ) c).trans (by
      rw [given m ρ c main_arg5 (by decide), given m ρ c main_arg7 (by decide)]))),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c)⟩)
    (launch m ρ)

end Cert.Kernel8Ideal.Value

end
-- ==== Proof.UpdateReference.lean ====
/-
  THE UPDATE'S REFERENCE. Its arrays are, entry by entry, the functions of `UpdateStep.lean`.
-/
module

public import proofs.«01_k».proof.Proof.Gen.Reference8Ideal.Read
public import proofs.«01_k».proof.Proof.Gen.Reference8Ideal.Run
public import proofs.«01_k».proof.Proof.UpdateStep

@[expose] public section

set_option maxRecDepth 16384

noncomputable section

namespace Cert.Reference8Ideal.Value

open Cert.Reference8Ideal Cert.Reference8Ideal.Gen Cert.Reference8Ideal.Read Idealize.ShloMosaic Idealize.ShloMosaic.TcCoe Idealize.SL.Sem
open Cert.Update

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => moment (m ((c.tc : Thread nD τ).loc main_arg1) i) (m ((c.tc : Thread nD τ).loc main_arg2) i))
      ∧ r.2.mem ((c.tc : Thread nD τ).loc main_v10) = (fun i => square (m ((c.tc : Thread nD τ).loc main_arg1) i) (m ((c.tc : Thread nD τ).loc main_arg3) i))
      ∧ r.2.mem ((c.tc : Thread nD τ).loc main_v47) = (fun i => delta (m ((c.tc : Thread nD τ).loc main_arg4) i) (m ((c.tc : Thread nD τ).loc main_arg5) i) (m ((c.tc : Thread nD τ).loc main_arg6) i) (m ((c.tc : Thread nD τ).loc main_arg7) i))
      ∧ r.2.mem ((c.tc : Thread nD τ).loc main_v28) = (fun i => moment (m ((c.tc : Thread nD τ).loc main_arg5) i) (m ((c.tc : Thread nD τ).loc main_arg6) i))
      ∧ r.2.mem ((c.tc : Thread nD τ).loc main_v34) = (fun i => square (m ((c.tc : Thread nD τ).loc main_arg5) i) (m ((c.tc : Thread nD τ).loc main_arg7) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run m ρ)
  obtain ⟨h0, h1, h2, h3, h4, h5, hm⟩ := h c
  exact ⟨h0.trans rfl, h1.trans rfl, h2.trans rfl, h3.trans rfl, h4.trans rfl, h5.trans rfl, hm⟩

end Cert.Reference8Ideal.Value

end
-- ==== Proof.lean ====
/-
  THE CLAIM. The programs run and leave the machine quiet; the idealization changes three rounded constants of the attention
  only; at finite arguments the attention's two calls and its reference end with the same four arrays, softmax attention and
  its gradients in the queries, the keys and the values; the second feed-forward's eleven calls and its reference end with the
  same nine, the feed-forward and its gradients; and the first feed-forward's ten calls and its reference end with the same
  five, the feed-forward and its gradients in the rows normed and in the weights. At any arguments the mixing block's two outer
  projections' eight calls and their reference end with the same seven, the projections and their gradients; and the latent
  attention's two up-projections' eight calls and their reference with the same six, the products and their gradients; and these
  two's norms' backward calls and their reference with the same four, the gradients of the rows and of the gains; and the final
  norm's and loss's call and its reference with the same three, the loss and its gradients in the rows and the gain; and two calls
  of the optimiser and their reference with the same six, the change and the moments of each of a feed-forward's weights.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Precondition
public import proofs.«01_k».proof.Proof.KernelRun
public import proofs.«01_k».proof.Proof.ReferenceRun
public import proofs.«01_k».proof.Proof.FfnPrecondition
public import proofs.«01_k».proof.Proof.FfnKernelRun
public import proofs.«01_k».proof.Proof.FfnReferenceRun
public import proofs.«01_k».proof.Proof.FirstPrecondition
public import proofs.«01_k».proof.Proof.FirstKernelRun
public import proofs.«01_k».proof.Proof.FirstReferenceRun
public import proofs.«01_k».proof.Proof.ProjectKernelRun
public import proofs.«01_k».proof.Proof.ProjectReferenceRun
public import proofs.«01_k».proof.Proof.UpKernelRun
public import proofs.«01_k».proof.Proof.UpReferenceRun
public import proofs.«01_k».proof.Proof.NormKernelRun
public import proofs.«01_k».proof.Proof.NormReferenceRun
public import proofs.«01_k».proof.Proof.LossKernelRun
public import proofs.«01_k».proof.Proof.LossReference
public import proofs.«01_k».proof.Proof.UpdateKernelRun
public import proofs.«01_k».proof.Proof.UpdateReference
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and has no semaphore that could be left up. -/
theorem frame_reference : quiescent_ReferenceIdeal := fun m g _ =>
  (θ_run Cert.ReferenceIdeal.defs _ _).mono (fun r h => ⟨fun c => (h c).2.2.2.2, sem_eq_zero_of_no_sems (by decide) r.2⟩) (Cert.ReferenceIdeal.Value.run m g)

/-- Finite arguments are real ones. -/
theorem realArgs (m : (ℓ : Loc Cert.KernelIdeal.nD Cert.KernelIdeal.τ Cert.KernelIdeal.sig) → Buf (Elt Ideal) ℓ) (h : Pre_KernelIdeal_finite m) :
    Cert.KernelIdeal.Value.RealArgs m where
  q c _ _ _ := (Cert.Pre_finite.reals _ _ _ _ (h c)).1 _
  k c _ _ _ := (Cert.Pre_finite.reals _ _ _ _ (h c)).2.1 _
  v c _ _ _ := (Cert.Pre_finite.reals _ _ _ _ (h c)).2.2.1 _
  g c _ _ _ := (Cert.Pre_finite.reals _ _ _ _ (h c)).2.2.2 _

/-- Both programs end at the same four functions of the arguments' real entries. -/
theorem attention : algebraic_KernelIdeal_ReferenceIdeal_pre_finite := by
  intro m g m' g' hpre hagree
  have R := realArgs m hpre
  refine ⟨_, _, _, _, Cert.KernelIdeal.Value.run g R, Cert.ReferenceIdeal.Value.run_real m' g' (Cert.KernelIdeal.Value.argQ m) (Cert.KernelIdeal.Value.argK m)
    (Cert.KernelIdeal.Value.argV m) (Cert.KernelIdeal.Value.argG m) ?_ ?_ ?_ ?_⟩
  · exact fun c h i d => (congrFun (hagree c).1 _).trans (R.q c h i d)
  · exact fun c h i d => (congrFun (hagree c).2.1 _).trans (R.k c h i d)
  · exact fun c h i d => (congrFun (hagree c).2.2.1 _).trans (R.v c h i d)
  · exact fun c h i d => (congrFun (hagree c).2.2.2 _).trans (R.g c h i d)

/-- So does the second feed-forward's. -/
theorem frame_ffn_reference : quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Value.run m g)

theorem ffn_realArgs (m : (ℓ : Loc Cert.Kernel2Ideal.nD Cert.Kernel2Ideal.τ Cert.Kernel2Ideal.sig) → Buf (Elt Ideal) ℓ)
    (h : Pre_Kernel2Ideal_finite_ffn m) : Cert.Kernel2Ideal.Value.RealArgs m where
  x c _ _ := (Cert.Pre_finite_ffn.reals _ _ _ _ _ _ _ _ (h c)).1 _
  gain c _ := (Cert.Pre_finite_ffn.reals _ _ _ _ _ _ _ _ (h c)).2.1 _
  shift c _ := (Cert.Pre_finite_ffn.reals _ _ _ _ _ _ _ _ (h c)).2.2.1 _
  scale c _ := (Cert.Pre_finite_ffn.reals _ _ _ _ _ _ _ _ (h c)).2.2.2.1 _
  gate c _ := (Cert.Pre_finite_ffn.reals _ _ _ _ _ _ _ _ (h c)).2.2.2.2.1 _
  wIn c _ _ := (Cert.Pre_finite_ffn.reals _ _ _ _ _ _ _ _ (h c)).2.2.2.2.2.1 _
  wOut c _ _ := (Cert.Pre_finite_ffn.reals _ _ _ _ _ _ _ _ (h c)).2.2.2.2.2.2.1 _
  dout c _ _ := (Cert.Pre_finite_ffn.reals _ _ _ _ _ _ _ _ (h c)).2.2.2.2.2.2.2 _

/-- Both programs end at the same nine functions of the arguments' real entries. -/
theorem feedForward : algebraic_Kernel2Ideal_Reference2Ideal_pre_finite_ffn := by
  intro m g m' g' hpre hagree
  have R := ffn_realArgs m hpre
  refine ⟨_, _, _, _, _, _, _, _, _, Cert.Kernel2Ideal.Value.run g R,
    Cert.Reference2Ideal.Value.run_real m' g' (Cert.Kernel2Ideal.Value.args m) fun c => ?_⟩
  obtain ⟨h0, h1, h2, h3, h4, h5, h6, h7⟩ := hagree c
  exact
    { x := fun i d => (congrFun h0 _).trans (R.x c i d)
      gain := fun d => (congrFun h1 _).trans (R.gain c d)
      shift := fun d => (congrFun h2 _).trans (R.shift c d)
      scale := fun d => (congrFun h3 _).trans (R.scale c d)
      gate := fun d => (congrFun h4 _).trans (R.gate c d)
      wIn := fun k f => (congrFun h5 _).trans (R.wIn c k f)
      wOut := fun f d => (congrFun h6 _).trans (R.wOut c f d)
      dout := fun i d => (congrFun h7 _).trans (R.dout c i d) }

/-- And the first feed-forward's. -/
theorem frame_first_reference : quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run m g)

theorem first_realArgs (m : (ℓ : Loc Cert.Kernel3Ideal.nD Cert.Kernel3Ideal.τ Cert.Kernel3Ideal.sig) → Buf (Elt Ideal) ℓ)
    (h : Pre_Kernel3Ideal_finite_ffn1 m) : Cert.Kernel3Ideal.Value.RealArgs m where
  x c _ _ := (Cert.Pre_finite_ffn1.reals _ _ _ _ _ _ _ _ (h c)).1 _
  gain c _ := (Cert.Pre_finite_ffn1.reals _ _ _ _ _ _ _ _ (h c)).2.1 _
  shift c _ _ := (Cert.Pre_finite_ffn1.reals _ _ _ _ _ _ _ _ (h c)).2.2.1 _
  scale c _ _ := (Cert.Pre_finite_ffn1.reals _ _ _ _ _ _ _ _ (h c)).2.2.2.1 _
  gate c _ _ := (Cert.Pre_finite_ffn1.reals _ _ _ _ _ _ _ _ (h c)).2.2.2.2.1 _
  wIn c _ _ := (Cert.Pre_finite_ffn1.reals _ _ _ _ _ _ _ _ (h c)).2.2.2.2.2.1 _
  wOut c _ _ := (Cert.Pre_finite_ffn1.reals _ _ _ _ _ _ _ _ (h c)).2.2.2.2.2.2.1 _
  dout c _ _ := (Cert.Pre_finite_ffn1.reals _ _ _ _ _ _ _ _ (h c)).2.2.2.2.2.2.2 _

/-- Both programs end at the same five functions of the arguments' real entries. -/
theorem firstFeedForward : algebraic_Kernel3Ideal_Reference3Ideal_pre_finite_ffn1 := by
  intro m g m' g' hpre hagree
  have R := first_realArgs m hpre
  refine ⟨_, _, _, _, _, Cert.Kernel3Ideal.Value.run g R,
    Cert.Reference3Ideal.Value.run_real m' g' (Cert.Kernel3Ideal.Value.args m) fun c => ?_⟩
  obtain ⟨h0, h1, h2, h3, h4, h5, h6, h7⟩ := hagree c
  exact
    { x := fun i d => (congrFun h0 _).trans (R.x c i d)
      gain := fun d => (congrFun h1 _).trans (R.gain c d)
      shift := fun s d => (congrFun h2 _).trans (R.shift c s d)
      scale := fun s d => (congrFun h3 _).trans (R.scale c s d)
      gate := fun s d => (congrFun h4 _).trans (R.gate c s d)
      wIn := fun k f => (congrFun h5 _).trans (R.wIn c k f)
      wOut := fun f d => (congrFun h6 _).trans (R.wOut c f d)
      dout := fun i d => (congrFun h7 _).trans (R.dout c i d) }

/-- And the projections'. -/
theorem frame_project_reference : quiescent_Reference4Ideal := fun m g _ =>
  (θ_run Cert.Reference4Ideal.defs _ _).mono (fun r h => ⟨fun c => (h c).2.2.2.2.2.2.2, sem_eq_zero_of_no_sems (by decide) r.2⟩)
    (Cert.Reference4Ideal.Value.run m g)

/-- Both programs end at the same seven functions of the arguments' entries, whatever extended reals those are. -/
theorem projections : algebraic_Kernel4Ideal_Reference4Ideal := by
  intro m g m' g' _ hagree
  refine ⟨_, _, _, _, _, _, _, Cert.Kernel4Ideal.Value.run g,
    Cert.Reference4Ideal.Value.run_value m' g' (Cert.Kernel4Ideal.Value.args m) fun c => ?_⟩
  obtain ⟨h0, h1, h2, h3, h4, h5, h6, h7, h8, h9, h10⟩ := hagree c
  exact
    { x := fun i d => congrFun h0 _
      gain := fun d => congrFun h1 _
      shift := fun s d => congrFun h2 _
      scale := fun s d => congrFun h3 _
      wIn := fun k f => congrFun h4 _
      dProj := fun i f => congrFun h5 _
      r := fun i d => congrFun h6 _
      mixed := fun i d => congrFun h7 _
      wOut := fun f d => congrFun h8 _
      gate := fun d => congrFun h9 _
      dout := fun i d => congrFun h10 _ }

theorem frame_up_reference : quiescent_Reference5Ideal := fun m g _ =>
  (θ_run Cert.Reference5Ideal.defs _ _).mono (fun r h => ⟨fun c => (h c).2.2.2.2.2.2, sem_eq_zero_of_no_sems (by decide) r.2⟩)
    (Cert.Reference5Ideal.Value.run m g)

/-- Both programs end at the same six functions of the arguments' entries, whatever extended reals those are. -/
theorem upProjections : algebraic_Kernel5Ideal_Reference5Ideal := by
  intro m g m' g' _ hagree
  refine ⟨_, _, _, _, _, _, Cert.Kernel5Ideal.Value.run g,
    Cert.Reference5Ideal.Value.run_value m' g' (Cert.Kernel5Ideal.Value.q m) (Cert.Kernel5Ideal.Value.kv m) (fun c => ?_) fun c => ?_⟩
  · obtain ⟨h0, h1, h2, h3, _⟩ := hagree c
    unfold Cert.Kernel5Ideal.Value.q
    rw [h0, h1, h2, h3]
  · obtain ⟨_, _, _, _, h4, h5, h6, h7⟩ := hagree c
    unfold Cert.Kernel5Ideal.Value.kv
    rw [h4, h5, h6, h7]

theorem frame_norms_reference : quiescent_Reference6Ideal := fun m g _ =>
  (θ_run Cert.Reference6Ideal.defs _ _).mono (fun r h => ⟨fun c => (h c).2.2.2.2, sem_eq_zero_of_no_sems (by decide) r.2⟩)
    (Cert.Reference6Ideal.Value.run m g)

/-- Both programs end at the same four functions of the arguments' entries, whatever extended reals those are. -/
theorem norms : algebraic_Kernel6Ideal_Reference6Ideal := by
  intro m g m' g' _ hagree
  refine ⟨_, _, _, _, Cert.Kernel6Ideal.Value.run g,
    Cert.Reference6Ideal.Value.run_value m' g' (Cert.Kernel6Ideal.Value.q m) (Cert.Kernel6Ideal.Value.kv m) (fun c => ?_) fun c => ?_⟩
  · obtain ⟨h0, h1, h2, _⟩ := hagree c
    unfold Cert.Kernel6Ideal.Value.q
    rw [h0, h1, h2]
  · obtain ⟨_, _, _, h3, h4, h5⟩ := hagree c
    unfold Cert.Kernel6Ideal.Value.kv
    rw [h3, h4, h5]

theorem frame_loss_reference : quiescent_Reference7Ideal := fun m g _ =>
  (θ_run Cert.Reference7Ideal.defs _ _).mono (fun r h => ⟨fun c => (h c).2.2.2, sem_eq_zero_of_no_sems (by decide) r.2⟩)
    (Cert.Reference7Ideal.Value.run m g)

/-- Both programs end at the same three functions of the arguments' entries, whatever extended reals those are. -/
theorem loss : algebraic_Kernel7Ideal_Reference7Ideal := by
  intro m g m' g' _ hagree
  refine ⟨_, _, _, Cert.Kernel7Ideal.Value.run m g,
    Cert.Reference7Ideal.Value.run_value m' g' (Cert.Kernel7Ideal.Value.args m) fun c => ?_⟩
  obtain ⟨h0, h1, h2⟩ := hagree c
  unfold Cert.Kernel7Ideal.Value.args
  rw [h0, h1, h2]

theorem frame_update_reference : quiescent_Reference8Ideal := fun m g _ =>
  (θ_run Cert.Reference8Ideal.defs _ _).mono (fun r h => ⟨fun c => (h c).2.2.2.2.2.2, sem_eq_zero_of_no_sems (by decide) r.2⟩)
    (Cert.Reference8Ideal.Value.run m g)

/-- Both programs end at the same six functions of the arguments' entries, whatever extended reals those are. -/
theorem update : algebraic_Kernel8Ideal_Reference8Ideal := by
  intro m g m' g' _ hagree
  refine ⟨_, _, _, _, _, _, Cert.Kernel8Ideal.Value.run m g, (θ_run Cert.Reference8Ideal.defs _ _).mono (fun r h c => ?_)
    (Cert.Reference8Ideal.Value.run_value m' g')⟩
  obtain ⟨h0, h1, h2, h3, h4, h5, h6, h7⟩ := hagree c
  obtain ⟨r0, r1, r2, r3, r4, r5, hm⟩ := h c
  exact ⟨r0.trans (by rw [h0, h1, h2, h3]; rfl), r1.trans (by rw [h1, h2]; rfl), r2.trans (by rw [h1, h3]; rfl),
    r3.trans (by rw [h4, h5, h6, h7]; rfl), r4.trans (by rw [h5, h6]; rfl), r5.trans (by rw [h5, h7]; rfl), hm⟩

/-- Every claim of the statement. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.facts, Cert.Pre_finite_ffn.facts, Cert.Pre_finite_ffn1.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_ffn_reference, fun m ρ _ => frame_ffn_reference m ρ trivial,
    fun m ρ _ => Cert.Kernel3.Gen.frame m ρ, fun m ρ _ => Cert.Kernel3Ideal.Gen.frame m ρ, fun m ρ _ => Cert.Kernel3Ideal.Gen.frame m ρ,
    frame_first_reference, fun m ρ _ => frame_first_reference m ρ trivial,
    fun m ρ _ => Cert.Kernel4.Gen.frame m ρ, fun m ρ _ => Cert.Kernel4Ideal.Gen.frame m ρ, frame_project_reference,
    fun m ρ _ => Cert.Kernel5.Gen.frame m ρ, fun m ρ _ => Cert.Kernel5Ideal.Gen.frame m ρ, frame_up_reference,
    fun m ρ _ => Cert.Kernel6.Gen.frame m ρ, fun m ρ _ => Cert.Kernel6Ideal.Gen.frame m ρ, frame_norms_reference,
    fun m ρ _ => Cert.Kernel7.Gen.frame m ρ, fun m ρ _ => Cert.Kernel7Ideal.Gen.frame m ρ, frame_loss_reference,
    fun m ρ _ => Cert.Kernel8.Gen.frame m ρ, fun m ρ _ => Cert.Kernel8Ideal.Gen.frame m ρ, frame_update_reference,
    ⟨IdealRules.named_const.statement Cert.KernelIdeal.κ "scale_log2e" .f32 0x3DD53B95#32 _ rfl,
      IdealRules.named_const.statement Cert.KernelIdeal.κ "scale" .f32 0x3D93CD3A#32 _ rfl,
      IdealRules.named_const.statement Cert.KernelIdeal.κ "log2e" .f32 0x3FB8AA3B#32 _ rfl⟩,
    attention, trivial, feedForward, trivial, firstFeedForward, trivial, projections, trivial, upProjections, trivial, norms, trivial, loss, trivial, update⟩

end Cert.Proof

end
